-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))).2.2.2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.2.2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))).2.2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_finite [hPre_in_finite : Cert.Pre_in_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_finite [hPre_in_finite : Cert.Pre_in_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2 = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradRefIdeal (m : (ℓ : Loc Cert.HiddenGradRefIdeal.nD Cert.HiddenGradRefIdeal.τ Cert.HiddenGradRefIdeal.sig) → Buf (Elt Ideal) ℓ) : Prop :=
  True

def Pre_ProjectionGrad (m : (ℓ : Loc Cert.ProjectionGrad.nD Cert.ProjectionGrad.τ Cert.ProjectionGrad.sig) → Buf (Elt Bits) ℓ) : Prop :=
  True

def Pre_ProjectionGradIdeal (m : (ℓ : Loc Cert.ProjectionGradIdeal.nD Cert.ProjectionGradIdeal.τ Cert.ProjectionGradIdeal.sig) → Buf (Elt Ideal) ℓ) : Prop :=
  True

def Pre_ProjectionGradRefIdeal (m : (ℓ : Loc Cert.ProjectionGradRefIdeal.nD Cert.ProjectionGradRefIdeal.τ Cert.ProjectionGradRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionRefIdeal (m : (ℓ : Loc Cert.ProjectionRefIdeal.nD Cert.ProjectionRefIdeal.τ Cert.ProjectionRefIdeal.sig) → Buf (Elt Ideal) ℓ) : Prop :=
  True

def Pre_SquareGrads (m : (ℓ : Loc Cert.SquareGrads.nD Cert.SquareGrads.τ Cert.SquareGrads.sig) → Buf (Elt Bits) ℓ) : Prop :=
  True

def Pre_SquareGradsIdeal (m : (ℓ : Loc Cert.SquareGradsIdeal.nD Cert.SquareGradsIdeal.τ Cert.SquareGradsIdeal.sig) → Buf (Elt Ideal) ℓ) : Prop :=
  True

def Pre_SquareGradsRefIdeal (m : (ℓ : Loc Cert.SquareGradsRefIdeal.nD Cert.SquareGradsRefIdeal.τ Cert.SquareGradsRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_in_finite [hInProjIdeal : Cert.InProjIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_in_finite [hInProjRefIdeal : Cert.InProjRefIdeal.Facts] [hPre_in_finite : Cert.Pre_in_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9)
      ∧ r.2.mem ((c.tc : Thread Cert.MergeFwd.nD Cert.MergeFwd.τ).loc Cert.MergeFwd.main_arg10) = m ((c.tc : Thread Cert.MergeFwd.nD Cert.MergeFwd.τ).loc Cert.MergeFwd.main_arg10))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
      ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8)
      ∧ r.2.mem ((c.tc : Thread Cert.MergeFwdRefIdeal.nD Cert.MergeFwdRefIdeal.τ).loc Cert.MergeFwdRefIdeal.main_arg9) = m ((c.tc : Thread Cert.MergeFwdRefIdeal.nD Cert.MergeFwdRefIdeal.τ).loc Cert.MergeFwdRefIdeal.main_arg9)
      ∧ r.2.mem ((c.tc : Thread Cert.MergeFwdRefIdeal.nD Cert.MergeFwdRefIdeal.τ).loc Cert.MergeFwdRefIdeal.main_arg10) = m ((c.tc : Thread Cert.MergeFwdRefIdeal.nD Cert.MergeFwdRefIdeal.τ).loc Cert.MergeFwdRefIdeal.main_arg10))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ r.2.sem = fun _ => 0)

def quiescent_HiddenGradRefIdeal [hHiddenGradRefIdeal : Cert.HiddenGradRefIdeal.Facts] : Prop :=
  ∀ (m : (ℓ : Loc Cert.HiddenGradRefIdeal.nD Cert.HiddenGradRefIdeal.τ Cert.HiddenGradRefIdeal.sig) → Buf (Elt Ideal) ℓ) (g : Dev Cert.HiddenGradRefIdeal.nD → PrngReg), Pre_HiddenGradRefIdeal m →
    θ_run (Cert.HiddenGradRefIdeal.defs (F := Ideal)) (onTc (τ := Cert.HiddenGradRefIdeal.τ) (Cert.HiddenGradRefIdeal.main (F := Ideal))) ⟨m, fun _ => 0, g⟩ (fun r => (∀ c : Dev Cert.HiddenGradRefIdeal.nD,
      r.2.mem ((c.tc : Thread Cert.HiddenGradRefIdeal.nD Cert.HiddenGradRefIdeal.τ).loc Cert.HiddenGradRefIdeal.main_arg0) = m ((c.tc : Thread Cert.HiddenGradRefIdeal.nD Cert.HiddenGradRefIdeal.τ).loc Cert.HiddenGradRefIdeal.main_arg0)
      ∧ r.2.mem ((c.tc : Thread Cert.HiddenGradRefIdeal.nD Cert.HiddenGradRefIdeal.τ).loc Cert.HiddenGradRefIdeal.main_arg1) = m ((c.tc : Thread Cert.HiddenGradRefIdeal.nD Cert.HiddenGradRefIdeal.τ).loc Cert.HiddenGradRefIdeal.main_arg1))
      ∧ r.2.sem = fun _ => 0)

def quiescent_ProjectionGrad [hProjectionGrad : Cert.ProjectionGrad.Facts] : Prop :=
  ∀ (m : (ℓ : Loc Cert.ProjectionGrad.nD Cert.ProjectionGrad.τ Cert.ProjectionGrad.sig) → Buf (Elt Bits) ℓ) (g : Dev Cert.ProjectionGrad.nD → PrngReg), Pre_ProjectionGrad m →
    θ_run (Cert.ProjectionGrad.defs (F := Bits)) (onTc (τ := Cert.ProjectionGrad.τ) (Cert.ProjectionGrad.main (F := Bits))) ⟨m, fun _ => 0, g⟩ (fun r => (∀ c : Dev Cert.ProjectionGrad.nD,
      r.2.mem ((c.tc : Thread Cert.ProjectionGrad.nD Cert.ProjectionGrad.τ).loc Cert.ProjectionGrad.main_arg0) = m ((c.tc : Thread Cert.ProjectionGrad.nD Cert.ProjectionGrad.τ).loc Cert.ProjectionGrad.main_arg0)
      ∧ r.2.mem ((c.tc : Thread Cert.ProjectionGrad.nD Cert.ProjectionGrad.τ).loc Cert.ProjectionGrad.main_arg1) = m ((c.tc : Thread Cert.ProjectionGrad.nD Cert.ProjectionGrad.τ).loc Cert.ProjectionGrad.main_arg1))
      ∧ r.2.sem = fun _ => 0)

def quiescent_ProjectionGradIdeal [hProjectionGradIdeal : Cert.ProjectionGradIdeal.Facts] : Prop :=
  ∀ (m : (ℓ : Loc Cert.ProjectionGradIdeal.nD Cert.ProjectionGradIdeal.τ Cert.ProjectionGradIdeal.sig) → Buf (Elt Ideal) ℓ) (g : Dev Cert.ProjectionGradIdeal.nD → PrngReg), Pre_ProjectionGradIdeal m →
    θ_run (Cert.ProjectionGradIdeal.defs (F := Ideal)) (onTc (τ := Cert.ProjectionGradIdeal.τ) (Cert.ProjectionGradIdeal.main (F := Ideal))) ⟨m, fun _ => 0, g⟩ (fun r => (∀ c : Dev Cert.ProjectionGradIdeal.nD,
      r.2.mem ((c.tc : Thread Cert.ProjectionGradIdeal.nD Cert.ProjectionGradIdeal.τ).loc Cert.ProjectionGradIdeal.main_arg0) = m ((c.tc : Thread Cert.ProjectionGradIdeal.nD Cert.ProjectionGradIdeal.τ).loc Cert.ProjectionGradIdeal.main_arg0)
      ∧ r.2.mem ((c.tc : Thread Cert.ProjectionGradIdeal.nD Cert.ProjectionGradIdeal.τ).loc Cert.ProjectionGradIdeal.main_arg1) = m ((c.tc : Thread Cert.ProjectionGradIdeal.nD Cert.ProjectionGradIdeal.τ).loc Cert.ProjectionGradIdeal.main_arg1))
      ∧ r.2.sem = fun _ => 0)

def quiescent_ProjectionGradRefIdeal [hProjectionGradRefIdeal : Cert.ProjectionGradRefIdeal.Facts] : Prop :=
  ∀ (m : (ℓ : Loc Cert.ProjectionGradRefIdeal.nD Cert.ProjectionGradRefIdeal.τ Cert.ProjectionGradRefIdeal.sig) → Buf (Elt Ideal) ℓ) (g : Dev Cert.ProjectionGradRefIdeal.nD → PrngReg), Pre_ProjectionGradRefIdeal m →
    θ_run (Cert.ProjectionGradRefIdeal.defs (F := Ideal)) (onTc (τ := Cert.ProjectionGradRefIdeal.τ) (Cert.ProjectionGradRefIdeal.main (F := Ideal))) ⟨m, fun _ => 0, g⟩ (fun r => (∀ c : Dev Cert.ProjectionGradRefIdeal.nD,
      r.2.mem ((c.tc : Thread Cert.ProjectionGradRefIdeal.nD Cert.ProjectionGradRefIdeal.τ).loc Cert.ProjectionGradRefIdeal.main_arg0) = m ((c.tc : Thread Cert.ProjectionGradRefIdeal.nD Cert.ProjectionGradRefIdeal.τ).loc Cert.ProjectionGradRefIdeal.main_arg0)
      ∧ r.2.mem ((c.tc : Thread Cert.ProjectionGradRefIdeal.nD Cert.ProjectionGradRefIdeal.τ).loc Cert.ProjectionGradRefIdeal.main_arg1) = m ((c.tc : Thread Cert.ProjectionGradRefIdeal.nD Cert.ProjectionGradRefIdeal.τ).loc Cert.ProjectionGradRefIdeal.main_arg1))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ r.2.sem = fun _ => 0)

def quiescent_ProjectionRefIdeal [hProjectionRefIdeal : Cert.ProjectionRefIdeal.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1))
      ∧ r.2.sem = fun _ => 0)

def quiescent_SquareGrads [hSquareGrads : Cert.SquareGrads.Facts] : Prop :=
  ∀ (m : (ℓ : Loc Cert.SquareGrads.nD Cert.SquareGrads.τ Cert.SquareGrads.sig) → Buf (Elt Bits) ℓ) (g : Dev Cert.SquareGrads.nD → PrngReg), Pre_SquareGrads m →
    θ_run (Cert.SquareGrads.defs (F := Bits)) (onTc (τ := Cert.SquareGrads.τ) (Cert.SquareGrads.main (F := Bits))) ⟨m, fun _ => 0, g⟩ (fun r => (∀ c : Dev Cert.SquareGrads.nD,
      r.2.mem ((c.tc : Thread Cert.SquareGrads.nD Cert.SquareGrads.τ).loc Cert.SquareGrads.main_arg0) = m ((c.tc : Thread Cert.SquareGrads.nD Cert.SquareGrads.τ).loc Cert.SquareGrads.main_arg0)
      ∧ r.2.mem ((c.tc : Thread Cert.SquareGrads.nD Cert.SquareGrads.τ).loc Cert.SquareGrads.main_arg1) = m ((c.tc : Thread Cert.SquareGrads.nD Cert.SquareGrads.τ).loc Cert.SquareGrads.main_arg1)
      ∧ r.2.mem ((c.tc : Thread Cert.SquareGrads.nD Cert.SquareGrads.τ).loc Cert.SquareGrads.main_arg2) = m ((c.tc : Thread Cert.SquareGrads.nD Cert.SquareGrads.τ).loc Cert.SquareGrads.main_arg2)
      ∧ r.2.mem ((c.tc : Thread Cert.SquareGrads.nD Cert.SquareGrads.τ).loc Cert.SquareGrads.main_arg3) = m ((c.tc : Thread Cert.SquareGrads.nD Cert.SquareGrads.τ).loc Cert.SquareGrads.main_arg3)
      ∧ r.2.mem ((c.tc : Thread Cert.SquareGrads.nD Cert.SquareGrads.τ).loc Cert.SquareGrads.main_arg4) = m ((c.tc : Thread Cert.SquareGrads.nD Cert.SquareGrads.τ).loc Cert.SquareGrads.main_arg4)
      ∧ r.2.mem ((c.tc : Thread Cert.SquareGrads.nD Cert.SquareGrads.τ).loc Cert.SquareGrads.main_arg5) = m ((c.tc : Thread Cert.SquareGrads.nD Cert.SquareGrads.τ).loc Cert.SquareGrads.main_arg5))
      ∧ r.2.sem = fun _ => 0)

def quiescent_SquareGradsIdeal [hSquareGradsIdeal : Cert.SquareGradsIdeal.Facts] : Prop :=
  ∀ (m : (ℓ : Loc Cert.SquareGradsIdeal.nD Cert.SquareGradsIdeal.τ Cert.SquareGradsIdeal.sig) → Buf (Elt Ideal) ℓ) (g : Dev Cert.SquareGradsIdeal.nD → PrngReg), Pre_SquareGradsIdeal m →
    θ_run (Cert.SquareGradsIdeal.defs (F := Ideal)) (onTc (τ := Cert.SquareGradsIdeal.τ) (Cert.SquareGradsIdeal.main (F := Ideal))) ⟨m, fun _ => 0, g⟩ (fun r => (∀ c : Dev Cert.SquareGradsIdeal.nD,
      r.2.mem ((c.tc : Thread Cert.SquareGradsIdeal.nD Cert.SquareGradsIdeal.τ).loc Cert.SquareGradsIdeal.main_arg0) = m ((c.tc : Thread Cert.SquareGradsIdeal.nD Cert.SquareGradsIdeal.τ).loc Cert.SquareGradsIdeal.main_arg0)
      ∧ r.2.mem ((c.tc : Thread Cert.SquareGradsIdeal.nD Cert.SquareGradsIdeal.τ).loc Cert.SquareGradsIdeal.main_arg1) = m ((c.tc : Thread Cert.SquareGradsIdeal.nD Cert.SquareGradsIdeal.τ).loc Cert.SquareGradsIdeal.main_arg1)
      ∧ r.2.mem ((c.tc : Thread Cert.SquareGradsIdeal.nD Cert.SquareGradsIdeal.τ).loc Cert.SquareGradsIdeal.main_arg2) = m ((c.tc : Thread Cert.SquareGradsIdeal.nD Cert.SquareGradsIdeal.τ).loc Cert.SquareGradsIdeal.main_arg2)
      ∧ r.2.mem ((c.tc : Thread Cert.SquareGradsIdeal.nD Cert.SquareGradsIdeal.τ).loc Cert.SquareGradsIdeal.main_arg3) = m ((c.tc : Thread Cert.SquareGradsIdeal.nD Cert.SquareGradsIdeal.τ).loc Cert.SquareGradsIdeal.main_arg3)
      ∧ r.2.mem ((c.tc : Thread Cert.SquareGradsIdeal.nD Cert.SquareGradsIdeal.τ).loc Cert.SquareGradsIdeal.main_arg4) = m ((c.tc : Thread Cert.SquareGradsIdeal.nD Cert.SquareGradsIdeal.τ).loc Cert.SquareGradsIdeal.main_arg4)
      ∧ r.2.mem ((c.tc : Thread Cert.SquareGradsIdeal.nD Cert.SquareGradsIdeal.τ).loc Cert.SquareGradsIdeal.main_arg5) = m ((c.tc : Thread Cert.SquareGradsIdeal.nD Cert.SquareGradsIdeal.τ).loc Cert.SquareGradsIdeal.main_arg5))
      ∧ r.2.sem = fun _ => 0)

def quiescent_SquareGradsRefIdeal [hSquareGradsRefIdeal : Cert.SquareGradsRefIdeal.Facts] : Prop :=
  ∀ (m : (ℓ : Loc Cert.SquareGradsRefIdeal.nD Cert.SquareGradsRefIdeal.τ Cert.SquareGradsRefIdeal.sig) → Buf (Elt Ideal) ℓ) (g : Dev Cert.SquareGradsRefIdeal.nD → PrngReg), Pre_SquareGradsRefIdeal m →
    θ_run (Cert.SquareGradsRefIdeal.defs (F := Ideal)) (onTc (τ := Cert.SquareGradsRefIdeal.τ) (Cert.SquareGradsRefIdeal.main (F := Ideal))) ⟨m, fun _ => 0, g⟩ (fun r => (∀ c : Dev Cert.SquareGradsRefIdeal.nD,
      r.2.mem ((c.tc : Thread Cert.SquareGradsRefIdeal.nD Cert.SquareGradsRefIdeal.τ).loc Cert.SquareGradsRefIdeal.main_arg0) = m ((c.tc : Thread Cert.SquareGradsRefIdeal.nD Cert.SquareGradsRefIdeal.τ).loc Cert.SquareGradsRefIdeal.main_arg0)
      ∧ r.2.mem ((c.tc : Thread Cert.SquareGradsRefIdeal.nD Cert.SquareGradsRefIdeal.τ).loc Cert.SquareGradsRefIdeal.main_arg1) = m ((c.tc : Thread Cert.SquareGradsRefIdeal.nD Cert.SquareGradsRefIdeal.τ).loc Cert.SquareGradsRefIdeal.main_arg1)
      ∧ r.2.mem ((c.tc : Thread Cert.SquareGradsRefIdeal.nD Cert.SquareGradsRefIdeal.τ).loc Cert.SquareGradsRefIdeal.main_arg2) = m ((c.tc : Thread Cert.SquareGradsRefIdeal.nD Cert.SquareGradsRefIdeal.τ).loc Cert.SquareGradsRefIdeal.main_arg2)
      ∧ r.2.mem ((c.tc : Thread Cert.SquareGradsRefIdeal.nD Cert.SquareGradsRefIdeal.τ).loc Cert.SquareGradsRefIdeal.main_arg3) = m ((c.tc : Thread Cert.SquareGradsRefIdeal.nD Cert.SquareGradsRefIdeal.τ).loc Cert.SquareGradsRefIdeal.main_arg3)
      ∧ r.2.mem ((c.tc : Thread Cert.SquareGradsRefIdeal.nD Cert.SquareGradsRefIdeal.τ).loc Cert.SquareGradsRefIdeal.main_arg4) = m ((c.tc : Thread Cert.SquareGradsRefIdeal.nD Cert.SquareGradsRefIdeal.τ).loc Cert.SquareGradsRefIdeal.main_arg4)
      ∧ r.2.mem ((c.tc : Thread Cert.SquareGradsRefIdeal.nD Cert.SquareGradsRefIdeal.τ).loc Cert.SquareGradsRefIdeal.main_arg5) = m ((c.tc : Thread Cert.SquareGradsRefIdeal.nD Cert.SquareGradsRefIdeal.τ).loc Cert.SquareGradsRefIdeal.main_arg5))
      ∧ r.2.sem = fun _ => 0)

def preserves_Merge_MergeIdeal : Prop :=
  True

def algebraic_MergeIdeal_MergeRefIdeal_on_gates_written [hMergeIdeal : Cert.MergeIdeal.Facts] [hMergeRefIdeal : Cert.MergeRefIdeal.Facts] [hOn_gates_written : Cert.On_gates_written.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)) (v2 : (c : Dev Cert.MergeIdeal.nD) → Buf (Elt Ideal) ((c.tc : Thread Cert.MergeIdeal.nD Cert.MergeIdeal.τ).loc Cert.MergeIdeal.main_v15_2)) (v3 : (c : Dev Cert.MergeIdeal.nD) → Buf (Elt Ideal) ((c.tc : Thread Cert.MergeIdeal.nD Cert.MergeIdeal.τ).loc Cert.MergeIdeal.main_v15_3)) (v4 : (c : Dev Cert.MergeIdeal.nD) → Buf (Elt Ideal) ((c.tc : Thread Cert.MergeIdeal.nD Cert.MergeIdeal.τ).loc Cert.MergeIdeal.main_v15_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![2048, 3072]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).1 i = 1#1 → r.2.mem ((c.tc : Thread Cert.MergeIdeal.nD Cert.MergeIdeal.τ).loc Cert.MergeIdeal.main_v15_0) i = v0 c i)
          ∧ (∀ i : (⟨3, ![8, 2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.1 i = 1#1 → r.2.mem ((c.tc : Thread Cert.MergeIdeal.nD Cert.MergeIdeal.τ).loc Cert.MergeIdeal.main_v15_1) i = v1 c i)
          ∧ (∀ i : (⟨2, ![2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.1 i = 1#1 → r.2.mem ((c.tc : Thread Cert.MergeIdeal.nD Cert.MergeIdeal.τ).loc Cert.MergeIdeal.main_v15_2) i = v2 c i)
          ∧ (∀ i : (⟨2, ![2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.1 i = 1#1 → r.2.mem ((c.tc : Thread Cert.MergeIdeal.nD Cert.MergeIdeal.τ).loc Cert.MergeIdeal.main_v15_3) i = v3 c i)
          ∧ (∀ i : (⟨2, ![2, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2 i = 1#1 → r.2.mem ((c.tc : Thread Cert.MergeIdeal.nD Cert.MergeIdeal.τ).loc Cert.MergeIdeal.main_v15_4) i = v4 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![2048, 3072]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).1 i = 1#1 → r.2.mem ((c.tc : Thread Cert.MergeRefIdeal.nD Cert.MergeRefIdeal.τ).loc Cert.MergeRefIdeal.main_v58) i = v0 c i)
          ∧ (∀ i : (⟨3, ![8, 2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.1 i = 1#1 → r.2.mem ((c.tc : Thread Cert.MergeRefIdeal.nD Cert.MergeRefIdeal.τ).loc Cert.MergeRefIdeal.main_v64) i = v1 c i)
          ∧ (∀ i : (⟨2, ![2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.1 i = 1#1 → r.2.mem ((c.tc : Thread Cert.MergeRefIdeal.nD Cert.MergeRefIdeal.τ).loc Cert.MergeRefIdeal.main_v56) i = v2 c i)
          ∧ (∀ i : (⟨2, ![2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.1 i = 1#1 → r.2.mem ((c.tc : Thread Cert.MergeRefIdeal.nD Cert.MergeRefIdeal.τ).loc Cert.MergeRefIdeal.main_v65) i = v3 c i)
          ∧ (∀ i : (⟨2, ![2, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2 i = 1#1 → r.2.mem ((c.tc : Thread Cert.MergeRefIdeal.nD Cert.MergeRefIdeal.τ).loc Cert.MergeRefIdeal.main_v66) i = v4 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Gate_GateIdeal : Prop :=
  IdealRules.named_const.Statement Cert.GateIdeal.κ "gelu_cubic" .f32 0x3D372713#32 ((8943 / 200000 : ℝ) : EReal)
  ∧ IdealRules.named_const.Statement Cert.GateIdeal.κ "gelu_slope" .f32 0x3E095D4F#32 ((26829 / 200000 : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)) (v2 : (c : Dev Cert.GateIdeal.nD) → Buf (Elt Ideal) ((c.tc : Thread Cert.GateIdeal.nD Cert.GateIdeal.τ).loc Cert.GateIdeal.main_v5_2)) (v3 : (c : Dev Cert.GateIdeal.nD) → Buf (Elt Ideal) ((c.tc : Thread Cert.GateIdeal.nD Cert.GateIdeal.τ).loc Cert.GateIdeal.main_v5_3)) (v4 : (c : Dev Cert.GateIdeal.nD) → Buf (Elt Ideal) ((c.tc : Thread Cert.GateIdeal.nD Cert.GateIdeal.τ).loc Cert.GateIdeal.main_v5_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_v5_2) = v2 c
          ∧ r.2.mem ((c.tc : Thread Cert.GateIdeal.nD Cert.GateIdeal.τ).loc Cert.GateIdeal.main_v5_3) = v3 c
          ∧ r.2.mem ((c.tc : Thread Cert.GateIdeal.nD Cert.GateIdeal.τ).loc Cert.GateIdeal.main_v5_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v172) = v0 c
          ∧ r.2.mem ((c.tc : Thread Cert.GateRefIdeal.nD Cert.GateRefIdeal.τ).loc Cert.GateRefIdeal.main_v173) = v1 c
          ∧ r.2.mem ((c.tc : Thread Cert.GateRefIdeal.nD Cert.GateRefIdeal.τ).loc Cert.GateRefIdeal.main_v175) = v2 c
          ∧ r.2.mem ((c.tc : Thread Cert.GateRefIdeal.nD Cert.GateRefIdeal.τ).loc Cert.GateRefIdeal.main_v140) = v3 c
          ∧ r.2.mem ((c.tc : Thread Cert.GateRefIdeal.nD Cert.GateRefIdeal.τ).loc Cert.GateRefIdeal.main_v139) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v38_0)) (v1 : (c : Dev Cert.FfnIdeal.nD) → Buf (Elt Ideal) ((c.tc : Thread Cert.FfnIdeal.nD Cert.FfnIdeal.τ).loc Cert.FfnIdeal.main_v38_1)) (v2 : (c : Dev Cert.FfnIdeal.nD) → Buf (Elt Ideal) ((c.tc : Thread Cert.FfnIdeal.nD Cert.FfnIdeal.τ).loc Cert.FfnIdeal.main_v38_2)) (v3 : (c : Dev Cert.FfnIdeal.nD) → Buf (Elt Ideal) ((c.tc : Thread Cert.FfnIdeal.nD Cert.FfnIdeal.τ).loc Cert.FfnIdeal.main_v38_3)) (v4 : (c : Dev Cert.FfnIdeal.nD) → Buf (Elt Ideal) ((c.tc : Thread Cert.FfnIdeal.nD Cert.FfnIdeal.τ).loc Cert.FfnIdeal.main_v38_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v38_0) = v0 c
          ∧ r.2.mem ((c.tc : Thread Cert.FfnIdeal.nD Cert.FfnIdeal.τ).loc Cert.FfnIdeal.main_v38_1) = v1 c
          ∧ r.2.mem ((c.tc : Thread Cert.FfnIdeal.nD Cert.FfnIdeal.τ).loc Cert.FfnIdeal.main_v38_2) = v2 c
          ∧ r.2.mem ((c.tc : Thread Cert.FfnIdeal.nD Cert.FfnIdeal.τ).loc Cert.FfnIdeal.main_v38_3) = v3 c
          ∧ r.2.mem ((c.tc : Thread Cert.FfnIdeal.nD Cert.FfnIdeal.τ).loc Cert.FfnIdeal.main_v38_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v95) = v0 c
          ∧ r.2.mem ((c.tc : Thread Cert.FfnRefIdeal.nD Cert.FfnRefIdeal.τ).loc Cert.FfnRefIdeal.main_v96) = v1 c
          ∧ r.2.mem ((c.tc : Thread Cert.FfnRefIdeal.nD Cert.FfnRefIdeal.τ).loc Cert.FfnRefIdeal.main_v71) = v2 c
          ∧ r.2.mem ((c.tc : Thread Cert.FfnRefIdeal.nD Cert.FfnRefIdeal.τ).loc Cert.FfnRefIdeal.main_v97) = v3 c
          ∧ r.2.mem ((c.tc : Thread Cert.FfnRefIdeal.nD Cert.FfnRefIdeal.τ).loc Cert.FfnRefIdeal.main_v98) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v1) = v0 c
          ∧ r.2.mem ((c.tc : Thread Cert.LossRefIdeal.nD Cert.LossRefIdeal.τ).loc Cert.LossRefIdeal.main_v38) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_v61) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_InProj_InProjIdeal : Prop :=
  True

def algebraic_InProjIdeal_InProjRefIdeal_pre_in_finite [hInProjIdeal : Cert.InProjIdeal.Facts] [hInProjRefIdeal : Cert.InProjRefIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v40) = v0 c
          ∧ r.2.mem ((c.tc : Thread Cert.InProjRefIdeal.nD Cert.InProjRefIdeal.τ).loc Cert.InProjRefIdeal.main_v41) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_GateFwd_GateFwdIdeal : Prop :=
  IdealRules.named_const.Statement Cert.GateFwdIdeal.κ "gelu_cubic" .f32 0x3D372713#32 ((8943 / 200000 : ℝ) : EReal)

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)) →
    ∃ (v0 : (c : Dev Cert.GateFwdIdeal.nD) → Buf (Elt Ideal) ((c.tc : Thread Cert.GateFwdIdeal.nD Cert.GateFwdIdeal.τ).loc Cert.GateFwdIdeal.main_v4)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v4) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v72) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)
      ∧ m' ((c.tc : Thread Cert.MergeFwdRefIdeal.nD Cert.MergeFwdRefIdeal.τ).loc Cert.MergeFwdRefIdeal.main_arg9) = m ((c.tc : Thread Cert.MergeFwdIdeal.nD Cert.MergeFwdIdeal.τ).loc Cert.MergeFwdIdeal.main_arg9)
      ∧ m' ((c.tc : Thread Cert.MergeFwdRefIdeal.nD Cert.MergeFwdRefIdeal.τ).loc Cert.MergeFwdRefIdeal.main_arg10) = m ((c.tc : Thread Cert.MergeFwdIdeal.nD Cert.MergeFwdIdeal.τ).loc Cert.MergeFwdIdeal.main_arg10)) →
    ∃ (v0 : (c : Dev Cert.MergeFwdIdeal.nD) → Buf (Elt Ideal) ((c.tc : Thread Cert.MergeFwdIdeal.nD Cert.MergeFwdIdeal.τ).loc Cert.MergeFwdIdeal.main_v11_0)) (v1 : (c : Dev Cert.MergeFwdIdeal.nD) → Buf (Elt Ideal) ((c.tc : Thread Cert.MergeFwdIdeal.nD Cert.MergeFwdIdeal.τ).loc Cert.MergeFwdIdeal.main_v11_1)) (v2 : (c : Dev Cert.MergeFwdIdeal.nD) → Buf (Elt Ideal) ((c.tc : Thread Cert.MergeFwdIdeal.nD Cert.MergeFwdIdeal.τ).loc Cert.MergeFwdIdeal.main_v11_2)) (v3 : (c : Dev Cert.MergeFwdIdeal.nD) → Buf (Elt Ideal) ((c.tc : Thread Cert.MergeFwdIdeal.nD Cert.MergeFwdIdeal.τ).loc Cert.MergeFwdIdeal.main_v11_3)) (v4 : (c : Dev Cert.MergeFwdIdeal.nD) → Buf (Elt Ideal) ((c.tc : Thread Cert.MergeFwdIdeal.nD Cert.MergeFwdIdeal.τ).loc Cert.MergeFwdIdeal.main_v11_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v11_0) = v0 c
          ∧ r.2.mem ((c.tc : Thread Cert.MergeFwdIdeal.nD Cert.MergeFwdIdeal.τ).loc Cert.MergeFwdIdeal.main_v11_1) = v1 c
          ∧ r.2.mem ((c.tc : Thread Cert.MergeFwdIdeal.nD Cert.MergeFwdIdeal.τ).loc Cert.MergeFwdIdeal.main_v11_2) = v2 c
          ∧ r.2.mem ((c.tc : Thread Cert.MergeFwdIdeal.nD Cert.MergeFwdIdeal.τ).loc Cert.MergeFwdIdeal.main_v11_3) = v3 c
          ∧ r.2.mem ((c.tc : Thread Cert.MergeFwdIdeal.nD Cert.MergeFwdIdeal.τ).loc Cert.MergeFwdIdeal.main_v11_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
          ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v60) = v0 c
          ∧ r.2.mem ((c.tc : Thread Cert.MergeFwdRefIdeal.nD Cert.MergeFwdRefIdeal.τ).loc Cert.MergeFwdRefIdeal.main_v61) = v1 c
          ∧ r.2.mem ((c.tc : Thread Cert.MergeFwdRefIdeal.nD Cert.MergeFwdRefIdeal.τ).loc Cert.MergeFwdRefIdeal.main_v30) = v2 c
          ∧ r.2.mem ((c.tc : Thread Cert.MergeFwdRefIdeal.nD Cert.MergeFwdRefIdeal.τ).loc Cert.MergeFwdRefIdeal.main_v45) = v3 c
          ∧ r.2.mem ((c.tc : Thread Cert.MergeFwdRefIdeal.nD Cert.MergeFwdRefIdeal.τ).loc Cert.MergeFwdRefIdeal.main_v62) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8)
          ∧ r.2.mem ((c.tc : Thread Cert.MergeFwdRefIdeal.nD Cert.MergeFwdRefIdeal.τ).loc Cert.MergeFwdRefIdeal.main_arg9) = m' ((c.tc : Thread Cert.MergeFwdRefIdeal.nD Cert.MergeFwdRefIdeal.τ).loc Cert.MergeFwdRefIdeal.main_arg9)
          ∧ r.2.mem ((c.tc : Thread Cert.MergeFwdRefIdeal.nD Cert.MergeFwdRefIdeal.τ).loc Cert.MergeFwdRefIdeal.main_arg10) = m' ((c.tc : Thread Cert.MergeFwdRefIdeal.nD Cert.MergeFwdRefIdeal.τ).loc Cert.MergeFwdRefIdeal.main_arg10))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_HiddenGrad_HiddenGradIdeal : Prop :=
  True

def algebraic_HiddenGradIdeal_HiddenGradRefIdeal [hHiddenGradIdeal : Cert.HiddenGradIdeal.Facts] [hHiddenGradRefIdeal : Cert.HiddenGradRefIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradRefIdeal.nD Cert.HiddenGradRefIdeal.τ Cert.HiddenGradRefIdeal.sig) → Buf (Elt Ideal) ℓ) (g' : Dev Cert.HiddenGradRefIdeal.nD → PrngReg), Pre_HiddenGradIdeal m →
    (∀ c : Dev Cert.HiddenGradIdeal.nD,
      m' ((c.tc : Thread Cert.HiddenGradRefIdeal.nD Cert.HiddenGradRefIdeal.τ).loc Cert.HiddenGradRefIdeal.main_arg0) = m ((c.tc : Thread Cert.HiddenGradIdeal.nD Cert.HiddenGradIdeal.τ).loc Cert.HiddenGradIdeal.main_arg0)
      ∧ m' ((c.tc : Thread Cert.HiddenGradRefIdeal.nD Cert.HiddenGradRefIdeal.τ).loc Cert.HiddenGradRefIdeal.main_arg1) = m ((c.tc : Thread Cert.HiddenGradIdeal.nD Cert.HiddenGradIdeal.τ).loc Cert.HiddenGradIdeal.main_arg1)) →
    ∃ (v0 : (c : Dev Cert.HiddenGradIdeal.nD) → Buf (Elt Ideal) ((c.tc : Thread Cert.HiddenGradIdeal.nD Cert.HiddenGradIdeal.τ).loc Cert.HiddenGradIdeal.main_v2)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v2) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ θ_run (Cert.HiddenGradRefIdeal.defs (F := Ideal)) (onTc (τ := Cert.HiddenGradRefIdeal.τ) (Cert.HiddenGradRefIdeal.main (F := Ideal))) ⟨m', fun _ => 0, g'⟩ (fun r => ∀ c : Dev Cert.HiddenGradRefIdeal.nD,
          r.2.mem ((c.tc : Thread Cert.HiddenGradRefIdeal.nD Cert.HiddenGradRefIdeal.τ).loc Cert.HiddenGradRefIdeal.main_v4) = v0 c
          ∧ r.2.mem ((c.tc : Thread Cert.HiddenGradRefIdeal.nD Cert.HiddenGradRefIdeal.τ).loc Cert.HiddenGradRefIdeal.main_arg0) = m' ((c.tc : Thread Cert.HiddenGradRefIdeal.nD Cert.HiddenGradRefIdeal.τ).loc Cert.HiddenGradRefIdeal.main_arg0)
          ∧ r.2.mem ((c.tc : Thread Cert.HiddenGradRefIdeal.nD Cert.HiddenGradRefIdeal.τ).loc Cert.HiddenGradRefIdeal.main_arg1) = m' ((c.tc : Thread Cert.HiddenGradRefIdeal.nD Cert.HiddenGradRefIdeal.τ).loc Cert.HiddenGradRefIdeal.main_arg1))

def preserves_ProjectionGrad_ProjectionGradIdeal : Prop :=
  True

def algebraic_ProjectionGradIdeal_ProjectionGradRefIdeal [hProjectionGradIdeal : Cert.ProjectionGradIdeal.Facts] [hProjectionGradRefIdeal : Cert.ProjectionGradRefIdeal.Facts] : Prop :=
  ∀ (m : (ℓ : Loc Cert.ProjectionGradIdeal.nD Cert.ProjectionGradIdeal.τ Cert.ProjectionGradIdeal.sig) → Buf (Elt Ideal) ℓ) (g : Dev Cert.ProjectionGradIdeal.nD → PrngReg)
    (m' : (ℓ : Loc Cert.ProjectionGradRefIdeal.nD Cert.ProjectionGradRefIdeal.τ Cert.ProjectionGradRefIdeal.sig) → Buf (Elt Ideal) ℓ) (g' : Dev Cert.ProjectionGradRefIdeal.nD → PrngReg), Pre_ProjectionGradIdeal m →
    (∀ c : Dev Cert.ProjectionGradIdeal.nD,
      m' ((c.tc : Thread Cert.ProjectionGradRefIdeal.nD Cert.ProjectionGradRefIdeal.τ).loc Cert.ProjectionGradRefIdeal.main_arg0) = m ((c.tc : Thread Cert.ProjectionGradIdeal.nD Cert.ProjectionGradIdeal.τ).loc Cert.ProjectionGradIdeal.main_arg0)
      ∧ m' ((c.tc : Thread Cert.ProjectionGradRefIdeal.nD Cert.ProjectionGradRefIdeal.τ).loc Cert.ProjectionGradRefIdeal.main_arg1) = m ((c.tc : Thread Cert.ProjectionGradIdeal.nD Cert.ProjectionGradIdeal.τ).loc Cert.ProjectionGradIdeal.main_arg1)) →
    ∃ (v0 : (c : Dev Cert.ProjectionGradIdeal.nD) → Buf (Elt Ideal) ((c.tc : Thread Cert.ProjectionGradIdeal.nD Cert.ProjectionGradIdeal.τ).loc Cert.ProjectionGradIdeal.main_v19)),
      θ_run (Cert.ProjectionGradIdeal.defs (F := Ideal)) (onTc (τ := Cert.ProjectionGradIdeal.τ) (Cert.ProjectionGradIdeal.main (F := Ideal))) ⟨m, fun _ => 0, g⟩ (fun r => ∀ c : Dev Cert.ProjectionGradIdeal.nD,
          r.2.mem ((c.tc : Thread Cert.ProjectionGradIdeal.nD Cert.ProjectionGradIdeal.τ).loc Cert.ProjectionGradIdeal.main_v19) = v0 c
          ∧ r.2.mem ((c.tc : Thread Cert.ProjectionGradIdeal.nD Cert.ProjectionGradIdeal.τ).loc Cert.ProjectionGradIdeal.main_arg0) = m ((c.tc : Thread Cert.ProjectionGradIdeal.nD Cert.ProjectionGradIdeal.τ).loc Cert.ProjectionGradIdeal.main_arg0)
          ∧ r.2.mem ((c.tc : Thread Cert.ProjectionGradIdeal.nD Cert.ProjectionGradIdeal.τ).loc Cert.ProjectionGradIdeal.main_arg1) = m ((c.tc : Thread Cert.ProjectionGradIdeal.nD Cert.ProjectionGradIdeal.τ).loc Cert.ProjectionGradIdeal.main_arg1))
      ∧ θ_run (Cert.ProjectionGradRefIdeal.defs (F := Ideal)) (onTc (τ := Cert.ProjectionGradRefIdeal.τ) (Cert.ProjectionGradRefIdeal.main (F := Ideal))) ⟨m', fun _ => 0, g'⟩ (fun r => ∀ c : Dev Cert.ProjectionGradRefIdeal.nD,
          r.2.mem ((c.tc : Thread Cert.ProjectionGradRefIdeal.nD Cert.ProjectionGradRefIdeal.τ).loc Cert.ProjectionGradRefIdeal.main_v4) = v0 c
          ∧ r.2.mem ((c.tc : Thread Cert.ProjectionGradRefIdeal.nD Cert.ProjectionGradRefIdeal.τ).loc Cert.ProjectionGradRefIdeal.main_arg0) = m' ((c.tc : Thread Cert.ProjectionGradRefIdeal.nD Cert.ProjectionGradRefIdeal.τ).loc Cert.ProjectionGradRefIdeal.main_arg0)
          ∧ r.2.mem ((c.tc : Thread Cert.ProjectionGradRefIdeal.nD Cert.ProjectionGradRefIdeal.τ).loc Cert.ProjectionGradRefIdeal.main_arg1) = m' ((c.tc : Thread Cert.ProjectionGradRefIdeal.nD Cert.ProjectionGradRefIdeal.τ).loc Cert.ProjectionGradRefIdeal.main_arg1))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)
      ∧ m' ((c.tc : Thread Cert.UpdateRefIdeal.nD Cert.UpdateRefIdeal.τ).loc Cert.UpdateRefIdeal.main_arg4) = m ((c.tc : Thread Cert.UpdateIdeal.nD Cert.UpdateIdeal.τ).loc Cert.UpdateIdeal.main_arg4)) →
    ∃ (v0 : (c : Dev Cert.UpdateIdeal.nD) → Buf (Elt Ideal) ((c.tc : Thread Cert.UpdateIdeal.nD Cert.UpdateIdeal.τ).loc Cert.UpdateIdeal.main_v4_0)) (v1 : (c : Dev Cert.UpdateIdeal.nD) → Buf (Elt Ideal) ((c.tc : Thread Cert.UpdateIdeal.nD Cert.UpdateIdeal.τ).loc Cert.UpdateIdeal.main_v4_1)) (v2 : (c : Dev Cert.UpdateIdeal.nD) → Buf (Elt Ideal) ((c.tc : Thread Cert.UpdateIdeal.nD Cert.UpdateIdeal.τ).loc Cert.UpdateIdeal.main_v4_2)) (v3 : (c : Dev Cert.UpdateIdeal.nD) → Buf (Elt Ideal) ((c.tc : Thread Cert.UpdateIdeal.nD Cert.UpdateIdeal.τ).loc Cert.UpdateIdeal.main_v4_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v4_0) = v0 c
          ∧ r.2.mem ((c.tc : Thread Cert.UpdateIdeal.nD Cert.UpdateIdeal.τ).loc Cert.UpdateIdeal.main_v4_1) = v1 c
          ∧ r.2.mem ((c.tc : Thread Cert.UpdateIdeal.nD Cert.UpdateIdeal.τ).loc Cert.UpdateIdeal.main_v4_2) = v2 c
          ∧ r.2.mem ((c.tc : Thread Cert.UpdateIdeal.nD Cert.UpdateIdeal.τ).loc Cert.UpdateIdeal.main_v4_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v8) = v0 c
          ∧ r.2.mem ((c.tc : Thread Cert.UpdateRefIdeal.nD Cert.UpdateRefIdeal.τ).loc Cert.UpdateRefIdeal.main_v32) = v1 c
          ∧ r.2.mem ((c.tc : Thread Cert.UpdateRefIdeal.nD Cert.UpdateRefIdeal.τ).loc Cert.UpdateRefIdeal.main_v13) = v2 c
          ∧ r.2.mem ((c.tc : Thread Cert.UpdateRefIdeal.nD Cert.UpdateRefIdeal.τ).loc Cert.UpdateRefIdeal.main_v19) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3)
          ∧ r.2.mem ((c.tc : Thread Cert.UpdateRefIdeal.nD Cert.UpdateRefIdeal.τ).loc Cert.UpdateRefIdeal.main_arg4) = m' ((c.tc : Thread Cert.UpdateRefIdeal.nD Cert.UpdateRefIdeal.τ).loc Cert.UpdateRefIdeal.main_arg4))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v3)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v3) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v4) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def preserves_Projection_ProjectionIdeal : Prop :=
  True

def algebraic_ProjectionIdeal_ProjectionRefIdeal [hProjectionIdeal : Cert.ProjectionIdeal.Facts] [hProjectionRefIdeal : Cert.ProjectionRefIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionRefIdeal.nD Cert.ProjectionRefIdeal.τ Cert.ProjectionRefIdeal.sig) → Buf (Elt Ideal) ℓ) (g' : Dev Cert.ProjectionRefIdeal.nD → PrngReg), Pre_ProjectionIdeal m →
    (∀ c : Dev Cert.ProjectionIdeal.nD,
      m' ((c.tc : Thread Cert.ProjectionRefIdeal.nD Cert.ProjectionRefIdeal.τ).loc Cert.ProjectionRefIdeal.main_arg0) = m ((c.tc : Thread Cert.ProjectionIdeal.nD Cert.ProjectionIdeal.τ).loc Cert.ProjectionIdeal.main_arg0)
      ∧ m' ((c.tc : Thread Cert.ProjectionRefIdeal.nD Cert.ProjectionRefIdeal.τ).loc Cert.ProjectionRefIdeal.main_arg1) = m ((c.tc : Thread Cert.ProjectionIdeal.nD Cert.ProjectionIdeal.τ).loc Cert.ProjectionIdeal.main_arg1)) →
    ∃ (v0 : (c : Dev Cert.ProjectionIdeal.nD) → Buf (Elt Ideal) ((c.tc : Thread Cert.ProjectionIdeal.nD Cert.ProjectionIdeal.τ).loc Cert.ProjectionIdeal.main_v3_0)) (v1 : (c : Dev Cert.ProjectionIdeal.nD) → Buf (Elt Ideal) ((c.tc : Thread Cert.ProjectionIdeal.nD Cert.ProjectionIdeal.τ).loc Cert.ProjectionIdeal.main_v3_1)) (v2 : (c : Dev Cert.ProjectionIdeal.nD) → Buf (Elt Ideal) ((c.tc : Thread Cert.ProjectionIdeal.nD Cert.ProjectionIdeal.τ).loc Cert.ProjectionIdeal.main_v3_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v3_0) = v0 c
          ∧ r.2.mem ((c.tc : Thread Cert.ProjectionIdeal.nD Cert.ProjectionIdeal.τ).loc Cert.ProjectionIdeal.main_v3_1) = v1 c
          ∧ r.2.mem ((c.tc : Thread Cert.ProjectionIdeal.nD Cert.ProjectionIdeal.τ).loc Cert.ProjectionIdeal.main_v3_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ θ_run (Cert.ProjectionRefIdeal.defs (F := Ideal)) (onTc (τ := Cert.ProjectionRefIdeal.τ) (Cert.ProjectionRefIdeal.main (F := Ideal))) ⟨m', fun _ => 0, g'⟩ (fun r => ∀ c : Dev Cert.ProjectionRefIdeal.nD,
          r.2.mem ((c.tc : Thread Cert.ProjectionRefIdeal.nD Cert.ProjectionRefIdeal.τ).loc Cert.ProjectionRefIdeal.main_v2) = v0 c
          ∧ r.2.mem ((c.tc : Thread Cert.ProjectionRefIdeal.nD Cert.ProjectionRefIdeal.τ).loc Cert.ProjectionRefIdeal.main_v4) = v1 c
          ∧ r.2.mem ((c.tc : Thread Cert.ProjectionRefIdeal.nD Cert.ProjectionRefIdeal.τ).loc Cert.ProjectionRefIdeal.main_v5) = v2 c
          ∧ r.2.mem ((c.tc : Thread Cert.ProjectionRefIdeal.nD Cert.ProjectionRefIdeal.τ).loc Cert.ProjectionRefIdeal.main_arg0) = m' ((c.tc : Thread Cert.ProjectionRefIdeal.nD Cert.ProjectionRefIdeal.τ).loc Cert.ProjectionRefIdeal.main_arg0)
          ∧ r.2.mem ((c.tc : Thread Cert.ProjectionRefIdeal.nD Cert.ProjectionRefIdeal.τ).loc Cert.ProjectionRefIdeal.main_arg1) = m' ((c.tc : Thread Cert.ProjectionRefIdeal.nD Cert.ProjectionRefIdeal.τ).loc Cert.ProjectionRefIdeal.main_arg1))

def preserves_SquareGrads_SquareGradsIdeal : Prop :=
  True

def algebraic_SquareGradsIdeal_SquareGradsRefIdeal [hSquareGradsIdeal : Cert.SquareGradsIdeal.Facts] [hSquareGradsRefIdeal : Cert.SquareGradsRefIdeal.Facts] : Prop :=
  ∀ (m : (ℓ : Loc Cert.SquareGradsIdeal.nD Cert.SquareGradsIdeal.τ Cert.SquareGradsIdeal.sig) → Buf (Elt Ideal) ℓ) (g : Dev Cert.SquareGradsIdeal.nD → PrngReg)
    (m' : (ℓ : Loc Cert.SquareGradsRefIdeal.nD Cert.SquareGradsRefIdeal.τ Cert.SquareGradsRefIdeal.sig) → Buf (Elt Ideal) ℓ) (g' : Dev Cert.SquareGradsRefIdeal.nD → PrngReg), Pre_SquareGradsIdeal m →
    (∀ c : Dev Cert.SquareGradsIdeal.nD,
      m' ((c.tc : Thread Cert.SquareGradsRefIdeal.nD Cert.SquareGradsRefIdeal.τ).loc Cert.SquareGradsRefIdeal.main_arg0) = m ((c.tc : Thread Cert.SquareGradsIdeal.nD Cert.SquareGradsIdeal.τ).loc Cert.SquareGradsIdeal.main_arg0)
      ∧ m' ((c.tc : Thread Cert.SquareGradsRefIdeal.nD Cert.SquareGradsRefIdeal.τ).loc Cert.SquareGradsRefIdeal.main_arg1) = m ((c.tc : Thread Cert.SquareGradsIdeal.nD Cert.SquareGradsIdeal.τ).loc Cert.SquareGradsIdeal.main_arg1)
      ∧ m' ((c.tc : Thread Cert.SquareGradsRefIdeal.nD Cert.SquareGradsRefIdeal.τ).loc Cert.SquareGradsRefIdeal.main_arg2) = m ((c.tc : Thread Cert.SquareGradsIdeal.nD Cert.SquareGradsIdeal.τ).loc Cert.SquareGradsIdeal.main_arg2)
      ∧ m' ((c.tc : Thread Cert.SquareGradsRefIdeal.nD Cert.SquareGradsRefIdeal.τ).loc Cert.SquareGradsRefIdeal.main_arg3) = m ((c.tc : Thread Cert.SquareGradsIdeal.nD Cert.SquareGradsIdeal.τ).loc Cert.SquareGradsIdeal.main_arg3)
      ∧ m' ((c.tc : Thread Cert.SquareGradsRefIdeal.nD Cert.SquareGradsRefIdeal.τ).loc Cert.SquareGradsRefIdeal.main_arg4) = m ((c.tc : Thread Cert.SquareGradsIdeal.nD Cert.SquareGradsIdeal.τ).loc Cert.SquareGradsIdeal.main_arg4)
      ∧ m' ((c.tc : Thread Cert.SquareGradsRefIdeal.nD Cert.SquareGradsRefIdeal.τ).loc Cert.SquareGradsRefIdeal.main_arg5) = m ((c.tc : Thread Cert.SquareGradsIdeal.nD Cert.SquareGradsIdeal.τ).loc Cert.SquareGradsIdeal.main_arg5)) →
    ∃ (v0 : (c : Dev Cert.SquareGradsIdeal.nD) → Buf (Elt Ideal) ((c.tc : Thread Cert.SquareGradsIdeal.nD Cert.SquareGradsIdeal.τ).loc Cert.SquareGradsIdeal.main_v5_0)) (v1 : (c : Dev Cert.SquareGradsIdeal.nD) → Buf (Elt Ideal) ((c.tc : Thread Cert.SquareGradsIdeal.nD Cert.SquareGradsIdeal.τ).loc Cert.SquareGradsIdeal.main_v5_1)) (v2 : (c : Dev Cert.SquareGradsIdeal.nD) → Buf (Elt Ideal) ((c.tc : Thread Cert.SquareGradsIdeal.nD Cert.SquareGradsIdeal.τ).loc Cert.SquareGradsIdeal.main_v5_2)),
      θ_run (Cert.SquareGradsIdeal.defs (F := Ideal)) (onTc (τ := Cert.SquareGradsIdeal.τ) (Cert.SquareGradsIdeal.main (F := Ideal))) ⟨m, fun _ => 0, g⟩ (fun r => ∀ c : Dev Cert.SquareGradsIdeal.nD,
          r.2.mem ((c.tc : Thread Cert.SquareGradsIdeal.nD Cert.SquareGradsIdeal.τ).loc Cert.SquareGradsIdeal.main_v5_0) = v0 c
          ∧ r.2.mem ((c.tc : Thread Cert.SquareGradsIdeal.nD Cert.SquareGradsIdeal.τ).loc Cert.SquareGradsIdeal.main_v5_1) = v1 c
          ∧ r.2.mem ((c.tc : Thread Cert.SquareGradsIdeal.nD Cert.SquareGradsIdeal.τ).loc Cert.SquareGradsIdeal.main_v5_2) = v2 c
          ∧ r.2.mem ((c.tc : Thread Cert.SquareGradsIdeal.nD Cert.SquareGradsIdeal.τ).loc Cert.SquareGradsIdeal.main_arg0) = m ((c.tc : Thread Cert.SquareGradsIdeal.nD Cert.SquareGradsIdeal.τ).loc Cert.SquareGradsIdeal.main_arg0)
          ∧ r.2.mem ((c.tc : Thread Cert.SquareGradsIdeal.nD Cert.SquareGradsIdeal.τ).loc Cert.SquareGradsIdeal.main_arg1) = m ((c.tc : Thread Cert.SquareGradsIdeal.nD Cert.SquareGradsIdeal.τ).loc Cert.SquareGradsIdeal.main_arg1)
          ∧ r.2.mem ((c.tc : Thread Cert.SquareGradsIdeal.nD Cert.SquareGradsIdeal.τ).loc Cert.SquareGradsIdeal.main_arg2) = m ((c.tc : Thread Cert.SquareGradsIdeal.nD Cert.SquareGradsIdeal.τ).loc Cert.SquareGradsIdeal.main_arg2)
          ∧ r.2.mem ((c.tc : Thread Cert.SquareGradsIdeal.nD Cert.SquareGradsIdeal.τ).loc Cert.SquareGradsIdeal.main_arg3) = m ((c.tc : Thread Cert.SquareGradsIdeal.nD Cert.SquareGradsIdeal.τ).loc Cert.SquareGradsIdeal.main_arg3)
          ∧ r.2.mem ((c.tc : Thread Cert.SquareGradsIdeal.nD Cert.SquareGradsIdeal.τ).loc Cert.SquareGradsIdeal.main_arg4) = m ((c.tc : Thread Cert.SquareGradsIdeal.nD Cert.SquareGradsIdeal.τ).loc Cert.SquareGradsIdeal.main_arg4)
          ∧ r.2.mem ((c.tc : Thread Cert.SquareGradsIdeal.nD Cert.SquareGradsIdeal.τ).loc Cert.SquareGradsIdeal.main_arg5) = m ((c.tc : Thread Cert.SquareGradsIdeal.nD Cert.SquareGradsIdeal.τ).loc Cert.SquareGradsIdeal.main_arg5))
      ∧ θ_run (Cert.SquareGradsRefIdeal.defs (F := Ideal)) (onTc (τ := Cert.SquareGradsRefIdeal.τ) (Cert.SquareGradsRefIdeal.main (F := Ideal))) ⟨m', fun _ => 0, g'⟩ (fun r => ∀ c : Dev Cert.SquareGradsRefIdeal.nD,
          r.2.mem ((c.tc : Thread Cert.SquareGradsRefIdeal.nD Cert.SquareGradsRefIdeal.τ).loc Cert.SquareGradsRefIdeal.main_v12) = v0 c
          ∧ r.2.mem ((c.tc : Thread Cert.SquareGradsRefIdeal.nD Cert.SquareGradsRefIdeal.τ).loc Cert.SquareGradsRefIdeal.main_v13) = v1 c
          ∧ r.2.mem ((c.tc : Thread Cert.SquareGradsRefIdeal.nD Cert.SquareGradsRefIdeal.τ).loc Cert.SquareGradsRefIdeal.main_v14) = v2 c
          ∧ r.2.mem ((c.tc : Thread Cert.SquareGradsRefIdeal.nD Cert.SquareGradsRefIdeal.τ).loc Cert.SquareGradsRefIdeal.main_arg0) = m' ((c.tc : Thread Cert.SquareGradsRefIdeal.nD Cert.SquareGradsRefIdeal.τ).loc Cert.SquareGradsRefIdeal.main_arg0)
          ∧ r.2.mem ((c.tc : Thread Cert.SquareGradsRefIdeal.nD Cert.SquareGradsRefIdeal.τ).loc Cert.SquareGradsRefIdeal.main_arg1) = m' ((c.tc : Thread Cert.SquareGradsRefIdeal.nD Cert.SquareGradsRefIdeal.τ).loc Cert.SquareGradsRefIdeal.main_arg1)
          ∧ r.2.mem ((c.tc : Thread Cert.SquareGradsRefIdeal.nD Cert.SquareGradsRefIdeal.τ).loc Cert.SquareGradsRefIdeal.main_arg2) = m' ((c.tc : Thread Cert.SquareGradsRefIdeal.nD Cert.SquareGradsRefIdeal.τ).loc Cert.SquareGradsRefIdeal.main_arg2)
          ∧ r.2.mem ((c.tc : Thread Cert.SquareGradsRefIdeal.nD Cert.SquareGradsRefIdeal.τ).loc Cert.SquareGradsRefIdeal.main_arg3) = m' ((c.tc : Thread Cert.SquareGradsRefIdeal.nD Cert.SquareGradsRefIdeal.τ).loc Cert.SquareGradsRefIdeal.main_arg3)
          ∧ r.2.mem ((c.tc : Thread Cert.SquareGradsRefIdeal.nD Cert.SquareGradsRefIdeal.τ).loc Cert.SquareGradsRefIdeal.main_arg4) = m' ((c.tc : Thread Cert.SquareGradsRefIdeal.nD Cert.SquareGradsRefIdeal.τ).loc Cert.SquareGradsRefIdeal.main_arg4)
          ∧ r.2.mem ((c.tc : Thread Cert.SquareGradsRefIdeal.nD Cert.SquareGradsRefIdeal.τ).loc Cert.SquareGradsRefIdeal.main_arg5) = m' ((c.tc : Thread Cert.SquareGradsRefIdeal.nD Cert.SquareGradsRefIdeal.τ).loc Cert.SquareGradsRefIdeal.main_arg5))

def Claim : Prop :=
  ∃ (hMerge : Cert.Merge.Facts) (hMergeIdeal : Cert.MergeIdeal.Facts) (hMergeRefIdeal : Cert.MergeRefIdeal.Facts) (hGate : Cert.Gate.Facts) (hGateIdeal : Cert.GateIdeal.Facts) (hGateRefIdeal : Cert.GateRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hGateFwd : Cert.GateFwd.Facts) (hGateFwdIdeal : Cert.GateFwdIdeal.Facts) (hGateFwdRefIdeal : Cert.GateFwdRefIdeal.Facts) (hMergeFwd : Cert.MergeFwd.Facts) (hMergeFwdIdeal : Cert.MergeFwdIdeal.Facts) (hMergeFwdRefIdeal : Cert.MergeFwdRefIdeal.Facts) (hNormFwd : Cert.NormFwd.Facts) (hNormFwdIdeal : Cert.NormFwdIdeal.Facts) (hNormFwdRefIdeal : Cert.NormFwdRefIdeal.Facts) (hHiddenGrad : Cert.HiddenGrad.Facts) (hHiddenGradIdeal : Cert.HiddenGradIdeal.Facts) (hHiddenGradRefIdeal : Cert.HiddenGradRefIdeal.Facts) (hProjectionGrad : Cert.ProjectionGrad.Facts) (hProjectionGradIdeal : Cert.ProjectionGradIdeal.Facts) (hProjectionGradRefIdeal : Cert.ProjectionGradRefIdeal.Facts) (hUpdate : Cert.Update.Facts) (hUpdateIdeal : Cert.UpdateIdeal.Facts) (hUpdateRefIdeal : Cert.UpdateRefIdeal.Facts) (hPairSum : Cert.PairSum.Facts) (hPairSumIdeal : Cert.PairSumIdeal.Facts) (hPairSumRefIdeal : Cert.PairSumRefIdeal.Facts) (hProjection : Cert.Projection.Facts) (hProjectionIdeal : Cert.ProjectionIdeal.Facts) (hProjectionRefIdeal : Cert.ProjectionRefIdeal.Facts) (hSquareGrads : Cert.SquareGrads.Facts) (hSquareGradsIdeal : Cert.SquareGradsIdeal.Facts) (hSquareGradsRefIdeal : Cert.SquareGradsRefIdeal.Facts) (hPre_gate_finite : Cert.Pre_gate_finite.Facts) (hPre_ffn_finite : Cert.Pre_ffn_finite.Facts) (hPre_loss_finite : Cert.Pre_loss_finite.Facts) (hPre_in_finite : Cert.Pre_in_finite.Facts) (hOn_gates_written : Cert.On_gates_written.Facts),
    quiescent_Merge (hMerge := hMerge)
    ∧ quiescent_MergeIdeal (hMergeIdeal := hMergeIdeal)
    ∧ quiescent_MergeRefIdeal (hMergeRefIdeal := hMergeRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_InProj (hInProj := hInProj)
    ∧ quiescent_InProjIdeal (hInProjIdeal := hInProjIdeal)
    ∧ quiescent_InProjIdeal_pre_in_finite (hInProjIdeal := hInProjIdeal) (hPre_in_finite := hPre_in_finite)
    ∧ quiescent_InProjRefIdeal (hInProjRefIdeal := hInProjRefIdeal)
    ∧ quiescent_InProjRefIdeal_pre_in_finite (hInProjRefIdeal := hInProjRefIdeal) (hPre_in_finite := hPre_in_finite)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_HiddenGrad (hHiddenGrad := hHiddenGrad)
    ∧ quiescent_HiddenGradIdeal (hHiddenGradIdeal := hHiddenGradIdeal)
    ∧ quiescent_HiddenGradRefIdeal (hHiddenGradRefIdeal := hHiddenGradRefIdeal)
    ∧ quiescent_ProjectionGrad (hProjectionGrad := hProjectionGrad)
    ∧ quiescent_ProjectionGradIdeal (hProjectionGradIdeal := hProjectionGradIdeal)
    ∧ quiescent_ProjectionGradRefIdeal (hProjectionGradRefIdeal := hProjectionGradRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_Projection (hProjection := hProjection)
    ∧ quiescent_ProjectionIdeal (hProjectionIdeal := hProjectionIdeal)
    ∧ quiescent_ProjectionRefIdeal (hProjectionRefIdeal := hProjectionRefIdeal)
    ∧ quiescent_SquareGrads (hSquareGrads := hSquareGrads)
    ∧ quiescent_SquareGradsIdeal (hSquareGradsIdeal := hSquareGradsIdeal)
    ∧ quiescent_SquareGradsRefIdeal (hSquareGradsRefIdeal := hSquareGradsRefIdeal)
    ∧ preserves_Merge_MergeIdeal
    ∧ algebraic_MergeIdeal_MergeRefIdeal_on_gates_written (hMergeIdeal := hMergeIdeal) (hMergeRefIdeal := hMergeRefIdeal) (hOn_gates_written := hOn_gates_written)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_InProj_InProjIdeal
    ∧ algebraic_InProjIdeal_InProjRefIdeal_pre_in_finite (hInProjIdeal := hInProjIdeal) (hInProjRefIdeal := hInProjRefIdeal) (hPre_in_finite := hPre_in_finite)
    ∧ preserves_GateFwd_GateFwdIdeal
    ∧ algebraic_GateFwdIdeal_GateFwdRefIdeal (hGateFwdIdeal := hGateFwdIdeal) (hGateFwdRefIdeal := hGateFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_HiddenGrad_HiddenGradIdeal
    ∧ algebraic_HiddenGradIdeal_HiddenGradRefIdeal (hHiddenGradIdeal := hHiddenGradIdeal) (hHiddenGradRefIdeal := hHiddenGradRefIdeal)
    ∧ preserves_ProjectionGrad_ProjectionGradIdeal
    ∧ algebraic_ProjectionGradIdeal_ProjectionGradRefIdeal (hProjectionGradIdeal := hProjectionGradIdeal) (hProjectionGradRefIdeal := hProjectionGradRefIdeal)
    ∧ preserves_Update_UpdateIdeal
    ∧ algebraic_UpdateIdeal_UpdateRefIdeal (hUpdateIdeal := hUpdateIdeal) (hUpdateRefIdeal := hUpdateRefIdeal)
    ∧ preserves_PairSum_PairSumIdeal
    ∧ algebraic_PairSumIdeal_PairSumRefIdeal (hPairSumIdeal := hPairSumIdeal) (hPairSumRefIdeal := hPairSumRefIdeal)
    ∧ preserves_Projection_ProjectionIdeal
    ∧ algebraic_ProjectionIdeal_ProjectionRefIdeal (hProjectionIdeal := hProjectionIdeal) (hProjectionRefIdeal := hProjectionRefIdeal)
    ∧ preserves_SquareGrads_SquareGradsIdeal
    ∧ algebraic_SquareGradsIdeal_SquareGradsRefIdeal (hSquareGradsIdeal := hSquareGradsIdeal) (hSquareGradsRefIdeal := hSquareGradsRefIdeal)
-- ==== On_gates_written.lean ====
abbrev S2048x1024 : Shape := ⟨2, ![2048, 1024]⟩
abbrev S1x2x1024 : Shape := ⟨3, ![1, 2, 1024]⟩
abbrev S1x1024x1024 : Shape := ⟨3, ![1, 1024, 1024]⟩
abbrev S1x1024 : Shape := ⟨2, ![1, 1024]⟩
abbrev S8x2048x1024 : Shape := ⟨3, ![8, 2048, 1024]⟩
abbrev S2048x3072 : Shape := ⟨2, ![2048, 3072]⟩
abbrev S_ : Shape := ⟨0, ![]⟩
abbrev S2x1024 : Shape := ⟨2, ![2, 1024]⟩

class Facts : Prop where
  bcast_S_S2048x3072 : S_.BroadcastsInDim S2048x3072 (![] : Fin 0 → Fin S2048x3072.rank)
  bcast_S_S8x2048x1024 : S_.BroadcastsInDim S8x2048x1024 (![] : Fin 0 → Fin S8x2048x1024.rank)
  bcast_S_S2048x1024 : S_.BroadcastsInDim S2048x1024 (![] : Fin 0 → Fin S2048x1024.rank)
  bcast_S_S2x1024 : S_.BroadcastsInDim S2x1024 (![] : Fin 0 → Fin S2x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1x2x1024 .f32) (main_arg5 : FVec F S1x1024x1024 .f32) (main_arg6 : FVec F S1x1024x1024 .f32) (main_arg7 : FVec F S1x1024x1024 .f32) (main_arg8 : FVec F S1x1024 .f32) (main_arg9 : FVec F S1x1024 .f32) (main_arg10 : FVec F S2048x1024 .f32) : IVec S2048x3072 1 × IVec S8x2048x1024 1 × IVec S2048x1024 1 × IVec S2048x1024 1 × IVec S2x1024 1 :=
  let main_v0 : IVec S8x2048x1024 32 := iotaInDim S8x2048x1024 32 0
  let main_v1 : IVec S2048x3072 32 := iotaInDim S2048x3072 32 0
  let main_c : IVec S_ 32 := constantI S_ 32 0#32
  let main_v2 : IVec S2048x3072 32 := broadcastInDim S2048x3072 ![] bcast_S_S2048x3072 main_c
  let main_v3 : IVec S2048x3072 1 := cmpi .sge main_v1 main_v2
  let main_c_0 : IVec S_ 32 := constantI S_ 32 2#32
  let main_v4 : IVec S8x2048x1024 32 := broadcastInDim S8x2048x1024 ![] bcast_S_S8x2048x1024 main_c_0
  let main_v5 : IVec S8x2048x1024 1 := cmpi .sge main_v0 main_v4
  let main_c_1 : IVec S_ 32 := constantI S_ 32 4#32
  let main_v6 : IVec S8x2048x1024 32 := broadcastInDim S8x2048x1024 ![] bcast_S_S8x2048x1024 main_c_1
  let main_v7 : IVec S8x2048x1024 1 := cmpi .slt main_v0 main_v6
  let main_v8 : IVec S8x2048x1024 1 := andi main_v5 main_v7
  let main_v9 : IVec S2048x1024 32 := iotaInDim S2048x1024 32 0
  let main_c_2 : IVec S_ 32 := constantI S_ 32 0#32
  let main_v10 : IVec S2048x1024 32 := broadcastInDim S2048x1024 ![] bcast_S_S2048x1024 main_c_2
  let main_v11 : IVec S2048x1024 1 := cmpi .sge main_v9 main_v10
  let main_v12 : IVec S2048x1024 32 := iotaInDim S2048x1024 32 0
  let main_c_3 : IVec S_ 32 := constantI S_ 32 0#32
  let main_v13 : IVec S2048x1024 32 := broadcastInDim S2048x1024 ![] bcast_S_S2048x1024 main_c_3
  let main_v14 : IVec S2048x1024 1 := cmpi .sge main_v12 main_v13
  let main_v15 : IVec S2x1024 32 := iotaInDim S2x1024 32 0
  let main_c_4 : IVec S_ 32 := constantI S_ 32 0#32
  let main_v16 : IVec S2x1024 32 := broadcastInDim S2x1024 ![] bcast_S_S2x1024 main_c_4
  let main_v17 : IVec S2x1024 1 := cmpi .sge main_v15 main_v16
  (main_v3, main_v8, main_v11, main_v14, main_v17)
-- ==== Pre_ffn_finite.lean ====
abbrev S2048x1024 : Shape := ⟨2, ![2048, 1024]⟩
abbrev S1x2x1024 : Shape := ⟨3, ![1, 2, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn_part1 {F : FTy → Type} [FloatOps F] (main_arg7 : FVec F S2048x1024 .f32) (main_arg8 : FVec F S2048x1024 .f32) (main_v2 : IVec S2048x1024 1) (main_v5 : IVec S2048x1024 1) (main_v8 : IVec S1x1024 1) (main_v11 : IVec S1x1024 1) (main_v14 : IVec S1x1024x4096 1) (main_v17 : IVec S1x4096x1024 1) : IVec S2048x1024 1 × IVec S2048x1024 1 × IVec S1x1024 1 × IVec S1x1024 1 × IVec S1x1024x4096 1 × IVec S1x4096x1024 1 × IVec S2048x1024 1 × IVec S2048x1024 1 :=
  let main_v18 : FVec F S2048x1024 .f32 := Host.absf main_arg7
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_v21 : FVec F S2048x1024 .f32 := Host.absf main_arg8
  let main_cst_6 : FVec F S_ .f32 := constant S_ .f32 0x7F800000#32
  let main_v22 : FVec F S2048x1024 .f32 := broadcastInDim S2048x1024 ![] bcast_S_S2048x1024 main_cst_6
  let main_v23 : IVec S2048x1024 1 := cmpf .olt main_v21 main_v22
  (main_v2, main_v5, main_v8, main_v11, main_v14, main_v17, main_v20, main_v23)

def fn {F : FTy → Type} [FloatOps F] (main_arg0 : FVec F S2048x1024 .f32) (main_arg1 : FVec F S2048x1024 .f32) (main_arg2 : FVec F S1x2x1024 .f32) (main_arg3 : FVec F S1x1024 .f32) (main_arg4 : FVec F S1x1024 .f32) (main_arg5 : FVec F S1x1024x4096 .f32) (main_arg6 : FVec F S1x4096x1024 .f32) (main_arg7 : FVec F S2048x1024 .f32) (main_arg8 : FVec F S2048x1024 .f32) : IVec S2048x1024 1 × IVec S2048x1024 1 × IVec S1x1024 1 × IVec S1x1024 1 × IVec S1x1024x4096 1 × IVec S1x4096x1024 1 × IVec S2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x4096 .f32 := Host.absf main_arg5
  let main_cst_3 : FVec F S_ .f32 := constant S_ .f32 0x7F800000#32
  let main_v13 : FVec F S1x1024x4096 .f32 := broadcastInDim S1x1024x4096 ![] bcast_S_S1x1024x4096 main_cst_3
  let main_v14 : IVec S1x1024x4096 1 := cmpf .olt main_v12 main_v13
  let main_v15 : FVec F S1x4096x1024 .f32 := Host.absf main_arg6
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  fn_part1 (F := F) main_arg7 main_arg8 main_v2 main_v5 main_v8 main_v11 main_v14 main_v17
-- ==== Pre_gate_finite.lean ====
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x2048x1024 : Shape := ⟨3, ![8, 2048, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg7 : FVec F S2048x1024 .f32) (main_v2 : IVec S2048x1024 1) (main_v5 : IVec S2048x1024 1) (main_v8 : IVec S1x1024 1) (main_v11 : IVec S1x1024 1) (main_v14 : IVec S1x8x128x128 1) (main_v17 : IVec S1x8x128 1) : IVec S2048x1024 1 × IVec S2048x1024 1 × IVec S1x1024 1 × IVec S1x1024 1 × IVec S1x8x128x128 1 × IVec S1x8x128 1 × IVec S2048x1024 1 :=
  let main_v18 : FVec F S2048x1024 .f32 := Host.absf main_arg7
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S2048x1024 .f32) (main_arg1 : FVec F S2048x1024 .f32) (main_arg2 : FVec F S1x1024 .f32) (main_arg3 : FVec F S1x1024 .f32) (main_arg4 : FVec F S1x8x128x128 .f32) (main_arg5 : FVec F S1x8x128 .f32) (main_arg6 : FVec F S8x2048x1024 .f32) (main_arg7 : FVec F S2048x1024 .f32) : IVec S2048x1024 1 × IVec S2048x1024 1 × IVec S1x1024 1 × IVec S1x1024 1 × IVec S1x8x128x128 1 × IVec S1x8x128 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  fn_part1 (F := F) main_arg7 main_v2 main_v5 main_v8 main_v11 main_v14 main_v17
-- ==== Pre_in_finite.lean ====
abbrev S2048x1024 : Shape := ⟨2, ![2048, 1024]⟩
abbrev S1x1024 : Shape := ⟨2, ![1, 1024]⟩
abbrev S1x1024x7168 : Shape := ⟨3, ![1, 1024, 7168]⟩
abbrev S2048x7168 : Shape := ⟨2, ![2048, 7168]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S2048x7168 : S_.BroadcastsInDim S2048x7168 (![] : Fin 0 → Fin S2048x7168.rank)

variable [Facts]

def fn {F : FTy → Type} [FloatOps F] (main_arg0 : FVec F S2048x1024 .f32) (main_arg1 : FVec F S1x1024 .f32) (main_arg2 : FVec F S1x1024x7168 .f32) (main_arg3 : FVec F S2048x7168 .f32) (main_arg4 : FVec F S2048x1024 .f32) : IVec S2048x1024 1 × IVec S1x1024 1 × IVec S1x1024x7168 1 × IVec S2048x7168 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x7168 .f32 := Host.absf main_arg2
  let main_cst_1 : FVec F S_ .f32 := constant S_ .f32 0x7F800000#32
  let main_v7 : FVec F S1x1024x7168 .f32 := broadcastInDim S1x1024x7168 ![] bcast_S_S1x1024x7168 main_cst_1
  let main_v8 : IVec S1x1024x7168 1 := cmpf .olt main_v6 main_v7
  let main_v9 : FVec F S2048x7168 .f32 := Host.absf main_arg3
  let main_cst_2 : FVec F S_ .f32 := constant S_ .f32 0x7F800000#32
  let main_v10 : FVec F S2048x7168 .f32 := broadcastInDim S2048x7168 ![] bcast_S_S2048x7168 main_cst_2
  let main_v11 : IVec S2048x7168 1 := cmpf .olt main_v9 main_v10
  (main_v2, main_v5, main_v8, main_v11)
-- ==== Pre_loss_finite.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S1x1024x4096 .f32) (main_arg3 : FVec F S1x4096x1024 .f32) (main_arg4 : FVec F S1x1024 .f32) (main_arg5 : FVec F S2048x1024 .f32) : IVec S2048x1024 1 × IVec S2048x1024 1 × IVec S1x1024x4096 1 × IVec S1x4096x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Merge.lean ====
abbrev S2048x1024 : Shape := ⟨2, ![2048, 1024]⟩
abbrev S1x2x1024 : Shape := ⟨3, ![1, 2, 1024]⟩
abbrev S1x1024x1024 : Shape := ⟨3, ![1, 1024, 1024]⟩
abbrev S1x1024 : Shape := ⟨2, ![1, 1024]⟩
abbrev S1024x1024 : Shape := ⟨2, ![1024, 1024]⟩
abbrev S2x1024 : Shape := ⟨2, ![2, 1024]⟩
abbrev S4x1024 : Shape := ⟨2, ![4, 1024]⟩
abbrev S2048x2048 : Shape := ⟨2, ![2048, 2048]⟩
abbrev S2048x3072 : Shape := ⟨2, ![2048, 3072]⟩
abbrev S8x2048x1024 : Shape := ⟨3, ![8, 2048, 1024]⟩
abbrev S512x1024 : Shape := ⟨2, ![512, 1024]⟩
abbrev S512x2048 : Shape := ⟨2, ![512, 2048]⟩
abbrev S512x3072 : Shape := ⟨2, ![512, 3072]⟩
abbrev S2x512x1024 : Shape := ⟨3, ![2, 512, 1024]⟩
abbrev S1x512x1024 : Shape := ⟨3, ![1, 512, 1024]⟩
abbrev S1024 : Shape := ⟨1, ![1024]⟩

abbrev nBuf : Space → Nat
  | .hbm => 31
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x2x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S2x1024, .f32⟩
  | .hbm, ⟨18, _⟩ => ⟨S4x1024, .f32⟩
  | .hbm, ⟨19, _⟩ => ⟨S2048x1024, .bf16⟩
  | .hbm, ⟨20, _⟩ => ⟨S2048x1024, .f32⟩
  | .hbm, ⟨21, _⟩ => ⟨S2048x1024, .bf16⟩
  | .hbm, ⟨22, _⟩ => ⟨S2048x1024, .f32⟩
  | .hbm, ⟨23, _⟩ => ⟨S2048x2048, .f32⟩
  | .hbm, ⟨24, _⟩ => ⟨S2048x2048, .f32⟩
  | .hbm, ⟨25, _⟩ => ⟨S2048x1024, .bf16⟩
  | .hbm, ⟨26, _⟩ => ⟨S2048x3072, .bf16⟩
  | .hbm, ⟨27, _⟩ => ⟨S8x2048x1024, .bf16⟩
  | .hbm, ⟨28, _⟩ => ⟨S2048x1024, .f32⟩
  | .hbm, ⟨29, _⟩ => ⟨S2048x1024, .bf16⟩
  | .hbm, ⟨30, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S4x1024, .f32⟩
  | .local _ .vmem, ⟨10, _⟩ => ⟨S512x3072, .bf16⟩
  | .local _ .vmem, ⟨11, _⟩ => ⟨S512x3072, .bf16⟩
  | .local _ .vmem, ⟨12, _⟩ => ⟨S2x512x1024, .bf16⟩
  | .local _ .vmem, ⟨13, _⟩ => ⟨S2x512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S2048x1024 : Shape := ⟨2, ![2048, 1024]⟩
abbrev S1x2x1024 : Shape := ⟨3, ![1, 2, 1024]⟩
abbrev S1x1024x1024 : Shape := ⟨3, ![1, 1024, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S2048x3072 : Shape := ⟨2, ![2048, 3072]⟩
abbrev S2x2048x1024 : Shape := ⟨3, ![2, 2048, 1024]⟩
abbrev S1x2048x1024 : Shape := ⟨3, ![1, 2048, 1024]⟩
abbrev S8x2048x1024 : Shape := ⟨3, ![8, 2048, 1024]⟩
abbrev S2x1024 : Shape := ⟨2, ![2, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x2x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S1024x1024, .f32⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S1024x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S_, .f32⟩
  | .hbm, ⟨65, _⟩ => ⟨S1x2x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S_, .f32⟩
  | .hbm, ⟨76, _⟩ => ⟨S1x2x1024, .f32⟩
  | .hbm, ⟨77, _⟩ => ⟨S1x2x1024, .f32⟩
  | .hbm, ⟨78, _⟩ => ⟨S2048x1024, .f32⟩
  | .hbm, ⟨79, _⟩ => ⟨S2048x1024, .f32⟩
  | .hbm, ⟨80, _⟩ => ⟨S2048x3072, .f32⟩
  | .hbm, ⟨81, _⟩ => ⟨S2048x3072, .bf16⟩
  | .hbm, ⟨82, _⟩ => ⟨S_, .f32⟩
  | .hbm, ⟨83, _⟩ => ⟨S2x2048x1024, .f32⟩
  | .hbm, ⟨84, _⟩ => ⟨S1x2048x1024, .f32⟩
  | .hbm, ⟨85, _⟩ => ⟨S1x2048x1024, .f32⟩
  | .hbm, ⟨86, _⟩ => ⟨S2x2048x1024, .f32⟩
  | .hbm, ⟨87, _⟩ => ⟨S8x2048x1024, .f32⟩
  | .hbm, ⟨88, _⟩ => ⟨S8x2048x1024, .bf16⟩
  | .hbm, ⟨89, _⟩ => ⟨S2048x1024, .bf16⟩
  | .hbm, ⟨90, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Gate.lean ====
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x2048x1024 : Shape := ⟨3, ![8, 2048, 1024]⟩
abbrev S2048x2048 : Shape := ⟨2, ![2048, 2048]⟩
abbrev S8x128x128 : Shape := ⟨3, ![8, 128, 128]⟩
abbrev S8x128 : Shape := ⟨2, ![8, 128]⟩
abbrev S128x8 : Shape := ⟨2, ![128, 8]⟩
abbrev S512x1024 : Shape := ⟨2, ![512, 1024]⟩
abbrev S512x2048 : Shape := ⟨2, ![512, 2048]⟩
abbrev S2x512x1024 : Shape := ⟨3, ![2, 512, 1024]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S1x128 : Shape := ⟨2, ![1, 128]⟩

abbrev nBuf : Space → Nat
  | .hbm => 18
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x2048x1024, .f32⟩
  | .hbm, ⟨7, _⟩ => ⟨S2048x1024, .f32⟩
  | .hbm, ⟨8, _⟩ => ⟨S2048x2048, .f32⟩
  | .hbm, ⟨9, _⟩ => ⟨S8x128x128, .f32⟩
  | .hbm, ⟨10, _⟩ => ⟨S8x128, .f32⟩
  | .hbm, ⟨11, _⟩ => ⟨S128x8, .f32⟩
  | .hbm, ⟨12, _⟩ => ⟨S8x2048x1024, .bf16⟩
  | .hbm, ⟨13, _⟩ => ⟨S8x2048x1024, .bf16⟩
  | .hbm, ⟨14, _⟩ => ⟨S8x128x128, .f32⟩
  | .hbm, ⟨15, _⟩ => ⟨S128x8, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S2x512x1024, .bf16⟩
  | .local _ .vmem, ⟨9, _⟩ => ⟨S2x512x1024, .bf16⟩
  | .local _ .vmem, ⟨10, _⟩ => ⟨S8x128x128, .f32⟩
  | .local _ .vmem, ⟨11, _⟩ => ⟨S128x8, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateIdeal.lean ====
variable {F : FTy → Type} [FloatOps F] [Named F]
def κ : String → Option EReal := fun
  | "gelu_cubic" => some ((8943 / 200000 : ℝ) : EReal)
  | "gelu_slope" => some ((26829 / 200000 : ℝ) : EReal)
  | _ => none
-- ==== GateRefIdeal.lean ====
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x2048x1024 : Shape := ⟨3, ![8, 2048, 1024]⟩
abbrev S_ : Shape := ⟨0, ![]⟩
abbrev S8x128x128 : Shape := ⟨3, ![8, 128, 128]⟩
abbrev S8x128 : Shape := ⟨2, ![8, 128]⟩
abbrev S1024 : Shape := ⟨1, ![1024]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S1x2048x1024 : Shape := ⟨3, ![1, 2048, 1024]⟩
abbrev S2x2048x1024 : Shape := ⟨3, ![2, 2048, 1024]⟩
abbrev S6x2048x1024 : Shape := ⟨3, ![6, 2048, 1024]⟩

abbrev nBuf : Space → Nat
  | .hbm => 239
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1x1024, .f32⟩
  | 4 => ⟨S1x8x128x128, .f32⟩
  | 5 => ⟨S1x8x128, .f32⟩
  | 6 => ⟨S8x2048x1024, .f32⟩
  | 7 => ⟨S2048x1024, .f32⟩
  | 8 => ⟨S_, .f32⟩
  | 9 => ⟨S_, .f32⟩
  | 10 => ⟨S_, .f32⟩
  | 11 => ⟨S2048x1024, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S_, .f32⟩
  | 40 => ⟨S_, .f32⟩
  | 41 => ⟨S_, .f32⟩
  | 42 => ⟨S2048x1024, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S_, .f32⟩
  | 67 => ⟨S2048x1024, .f32⟩
  | 68 => ⟨S2048x1024, .f32⟩
  | 69 => ⟨S2048x1024, .f32⟩
  | 70 => ⟨S8x128x128, .f32⟩
  | 71 => ⟨S8x128, .f32⟩
  | 72 => ⟨S1024, .f32⟩
  | 73 => ⟨S1024, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S2048x1024, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S2048x1024, .f32⟩
  | 93 => ⟨S2048x1024, .f32⟩
  | 94 => ⟨S_, .f32⟩
  | 95 => ⟨S2048x1, .f32⟩
  | 96 => ⟨S2048x1, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S2048x1024, .f32⟩
  | 103 => ⟨S2048x1024, .f32⟩
  | 104 => ⟨S1x1024, .f32⟩
  | 105 => ⟨S2048x1024, .f32⟩
  | 106 => ⟨S2048x1024, .f32⟩
  | 107 => ⟨S1x1024, .f32⟩
  | 108 => ⟨S2048x1024, .f32⟩
  | 109 => ⟨S2048x1024, .f32⟩
  | 110 => ⟨S16x128x8x128, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S1x128x128, .i1⟩
  | 123 => ⟨S_, .f32⟩
  | 124 => ⟨S8x128x128, .f32⟩
  | 125 => ⟨S8x128x128, .i1⟩
  | 126 => ⟨S8x128x128, .f32⟩
  | 127 => ⟨S_, .f32⟩
  | _ => ⟨S2048x1024, .f32⟩

abbrev hbmTy0_1 (i : Nat) : BufTy := match i % 128 with
  | 0 => ⟨S8x128x128, .f32⟩
  | 1 => ⟨S8x16x128x128, .f32⟩
  | 2 => ⟨S16x128x8x128, .f32⟩
  | 3 => ⟨S128x8, .f32⟩
  | 4 => ⟨S1x128x8x1, .f32⟩
  | 5 => ⟨S16x128x8x128, .f32⟩
  | 6 => ⟨S16x128x8x128, .f32⟩
  | 7 => ⟨S2048x1024, .f32⟩
  | 8 => ⟨S2048x1024, .f32⟩
  | 9 => ⟨S2048x1024, .f32⟩
  | 10 => ⟨S2048x1024, .f32⟩
  | 11 => ⟨S16x128x8x128, .f32⟩
  | 12 => ⟨S_, .f32⟩
  | 13 => ⟨S128x8, .f32⟩
  | 14 => ⟨S1x128x8x1, .f32⟩
  | 15 => ⟨S_, .f32⟩
  | 16 => ⟨S128x8, .f32⟩
  | 17 => ⟨S8x128, .f32⟩
  | 18 => ⟨S8x16x128x128, .f32⟩
  | 19 => ⟨S8x128x128, .f32⟩
  | 20 => ⟨S8x16x128x128, .f32⟩
  | 21 => ⟨S16x128x8x128, .f32⟩
  | 22 => ⟨S_, .f32⟩
  | 23 => ⟨S8x128x128, .f32⟩
  | 24 => ⟨S8x128x128, .f32⟩
  | 25 => ⟨S2048x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S2048x1024, .f32⟩
  | 32 => ⟨S_, .f32⟩
  | 33 => ⟨S1024, .f32⟩
  | 34 => ⟨S1x1024, .f32⟩
  | 35 => ⟨S2048x1024, .f32⟩
  | 36 => ⟨S2048x1024, .f32⟩
  | 37 => ⟨S_, .f32⟩
  | 38 => ⟨S1024, .f32⟩
  | 39 => ⟨S2048x1024, .f32⟩
  | 40 => ⟨S_, .f32⟩
  | 41 => ⟨S2048, .f32⟩
  | 42 => ⟨S2048x1, .f32⟩
  | 43 => ⟨S2048x1024, .f32⟩
  | 44 => ⟨S2048x1024, .f32⟩
  | 45 => ⟨S2048x1, .f32⟩
  | 46 => ⟨S2048x1024, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048, .f32⟩
  | 55 => ⟨S2048x1024, .f32⟩
  | 56 => ⟨S2048x1024, .f32⟩
  | 57 => ⟨S2048x1024, .f32⟩
  | 58 => ⟨S_, .f32⟩
  | 59 => ⟨S2048, .f32⟩
  | 60 => ⟨S2048x1, .f32⟩
  | 61 => ⟨S2048x1024, .f32⟩
  | 62 => ⟨S2048x1, .f32⟩
  | 63 => ⟨S_, .f32⟩
  | 64 => ⟨S2048x1, .f32⟩
  | 65 => ⟨S2048x1, .f32⟩
  | 66 => ⟨S_, .f32⟩
  | 67 => ⟨S2048, .f32⟩
  | 68 => ⟨S2048x1024, .f32⟩
  | 69 => ⟨S2048x1024, .f32⟩
  | 70 => ⟨S1x1024, .f32⟩
  | 71 => ⟨S1x1024, .f32⟩
  | 72 => ⟨S1x8x128, .f32⟩
  | 73 => ⟨S1x8x128x128, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S1x2048x1024, .f32⟩
  | 103 => ⟨S1x2048x1024, .f32⟩
  | 104 => ⟨S2x2048x1024, .f32⟩
  | 105 => ⟨S6x2048x1024, .f32⟩
  | 106 => ⟨S8x2048x1024, .f32⟩
  | 107 => ⟨S8x2048x1024, .bf16⟩
  | 108 => ⟨S8x128x128, .f32⟩
  | 109 => ⟨S8x128, .f32⟩
  | 110 => ⟨S128x8, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_13 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_cst_18 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_20 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_21 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c : Ref sig .tc := ⟨.hbm, 111, rfl⟩
abbrev main_v80 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v81 : Ref sig .tc := ⟨.hbm, 121, rfl⟩
abbrev main_v82 : Ref sig .tc := ⟨.hbm, 122, rfl⟩
abbrev main_cst_22 : Ref sig .tc := ⟨.hbm, 123, rfl⟩
abbrev main_v83 : Ref sig .tc := ⟨.hbm, 124, rfl⟩
abbrev main_v84_1 : Ref sig .tc := ⟨.hbm, 125, rfl⟩
abbrev main_v84_0 : Ref sig .tc := ⟨.hbm, 126, rfl⟩
abbrev main_call1_cst : Ref sig .tc := ⟨.hbm, 127, rfl⟩
abbrev main_v84_2 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_23 : Ref sig .tc := ⟨.hbm, 140, rfl⟩
abbrev main_v96 : Ref sig .tc := ⟨.hbm, 141, rfl⟩
abbrev main_v97 : Ref sig .tc := ⟨.hbm, 142, rfl⟩
abbrev main_cst_24 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call2_cst : Ref sig .tc := ⟨.hbm, 150, rfl⟩
abbrev main_call2_v0 : Ref sig .tc := ⟨.hbm, 151, rfl⟩
abbrev main_v104 : Ref sig .tc := ⟨.hbm, 152, rfl⟩
abbrev main_v105 : Ref sig .tc := ⟨.hbm, 153, rfl⟩
abbrev main_cst_25 : Ref sig .tc := ⟨.hbm, 154, rfl⟩
abbrev main_v106 : Ref sig .tc := ⟨.hbm, 155, rfl⟩
abbrev main_v107 : Ref sig .tc := ⟨.hbm, 156, rfl⟩
abbrev main_cst_26 : Ref sig .tc := ⟨.hbm, 157, rfl⟩
abbrev main_v108 : Ref sig .tc := ⟨.hbm, 158, rfl⟩
abbrev main_v109 : Ref sig .tc := ⟨.hbm, 159, rfl⟩
abbrev main_cst_27 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_28 : Ref sig .tc := ⟨.hbm, 165, rfl⟩
abbrev main_v114 : Ref sig .tc := ⟨.hbm, 166, rfl⟩
abbrev main_v115 : Ref sig .tc := ⟨.hbm, 167, rfl⟩
abbrev main_cst_29 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_30 : Ref sig .tc := ⟨.hbm, 175, rfl⟩
abbrev main_v122 : Ref sig .tc := ⟨.hbm, 176, rfl⟩
abbrev main_v123 : Ref sig .tc := ⟨.hbm, 177, rfl⟩
abbrev main_cst_31 : Ref sig .tc := ⟨.hbm, 178, rfl⟩
abbrev main_v124 : Ref sig .tc := ⟨.hbm, 179, rfl⟩
abbrev main_v125 : Ref sig .tc := ⟨.hbm, 180, rfl⟩
abbrev main_cst_32 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_34 : Ref sig .tc := ⟨.hbm, 191, rfl⟩
abbrev main_v134 : Ref sig .tc := ⟨.hbm, 192, rfl⟩
abbrev main_v135 : Ref sig .tc := ⟨.hbm, 193, rfl⟩
abbrev main_cst_35 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_36 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_37 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_38 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_39 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩

abbrev nD : Nat := 1
abbrev τ : Topo := Topo.v7x

variable {F : FTy → Type} [FloatOps F]
-- ==== Ffn.lean ====
abbrev S2048x1024 : Shape := ⟨2, ![2048, 1024]⟩
abbrev S1x2x1024 : Shape := ⟨3, ![1, 2, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S2x1024 : Shape := ⟨2, ![2, 1024]⟩
abbrev S4x1024 : Shape := ⟨2, ![4, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S256x1024 : Shape := ⟨2, ![256, 1024]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩

abbrev nBuf : Space → Nat
  | .hbm => 58
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x2x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S2048x1024, .f32⟩
  | .hbm, ⟨8, _⟩ => ⟨S2048x1024, .f32⟩
  | .hbm, ⟨9, _⟩ => ⟨S1024x4096, .f32⟩
  | .hbm, ⟨10, _⟩ => ⟨S1024x4096, .bf16⟩
  | .hbm, ⟨11, _⟩ => ⟨S4096x1024, .f32⟩
  | .hbm, ⟨12, _⟩ => ⟨S4096x1024, .bf16⟩
  | .hbm, ⟨13, _⟩ => ⟨S2x1024, .f32⟩
  | .hbm, ⟨14, _⟩ => ⟨S4x1024, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S2048x4096, .f32⟩
  | .hbm, ⟨52, _⟩ => ⟨S2048x1024, .bf16⟩
  | .hbm, ⟨53, _⟩ => ⟨S2048x4096, .bf16⟩
  | .hbm, ⟨54, _⟩ => ⟨S2048x4096, .bf16⟩
  | .hbm, ⟨55, _⟩ => ⟨S2048x1024, .f32⟩
  | .hbm, ⟨56, _⟩ => ⟨S2048x1024, .bf16⟩
  | .hbm, ⟨57, _⟩ => ⟨S2x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev main_v38_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S2048x1024 : Shape := ⟨2, ![2048, 1024]⟩
abbrev S1x2x1024 : Shape := ⟨3, ![1, 2, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x4096 : Shape := ⟨2, ![1024, 4096]⟩
abbrev S2048x4096 : Shape := ⟨2, ![2048, 4096]⟩
abbrev S4096x1024 : Shape := ⟨2, ![4096, 1024]⟩
abbrev S2x1024 : Shape := ⟨2, ![2, 1024]⟩

abbrev nBuf : Space → Nat
  | .hbm => 132
  | .vmem => 0
  | .smem => 0
  | _ => 0

abbrev hbmTy0_0 (i : Nat) : BufTy := match i % 128 with
  | 0 => ⟨S2048x1024, .f32⟩
  | 1 => ⟨S2048x1024, .f32⟩
  | 2 => ⟨S1x2x1024, .f32⟩
  | 3 => ⟨S1x1024, .f32⟩
  | 4 => ⟨S1x1024, .f32⟩
  | 5 => ⟨S1x1024x4096, .f32⟩
  | 6 => ⟨S1x4096x1024, .f32⟩
  | 7 => ⟨S2048x1024, .f32⟩
  | 8 => ⟨S2048x1024, .f32⟩
  | 9 => ⟨S1024, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S1x1024, .f32⟩
  | 28 => ⟨S2048x1024, .f32⟩
  | 29 => ⟨S2048x1024, .f32⟩
  | 30 => ⟨S2048x1024, .f32⟩
  | 31 => ⟨S1024, .f32⟩
  | 32 => ⟨S2048x1024, .f32⟩
  | 33 => ⟨S_, .f32⟩
  | 34 => ⟨S2048, .f32⟩
  | 35 => ⟨S2048x1, .f32⟩
  | 36 => ⟨S_, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x1, .f32⟩
  | 43 => ⟨S2048x1, .f32⟩
  | 44 => ⟨S_, .f32⟩
  | 45 => ⟨S2048x1, .f32⟩
  | 46 => ⟨S2048x1, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S1024x4096, .f32⟩
  | 53 => ⟨S2048x4096, .f32⟩
  | 54 => ⟨S_, .f32⟩
  | 55 => ⟨S2048x4096, .f32⟩
  | 56 => ⟨S2048x4096, .f32⟩
  | 57 => ⟨S_, .f32⟩
  | 58 => ⟨S2048x4096, .f32⟩
  | 59 => ⟨S2048x4096, .i1⟩
  | 60 => ⟨S_, .f32⟩
  | 61 => ⟨S2048x4096, .f32⟩
  | 62 => ⟨S2048x4096, .f32⟩
  | 63 => ⟨S_, .f32⟩
  | 64 => ⟨S2048x4096, .f32⟩
  | 65 => ⟨S2048x4096, .f32⟩
  | 66 => ⟨S4096x1024, .f32⟩
  | 67 => ⟨S2048x1024, .f32⟩
  | 68 => ⟨S2048x4096, .f32⟩
  | 69 => ⟨S2048x4096, .f32⟩
  | 70 => ⟨S_, .f32⟩
  | 71 => ⟨S2048x4096, .f32⟩
  | 72 => ⟨S2048x4096, .f32⟩
  | 73 => ⟨S2048x1024, .f32⟩
  | 74 => ⟨S2048x1024, .f32⟩
  | 75 => ⟨S_, .f32⟩
  | 76 => ⟨S1024, .f32⟩
  | 77 => ⟨S1x1024, .f32⟩
  | 78 => ⟨S2048x1024, .f32⟩
  | 79 => ⟨S2048x1024, .f32⟩
  | 80 => ⟨S_, .f32⟩
  | 81 => ⟨S1024, .f32⟩
  | 82 => ⟨S2048x1024, .f32⟩
  | 83 => ⟨S_, .f32⟩
  | 84 => ⟨S2048, .f32⟩
  | 85 => ⟨S2048x1, .f32⟩
  | 86 => ⟨S2048x1024, .f32⟩
  | 87 => ⟨S2048x1024, .f32⟩
  | 88 => ⟨S2048x1024, .f32⟩
  | 89 => ⟨S2048x1, .f32⟩
  | 90 => ⟨S_, .f32⟩
  | 91 => ⟨S2048x1, .f32⟩
  | 92 => ⟨S2048x1, .f32⟩
  | 93 => ⟨S_, .f32⟩
  | 94 => ⟨S2048, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S1x1024, .f32⟩
  | 101 => ⟨S2048x1024, .f32⟩
  | 102 => ⟨S2048x1024, .f32⟩
  | 103 => ⟨S_, .f32⟩
  | 104 => ⟨S1024, .f32⟩
  | 105 => ⟨S1x1024, .f32⟩
  | 106 => ⟨S2048x1024, .f32⟩
  | 107 => ⟨S2048x1024, .f32⟩
  | 108 => ⟨S_, .f32⟩
  | 109 => ⟨S1024, .f32⟩
  | 110 => ⟨S2048x1024, .f32⟩
  | 111 => ⟨S_, .f32⟩
  | 112 => ⟨S2048, .f32⟩
  | 113 => ⟨S2048x1, .f32⟩
  | 114 => ⟨S2048x1024, .f32⟩
  | 115 => ⟨S2048x1024, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S1x1024, .f32⟩
  | _ => ⟨S2048x1024, .f32⟩

abbrev hbmTy0_1 (i : Nat) : BufTy := match i % 128 with
  | 0 => ⟨S2048x4096, .bf16⟩
  | 1 => ⟨S2048x4096, .bf16⟩
  | 2 => ⟨S2048x1024, .bf16⟩
  | 3 => ⟨S2x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩

abbrev nD : Nat := 1
abbrev τ : Topo := Topo.v7x

variable {F : FTy → Type} [FloatOps F]
-- ==== Loss.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S4096x1024 : Shape := ⟨2, ![4096, 1024]⟩
abbrev S2048x4096 : Shape := ⟨2, ![2048, 4096]⟩
abbrev S8x128 : Shape := ⟨2, ![8, 128]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S2048x4096, .f32⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x4096, .f32⟩
  | .local _ .vmem, ⟨10, _⟩ => ⟨S512x4096, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩
abbrev S1024 : Shape := ⟨1, ![1024]⟩
abbrev S2048 : Shape := ⟨1, ![2048]⟩
abbrev S2048x1 : Shape := ⟨2, ![2048, 1]⟩
abbrev S8x128 : Shape := ⟨2, ![8, 128]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S2048x1024, .f32⟩
  | .hbm, ⟨6, _⟩ => ⟨S1024x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S4096x1024, .f32⟩
  | .hbm, ⟨13, _⟩ => ⟨S2048x1024, .f32⟩
  | .hbm, ⟨14, _⟩ => ⟨S1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S1x1024, .f32⟩
  | .hbm, ⟨85, _⟩ => ⟨S2048x1024, .bf16⟩
  | .hbm, ⟨86, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S1x1024x7168 : Shape := ⟨3, ![1, 1024, 7168]⟩
abbrev S2048x7168 : Shape := ⟨2, ![2048, 7168]⟩
abbrev S_ : Shape := ⟨0, ![]⟩
abbrev S1x2048x1024 : Shape := ⟨3, ![1, 2048, 1024]⟩
abbrev S8x2048x1024 : Shape := ⟨3, ![8, 2048, 1024]⟩
abbrev S1024x7168 : Shape := ⟨2, ![1024, 7168]⟩
abbrev S1x1024x1024 : Shape := ⟨3, ![1, 1024, 1024]⟩
abbrev S1024x1024 : Shape := ⟨2, ![1024, 1024]⟩
abbrev S2 : Shape := ⟨1, ![2]⟩
abbrev S1 : Shape := ⟨1, ![1]⟩
abbrev S1024 : Shape := ⟨1, ![1024]⟩
abbrev S1024x1 : Shape := ⟨2, ![1024, 1]⟩

abbrev nBuf : Space → Nat
  | .hbm => 28
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x7168, .f32⟩
  | .hbm, ⟨3, _⟩ => ⟨S2048x7168, .f32⟩
  | .hbm, ⟨4, _⟩ => ⟨S2048x1024, .f32⟩
  | .hbm, ⟨5, _⟩ => ⟨S2048x7168, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S_, .bf16⟩
  | .hbm, ⟨14, _⟩ => ⟨S2048x1024, .bf16⟩
  | .hbm, ⟨15, _⟩ => ⟨S1x2048x1024, .bf16⟩
  | .hbm, ⟨16, _⟩ => ⟨S1x2048x1024, .bf16⟩
  | .hbm, ⟨17, _⟩ => ⟨S1x2048x1024, .bf16⟩
  | .hbm, ⟨18, _⟩ => ⟨S1x2048x1024, .bf16⟩
  | .hbm, ⟨19, _⟩ => ⟨S1x2048x1024, .bf16⟩
  | .hbm, ⟨20, _⟩ => ⟨S1x2048x1024, .bf16⟩
  | .hbm, ⟨21, _⟩ => ⟨S1x2048x1024, .bf16⟩
  | .hbm, ⟨22, _⟩ => ⟨S1x2048x1024, .bf16⟩
  | .hbm, ⟨23, _⟩ => ⟨S8x2048x1024, .bf16⟩
  | .hbm, ⟨24, _⟩ => ⟨S1024x7168, .f32⟩
  | .hbm, ⟨25, _⟩ => ⟨S1024x7168, .bf16⟩
  | .hbm, ⟨26, _⟩ => ⟨S2048x1024, .f32⟩
  | .hbm, ⟨27, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 7], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond2 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_8 : BitVec 32 := 0#32
  let v14 : BitVec 1 := Scalar.cmpi .ne v13 c0_i32_8
  v14

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_16 : BitVec 32 := 0#32
  ![v1.toNat, 0]
def k0_cond4 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_13 : BitVec 32 := 0#32
  let v20 : BitVec 1 := Scalar.cmpi .ne v19 c0_i32_13
  v20

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_14 : BitVec 32 := 0#32
  ![v1.toNat, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c5_i32 : BitVec 32 := 5#32
  let v1 : BitVec 1 := Scalar.cmpi .slt arg1 c5_i32
  let c2_i32_0 : BitVec 32 := 2#32
  let v2 : BitVec 32 := Scalar.addi arg1 c2_i32_0
  let c3_i32 : BitVec 32 := 3#32
  let v3 : BitVec 32 := Scalar.subi arg1 c3_i32
  let v4 : BitVec 32 := Scalar.select v1 v2 v3
  let v5 : BitVec 32 := Scalar.select v0 arg1 v4
  let c0_i32 : BitVec 32 := 0#32
  let c0_i32_1 : BitVec 32 := 0#32
  ![v5.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== InProjRefIdeal.lean ====
abbrev S2048x1024 : Shape := ⟨2, ![2048, 1024]⟩
abbrev S1x1024 : Shape := ⟨2, ![1, 1024]⟩
abbrev S1x1024x7168 : Shape := ⟨3, ![1, 1024, 7168]⟩
abbrev S2048x7168 : Shape := ⟨2, ![2048, 7168]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x7168 : Shape := ⟨2, ![1024, 7168]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024x7168, .f32⟩
  | .hbm, ⟨3, _⟩ => ⟨S2048x7168, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1024x7168, .f32⟩
  | .hbm, ⟨27, _⟩ => ⟨S2048x7168, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== GateFwd.lean ====
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S8x128x128 : Shape := ⟨3, ![8, 128, 128]⟩
abbrev S8x128 : Shape := ⟨2, ![8, 128]⟩
abbrev S128x8 : Shape := ⟨2, ![128, 8]⟩
abbrev S512x2048 : Shape := ⟨2, ![512, 2048]⟩
abbrev S512x1024 : Shape := ⟨2, ![512, 1024]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩

abbrev nBuf : Space → Nat
  | .hbm => 11
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S2048x2048, .f32⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S2048x1024, .bf16⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S128x8, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdIdeal.lean ====
variable {F : FTy → Type} [FloatOps F] [Named F]
def κ : String → Option EReal := fun
  | "gelu_cubic" => some ((8943 / 200000 : ℝ) : EReal)
  | _ => none
-- ==== GateFwdRefIdeal.lean ====
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S8x128x128 : Shape := ⟨3, ![8, 128, 128]⟩
abbrev S8x128 : Shape := ⟨2, ![8, 128]⟩
abbrev S1024 : Shape := ⟨1, ![1024]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S8x128x128, .f32⟩
  | .hbm, ⟨47, _⟩ => ⟨S8x128, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S16x128x8x128, .f32⟩
  | .hbm, ⟨80, _⟩ => ⟨S_, .i1⟩
  | .hbm, ⟨81, _⟩ => ⟨S128x128, .i1⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .i1⟩
  | .hbm, ⟨89, _⟩ => ⟨S128x128, .i1⟩
  | .hbm, ⟨90, _⟩ => ⟨S128x128, .i1⟩
  | .hbm, ⟨91, _⟩ => ⟨S1x128x128, .i1⟩
  | .hbm, ⟨92, _⟩ => ⟨S_, .f32⟩
  | .hbm, ⟨93, _⟩ => ⟨S8x128x128, .f32⟩
  | .hbm, ⟨94, _⟩ => ⟨S8x128x128, .i1⟩
  | .hbm, ⟨95, _⟩ => ⟨S8x128x128, .f32⟩
  | .hbm, ⟨96, _⟩ => ⟨S8x16x128x128, .f32⟩
  | .hbm, ⟨97, _⟩ => ⟨S16x128x8x128, .f32⟩
  | .hbm, ⟨98, _⟩ => ⟨S128x8, .f32⟩
  | .hbm, ⟨99, _⟩ => ⟨S1x128x8x1, .f32⟩
  | .hbm, ⟨100, _⟩ => ⟨S16x128x8x128, .f32⟩
  | .hbm, ⟨101, _⟩ => ⟨S16x128x8x128, .f32⟩
  | .hbm, ⟨102, _⟩ => ⟨S2048x1024, .f32⟩
  | .hbm, ⟨103, _⟩ => ⟨S2048x1024, .f32⟩
  | .hbm, ⟨104, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c : Ref sig .tc := ⟨.hbm, 80, rfl⟩
abbrev main_v59 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_call1_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== MergeFwd.lean ====
abbrev S2048x1024 : Shape := ⟨2, ![2048, 1024]⟩
abbrev S1x2x1024 : Shape := ⟨3, ![1, 2, 1024]⟩
abbrev S1x1024x1024 : Shape := ⟨3, ![1, 1024, 1024]⟩
abbrev S1x1024 : Shape := ⟨2, ![1, 1024]⟩
abbrev S1024x1024 : Shape := ⟨2, ![1024, 1024]⟩
abbrev S2x1024 : Shape := ⟨2, ![2, 1024]⟩
abbrev S4x1024 : Shape := ⟨2, ![4, 1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 27
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S2x1024, .f32⟩
  | .hbm, ⟨18, _⟩ => ⟨S4x1024, .f32⟩
  | .hbm, ⟨19, _⟩ => ⟨S2048x1024, .bf16⟩
  | .hbm, ⟨20, _⟩ => ⟨S2048x1024, .bf16⟩
  | .hbm, ⟨21, _⟩ => ⟨S2048x2048, .f32⟩
  | .hbm, ⟨22, _⟩ => ⟨S2048x2048, .f32⟩
  | .hbm, ⟨23, _⟩ => ⟨S2048x1024, .bf16⟩
  | .hbm, ⟨24, _⟩ => ⟨S2048x1024, .f32⟩
  | .hbm, ⟨25, _⟩ => ⟨S2048x1024, .f32⟩
  | .hbm, ⟨26, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S4x1024, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdRefIdeal.lean ====
abbrev S2048x1024 : Shape := ⟨2, ![2048, 1024]⟩
abbrev S1x2x1024 : Shape := ⟨3, ![1, 2, 1024]⟩
abbrev S1x1024x1024 : Shape := ⟨3, ![1, 1024, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1x1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S1024x1024, .f32⟩
  | .hbm, ⟨45, _⟩ => ⟨S2048x1024, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S2048x1, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x2048, .f32⟩
  | .hbm, ⟨82, _⟩ => ⟨S2048x1024, .bf16⟩
  | .hbm, ⟨83, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== NormFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== HiddenGrad.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  ![arg2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenGradRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjectionGrad.lean ====
abbrev S2048x1024 : Shape := ⟨2, ![2048, 1024]⟩
abbrev S2048x7168 : Shape := ⟨2, ![2048, 7168]⟩
abbrev S_ : Shape := ⟨0, ![]⟩
abbrev S1x2048x1024 : Shape := ⟨3, ![1, 2048, 1024]⟩
abbrev S8x2048x1024 : Shape := ⟨3, ![8, 2048, 1024]⟩
abbrev S1024x7168 : Shape := ⟨2, ![1024, 7168]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S2048x7168, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S_, .bf16⟩
  | .hbm, ⟨11, _⟩ => ⟨S2048x1024, .bf16⟩
  | .hbm, ⟨12, _⟩ => ⟨S1x2048x1024, .bf16⟩
  | .hbm, ⟨13, _⟩ => ⟨S1x2048x1024, .bf16⟩
  | .hbm, ⟨14, _⟩ => ⟨S1x2048x1024, .bf16⟩
  | .hbm, ⟨15, _⟩ => ⟨S1x2048x1024, .bf16⟩
  | .hbm, ⟨16, _⟩ => ⟨S1x2048x1024, .bf16⟩
  | .hbm, ⟨17, _⟩ => ⟨S1x2048x1024, .bf16⟩
  | .hbm, ⟨18, _⟩ => ⟨S1x2048x1024, .bf16⟩
  | .hbm, ⟨19, _⟩ => ⟨S1x2048x1024, .bf16⟩
  | .hbm, ⟨20, _⟩ => ⟨S8x2048x1024, .bf16⟩
  | .hbm, ⟨21, _⟩ => ⟨S2048x1024, .bf16⟩
  | .hbm, ⟨22, _⟩ => ⟨S1024x7168, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c5_i32 : BitVec 32 := 5#32
  let v1 : BitVec 1 := Scalar.cmpi .slt arg0 c5_i32
  let c2_i32_0 : BitVec 32 := 2#32
  let v2 : BitVec 32 := Scalar.addi arg0 c2_i32_0
  let c3_i32 : BitVec 32 := 3#32
  let v3 : BitVec 32 := Scalar.subi arg0 c3_i32
  let v4 : BitVec 32 := Scalar.select v1 v2 v3
  let v5 : BitVec 32 := Scalar.select v0 arg0 v4
  let c0_i32 : BitVec 32 := 0#32
  let c0_i32_1 : BitVec 32 := 0#32
  ![v5.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjectionGradRefIdeal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S_, .f32⟩
  | .hbm, ⟨3, _⟩ => ⟨S1024x7168, .f32⟩
  | .hbm, ⟨4, _⟩ => ⟨S2048x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Update.lean ====
abbrev S1024x896 : Shape := ⟨2, ![1024, 896]⟩
abbrev S3x1024x896 : Shape := ⟨3, ![3, 1024, 896]⟩
abbrev S1x1024x896 : Shape := ⟨3, ![1, 1024, 896]⟩
abbrev S_ : Shape := ⟨0, ![]⟩
abbrev S1 : Shape := ⟨1, ![1]⟩
abbrev S1x256x896 : Shape := ⟨3, ![1, 256, 896]⟩
abbrev S3x256x896 : Shape := ⟨3, ![3, 256, 896]⟩
abbrev S256x896 : Shape := ⟨2, ![256, 896]⟩

abbrev nBuf : Space → Nat
  | .hbm => 13
  | .vmem => 18
  | .smem => 1
  | _ => 0

abbrev bufTy : (tb : Table) → Fin (tcTables nBuf tb) → BufTy
  | .hbm, ⟨0, _⟩ => ⟨S1024x896, .f32⟩
  | .hbm, ⟨1, _⟩ => ⟨S3x1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1x1024x896, .f32⟩
  | .hbm, ⟨6, _⟩ => ⟨S1x1024x896, .bf16⟩
  | .hbm, ⟨7, _⟩ => ⟨S3x1024x896, .bf16⟩
  | .hbm, ⟨8, _⟩ => ⟨S_, .i32⟩
  | .hbm, ⟨9, _⟩ => ⟨S1024x896, .f32⟩
  | .hbm, ⟨10, _⟩ => ⟨S1024x896, .f32⟩
  | .hbm, ⟨11, _⟩ => ⟨S1024x896, .f32⟩
  | .hbm, ⟨12, _⟩ => ⟨S1024x896, .f32⟩
  | .local _ .vmem, ⟨0, _⟩ => ⟨S1x256x896, .bf16⟩
  | .local _ .vmem, ⟨1, _⟩ => ⟨S1x256x896, .bf16⟩
  | .local _ .vmem, ⟨2, _⟩ => ⟨S3x256x896, .bf16⟩
  | .local _ .vmem, ⟨3, _⟩ => ⟨S3x256x896, .bf16⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | .local _ .smem, ⟨0, _⟩ => ⟨S1, .i32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateRefIdeal.lean ====
abbrev S1024x896 : Shape := ⟨2, ![1024, 896]⟩
abbrev S3x1024x896 : Shape := ⟨3, ![3, 1024, 896]⟩
abbrev S1x1024x896 : Shape := ⟨3, ![1, 1024, 896]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S3x1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1x1024x896, .f32⟩
  | .hbm, ⟨6, _⟩ => ⟨S1024x896, .f32⟩
  | .hbm, ⟨7, _⟩ => ⟨S1024x896, .f32⟩
  | .hbm, ⟨8, _⟩ => ⟨S1x1024x896, .f32⟩
  | .hbm, ⟨9, _⟩ => ⟨S1024x896, .f32⟩
  | .hbm, ⟨10, _⟩ => ⟨S1024x896, .f32⟩
  | .hbm, ⟨11, _⟩ => ⟨S1x1024x896, .f32⟩
  | .hbm, ⟨12, _⟩ => ⟨S1024x896, .f32⟩
  | .hbm, ⟨13, _⟩ => ⟨S1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S1024x896, .f32⟩
  | .hbm, ⟨25, _⟩ => ⟨S_, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | .hbm, ⟨39, _⟩ => ⟨S1024x896, .f32⟩
  | .hbm, ⟨40, _⟩ => ⟨S_, .f32⟩
  | .hbm, ⟨41, _⟩ => ⟨S1024x896, .f32⟩
  | .hbm, ⟨42, _⟩ => ⟨S1024x896, .f32⟩
  | .hbm, ⟨43, _⟩ => ⟨S1024x896, .f32⟩
  | .hbm, ⟨44, _⟩ => ⟨S_, .f32⟩
  | .hbm, ⟨45, _⟩ => ⟨S1024x896, .f32⟩
  | .hbm, ⟨46, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== PairSum.lean ====
abbrev S1024x7168 : Shape := ⟨2, ![1024, 7168]⟩
abbrev S4x1024x896 : Shape := ⟨3, ![4, 1024, 896]⟩
abbrev S_ : Shape := ⟨0, ![]⟩
abbrev S1 : Shape := ⟨1, ![1]⟩
abbrev S1024x896 : Shape := ⟨2, ![1024, 896]⟩
abbrev S1x1024x896 : Shape := ⟨3, ![1, 1024, 896]⟩

abbrev nBuf : Space → Nat
  | .hbm => 6
  | .vmem => 6
  | .smem => 1
  | _ => 0

abbrev bufTy : (tb : Table) → Fin (tcTables nBuf tb) → BufTy
  | .hbm, ⟨0, _⟩ => ⟨S1024x7168, .f32⟩
  | .hbm, ⟨1, _⟩ => ⟨S4x1024x896, .f32⟩
  | .hbm, ⟨2, _⟩ => ⟨S1024x7168, .bf16⟩
  | .hbm, ⟨3, _⟩ => ⟨S4x1024x896, .bf16⟩
  | .hbm, ⟨4, _⟩ => ⟨S_, .i32⟩
  | .hbm, ⟨5, _⟩ => ⟨S4x1024x896, .bf16⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .smem, ⟨0, _⟩ => ⟨S1, .i32⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v3 : Ref sig .tc := ⟨.hbm, 5, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg1.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S1024x7168 : Shape := ⟨2, ![1024, 7168]⟩
abbrev S4x1024x896 : Shape := ⟨3, ![4, 1024, 896]⟩
abbrev S1024x8x896 : Shape := ⟨3, ![1024, 8, 896]⟩
abbrev S1024x4x896 : Shape := ⟨3, ![1024, 4, 896]⟩

abbrev nBuf : Space → Nat
  | .hbm => 7
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S4x1024x896, .f32⟩
  | .hbm, ⟨2, _⟩ => ⟨S1024x8x896, .f32⟩
  | .hbm, ⟨3, _⟩ => ⟨S1024x4x896, .f32⟩
  | .hbm, ⟨4, _⟩ => ⟨S4x1024x896, .f32⟩
  | .hbm, ⟨5, _⟩ => ⟨S4x1024x896, .f32⟩
  | .hbm, ⟨6, _⟩ => ⟨S4x1024x896, .bf16⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Projection.lean ====
abbrev S2048x1024 : Shape := ⟨2, ![2048, 1024]⟩
abbrev S1x1024x7168 : Shape := ⟨3, ![1, 1024, 7168]⟩
abbrev S1024x7168 : Shape := ⟨2, ![1024, 7168]⟩
abbrev S2048x2048 : Shape := ⟨2, ![2048, 2048]⟩
abbrev S2048x3072 : Shape := ⟨2, ![2048, 3072]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024x7168, .f32⟩
  | .hbm, ⟨2, _⟩ => ⟨S2048x1024, .bf16⟩
  | .hbm, ⟨3, _⟩ => ⟨S1024x7168, .f32⟩
  | .hbm, ⟨4, _⟩ => ⟨S1024x7168, .bf16⟩
  | .hbm, ⟨5, _⟩ => ⟨S2048x2048, .f32⟩
  | .hbm, ⟨6, _⟩ => ⟨S2048x3072, .bf16⟩
  | .hbm, ⟨7, _⟩ => ⟨S2048x2048, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | .local _ .vmem, ⟨8, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let c5_i32 : BitVec 32 := 5#32
  let v4 : BitVec 1 := Scalar.cmpi .slt arg0 c5_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c5_i32_2 : BitVec 32 := 5#32
  let v8 : BitVec 1 := Scalar.cmpi .sge arg0 c5_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectionRefIdeal.lean ====
abbrev S2048x1024 : Shape := ⟨2, ![2048, 1024]⟩
abbrev S1x1024x7168 : Shape := ⟨3, ![1, 1024, 7168]⟩
abbrev S1024x7168 : Shape := ⟨2, ![1024, 7168]⟩
abbrev S2048x7168 : Shape := ⟨2, ![2048, 7168]⟩
abbrev S2048x2048 : Shape := ⟨2, ![2048, 2048]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024x7168, .f32⟩
  | .hbm, ⟨2, _⟩ => ⟨S1024x7168, .f32⟩
  | .hbm, ⟨3, _⟩ => ⟨S2048x7168, .f32⟩
  | .hbm, ⟨4, _⟩ => ⟨S2048x2048, .f32⟩
  | .hbm, ⟨5, _⟩ => ⟨S2048x3072, .f32⟩
  | .hbm, ⟨6, _⟩ => ⟨S2048x3072, .bf16⟩
  | .hbm, ⟨7, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SquareGrads.lean ====
abbrev S2048x1024 : Shape := ⟨2, ![2048, 1024]⟩
abbrev S2048x3072 : Shape := ⟨2, ![2048, 3072]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x3072, .f32⟩
  | .hbm, ⟨7, _⟩ => ⟨S2048x3072, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_12 : BitVec 32 := 0#32
  let v22 : BitVec 1 := Scalar.cmpi .eq arg1 c0_i32_12
  let v23 : BitVec 32 := Scalar.extui v22
  let c0_i32_13 : BitVec 32 := 0#32
  let v24 : BitVec 1 := Scalar.cmpi .ne v23 c0_i32_13
  v24

def k0_cond4 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond5 (i : grid0.Coords) : BitVec 1 :=
  let arg1 : BitVec 32 := BitVec.ofNat 32 (i 1).val
  let c0_i32_12 : BitVec 32 := 0#32
  let v22 : BitVec 1 := Scalar.cmpi .eq arg1 c0_i32_12
  let v23 : BitVec 32 := Scalar.extui v22
  let c0_i32_13 : BitVec 32 := 0#32
  let v24 : BitVec 1 := Scalar.cmpi .ne v23 c0_i32_13
  v24

def k0_cond6 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond7 (i : grid0.Coords) : BitVec 1 :=
  let arg1 : BitVec 32 := BitVec.ofNat 32 (i 1).val
  let c0_i32_12 : BitVec 32 := 0#32
  let v22 : BitVec 1 := Scalar.cmpi .eq arg1 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== SquareGradsRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .bf16⟩
  | .hbm, ⟨23, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Merge.Spec.lean ====
/- The merge of the two mixers and its gradients, written at an index: the definitions both programs are compared with. -/
module

public import proofs.«01_k».proof.Defs
public import Idealize.ShloMosaic.Lib.Pipeline.ValueKit

@[expose] public section

set_option maxRecDepth 16384

noncomputable section

open Idealize.ShloMosaic

namespace Cert.MergeSpec

/-- A matrix of one row per token. -/
abbrev Rows := FVec Ideal ⟨2, ![2048, 1024]⟩ .f32
/-- A square weight with its leading axis of length one. -/
abbrev Weight := FVec Ideal ⟨3, ![1, 1024, 1024]⟩ .f32
/-- The two bias vectors of the gates. -/
abbrev Bias := FVec Ideal ⟨3, ![1, 2, 1024]⟩ .f32

/-- The gradient of the merged rows: the cotangent times the transpose of the output weight. -/
def dm (wo : Weight) (ct : Rows) (r : Fin 2048) (c : Fin 1024) : EReal :=
  ∑ k : Fin 1024, ct (ix2 r k) * wo (ix3 0 c k)

/-- A gate: the logistic of its pre-activation plus its bias row `p`. -/
def gate (g : Rows) (b : Bias) (p : Fin 2) (r : Fin 2048) (c : Fin 1024) : EReal :=
  Ideal.logistic (g (ix2 r c) + b (ix3 0 p c))

/-- One mixer's projected rows. -/
def proj (y : Rows) (w : Weight) (r : Fin 2048) (c : Fin 1024) : EReal :=
  ∑ k : Fin 1024, y (ix2 r k) * w (ix3 0 k c)

/-- The gradient of one mixer's projected rows. -/
def dproj (g : Rows) (b : Bias) (p : Fin 2) (wo : Weight) (ct : Rows) (r : Fin 2048) (c : Fin 1024) : EReal :=
  dm wo ct r c * gate g b p r c

/-- The gradient of one gate's pre-activation. -/
def dgate (y : Rows) (w : Weight) (g : Rows) (b : Bias) (p : Fin 2) (wo : Weight) (ct : Rows)
    (r : Fin 2048) (c : Fin 1024) : EReal :=
  dm wo ct r c * proj y w r c * (gate g b p r c * (1 - gate g b p r c))

/-- The gradient of one mixer's rows before the projection. -/
def dy (w : Weight) (g : Rows) (b : Bias) (p : Fin 2) (wo : Weight) (ct : Rows) (r : Fin 2048) (c : Fin 1024) : EReal :=
  ∑ k : Fin 1024, dproj g b p wo ct r k * w (ix3 0 c k)

/-- The two gates' gradients as one array of two planes. -/
def dgates (ya yb : Rows) (wa wb : Weight) (ga gb : Rows) (b : Bias) (wo : Weight) (ct : Rows)
    (p : Fin 2) (r : Fin 2048) (c : Fin 1024) : EReal :=
  if p = 0 then dgate ya wa ga b 0 wo ct r c else dgate yb wb gb b 1 wo ct r c

/-- The cotangent and the two projected gradients side by side, at row `r` and column `k` of 3072. -/
def dopp (ga gb : Rows) (b : Bias) (wo : Weight) (ct : Rows) (r : Fin 2048) (k : Fin 3072) : EReal :=
  if h : k.val < 1024 then ct (ix2 r ⟨k.val, h⟩)
  else if h' : k.val < 2048 then dproj ga b 0 wo ct r ⟨k.val - 1024, by omega⟩
  else dproj gb b 1 wo ct r ⟨k.val - 2048, by omega⟩

variable (ga gb : Rows) (b : Bias) (wo : Weight) (ct : Rows) (r : Fin 2048) (k : Fin 1024)

theorem dopp_left (h) : dopp ga gb b wo ct r ⟨k.val, h⟩ = ct (ix2 r k) := dif_pos k.isLt

theorem dopp_middle (h) : dopp ga gb b wo ct r ⟨1024 + k.val, h⟩ = dproj ga b 0 wo ct r k := by
  unfold dopp
  rw [dif_neg (by show ¬ 1024 + k.val < 1024; omega), dif_pos (by show 1024 + k.val < 2048; omega)]
  exact congrArg (dproj ga b 0 wo ct r) (Fin.ext (by show 1024 + k.val - 1024 = k.val; omega))

theorem dopp_right (h) : dopp ga gb b wo ct r ⟨2048 + k.val, h⟩ = dproj gb b 1 wo ct r k := by
  unfold dopp
  rw [dif_neg (by show ¬ 2048 + k.val < 1024; omega), dif_neg (by show ¬ 2048 + k.val < 2048; omega)]
  exact congrArg (dproj gb b 1 wo ct r) (Fin.ext (by show 2048 + k.val - 2048 = k.val; omega))

end Cert.MergeSpec
-- ==== Proof.Merge.Blocks.lean ====
/- The blocks the kernel loads at a grid point, read as entries of its arguments. -/
module

public import proofs.«01_k».proof.Proof.Merge.Spec
public import proofs.«01_k».proof.Proof.Gen.MergeIdeal.Value

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeSpec

variable (m : (ℓ : Loc nD τ sig) → Buf (Elt Ideal) ℓ)

/-- Every window's block index at every grid point: point `t` works on row block `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![1, t.val, 0] ∧ win0_9.index t = ![t.val, 0]
    ∧ win0_10.index t = ![t.val, 0] ∧ win0_11.index t = ![0, 0] :=
  (by decide +kernel : ∀ t : Fin grid0.N, _)

/-- Row `a` of row block `t`. -/
def row (t : Fin cfg0.N) (a : Fin 512) : Fin 2048 := ⟨t.val * 512 + a.val, by have : t.val < 4 := t.isLt; omega⟩

/-- The cotangent's block. -/
theorem read_ct (c : Dev nD) (t : Fin cfg0.N) (a : Fin 512) (k : Fin 1024) :
    iblk m c 0 t (ix2 a k) = (m ((c : Thread nD τ).loc main_arg10) : FVec Ideal S2048x1024 .f32) (ix2 (row t a) k) := by
  blk_simp [iblk, V, idx t]
  entry_read
  pointwise
  blk_ext [idx t, row]

/-- The first gate's half of the gates' block. -/
theorem read_ga (c : Dev nD) (t : Fin cfg0.N) (a : Fin 512) (k : Fin 1024) (h) :
    iblk m c 1 t (ix2 a ⟨k.val, h⟩) = (m ((c : Thread nD τ).loc main_arg2) : FVec Ideal S2048x1024 .f32) (ix2 (row t a) k) := by
  blk_simp [iblk, V, idx t]
  entry_read
  rw [show (win0_1.blk t).view.emb (ix2 a ⟨k.val, h⟩) = ix2 (row t a) ⟨k.val, h⟩ from by blk_ext [idx t, row]]
  pointwise

/-- The second gate's half of the gates' block. -/
theorem read_gb (c : Dev nD) (t : Fin cfg0.N) (a : Fin 512) (k : Fin 1024) (h) :
    iblk m c 1 t (ix2 a ⟨1024 + k.val, h⟩) = (m ((c : Thread nD τ).loc main_arg3) : FVec Ideal S2048x1024 .f32) (ix2 (row t a) k) := by
  blk_simp [iblk, V, idx t]
  entry_read
  rw [show (win0_1.blk t).view.emb (ix2 a ⟨1024 + k.val, h⟩) = ix2 (row t a) ⟨1024 + k.val, h⟩ from by blk_ext [idx t, row]]
  pointwise

/-- The first mixer's half of the projected rows' block. -/
theorem read_pa (c : Dev nD) (t : Fin cfg0.N) (a : Fin 512) (k : Fin 1024) (h) :
    iblk m c 2 t (ix2 a ⟨k.val, h⟩) = proj (m ((c : Thread nD τ).loc main_arg0)) (m ((c : Thread nD τ).loc main_arg5)) (row t a) k := by
  blk_simp [iblk, V, idx t]
  entry_read
  rw [show (win0_2.blk t).view.emb (ix2 a ⟨k.val, h⟩) = ix2 (row t a) ⟨k.val, h⟩ from by blk_ext [idx t, row]]
  pointwise [proj]

/-- The second mixer's half of the projected rows' block. -/
theorem read_pb (c : Dev nD) (t : Fin cfg0.N) (a : Fin 512) (k : Fin 1024) (h) :
    iblk m c 2 t (ix2 a ⟨1024 + k.val, h⟩) = proj (m ((c : Thread nD τ).loc main_arg1)) (m ((c : Thread nD τ).loc main_arg6)) (row t a) k := by
  blk_simp [iblk, V, idx t]
  entry_read
  rw [show (win0_2.blk t).view.emb (ix2 a ⟨1024 + k.val, h⟩) = ix2 (row t a) ⟨1024 + k.val, h⟩ from by blk_ext [idx t, row]]
  pointwise [proj]

/-- The first projection weight. -/
theorem read_wa (c : Dev nD) (t : Fin cfg0.N) (a k : Fin 1024) :
    iblk m c 3 t (ix2 a k) = (m ((c : Thread nD τ).loc main_arg5) : FVec Ideal S1x1024x1024 .f32) (ix3 0 a k) := by
  blk_simp [iblk, V, idx t]
  entry_read
  pointwise
  blk_ext [idx t]

/-- The second projection weight. -/
theorem read_wb (c : Dev nD) (t : Fin cfg0.N) (a k : Fin 1024) :
    iblk m c 4 t (ix2 a k) = (m ((c : Thread nD τ).loc main_arg6) : FVec Ideal S1x1024x1024 .f32) (ix3 0 a k) := by
  blk_simp [iblk, V, idx t]
  entry_read
  pointwise
  blk_ext [idx t]

/-- The output weight. -/
theorem read_wo (c : Dev nD) (t : Fin cfg0.N) (a k : Fin 1024) :
    iblk m c 5 t (ix2 a k) = (m ((c : Thread nD τ).loc main_arg7) : FVec Ideal S1x1024x1024 .f32) (ix3 0 a k) := by
  blk_simp [iblk, V, idx t]
  entry_read
  pointwise
  blk_ext [idx t]

/-- The packed vectors: the two biases, then two norm scales that this call does not read. -/
theorem vecs (c : Dev nD) : V m c main_v7 = concatenate S4x1024 0 [⟨S2x1024, (shapeCast S2x1024 (m ((c : Thread nD τ).loc main_arg4) : FVec Ideal S1x2x1024 .f32) shapeCasts_S1x2x1024_S2x1024 : FVec Ideal S2x1024 .f32)⟩, ⟨S1x1024, (m ((c : Thread nD τ).loc main_arg8) : FVec Ideal S1x1024 .f32)⟩, ⟨S1x1024, (m ((c : Thread nD τ).loc main_arg9) : FVec Ideal S1x1024 .f32)⟩] concatenates_S2x1024_S1x1024_S1x1024_S4x1024_d0 := by
  unfold V
  after_results_simp
  rfl

/-- The gates' biases are the first two of the packed vectors. -/
theorem vecs_bias (x : FVec Ideal S1x2x1024 .f32) (y z : FVec Ideal S1x1024 .f32) (h) (p : Fin 2) (k : Fin 1024) :
    concatenate S4x1024 0 [⟨S2x1024, (shapeCast S2x1024 x shapeCasts_S1x2x1024_S2x1024 : FVec Ideal S2x1024 .f32)⟩, ⟨S1x1024, y⟩, ⟨S1x1024, z⟩] h (ix2 ⟨p.val, by omega⟩ k) = x (ix3 0 p k) := by
  pointwise

/-- The bias rows of the packed vectors' block. -/
theorem read_bias (c : Dev nD) (t : Fin cfg0.N) (p : Fin 2) (k : Fin 1024) :
    iblk m c 6 t (ix2 ⟨p.val, by omega⟩ k) = (m ((c : Thread nD τ).loc main_arg4) : FVec Ideal S1x2x1024 .f32) (ix3 0 p k) := by
  show V m c main_v7 _ = _
  rw [vecs]
  rw [show (win0_6.blk t).view.emb (ix2 ⟨p.val, by omega⟩ k) = ix2 ⟨p.val, by omega⟩ k from by blk_ext [idx t, row]]
  exact vecs_bias _ _ _ _ p k

/-- The first gate's bias row. -/
theorem read_bias0 (c : Dev nD) (t : Fin cfg0.N) (k : Fin 1024) :
    iblk m c 6 t (ix2 0 k) = (m ((c : Thread nD τ).loc main_arg4) : FVec Ideal S1x2x1024 .f32) (ix3 0 0 k) :=
  read_bias m c t 0 k

/-- The second gate's bias row. -/
theorem read_bias1 (c : Dev nD) (t : Fin cfg0.N) (k : Fin 1024) :
    iblk m c 6 t (ix2 1 k) = (m ((c : Thread nD τ).loc main_arg4) : FVec Ideal S1x2x1024 .f32) (ix3 0 1 k) :=
  read_bias m c t 1 k

end Cert.MergeIdeal.RefValue
-- ==== Proof.Merge.Arrays.lean ====
/- What the arrays the kernel writes hold after its run. -/
module

public import proofs.«01_k».proof.Proof.Merge.Blocks

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeSpec

variable (m : (ℓ : Loc nD τ sig) → Buf (Elt Ideal) ℓ)

/-- The cotangent's piece of the first result on one row block. -/
theorem ct_block (c : Dev nD) (t : Fin cfg0.N) (y : S512x1024.Idx) :
    k0_pay4 (iblk m c 0 t) y = (m ((c : Thread nD τ).loc main_arg10) : FVec Ideal S2048x1024 .f32) (ix2 (row t (y 0)) (y 1)) := by
  obtain ⟨a, b, rfl⟩ : ∃ (a : Fin 512) (b : Fin 1024), y = ix2 a b := ⟨y 0, y 1, by blk_ext⟩
  pointwise [k0_pay4]
  exact read_ct m c t a b

/-- The gradient of the first projected rows on one row block. -/
theorem dpa_block (c : Dev nD) (t : Fin cfg0.N) (y : S512x1024.Idx) :
    k0_pay8 (iblk m c 0 t) (iblk m c 5 t) (View.ld (iblk m c 1 t) (Rect.unit ![0, 0] ![512, 1024] inb_S512x2048_S512x1024_0_0))
        (View.ld (iblk m c 6 t) (Rect.unit ![0, 0] ![1, 1024] inb_S4x1024_S1x1024_0_0)) y
      = dproj (m ((c : Thread nD τ).loc main_arg2)) (m ((c : Thread nD τ).loc main_arg4)) 0
        (m ((c : Thread nD τ).loc main_arg7)) (m ((c : Thread nD τ).loc main_arg10)) (row t (y 0)) (y 1) := by
  obtain ⟨a, b, rfl⟩ : ∃ (a : Fin 512) (b : Fin 1024), y = ix2 a b := ⟨y 0, y 1, by blk_ext⟩
  unfold_payloads
  pointwise [dproj, dm, gate]
  simp only [read_ct, read_wo, read_ga, read_bias0]

/-- The gradient of the second projected rows on one row block. -/
theorem dpb_block (c : Dev nD) (t : Fin cfg0.N) (y : S512x1024.Idx) :
    k0_pay9 (iblk m c 0 t) (iblk m c 5 t) (View.ld (iblk m c 1 t) (Rect.unit ![0, 1024] ![512, 1024] inb_S512x2048_S512x1024_0_1024))
        (View.ld (iblk m c 6 t) (Rect.unit ![1, 0] ![1, 1024] inb_S4x1024_S1x1024_1_0)) y
      = dproj (m ((c : Thread nD τ).loc main_arg3)) (m ((c : Thread nD τ).loc main_arg4)) 1
        (m ((c : Thread nD τ).loc main_arg7)) (m ((c : Thread nD τ).loc main_arg10)) (row t (y 0)) (y 1) := by
  obtain ⟨a, b, rfl⟩ : ∃ (a : Fin 512) (b : Fin 1024), y = ix2 a b := ⟨y 0, y 1, by blk_ext⟩
  unfold_payloads
  pointwise [dproj, dm, gate]
  simp only [read_ct, read_wo, read_gb, read_bias1]

/-- The gradient of the first mixer's rows. -/
theorem final_dya (c : Dev nD) : (dats m 0 c).arrAt 9 cfg0.N
    = fun i => dy (m ((c : Thread nD τ).loc main_arg5)) (m ((c : Thread nD τ).loc main_arg2)) (m ((c : Thread nD τ).loc main_arg4)) 0
        (m ((c : Thread nD τ).loc main_arg7)) (m ((c : Thread nD τ).loc main_arg10)) (i 0) (i 1) := by
  refine (dats m 0 c).arrAt_eq_of_covers 9 _ (by decide +kernel) fun t hf y => ?_
  obtain ⟨a, b, rfl⟩ : ∃ (a : Fin 512) (b : Fin 1024), y = ix2 a b := ⟨y 0, y 1, by blk_ext⟩
  blk_simp
  rw [after0_9]
  rw [show (win0_9.blk t).view.emb (ix2 a b) = ix2 (row t a) b by blk_ext [idx t, row]]
  by_cases h : t.val % 4 = 0
  · rw [outsAt0_A m c t h]
    frame_out
    unfold_payloads
    pointwise [dy, dproj, dm, gate]
    simp only [read_ct, read_wo, read_ga, read_bias0, read_wa]
  · rw [outsAt0_B m c t h]
    frame_out
    unfold_payloads
    pointwise [dy, dproj, dm, gate]
    simp only [read_ct, read_wo, read_ga, read_bias0, read_wa]

/-- The gradient of the second mixer's rows. -/
theorem final_dyb (c : Dev nD) : (dats m 0 c).arrAt 10 cfg0.N
    = fun i => dy (m ((c : Thread nD τ).loc main_arg6)) (m ((c : Thread nD τ).loc main_arg3)) (m ((c : Thread nD τ).loc main_arg4)) 1
        (m ((c : Thread nD τ).loc main_arg7)) (m ((c : Thread nD τ).loc main_arg10)) (i 0) (i 1) := by
  refine (dats m 0 c).arrAt_eq_of_covers 10 _ (by decide +kernel) fun t hf y => ?_
  obtain ⟨a, b, rfl⟩ : ∃ (a : Fin 512) (b : Fin 1024), y = ix2 a b := ⟨y 0, y 1, by blk_ext⟩
  blk_simp
  rw [after0_10]
  rw [show (win0_10.blk t).view.emb (ix2 a b) = ix2 (row t a) b by blk_ext [idx t, row]]
  by_cases h : t.val % 4 = 0
  · rw [outsAt0_A m c t h]
    frame_out
    unfold_payloads
    pointwise [dy, dproj, dm, gate]
    simp only [read_ct, read_wo, read_gb, read_bias1, read_wb]
  · rw [outsAt0_B m c t h]
    frame_out
    unfold_payloads
    pointwise [dy, dproj, dm, gate]
    simp only [read_ct, read_wo, read_gb, read_bias1, read_wb]

/-- The merge's cotangent and the two projected gradients, side by side. -/
theorem final_dopp (c : Dev nD) : (dats m 0 c).arrAt 7 cfg0.N
    = fun i => dopp (m ((c : Thread nD τ).loc main_arg2)) (m ((c : Thread nD τ).loc main_arg3)) (m ((c : Thread nD τ).loc main_arg4))
        (m ((c : Thread nD τ).loc main_arg7)) (m ((c : Thread nD τ).loc main_arg10)) (i 0) (i 1) := by
  refine (dats m 0 c).arrAt_eq_of_covers 7 _ (by decide +kernel) fun t hf y => ?_
  have hr : ∀ a : Fin 512, (y 0).val = a.val → (win0_7.blk t).view.emb y 0 = row t a := fun a ha => Fin.ext (by blk_simp [idx t]; rw [ha]; rfl)
  have hk : ∀ (k : ℕ) (hk : k < 3072), (y 1).val = k → (win0_7.blk t).view.emb y 1 = ⟨k, hk⟩ := fun k hk h => Fin.ext (by blk_simp [idx t]; exact h)
  blk_simp
  rw [after0_7]
  by_cases h : t.val % 4 = 0
  · rw [outsAt0_A m c t h]
    frame_out
    canon_tiles y
    · rw [hr _ h0, hk _ (by omega) h1]
      exact (dpb_block m c t y).trans (dopp_right _ _ _ _ _ _ _ _).symm
    · rw [hr _ h0, hk _ (by omega) h1]
      exact (dpa_block m c t y).trans (dopp_middle _ _ _ _ _ _ _ _).symm
    · rw [hr _ h0, hk _ (by omega) h1]
      exact (ct_block m c t y).trans (dopp_left _ _ _ _ _ _ _ _).symm
  · rw [outsAt0_B m c t h]
    frame_out
    canon_tiles y
    · rw [hr _ h0, hk _ (by omega) h1]
      exact (dpb_block m c t y).trans (dopp_right _ _ _ _ _ _ _ _).symm
    · rw [hr _ h0, hk _ (by omega) h1]
      exact (dpa_block m c t y).trans (dopp_middle _ _ _ _ _ _ _ _).symm
    · rw [hr _ h0, hk _ (by omega) h1]
      exact (ct_block m c t y).trans (dopp_left _ _ _ _ _ _ _ _).symm

end Cert.MergeIdeal.RefValue
-- ==== Proof.Merge.Gates.lean ====
/- The gates' gradients and their sums over the rows, as the kernel leaves them. -/
module

public import proofs.«01_k».proof.Proof.Merge.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeSpec

variable (m : (ℓ : Loc nD τ sig) → Buf (Elt Ideal) ℓ)

/-- The two gates' gradients as a function of the kernel's arguments. -/
abbrev dgatesOf (c : Dev nD) : Fin 2 → Fin 2048 → Fin 1024 → EReal :=
  dgates (m ((c : Thread nD τ).loc main_arg0)) (m ((c : Thread nD τ).loc main_arg1)) (m ((c : Thread nD τ).loc main_arg5)) (m ((c : Thread nD τ).loc main_arg6))
        (m ((c : Thread nD τ).loc main_arg2)) (m ((c : Thread nD τ).loc main_arg3)) (m ((c : Thread nD τ).loc main_arg4)) (m ((c : Thread nD τ).loc main_arg7))
        (m ((c : Thread nD τ).loc main_arg10))

/-- The first gate's gradient on one row block. -/
theorem dga_block (c : Dev nD) (t : Fin cfg0.N) (a : Fin 512) (b : Fin 1024) :
    k0_pay11 (k0_pay6 (View.ld (iblk m c 1 t) (Rect.unit ![0, 0] ![512, 1024] inb_S512x2048_S512x1024_0_0))
        (View.ld (iblk m c 6 t) (Rect.unit ![0, 0] ![1, 1024] inb_S4x1024_S1x1024_0_0)))
      (k0_pay10 (iblk m c 0 t) (iblk m c 5 t) (View.ld (iblk m c 2 t) (Rect.unit ![0, 0] ![512, 1024] inb_S512x2048_S512x1024_0_0))) (ix2 a b)
      = dgatesOf m c 0 (row t a) b := by
  unfold dgatesOf dgates
  rw [if_pos rfl]
  unfold_payloads
  pointwise [dgate, dm, gate]
  simp only [read_ct, read_wo, read_ga, read_bias0, read_pa]

/-- The second gate's gradient on one row block. -/
theorem dgb_block (c : Dev nD) (t : Fin cfg0.N) (a : Fin 512) (b : Fin 1024) :
    k0_pay12 (k0_pay5 (iblk m c 0 t) (iblk m c 5 t))
      (k0_pay7 (View.ld (iblk m c 1 t) (Rect.unit ![0, 1024] ![512, 1024] inb_S512x2048_S512x1024_0_1024))
        (View.ld (iblk m c 6 t) (Rect.unit ![1, 0] ![1, 1024] inb_S4x1024_S1x1024_1_0)))
      (View.ld (iblk m c 2 t) (Rect.unit ![0, 1024] ![512, 1024] inb_S512x2048_S512x1024_0_1024)) (ix2 a b)
      = dgatesOf m c 1 (row t a) b := by
  unfold dgatesOf dgates
  rw [if_neg (by decide)]
  unfold_payloads
  pointwise [dgate, dm, gate]
  simp only [read_ct, read_wo, read_gb, read_bias1, read_pb]

/-- Row 1 of an array of two rows after its last store is a store of row 1. -/
theorem canon_row1 (h) (w : FVec Ideal S1x1024 .f32) (L) (k : Fin 1024) :
    View.canon (Val := Elt Ideal) (e := .f32) (⟨Rect.unit (s := S2x1024) ![1, 0] ![1, 1024] h, w⟩ :: L) (ix2 1 k) = w (ix2 0 k) := by
  rw [show (ix2 1 k : S2x1024.Idx) = (Rect.unit (s := S2x1024) ![1, 0] ![1, 1024] h).emb (ix2 0 k) by blk_ext]
  exact View.canon_cons_emb _ _ _ _

/-- Row 0 of the same after a store of row 1 and, before it, one of row 0. -/
theorem canon_row0 (h h') (w' w : FVec Ideal S1x1024 .f32) (L) (k : Fin 1024) :
    View.canon (Val := Elt Ideal) (e := .f32) (⟨Rect.unit (s := S2x1024) ![1, 0] ![1, 1024] h, w'⟩ :: ⟨Rect.unit (s := S2x1024) ![0, 0] ![1, 1024] h', w⟩ :: L) (ix2 0 k) = w (ix2 0 k) := by
  rw [View.canon_cons_of_not_mem]
  · rw [show (ix2 0 k : S2x1024.Idx) = (Rect.unit (s := S2x1024) ![0, 0] ![1, 1024] h').emb (ix2 0 k) by blk_ext]
    exact View.canon_cons_emb _ _ _ _
  · rw [Rect.mem_set_unit]
    intro hm
    exact absurd (show 1 ≤ 0 from (hm 0).1) (by decide)

/-- The sums over the rows of both gates' gradients: each point adds its row block's. -/
theorem final_db (c : Dev nD) : (dats m 0 c).arrAt 11 cfg0.N = fun j => ∑ r : Fin 2048, dgatesOf m c (j 0) r (j 1) := by
  refine (dats m 0 c).arrAt_eq_of_after_last 11 t0_3 (by decide +kernel) _ fun j => ?_
  blk_simp
  rw [after0_11, Pipeline.eq_sum_fin_of_reset_step_apply_last (fun n h => (outsAt0 m c n h).2.2.2.2) 4 (fun _ => 0) (fun t j => ∑ a : Fin 512, dgatesOf m c (j 0) (row t a) (j 1))
    (fun t h j => by
      rw [outsAt0_A m c t h]
      frame_out
      simp (disch := decide) only [↓ View.readCov_skip, ↓ View.readCov_cons_toLoadRect, ↓ View.readCov_fill]
      obtain ⟨p, k, rfl⟩ : ∃ (p : Fin 2) (k : Fin 1024), j = ix2 p k := ⟨j 0, j 1, by blk_ext⟩
      rcases (by omega : p = 0 ∨ p = 1) with rfl | rfl
      · rw [canon_row0]
        pointwise [k0_pay15, k0_pay3]
        exact Fin.sum_fin_congr fun x => dga_block m c t x k
      · rw [canon_row1]; pointwise [k0_pay16, k0_pay3]
        exact Fin.sum_fin_congr fun x => dgb_block m c t x k) (fun t h j => by
      rw [outsAt0_B m c t h]
      frame_out
      obtain ⟨p, k, rfl⟩ : ∃ (p : Fin 2) (k : Fin 1024), j = ix2 p k := ⟨j 0, j 1, by blk_ext⟩
      rcases (by omega : p = 0 ∨ p = 1) with rfl | rfl
      · rw [canon_row0]
        pointwise [k0_pay15]
        exact congrArg (_ + ·) (Fin.sum_fin_congr fun x => dga_block m c t x k)
      · rw [canon_row1]; pointwise [k0_pay16]
        exact congrArg (_ + ·) (Fin.sum_fin_congr fun x => dgb_block m c t x k)) (le_of_eq N_0) t0_3 rfl j, zero_add]
  refine Fin.sum_mul_add_congr fun t a h => rfl

/-- The first gate's plane on one row block. -/
theorem dga_plane (c : Dev nD) (t : Fin cfg0.N) (y : S1x512x1024.Idx) :
    k0_pay13 (k0_pay6 (View.ld (iblk m c 1 t) (Rect.unit ![0, 0] ![512, 1024] inb_S512x2048_S512x1024_0_0))
        (View.ld (iblk m c 6 t) (Rect.unit ![0, 0] ![1, 1024] inb_S4x1024_S1x1024_0_0)))
      (k0_pay10 (iblk m c 0 t) (iblk m c 5 t) (View.ld (iblk m c 2 t) (Rect.unit ![0, 0] ![512, 1024] inb_S512x2048_S512x1024_0_0))) y
      = dgatesOf m c 0 (row t (y 1)) (y 2) := by
  obtain ⟨q, a, b, rfl⟩ : ∃ (q : Fin 1) (a : Fin 512) (b : Fin 1024), y = ix3 q a b := ⟨y 0, y 1, y 2, by blk_ext⟩
  pointwise [k0_pay13]
  exact dga_block m c t a b

/-- The second gate's plane on one row block. -/
theorem dgb_plane (c : Dev nD) (t : Fin cfg0.N) (y : S1x512x1024.Idx) :
    k0_pay14 (k0_pay5 (iblk m c 0 t) (iblk m c 5 t))
      (k0_pay7 (View.ld (iblk m c 1 t) (Rect.unit ![0, 1024] ![512, 1024] inb_S512x2048_S512x1024_0_1024))
        (View.ld (iblk m c 6 t) (Rect.unit ![1, 0] ![1, 1024] inb_S4x1024_S1x1024_1_0)))
      (View.ld (iblk m c 2 t) (Rect.unit ![0, 1024] ![512, 1024] inb_S512x2048_S512x1024_0_1024)) y
      = dgatesOf m c 1 (row t (y 1)) (y 2) := by
  obtain ⟨q, a, b, rfl⟩ : ∃ (q : Fin 1) (a : Fin 512) (b : Fin 1024), y = ix3 q a b := ⟨y 0, y 1, y 2, by blk_ext⟩
  pointwise [k0_pay14]
  exact dgb_block m c t a b

/-- The gates' gradients are the planes 2 and 3 of their array. -/
theorem final_dz (c : Dev nD) (p : Fin 2) (r : Fin 2048) (k : Fin 1024) (hp) :
    (dats m 0 c).arrAt 8 cfg0.N (ix3 ⟨2 + p.val, hp⟩ r k) = dgatesOf m c p r k := by
  refine ((dats m 0 c).arrAt_apply_of_coversWhere 8 (fun i => dgatesOf m c ⟨((i 0).val - 2) % 2, by omega⟩ (i 1) (i 2)) (fun β => β 0 = 1)
    (by decide +kernel) (fun t hf y => ?_) (P := fun i => (i 0).val / 2 = 1) (fun _ => Iff.rfl) (ix3 ⟨2 + p.val, hp⟩ r k)).trans ?_
  · have e0 : ∀ q : Fin 2, (y 0).val = q.val → (⟨(((win0_8.blk t).view.emb y 0).val - 2) % 2, by omega⟩ : Fin 2) = q :=
      fun q hq => Fin.ext (by blk_simp [idx t]; show (2 + (y 0).val - 2) % 2 = q.val; rw [hq]; omega)
    have e1 : ∀ a : Fin 512, (y 1).val = a.val → (win0_8.blk t).view.emb y 1 = row t a := fun a ha => Fin.ext (by blk_simp [idx t]; rw [ha]; rfl)
    have e2 : ∀ k : Fin 1024, (y 2).val = k → (win0_8.blk t).view.emb y 2 = k := fun k hk => Fin.ext (by blk_simp [idx t]; exact hk)
    show _ = dgatesOf m c ⟨(((win0_8.blk t).view.emb y 0).val - 2) % 2, by omega⟩ ((win0_8.blk t).view.emb y 1) ((win0_8.blk t).view.emb y 2)
    generalize (⟨(((win0_8.blk t).view.emb y 0).val - 2) % 2, by omega⟩ : Fin 2) = i0 at e0 ⊢
    generalize (win0_8.blk t).view.emb y 1 = i1 at e1 ⊢
    generalize (win0_8.blk t).view.emb y 2 = i2 at e2 ⊢
    blk_simp
    rw [after0_8]
    by_cases h : t.val % 4 = 0
    · rw [outsAt0_A m c t h]
      frame_out
      canon_tiles y
      · rw [e0 1 (by show _ = 1; omega), e1 _ h1, e2 _ h2]
        exact dgb_plane m c t y
      · rw [e0 0 (by show _ = 0; omega), e1 _ h1, e2 _ h2]
        exact dga_plane m c t y
    · rw [outsAt0_B m c t h]
      frame_out
      canon_tiles y
      · rw [e0 1 (by show _ = 1; omega), e1 _ h1, e2 _ h2]
        exact dgb_plane m c t y
      · rw [e0 0 (by show _ = 0; omega), e1 _ h1, e2 _ h2]
        exact dga_plane m c t y
  · rw [if_pos (by show (2 + p.val) / 2 = 1; omega)]
    exact congrArg (fun q => dgatesOf m c q r k) (Fin.ext (by show (2 + p.val - 2) % 2 = p.val; omega))

end Cert.MergeIdeal.RefValue
-- ==== Proof.Merge.Reference.lean ====
/- What the reference's arrays hold, read at an index. -/
module

public import proofs.«01_k».proof.Proof.Merge.Spec
public import proofs.«01_k».proof.Proof.Gen.MergeRefIdeal.Run
public import proofs.«01_k».proof.Proof.Gen.MergeRefIdeal.Read

@[expose] public section

set_option maxRecDepth 16384

noncomputable section

open Idealize.ShloMosaic

namespace Cert.MergeRefIdeal.RefValue

open Cert.MergeRefIdeal Cert.MergeRefIdeal.Gen Cert.MergeRefIdeal.Read Cert.MergeSpec

variable (x0 x1 x2 x3 x10 : Rows) (x4 : Bias) (x5 x6 x7 : Weight)

/-- The reference's first gate. -/
theorem gate_a (r : Fin 2048) (c : Fin 1024) : val_main_v14 (F := Ideal) x2 x4 (ix2 r c) = gate x2 x4 0 r c := by
  pointwise [val_main_v14, val_main_v13, val_main_cst_0, val_main_v12, val_main_v11, val_main_cst, val_main_v10, val_main_v9, val_main_v8,
    val_main_v7, val_main_v6, val_main_v5, val_main_v4, gate, Ideal.logistic]

/-- The reference's second gate. -/
theorem gate_b (r : Fin 2048) (c : Fin 1024) : val_main_v29 (F := Ideal) x3 x4 (ix2 r c) = gate x3 x4 1 r c := by
  pointwise [val_main_v29, val_main_v28, val_main_cst_3, val_main_v27, val_main_v26, val_main_cst_2, val_main_v25, val_main_v24, val_main_v23,
    val_main_v22, val_main_v21, val_main_v20, val_main_v19, gate, Ideal.logistic]

/-- The reference's gradient of the merged rows. -/
theorem dm_at (r : Fin 2048) (c : Fin 1024) : val_main_v37 (F := Ideal) x7 x10 (ix2 r c) = dm x7 x10 r c := by
  pointwise [val_main_v37, val_main_v35, dm]

/-- The reference's gradient of the first gate. -/
theorem dgate_a (r : Fin 2048) (c : Fin 1024) : val_main_v48 (F := Ideal) x0 x2 x4 x5 x7 x10 (ix2 r c) = dgate x0 x5 x2 x4 0 x7 x10 r c := by
  pointwise [val_main_v48, val_main_v47, val_main_v17, val_main_v16, val_main_v15, val_main_cst_1, val_main_v1, val_main_v0, dgate, proj]
  simp only [gate_a, dm_at]

/-- The reference's gradient of the second gate. -/
theorem dgate_b (r : Fin 2048) (c : Fin 1024) : val_main_v40 (F := Ideal) x1 x3 x4 x6 x7 x10 (ix2 r c) = dgate x1 x6 x3 x4 1 x7 x10 r c := by
  pointwise [val_main_v40, val_main_v39, val_main_v32, val_main_v31, val_main_v30, val_main_cst_4, val_main_v3, val_main_v2, dgate, proj]
  simp only [gate_b, dm_at]

/-- The reference's gradient of the first mixer's rows. -/
theorem ref_dya (i) : val_main_v56 (F := Ideal) x2 x4 x5 x7 x10 i = dy x5 x2 x4 0 x7 x10 (i 0) (i 1) := by
  obtain ⟨r, c, rfl⟩ : ∃ (a : Fin 2048) (b : Fin 1024), i = ix2 a b := ⟨i 0, i 1, by blk_ext⟩
  pointwise [val_main_v56, val_main_v46, val_main_v0, dy, dproj]
  simp only [gate_a, dm_at, mul_comm (gate _ _ _ _ _)]

/-- The reference's gradient of the second mixer's rows. -/
theorem ref_dyb (i) : val_main_v65 (F := Ideal) x3 x4 x6 x7 x10 i = dy x6 x3 x4 1 x7 x10 (i 0) (i 1) := by
  obtain ⟨r, c, rfl⟩ : ∃ (a : Fin 2048) (b : Fin 1024), i = ix2 a b := ⟨i 0, i 1, by blk_ext⟩
  pointwise [val_main_v65, val_main_v55, val_main_v38, val_main_v2, dy, dproj]
  simp only [gate_b, dm_at, mul_comm (gate _ _ _ _ _)]

/-- The reference's cotangent and projected gradients, side by side. -/
theorem ref_dopp (i) : val_main_v58 (F := Ideal) x2 x3 x4 x7 x10 i = dopp x2 x3 x4 x7 x10 (i 0) (i 1) := by
  obtain ⟨r, c, rfl⟩ : ∃ (a : Fin 2048) (b : Fin 3072), i = ix2 a b := ⟨i 0, i 1, by blk_ext⟩
  pointwise [val_main_v58, val_main_v57, val_main_v46, val_main_v38, dopp, dproj]
  simp only [gate_a, gate_b, dm_at, mul_comm (gate _ _ _ _ _)]
  refine dite_congr rfl (fun _ => rfl) fun h => ?_
  by_cases h' : c.val < 2048
  · rw [dif_pos (show c.val - 1024 < 1024 by omega), dif_pos h']
  · rw [dif_neg (show ¬ c.val - 1024 < 1024 by omega), dif_neg h']
    simp only [Nat.sub_sub]

/-- The reference's gate gradients, the planes 2 and 3 of their array. -/
theorem ref_dz (p : Fin 2) (r : Fin 2048) (k : Fin 1024) (hp) : val_main_v64 (F := Ideal) x0 x1 x2 x3 x4 x5 x6 x7 x10 (ix3 ⟨2 + p.val, hp⟩ r k)
    = dgates x0 x1 x5 x6 x2 x3 x4 x7 x10 p r k := by
  pointwise [val_main_v64, val_main_v63, val_main_v62, val_main_v61, val_main_v60, dgates]
  fin_cases p
  · exact dgate_a x0 x2 x10 x4 x5 x7 r k
  · exact dgate_b x1 x3 x10 x4 x6 x7 r k

/-- The reference's bias gradients. -/
theorem ref_db (i) : val_main_v66 (F := Ideal) x0 x1 x2 x3 x4 x5 x6 x7 x10 i
    = ∑ r : Fin 2048, dgates x0 x1 x5 x6 x2 x3 x4 x7 x10 (i 0) r (i 1) := by
  obtain ⟨p, c, rfl⟩ : ∃ (a : Fin 2) (b : Fin 1024), i = ix2 a b := ⟨i 0, i 1, by blk_ext⟩
  pointwise [val_main_v66, val_main_v54, val_main_v53, val_main_v52, val_main_v51, val_main_v50, val_main_v49, val_main_v45, val_main_v44, val_main_v43, val_main_v42, val_main_v41,
    val_main_cst_5, val_main_cst_6, val_main_cst_7, val_main_cst_8, val_main_cst_9, val_main_cst_10, dgates]
  simp only [dgate_a, dgate_b, Finset.univ_unique, Finset.sum_const, Finset.card_singleton, one_smul]
  fin_cases p
  · exact zero_add _
  · exact add_zero _

end Cert.MergeRefIdeal.RefValue
-- ==== Proof.Merge.Claims.lean ====
/- The claims about the merge's backward call: the two frames, the reference's frame, and the values. Both programs end at
   the arrays of `Merge/Spec.lean`; the gate gradients are compared on the planes the call writes. -/
module

public import proofs.«01_k».proof.Defs
public import proofs.«01_k».proof.Proof.Merge.Arrays
public import proofs.«01_k».proof.Proof.Merge.Gates
public import proofs.«01_k».proof.Proof.Merge.Reference
public import proofs.«01_k».proof.Proof.Gen.Merge.Frame
public import proofs.«01_k».proof.Proof.Gen.On_gates_written
public import Idealize.ShloMosaic.Lib.Claim

@[expose] public section

set_option maxRecDepth 16384

noncomputable section

open Idealize.ShloMosaic Idealize.ShloMosaic.TcCoe Idealize.SL.Sem

namespace Cert.On_gates_written

variable {F : FTy → Type} [FloatOps F] [Facts]

/-- Where the mask of the gate gradients is set, the plane is 2 or 3. -/
theorem plane_of_mask (x0 x1 x2 x3 x4 x5 x6 x7 x8 x9 x10) (i : S8x2048x1024.Idx)
    (h : (fn (F := F) x0 x1 x2 x3 x4 x5 x6 x7 x8 x9 x10).2.1 i = 1#1) : 2 ≤ (i 0 : Nat) ∧ (i 0 : Nat) < 4 := by
  have key : ∀ r < 8, IntOp.andi (IntOp.cmpi .sge (BitVec.ofNat 32 r) 2#32) (IntOp.cmpi .slt (BitVec.ofNat 32 r) 4#32) = 1#1 → 2 ≤ r ∧ r < 4 := by
    decide
  exact key _ (i 0).isLt h

end Cert.On_gates_written

namespace Cert.Proof.MergeClaims

open Cert.MergeSpec Cert.MergeIdeal.RefValue Cert.MergeRefIdeal.RefValue Cert.MergeRefIdeal.Read

/-- The kernel's frame. -/
theorem frame : Cert.quiescent_Merge := fun m ρ _ => Cert.Merge.Gen.frame m ρ
/-- The idealized kernel's frame. -/
theorem frame_ideal : Cert.quiescent_MergeIdeal := fun m ρ _ => Cert.MergeIdeal.Gen.frame m ρ
/-- The reference's frame: its run, read at the arguments; it has no semaphore. -/
theorem frame_ref : Cert.quiescent_MergeRefIdeal := fun m ρ _ =>
  (θ_run Cert.MergeRefIdeal.defs _ _).mono (fun r h => ⟨fun c => (h c).2.2.2.2.2, sem_eq_zero_of_no_sems (by decide) r.2⟩)
    (Cert.MergeRefIdeal.Value.run (F := Ideal) m ρ)
/-- The idealized kernel is the kernel with nothing rewritten. -/
theorem preserves : Cert.preserves_Merge_MergeIdeal := trivial

set_option maxHeartbeats 2000000 in
/-- The five results of the merge's backward call are the reference's. -/
theorem algebraic : Cert.algebraic_MergeIdeal_MergeRefIdeal_on_gates_written := by
  intro m ρ m' ρ' _ hagree
  refine ⟨_, _, _, _, _, (θ_run Cert.MergeIdeal.defs _ _).mono (fun r h c => ⟨fun i _ => congrFun (h c).1 i, fun i _ => congrFun (h c).2.1 i,
    fun i _ => congrFun (h c).2.2.1 i, fun i _ => congrFun (h c).2.2.2.1 i, fun i _ => congrFun (h c).2.2.2.2.1 i, (h c).2.2.2.2.2⟩)
    (Cert.MergeIdeal.Value.run_blocks (F := Ideal) m ρ), ?_⟩
  refine (θ_run Cert.MergeRefIdeal.defs _ _).mono (fun r h c => ?_) (Cert.MergeRefIdeal.Value.run (F := Ideal) m' ρ')
  obtain ⟨h0, h1, h2, h3, h4, hargs⟩ := h c
  obtain ⟨a0, a1, a2, a3, a4, a5, a6, a7, a8, a9, a10⟩ := hagree c
  refine ⟨fun i _ => ?_, fun i hi => ?_, fun i _ => ?_, fun i _ => ?_, fun i _ => ?_, hargs⟩
  · refine (congrFun (h0.trans (val_main_v58_eq _ _ _ _ _ )) i).trans ?_
    rw [final_dopp m c]
    rw [a2, a3, a4, a7, a10]
    exact ref_dopp _ _ _ _ _ i
  · refine (congrFun (h1.trans (val_main_v64_eq m' c)) i).trans ?_
    rw [a0, a1, a2, a3, a4, a5, a6, a7, a10]
    have hp := Cert.On_gates_written.plane_of_mask _ _ _ _ _ _ _ _ _ _ _ i hi
    obtain ⟨p, r, k, hp', rfl⟩ : ∃ (p : Fin 2) (r : Fin 2048) (k : Fin 1024) (h : 2 + p.val < 8), i = ix3 ⟨2 + p.val, h⟩ r k :=
      ⟨⟨(i 0).val - 2, by omega⟩, i 1, i 2, by show 2 + ((i 0).val - 2) < 8; omega, by blk_ext⟩
    exact (ref_dz _ _ _ _ _ _ _ _ _ p r k hp').trans (final_dz m c p r k hp').symm
  · refine (congrFun (h2.trans (val_main_v56_eq _ _ _ _ _ )) i).trans ?_
    rw [final_dya m c]
    rw [a2, a4, a5, a7, a10]
    exact ref_dya _ _ _ _ _ i
  · refine (congrFun (h3.trans (val_main_v65_eq _ _ _ _ _ )) i).trans ?_
    rw [final_dyb m c]
    rw [a3, a4, a6, a7, a10]
    exact ref_dyb _ _ _ _ _ i
  · refine (congrFun (h4.trans (val_main_v66_eq _ _ _ _ _ _ _ _ _ )) i).trans ?_
    rw [final_db m c]
    rw [a0, a1, a2, a3, a4, a5, a6, a7, a10]
    exact ref_db _ _ _ _ _ _ _ _ _ i

end Cert.Proof.MergeClaims

end
-- ==== Proof.Gate.Real.lean ====
/- Extended reals that are real numbers: what keeps a value real, and the words of the constants the programs use. -/
module

public import Idealize.ShloMosaic.PureOps.Ideal
public import Idealize.ShloMosaic.PureOps.Ideal.Laws

@[expose] public section

noncomputable section

open Idealize.ShloMosaic

namespace Cert.Finite

/-- The value is a real number. -/
def IsReal (x : EReal) : Prop := ∃ r : ℝ, x = r

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type*} (s : Finset ι) {f : ι → EReal} (h : ∀ i ∈ s, IsReal (f i)) : IsReal (∑ i ∈ s, f i) :=
  Finset.sum_induction f IsReal (fun _ _ => IsReal.add) IsReal.zero h
theorem IsReal.ite {p : Prop} [Decidable p] {x y : EReal} (hx : IsReal x) (hy : IsReal y) : IsReal (if p then x else y) := by
  split <;> assumption
theorem IsReal.tanh {x : EReal} : IsReal x → IsReal (Ideal.tanh x) := by
  rintro ⟨a, rfl⟩; exact ⟨_, Ideal.tanh_coe a⟩

/-- A real sum, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg h.not_gt, if_neg h.ne']

/-! The constants' words. -/

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num
theorem word_8943 : Ideal.ofBits .f32 0x460BBC00#32 = ((8943 : ℝ) : EReal) := by
  simp [Ideal.ofBits, Ideal.ieee, -EReal.coe_mul]; norm_num
theorem word_200000 : Ideal.ofBits .f32 0x48435000#32 = ((200000 : ℝ) : EReal) := by
  simp [Ideal.ofBits, Ideal.ieee, -EReal.coe_mul]; norm_num
/-- The slope inside the gate's `tanh` is a real number. -/
theorem word_slope : ∃ s : ℝ, Ideal.ofBits .f32 0x3F4C422A#32 = (s : EReal) := by
  simp [Ideal.ofBits, Ideal.ieee, -EReal.coe_mul]
/-- The constant added to a mean of squares is a positive real. -/
theorem word_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

end Cert.Finite

end
-- ==== Proof.Gate.Algebra.lean ====
/- The gate's scalar and row functions over the extended reals, as the kernel writes them and as the derivative of the
   forward lines writes them, and that the two agree on real numbers. -/
module

public import proofs.«01_k».proof.Proof.Gate.Real

@[expose] public section

noncomputable section

open Idealize.ShloMosaic Cert.Finite

namespace Cert.GateSpec

/-- The factor inside the `tanh`. -/
abbrev outer : EReal := Ideal.ofBits .f32 0x3F4C422A#32
/-- The coefficient of the cube. -/
abbrev cubic : EReal := ((8943 / 200000 : ℝ) : EReal)
/-- Three times the coefficient of the cube. -/
abbrev cubic3 : EReal := ((26829 / 200000 : ℝ) : EReal)
abbrev half : EReal := Ideal.ofBits .f32 0x3F000000#32
abbrev w1024 : EReal := Ideal.ofBits .f32 0x44800000#32

/-- The `tanh` of the activation. -/
def th (x : EReal) : EReal := Ideal.tanh (outer * (x + cubic * (x * x * x)))
/-- The activation. -/
def gelu (x : EReal) : EReal := half * x * (1 + th x)
/-- The activation's slope, in the kernel's form. -/
def slope (x : EReal) : EReal := half * (1 + th x) + half * x * (1 - th x * th x) * (outer * (1 + cubic3 * x * x))
/-- The derivative's step back through the `tanh` and its outer factor. -/
def geluInner (d x : EReal) : EReal := outer * (half * (x * d) * ((1 + th x) * (1 - th x)))
/-- The derivative of the activation applied to `d`, in the order the derivative program computes it. -/
def geluBack (d x : EReal) : EReal :=
  d * (half * (1 + th x)) + geluInner d x + cubic * geluInner d x * (Ideal.ofBits .f32 0x40400000#32 * (x * x))

/-- The mean of a row. -/
def mean (f : Fin 1024 → EReal) : EReal := Ideal.div (∑ j, f j) w1024
/-- A row less its mean. -/
def centre (f : Fin 1024 → EReal) (k : Fin 1024) : EReal := f k - mean f
/-- The variance of a row plus the small constant. -/
def spread (f : Fin 1024 → EReal) : EReal := mean (fun k => centre f k * centre f k) + Ideal.ofBits .f32 0x358637BD#32
/-- The normalized row. -/
def hat (f : Fin 1024 → EReal) (k : Fin 1024) : EReal := centre f k * Ideal.rsqrt (spread f)
/-- The gradient of a row before its normalization, in the kernel's form. -/
def normBack (f d : Fin 1024 → EReal) (k : Fin 1024) : EReal :=
  Ideal.rsqrt (spread f) * (d k - (∑ j, d j) * Ideal.ofBits .f32 0x3A800000#32
    - hat f k * ((∑ j, d j * hat f j) * Ideal.ofBits .f32 0x3A800000#32))
/-- The step back through the variance, one entry. -/
def varBack (f d : Fin 1024 → EReal) (k : Fin 1024) : EReal :=
  Ideal.div ((∑ j, centre f j * d j) * (Ideal.ofBits .f32 0xBF000000#32 * Ideal.div (Ideal.rsqrt (spread f)) (spread f))) w1024
    * (Ideal.ofBits .f32 0x40000000#32 * centre f k)
/-- The gradient of a row before its normalization, in the order the derivative program computes it. -/
def normBackRef (f d : Fin 1024 → EReal) (k : Fin 1024) : EReal :=
  d k * Ideal.rsqrt (spread f) + varBack f d k
    + Ideal.div ((∑ j, -(d j * Ideal.rsqrt (spread f))) + ∑ j, -varBack f d j) w1024

theorem th_real {x : EReal} (h : IsReal x) : IsReal (th x) := by
  obtain ⟨s, hs⟩ := word_slope
  exact .tanh (.mul ⟨s, hs⟩ (.add h (.mul (.coe _) (.mul (.mul h h) h))))
theorem gelu_real {x : EReal} (h : IsReal x) : IsReal (gelu x) :=
  .mul (.mul ⟨_, word_half⟩ h) (.add ⟨1, rfl⟩ (th_real h))
theorem slope_real {x : EReal} (h : IsReal x) : IsReal (slope x) := by
  obtain ⟨s, hs⟩ := word_slope
  exact .add (.mul ⟨_, word_half⟩ (.add ⟨1, rfl⟩ (th_real h)))
    (.mul (.mul (.mul ⟨_, word_half⟩ h) (.sub ⟨1, rfl⟩ (.mul (th_real h) (th_real h))))
      (.mul ⟨s, hs⟩ (.add ⟨1, rfl⟩ (.mul (.mul (.coe _) h) h))))

/-- The two forms of the activation's derivative agree on real numbers. -/
theorem geluBack_eq {d x : EReal} (hd : IsReal d) (hx : IsReal x) : geluBack d x = d * slope x := by
  obtain ⟨t, ht⟩ := th_real hx
  obtain ⟨s, hs⟩ := word_slope
  obtain ⟨d, rfl⟩ := hd
  obtain ⟨x, rfl⟩ := hx
  simp only [geluBack, geluInner, slope, ht, outer, hs, half, word_half, word_three, cubic, cubic3, ← EReal.coe_one]
  norm_cast
  ring

/-- The spread of a real row is a positive real. -/
theorem spread_real {f : Fin 1024 → EReal} (hf : ∀ k, IsReal (f k)) : ∃ s : ℝ, 0 < s ∧ spread f = s := by
  choose f' hf using hf
  obtain ⟨e, he, hw⟩ := word_eps
  refine ⟨(∑ k, (f' k - (∑ j, f' j) / 1024) * (f' k - (∑ j, f' j) / 1024)) / 1024 + e, ?_, ?_⟩
  · exact add_pos_of_nonneg_of_pos (div_nonneg (Finset.sum_nonneg fun _ _ => mul_self_nonneg _) (by norm_num)) he
  · simp only [spread, centre, mean, hf, hw, w1024, word_1024, ← coe_sum, div_real _ (show (1024 : ℝ) ≠ 0 by norm_num), ← EReal.coe_sub,
      ← EReal.coe_mul, ← EReal.coe_add]

theorem centre_real {f : Fin 1024 → EReal} (hf : ∀ k, IsReal (f k)) (k : Fin 1024) : IsReal (centre f k) := by
  choose f' hf using hf
  exact ⟨f' k - (∑ j, f' j) / 1024, by
    simp only [centre, mean, hf, w1024, word_1024, ← coe_sum, div_real _ (show (1024 : ℝ) ≠ 0 by norm_num), ← EReal.coe_sub]⟩

theorem hat_real {f : Fin 1024 → EReal} (hf : ∀ k, IsReal (f k)) (k : Fin 1024) : IsReal (hat f k) := by
  obtain ⟨s, hs, e⟩ := spread_real hf
  exact .mul (centre_real hf k) ⟨_, by rw [e, rsqrt_real hs]⟩

/-- The centred row sums to zero. -/
theorem centre_sum (f : Fin 1024 → ℝ) : ∑ k, (f k - (∑ j, f j) / 1024) = 0 := by
  rw [Finset.sum_sub_distrib, Finset.sum_const, Finset.card_univ, Fintype.card_fin]; simp; ring

/-- The two forms of the normalization's gradient agree on real rows. -/
theorem normBackRef_eq {f d : Fin 1024 → EReal} (hf : ∀ k, IsReal (f k)) (hd : ∀ k, IsReal (d k)) (k : Fin 1024) :
    normBackRef f d k = normBack f d k := by
  obtain ⟨s, hs, es⟩ := spread_real hf
  choose f' hf using hf
  choose d' hd using hd
  have hc : ∀ k, centre f k = ((f' k - (∑ j, f' j) / 1024 : ℝ) : EReal) := fun k => by
    simp only [centre, mean, hf, w1024, word_1024, ← coe_sum, div_real _ (show (1024 : ℝ) ≠ 0 by norm_num), ← EReal.coe_sub]
  have h0 := centre_sum f'
  generalize hg : (fun k => f' k - (∑ j, f' j) / 1024) = c at h0
  replace hc : ∀ k, centre f k = (c k : EReal) := fun k => by rw [hc k, ← hg]
  replace h0 : ∑ k, c k = 0 := by rw [← h0, ← hg]
  have hr : (Real.sqrt s)⁻¹ * (Real.sqrt s)⁻¹ = 1 / s := by rw [← mul_inv, Real.mul_self_sqrt hs.le, one_div]
  generalize hR : (Real.sqrt s)⁻¹ = r at hr
  simp only [normBackRef, normBack, varBack, hat, hc, hd, es, rsqrt_real hs, hR, w1024, word_1024, word_inv_1024, word_neg_half, word_two,
    div_real _ (show (1024 : ℝ) ≠ 0 by norm_num), div_real _ hs.ne', ← coe_sum, ← EReal.coe_neg, ← EReal.coe_mul, ← EReal.coe_add,
    ← EReal.coe_sub]
  have e1 : ∀ a : ℝ, ∑ j, -(a * (2 * c j)) = 0 := fun a => by
    have : ∀ j, -(a * (2 * c j)) = (-(2 * a)) * c j := fun j => by ring
    simp only [this, ← Finset.mul_sum, h0, mul_zero]
  have e2 : ∑ j, -(d' j * r) = -((∑ j, d' j) * r) := by rw [Finset.sum_neg_distrib, Finset.sum_mul]
  have e3 : ∑ j, d' j * (c j * r) = (∑ j, c j * d' j) * r := by
    rw [Finset.sum_mul]; exact Finset.sum_congr rfl fun j _ => by ring
  rw [e1, e2, e3, div_eq_mul_one_div r s, ← hr]
  congr 1
  ring

end Cert.GateSpec

end
-- ==== Proof.Gate.Spec.lean ====
/- What the spatial gating's backward call computes, at an index: the gradients of the two halves of the gate's input, of the
   mixing weights and their bias, and of the normalization's scale and shift. Rows come in chunks of 128 that the mixing
   weights act on, columns in 8 groups of 128 with their own weights. -/
module

public import proofs.«01_k».proof.Proof.Gate.Algebra
public import Idealize.ShloMosaic.Lib.Pointwise

@[expose] public section

noncomputable section

open Idealize.ShloMosaic

namespace Cert.GateSpec

abbrev Rows := FVec Ideal ⟨2, ![2048, 1024]⟩ .f32
abbrev Scale := FVec Ideal ⟨2, ![1, 1024]⟩ .f32
abbrev Mixing := FVec Ideal ⟨4, ![1, 8, 128, 128]⟩ .f32
abbrev MixBias := FVec Ideal ⟨3, ![1, 8, 128]⟩ .f32

/-- Row `a` of chunk `n`. -/
def row (n : Fin 16) (a : Fin 128) : Fin 2048 := ⟨n.val * 128 + a.val, by omega⟩
/-- Column `d` of group `g`. -/
def col (g : Fin 8) (d : Fin 128) : Fin 1024 := ⟨g.val * 128 + d.val, by omega⟩
/-- A row's chunk. -/
def chunk (r : Fin 2048) : Fin 16 := ⟨r.val / 128, by omega⟩
/-- A row's place in its chunk. -/
def place (r : Fin 2048) : Fin 128 := ⟨r.val % 128, by omega⟩
/-- A column's group. -/
def grp (k : Fin 1024) : Fin 8 := ⟨k.val / 128, by omega⟩
/-- A column's place in its group. -/
def lane (k : Fin 1024) : Fin 128 := ⟨k.val % 128, by omega⟩

theorem row_chunk_place (r : Fin 2048) : row (chunk r) (place r) = r := Fin.ext (Nat.div_add_mod' _ _)
theorem col_grp_lane (k : Fin 1024) : col (grp k) (lane k) = k := Fin.ext (Nat.div_add_mod' _ _)
theorem chunk_row (n : Fin 16) (a : Fin 128) : chunk (row n a) = n := Fin.ext (by simp only [chunk, row]; omega)
theorem place_row (n : Fin 16) (a : Fin 128) : place (row n a) = a := Fin.ext (by simp only [place, row]; omega)
theorem grp_col (g : Fin 8) (d : Fin 128) : grp (col g d) = g := Fin.ext (by simp only [grp, col]; omega)
theorem lane_col (g : Fin 8) (d : Fin 128) : lane (col g d) = d := Fin.ext (by simp only [lane, col]; omega)

variable (zu zv ct : Rows) (lg lb : Scale) (ws : Mixing) (bs : MixBias)

/-- A row of the activated second half. -/
def act (r : Fin 2048) (k : Fin 1024) : EReal := gelu (zv (ix2 r k))
/-- The normalized, scaled and shifted second half. -/
def vn (r : Fin 2048) (k : Fin 1024) : EReal := hat (act zv r) k * lg (ix2 0 k) + lb (ix2 0 k)
/-- The causal mixing weights of a group. -/
def wm (g : Fin 8) (i j : Fin 128) : EReal := if j ≤ i then ws (ix4 0 g i j) else 0
/-- The mixed rows: row `a` of chunk `n`, column `d` of group `g`. -/
def mixed (n : Fin 16) (a : Fin 128) (g : Fin 8) (d : Fin 128) : EReal :=
  ∑ j, wm ws g a j * vn zv lg lb (row n j) (col g d) + bs (ix3 0 g a)
/-- The gradient of the mixed rows. -/
def dmix (r : Fin 2048) (k : Fin 1024) : EReal := ct (ix2 r k) * gelu (zu (ix2 r k))
/-- The gradient of the normalized rows. -/
def dvn (n : Fin 16) (j : Fin 128) (g : Fin 8) (d : Fin 128) : EReal := ∑ i, wm ws g i j * dmix zu ct (row n i) (col g d)
/-- That gradient times the scale, a whole row. -/
def dhat (r : Fin 2048) (k : Fin 1024) : EReal := dvn zu ct ws (chunk r) (place r) (grp k) (lane k) * lg (ix2 0 k)
/-- The gradient of the first half of the gate's input. -/
def dzu (r : Fin 2048) (k : Fin 1024) : EReal :=
  ct (ix2 r k) * mixed zv lg lb ws bs (chunk r) (place r) (grp k) (lane k) * slope (zu (ix2 r k))
/-- The gradient of the second half of the gate's input. -/
def dzv (r : Fin 2048) (k : Fin 1024) : EReal := normBack (act zv r) (dhat zu ct lg ws r) k * slope (zv (ix2 r k))
/-- The gradient of the mixing weights. -/
def dws (g : Fin 8) (i j : Fin 128) : EReal :=
  ∑ n : Fin 16, if j ≤ i then ∑ d, dmix zu ct (row n i) (col g d) * vn zv lg lb (row n j) (col g d) else 0
/-- The gradient of the mixing bias. -/
def dbs (i : Fin 128) (g : Fin 8) : EReal := ∑ n : Fin 16, ∑ d, dmix zu ct (row n i) (col g d)
/-- The gradient of the normalization's scale. -/
def dlg (k : Fin 1024) : EReal := ∑ n : Fin 16, ∑ j, dvn zu ct ws n j (grp k) (lane k) * hat (act zv (row n j)) k
/-- The gradient of the normalization's shift. -/
def dlb (k : Fin 1024) : EReal := ∑ n : Fin 16, ∑ j, dvn zu ct ws n j (grp k) (lane k)

/-- A sum over all rows, chunk by chunk. -/
theorem sum_rows (f : Fin 2048 → EReal) : ∑ r, f r = ∑ n, ∑ j, f (row n j) := by
  rw [← Fintype.sum_prod_type', ← Equiv.sum_comp ((finProdFinEquiv (m := 16) (n := 128)).trans (finCongr (by norm_num)))]
  exact Finset.sum_congr rfl fun x _ => congrArg f (Fin.ext (by simp [row, finProdFinEquiv]; omega))

/-- A sum over all columns, group by group. -/
theorem sum_cols (f : Fin 1024 → EReal) : ∑ k, f k = ∑ g, ∑ d, f (col g d) := by
  rw [← Fintype.sum_prod_type', ← Equiv.sum_comp ((finProdFinEquiv (m := 8) (n := 128)).trans (finCongr (by norm_num)))]
  exact Finset.sum_congr rfl fun x _ => congrArg f (Fin.ext (by simp [col, finProdFinEquiv]; omega))

/-- Eight planes: the first two computed, the others those of the array handed over. -/
def planes (u v : Fin 2048 → Fin 1024 → EReal) (dz : FVec Ideal ⟨3, ![8, 2048, 1024]⟩ .bf16) : FVec Ideal ⟨3, ![8, 2048, 1024]⟩ .bf16 :=
  fun i => if (i 0).val = 0 then u (i 1) (i 2) else if (i 0).val = 1 then v (i 1) (i 2) else dz i

end Cert.GateSpec

end
-- ==== Proof.Gate.Blocks.lean ====
/- The blocks the gate's kernel loads at a grid point, read as entries of its arguments. -/
module

public import proofs.«01_k».proof.Proof.Gate.Spec
public import proofs.«01_k».proof.Proof.Gen.GateIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen Cert.GateSpec

variable (m : (ℓ : Loc nD τ sig) → Buf (Elt Ideal) ℓ)

/-- Every window's block index at every grid point: point `t` works on the row block `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![0, t.val, 0]
    ∧ win0_7.index t = ![0, 0, 0] ∧ win0_8.index t = ![0, 0] ∧ win0_9.index t = ![0, 0] ∧ win0_10.index t = ![0, 0] :=
  (by decide +kernel : ∀ t : Fin grid0.N, _)

end Cert.GateIdeal.RefValue

end
-- ==== Proof.Gate.Chunk.lean ====
/- One chunk of 128 rows as the kernel computes it, group by group, over arrays of any content, and its entries. -/
module

public import proofs.«01_k».proof.Proof.Gate.Blocks

@[expose] public section

set_option maxRecDepth 16384

noncomputable section

open Idealize.ShloMosaic Idealize.ShloMosaic.TcCoe Idealize.SL.Sem

namespace Cert.GateIdeal.RefValue

open Cert.GateIdeal Cert.GateIdeal.Gen Cert.GateSpec

/-- A chunk's rows. -/
abbrev Chunk := FVec Ideal S128x1024 .f32
/-- A group's square of a chunk. -/
abbrev Square := FVec Ideal S128x128 .f32

/-- The columns of group `g` lie inside a row. -/
theorem slices_group (g : Fin 8) : S128x1024.Slices ![0, g.val * 128] S128x128 := ⟨rfl, fun a => by
  match a with
  | ⟨0, _⟩ => exact (by decide : 0 + 128 ≤ 128)
  | ⟨1, _⟩ => exact (by have := g.isLt; omega : g.val * 128 + 128 ≤ 1024)⟩
/-- The same for a single row. -/
theorem slices_group1 (g : Fin 8) : S1x1024.Slices ![0, g.val * 128] S1x128 := ⟨rfl, fun a => by
  match a with
  | ⟨0, _⟩ => exact (by decide : 0 + 1 ≤ 1)
  | ⟨1, _⟩ => exact (by have := g.isLt; omega : g.val * 128 + 128 ≤ 1024)⟩

variable (g : Fin 8) (dy zu zv : Chunk) (lg lb : FVec Ideal S1x1024 .f32) (W : Fin 8 → FVec Ideal S1x128x128 .f32) (b : FVec Ideal S128x1 .f32)

/-- The columns of group `g`. -/
def groupV {φ : FTy} (v : FVec Ideal S128x1024 φ) : FVec Ideal S128x128 φ := extractStridedSlice S128x128 ![0, g.val * 128] v (slices_group g)
/-- The activation's inner `tanh`. -/
def tanhV (z : Chunk) : Chunk :=
  tanh (mulf (broadcast S128x1024 (Scalar.ofBits .f32 0x3F4C422A#32))
    (addf z (mulf (broadcast S128x1024 (Named.named κ "gelu_cubic" 0x3D372713#32)) (mulf (mulf z z) z))))
/-- The activation. -/
def geluV (z : Chunk) : Chunk :=
  mulf (mulf (broadcast S128x1024 (Scalar.ofBits .f32 0x3F000000#32)) z) (addf (broadcast S128x1024 (Scalar.ofBits .f32 0x3F800000#32)) (tanhV z))
/-- The activation's slope on a square, from the entries and their `tanh`. -/
def slopeV (z t : Square) : Square :=
  addf (mulf (broadcast S128x128 (Scalar.ofBits .f32 0x3F000000#32)) (addf (broadcast S128x128 (Scalar.ofBits .f32 0x3F800000#32)) t))
    (mulf (mulf (mulf (broadcast S128x128 (Scalar.ofBits .f32 0x3F000000#32)) z) (subf (broadcast S128x128 (Scalar.ofBits .f32 0x3F800000#32)) (mulf t t)))
      (mulf (broadcast S128x128 (Scalar.ofBits .f32 0x3F4C422A#32)) (addf (broadcast S128x128 (Scalar.ofBits .f32 0x3F800000#32))
        (mulf (mulf (broadcast S128x128 (Named.named κ "gelu_slope" 0x3E095D4F#32)) z) z))))
/-- The rows less their means. -/
def centreV (z : Chunk) : Chunk :=
  subf (geluV z) (broadcastTo S128x1024 (divf (shapeCast S128x1 (multiReduction .add [1] S128 (geluV z) 0x00000000#32 reduces_S128x1024_S128 (.inl rfl) rfl) shapeCasts_S128_S128x1)
    (broadcast S128x1 (Scalar.ofBits .f32 0x44800000#32))) broadcasts_S128x1_S128x1024)
/-- The reciprocal standard deviations. -/
def rstdV (z : Chunk) : FVec Ideal S128x1 .f32 :=
  rsqrt (addf (divf (shapeCast S128x1 (multiReduction .add [1] S128 (mulf (centreV z) (centreV z)) 0x00000000#32 reduces_S128x1024_S128 (.inl rfl) rfl) shapeCasts_S128_S128x1)
    (broadcast S128x1 (Scalar.ofBits .f32 0x44800000#32))) (broadcast S128x1 (Scalar.ofBits .f32 0x358637BD#32)))
/-- The normalized rows. -/
def hatV (z : Chunk) : Chunk := mulf (centreV z) (broadcastTo S128x1024 (rstdV z) broadcasts_S128x1_S128x1024)
/-- The scaled and shifted rows. -/
def vnV (z : Chunk) : FVec Ideal S128x1024 .bf16 :=
  truncf .bf16 (addf (mulf (hatV z) (broadcastTo S128x1024 lg broadcasts_S1x1024_S128x1024)) (broadcastTo S128x1024 lb broadcasts_S1x1024_S128x1024)) bitsLt_bf16_f32
/-- The masked mixing weights of group `g`. -/
def weightV : FVec Ideal S128x128 .bf16 :=
  truncf .bf16 (select k0_pay6 (shapeCast S128x128 (W g) shapeCasts_S1x128x128_S128x128) (broadcast S128x128 (Scalar.ofBits .f32 0x00000000#32))) bitsLt_bf16_f32
/-- The mixed square. -/
def mixedV (z : Chunk) : Square :=
  addf (matmul dot_S128x128_S128x128_S128x128_1_0_0_1_n_n none (weightV g W) (groupV g (vnV lg lb z)) (constant S128x128 .f32 0x00000000#32))
    (broadcastTo S128x128 (shapeCast S128x1 b shapeCasts_S128x1_S128x1) broadcasts_S128x1_S128x128)
/-- The gradient of the mixed rows. -/
def dmixV (z : Chunk) : Chunk := mulf dy (geluV z)
/-- The gradient of the first half, as it is stored. -/
def duV : FVec Ideal S1x128x128 .bf16 :=
  shapeCast S1x128x128 (truncf .bf16 (mulf (mulf (groupV g dy) (mixedV g lg lb W b zv)) (slopeV (groupV g zu) (groupV g (tanhV zu)))) bitsLt_bf16_f32) shapeCasts_S128x128_S1x128x128
/-- The rounded gradient of the mixed square. -/
def dmV : FVec Ideal S128x128 .bf16 := truncf .bf16 (groupV g (dmixV dy zu)) bitsLt_bf16_f32
/-- The gradient of the normalized square. -/
def dvnV : Square := matmul dot_S128x128_S128x128_S128x128_0_0_1_1_n_n none (weightV g W) (dmV g dy zu) (constant S128x128 .f32 0x00000000#32)
/-- The same, scaled. -/
def dhatV : Square := mulf (dvnV g dy zu W) (broadcastTo S128x128 (extractStridedSlice S1x128 ![0, g.val * 128] lg (slices_group1 g)) broadcasts_S1x128_S128x128)
/-- One group's part of the sum of the scaled gradient. -/
def part1V : FVec Ideal S128x1 .f32 :=
  shapeCast S128x1 (multiReduction .add [1] S128 (dhatV g dy zu lg W) 0x00000000#32 reduces_S128x128_S128 (.inl rfl) rfl) shapeCasts_S128_S128x1
/-- One group's part of the sum of the scaled gradient times the normalized rows. -/
def part2V : FVec Ideal S128x1 .f32 :=
  shapeCast S128x1 (multiReduction .add [1] S128 (mulf (dhatV g dy zu lg W) (groupV g (hatV zv))) 0x00000000#32 reduces_S128x128_S128 (.inl rfl) rfl) shapeCasts_S128_S128x1
/-- Eight parts added up from the first on. -/
def chainV (p : Fin 8 → FVec Ideal S128x1 .f32) : FVec Ideal S128x1 .f32 :=
  addf (addf (addf (addf (addf (addf (addf (p 0) (p 1)) (p 2)) (p 3)) (p 4)) (p 5)) (p 6)) (p 7)
/-- The first row mean. -/
def mean1V : FVec Ideal S128x1 .f32 := mulf (chainV fun g => part1V g dy zu lg W) (broadcast S128x1 (Scalar.ofBits .f32 0x3A800000#32))
/-- The second row mean. -/
def mean2V : FVec Ideal S128x1 .f32 := mulf (chainV fun g => part2V g dy zu zv lg W) (broadcast S128x1 (Scalar.ofBits .f32 0x3A800000#32))
/-- The gradient of the second half, as it is stored. -/
def dvV : FVec Ideal S1x128x128 .bf16 :=
  shapeCast S1x128x128 (truncf .bf16 (mulf (mulf (broadcastTo S128x128 (rstdV zv) broadcasts_S128x1_S128x128)
    (subf (subf (dhatV g dy zu lg W) (broadcastTo S128x128 (mean1V dy zu lg W) broadcasts_S128x1_S128x128))
      (mulf (groupV g (hatV zv)) (broadcastTo S128x128 (mean2V dy zu zv lg W) broadcasts_S128x1_S128x128))))
    (slopeV (groupV g zv) (groupV g (tanhV zv)))) bitsLt_bf16_f32) shapeCasts_S128x128_S1x128x128
/-- A chunk's addition to the mixing weights' gradient. -/
def addW (old : FVec Ideal S1x128x128 .f32) : FVec Ideal S1x128x128 .f32 :=
  shapeCast S1x128x128 (addf (shapeCast S128x128 old shapeCasts_S1x128x128_S128x128)
    (select k0_pay6 (matmul dot_S128x128_S128x128_S128x128_1_1_0_0_n_n none (dmV g dy zu) (groupV g (vnV lg lb zv)) (constant S128x128 .f32 0x00000000#32))
      (broadcast S128x128 (Scalar.ofBits .f32 0x00000000#32)))) shapeCasts_S128x128_S1x128x128
/-- A chunk's addition to the mixing bias's gradient. -/
def addB (old : FVec Ideal S128x1 .f32) : FVec Ideal S128x1 .f32 :=
  addf (shapeCast S128x1 old shapeCasts_S128x1_S128x1)
    (shapeCast S128x1 (multiReduction .add [1] S128 (groupV g (dmixV dy zu)) 0x00000000#32 reduces_S128x128_S128 (.inl rfl) rfl) shapeCasts_S128_S128x1)
/-- A chunk's addition to the scale's gradient. -/
def addG (old : FVec Ideal S1x128 .f32) : FVec Ideal S1x128 .f32 :=
  addf (shapeCast S1x128 old shapeCasts_S1x128_S1x128)
    (shapeCast S1x128 (multiReduction .add [0] S128 (mulf (dvnV g dy zu W) (groupV g (hatV zv))) 0x00000000#32 reduces_S128x128_S128_2 (.inl rfl) rfl) shapeCasts_S128_S1x128)
/-- A chunk's addition to the shift's gradient. -/
def addH (old : FVec Ideal S1x128 .f32) : FVec Ideal S1x128 .f32 :=
  addf (shapeCast S1x128 old shapeCasts_S1x128_S1x128)
    (shapeCast S1x128 (multiReduction .add [0] S128 (dvnV g dy zu W) 0x00000000#32 reduces_S128x128_S128_2 (.inl rfl) rfl) shapeCasts_S128_S1x128)

end Cert.GateIdeal.RefValue

end
-- ==== Proof.Gate.Entries.lean ====
/- The entries of what the kernel computes of one chunk, given what its loaded rows hold. -/
module

public import proofs.«01_k».proof.Proof.Gate.Chunk

@[expose] public section

set_option maxRecDepth 16384

noncomputable section

open Idealize.ShloMosaic Idealize.ShloMosaic.TcCoe Idealize.SL.Sem

namespace Cert.GateIdeal.RefValue

open Cert.GateIdeal Cert.GateIdeal.Gen Cert.GateSpec

/-- The kernel's causal mask, decided place by place. -/
theorem causal : ∀ i j : Fin 128, IntOp.cmpi CmpIPredicate.sge (BitVec.ofNat 32 i.val) (BitVec.ofNat 32 j.val) = if j ≤ i then 1#1 else 0#1 := by
  decide +kernel

theorem named_cubic : Named.named (F := Ideal) κ "gelu_cubic" (φ := .f32) 0x3D372713#32 = cubic :=
  IdealRules.named_const.ideal_named_scalar _ _ _ _ rfl
theorem named_slope : Named.named (F := Ideal) κ "gelu_slope" (φ := .f32) 0x3E095D4F#32 = cubic3 :=
  IdealRules.named_const.ideal_named_scalar _ _ _ _ rfl

/-- What a chunk's loaded arrays hold: rows of chunk `n` of the gate's arguments. -/
structure Loads (n : Fin 16) (ZU ZV CT : Rows) (LG LB : Scale) (WS : Mixing)
    (dy zu zv : Chunk) (lg lb : FVec Ideal S1x1024 .f32) (W : Fin 8 → FVec Ideal S1x128x128 .f32) : Prop where
  dy : ∀ a k, dy (ix2 a k) = CT (ix2 (row n a) k)
  zu : ∀ a k, zu (ix2 a k) = ZU (ix2 (row n a) k)
  zv : ∀ a k, zv (ix2 a k) = ZV (ix2 (row n a) k)
  lg : ∀ k, lg (ix2 0 k) = LG (ix2 0 k)
  lb : ∀ k, lb (ix2 0 k) = LB (ix2 0 k)
  w : ∀ g i j, W g (ix3 0 i j) = WS (ix4 0 g i j)

variable {n : Fin 16} {ZU ZV CT : Rows} {LG LB : Scale} {WS : Mixing}
    {dy zu zv : Chunk} {lg lb : FVec Ideal S1x1024 .f32} {W : Fin 8 → FVec Ideal S1x128x128 .f32} {b : FVec Ideal S128x1 .f32}

theorem groupV_at (g : Fin 8) {φ : FTy} (v : FVec Ideal S128x1024 φ) (a d : Fin 128) : groupV g v (ix2 a d) = v (ix2 a (col g d)) := by
  pointwise [groupV]
  exact congrArg v (by blk_ext [col])
theorem tanhV_at (z : Chunk) (a : Fin 128) (k : Fin 1024) : tanhV z (ix2 a k) = th (z (ix2 a k)) := by
  pointwise [tanhV, th]
  rw [named_cubic]
theorem geluV_at (z : Chunk) (a : Fin 128) (k : Fin 1024) : geluV z (ix2 a k) = gelu (z (ix2 a k)) := by
  pointwise [geluV, gelu]
  rw [tanhV_at]
theorem slopeV_at (z t : Square) (x : EReal) (a d : Fin 128) (hz : z (ix2 a d) = x) (ht : t (ix2 a d) = th x) : slopeV z t (ix2 a d) = slope x := by
  pointwise [slopeV, Cert.GateSpec.slope]
  rw [named_slope, hz, ht]
theorem centreV_at (z : Chunk) (a : Fin 128) (k : Fin 1024) : centreV z (ix2 a k) = centre (fun k => gelu (z (ix2 a k))) k := by
  pointwise [centreV, centre, mean]
  simp only [geluV_at]
theorem rstdV_at (z : Chunk) (a : Fin 128) : rstdV z (ix2 a 0) = Ideal.rsqrt (spread (fun k => gelu (z (ix2 a k)))) := by
  pointwise [rstdV, spread, mean]
  simp only [centreV_at]
theorem hatV_at (z : Chunk) (a : Fin 128) (k : Fin 1024) : hatV z (ix2 a k) = hat (fun k => gelu (z (ix2 a k))) k := by
  pointwise [hatV, hat]
  rw [centreV_at, rstdV_at]
theorem vnV_at (h : Loads n ZU ZV CT LG LB WS dy zu zv lg lb W) (a : Fin 128) (k : Fin 1024) : vnV lg lb zv (ix2 a k) = vn ZV LG LB (row n a) k := by
  pointwise [vnV, vn]
  rw [hatV_at, h.lg, h.lb]
  simp only [h.zv]; rfl
theorem weightV_at (h : Loads n ZU ZV CT LG LB WS dy zu zv lg lb W) (g : Fin 8) (i j : Fin 128) : weightV g W (ix2 i j) = wm WS g i j := by
  pointwise [weightV, wm, k0_pay6]
  rw [causal, h.w]; split <;> rfl
theorem mixedV_at (h : Loads n ZU ZV CT LG LB WS dy zu zv lg lb W) {BS : MixBias} (g : Fin 8) (hb : ∀ a, b (ix2 a 0) = BS (ix3 0 g a)) (a d : Fin 128) :
    mixedV g lg lb W b zv (ix2 a d) = mixed ZV LG LB WS BS n a g d := by
  pointwise [mixedV, mixed]
  simp only [groupV_at, vnV_at h, weightV_at h, hb]
theorem dmixV_at (h : Loads n ZU ZV CT LG LB WS dy zu zv lg lb W) (a : Fin 128) (k : Fin 1024) : dmixV dy zu (ix2 a k) = dmix ZU CT (row n a) k := by
  pointwise [dmixV, dmix]
  rw [geluV_at, h.dy, h.zu]
/-- The first half's gradient, as stored. -/
theorem duV_at (h : Loads n ZU ZV CT LG LB WS dy zu zv lg lb W) {BS : MixBias} (g : Fin 8) (hb : ∀ a, b (ix2 a 0) = BS (ix3 0 g a)) (o : Fin 1) (a d : Fin 128) :
    duV g dy zu zv lg lb W b (ix3 o a d) = dzu ZU ZV CT LG LB WS BS (row n a) (col g d) := by
  pointwise [duV, dzu]
  rw [groupV_at, mixedV_at h g hb, slopeV_at _ _ _ a d (groupV_at g zu a d) ((groupV_at g _ a d).trans (tanhV_at _ _ _)), h.dy, h.zu,
    chunk_row, place_row, grp_col, lane_col]
theorem dvnV_at (h : Loads n ZU ZV CT LG LB WS dy zu zv lg lb W) (g : Fin 8) (j d : Fin 128) : dvnV g dy zu W (ix2 j d) = dvn ZU CT WS n j g d := by
  pointwise [dvnV, dvn, dmV]
  simp only [groupV_at, dmixV_at h, weightV_at h]
theorem dhatV_at (h : Loads n ZU ZV CT LG LB WS dy zu zv lg lb W) (g : Fin 8) (j d : Fin 128) : dhatV g dy zu lg W (ix2 j d) = dhat ZU CT LG WS (row n j) (col g d) := by
  pointwise [dhatV, dhat]
  rw [dvnV_at h, chunk_row, place_row, grp_col, lane_col, ← h.lg]
  exact congrArg (fun k => _ * lg (ix2 0 k)) (by blk_ext [col])
theorem part1V_at (h : Loads n ZU ZV CT LG LB WS dy zu zv lg lb W) (g : Fin 8) (a : Fin 128) :
    part1V g dy zu lg W (ix2 a 0) = ∑ d, dhat ZU CT LG WS (row n a) (col g d) := by
  pointwise [part1V]
  simp only [dhatV_at h]
theorem part2V_at (h : Loads n ZU ZV CT LG LB WS dy zu zv lg lb W) (g : Fin 8) (a : Fin 128) :
    part2V g dy zu zv lg W (ix2 a 0) = ∑ d, dhat ZU CT LG WS (row n a) (col g d) * hat (act ZV (row n a)) (col g d) := by
  pointwise [part2V]
  simp only [dhatV_at h, groupV_at, hatV_at, h.zv]; rfl
/-- Eight parts added up are their sum. -/
theorem chainV_at (p : Fin 8 → FVec Ideal S128x1 .f32) (a : Fin 128) : chainV p (ix2 a 0) = ∑ g, p g (ix2 a 0) := by
  pointwise [chainV]
  exact (Fin.sum_univ_eight fun g => p g (ix2 a 0)).symm
theorem mean1V_at (h : Loads n ZU ZV CT LG LB WS dy zu zv lg lb W) (a : Fin 128) :
    mean1V dy zu lg W (ix2 a 0) = (∑ k, dhat ZU CT LG WS (row n a) k) * Ideal.ofBits .f32 0x3A800000#32 := by
  pointwise [mean1V]
  rw [chainV_at, sum_cols]
  simp only [part1V_at h]
theorem mean2V_at (h : Loads n ZU ZV CT LG LB WS dy zu zv lg lb W) (a : Fin 128) :
    mean2V dy zu zv lg W (ix2 a 0) = (∑ k, dhat ZU CT LG WS (row n a) k * hat (act ZV (row n a)) k) * Ideal.ofBits .f32 0x3A800000#32 := by
  pointwise [mean2V]
  rw [chainV_at, sum_cols]
  simp only [part2V_at h]
/-- The second half's gradient, as stored. -/
theorem dvV_at (h : Loads n ZU ZV CT LG LB WS dy zu zv lg lb W) (g : Fin 8) (o : Fin 1) (a d : Fin 128) :
    dvV g dy zu zv lg W (ix3 o a d) = dzv ZU ZV CT LG WS (row n a) (col g d) := by
  pointwise [dvV, dzv, normBack]
  rw [slopeV_at _ _ _ a d (groupV_at g zv a d) ((groupV_at g _ a d).trans (tanhV_at _ _ _)), rstdV_at, dhatV_at h, mean1V_at h, groupV_at, hatV_at, mean2V_at h, h.zv]
  simp only [h.zv]; rfl
theorem addW_at (h : Loads n ZU ZV CT LG LB WS dy zu zv lg lb W) (g : Fin 8) (old) (o : Fin 1) (i j : Fin 128) :
    addW g dy zu zv lg lb old (ix3 0 i j) = old (ix3 0 i j)
      + if j ≤ i then ∑ d, dmix ZU CT (row n i) (col g d) * vn ZV LG LB (row n j) (col g d) else 0 := by
  pointwise [addW, dmV, k0_pay6]
  rw [causal]
  simp only [groupV_at, dmixV_at h, vnV_at h]
  split <;> rfl
theorem addB_at (h : Loads n ZU ZV CT LG LB WS dy zu zv lg lb W) (g : Fin 8) (old) (a : Fin 128) (o : Fin 1) :
    addB g dy zu old (ix2 a o) = old (ix2 a o) + ∑ d, dmix ZU CT (row n a) (col g d) := by
  pointwise [addB]
  simp only [groupV_at, dmixV_at h]
theorem addG_at (h : Loads n ZU ZV CT LG LB WS dy zu zv lg lb W) (g : Fin 8) (old) (o : Fin 1) (d : Fin 128) :
    addG g dy zu zv W old (ix2 o d) = old (ix2 o d) + ∑ j, dvn ZU CT WS n j g d * hat (act ZV (row n j)) (col g d) := by
  pointwise [addG]
  simp only [groupV_at, dvnV_at h, hatV_at, h.zv]; rfl
theorem addH_at (h : Loads n ZU ZV CT LG LB WS dy zu zv lg lb W) (g : Fin 8) (old) (o : Fin 1) (d : Fin 128) :
    addH g dy zu W old (ix2 o d) = old (ix2 o d) + ∑ j, dvn ZU CT WS n j g d := by
  pointwise [addH]
  simp only [dvnV_at h]

end Cert.GateIdeal.RefValue

end
-- ==== Proof.Gate.Loads.lean ====
/- What the kernel loads of its blocks at a grid point: rows of the gate's arguments. -/
module

public import proofs.«01_k».proof.Proof.Gate.Entries

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen Cert.GateSpec

variable (m : (ℓ : Loc nD τ sig) → Buf (Elt Ideal) ℓ)

theorem inb_dy (q : Fin 4) : ∀ a, (![q.val * 128, 0] : Fin 2 → Nat) a + S128x1024.size a ≤ S512x1024.size a := fun a => by
  match a with
  | ⟨0, _⟩ => exact (by have := q.isLt; omega : q.val * 128 + 128 ≤ 512)
  | ⟨1, _⟩ => exact (by decide : 0 + 1024 ≤ 1024)
theorem inb_zu (q : Fin 4) : ∀ a, (![q.val * 128, 0] : Fin 2 → Nat) a + S128x1024.size a ≤ S512x2048.size a := fun a => by
  match a with
  | ⟨0, _⟩ => exact (by have := q.isLt; omega : q.val * 128 + 128 ≤ 512)
  | ⟨1, _⟩ => exact (by decide : 0 + 1024 ≤ 2048)
theorem inb_zv (q : Fin 4) : ∀ a, (![q.val * 128, 1024] : Fin 2 → Nat) a + S128x1024.size a ≤ S512x2048.size a := fun a => by
  match a with
  | ⟨0, _⟩ => exact (by have := q.isLt; omega : q.val * 128 + 128 ≤ 512)
  | ⟨1, _⟩ => exact (by decide : 1024 + 1024 ≤ 2048)
theorem inb_w (g : Fin 8) : ∀ a, (![g.val, 0, 0] : Fin 3 → Nat) a + S1x128x128.size a ≤ S8x128x128.size a := fun a => by
  match a with
  | ⟨0, _⟩ => exact (by have := g.isLt; omega : g.val + 1 ≤ 8)
  | ⟨1, _⟩ => exact (by decide : 0 + 128 ≤ 128)
  | ⟨2, _⟩ => exact (by decide : 0 + 128 ≤ 128)
theorem inb_b (g : Fin 8) : ∀ a, (![0, g.val] : Fin 2 → Nat) a + S128x1.size a ≤ S128x8.size a := fun a => by
  match a with
  | ⟨0, _⟩ => exact (by decide : 0 + 128 ≤ 128)
  | ⟨1, _⟩ => exact (by have := g.isLt; omega : g.val + 1 ≤ 8)
theorem inb_g (g : Fin 8) : ∀ a, (![0, g.val * 128] : Fin 2 → Nat) a + S1x128.size a ≤ S1x1024.size a := fun a => by
  match a with
  | ⟨0, _⟩ => exact (by decide : 0 + 1 ≤ 1)
  | ⟨1, _⟩ => exact (by have := g.isLt; omega : g.val * 128 + 128 ≤ 1024)

variable (c : Dev nD) (t : Fin cfg0.N) (q : Fin 4) (g : Fin 8)

/-- Chunk `q` of the cotangent's block. -/
def dyB : Chunk := View.ld (iblk m c 0 t) (Rect.unit ![q.val * 128, 0] ![128, 1024] (inb_dy q))
/-- Chunk `q` of the first half's block. -/
def zuB : Chunk := shapeCast S128x1024 (View.ld (iblk m c 1 t) (Rect.unit ![q.val * 128, 0] ![128, 1024] (inb_zu q))) shapeCasts_S128x1024_S128x1024
/-- Chunk `q` of the second half's block. -/
def zvB : Chunk := shapeCast S128x1024 (View.ld (iblk m c 1 t) (Rect.unit ![q.val * 128, 1024] ![128, 1024] (inb_zv q))) shapeCasts_S128x1024_S128x1024
/-- The mixing weights of a group. -/
def wB : FVec Ideal S1x128x128 .f32 := View.ld (iblk m c 4 t) (Rect.unit ![g.val, 0, 0] ![1, 128, 128] (inb_w g))
/-- The mixing bias of a group. -/
def bB : FVec Ideal S128x1 .f32 := View.ld (iblk m c 5 t) (Rect.unit ![0, g.val] ![128, 1] (inb_b g))

/-- The number of chunk `q` of row block `t`. -/
def chunkNo : Fin 16 := ⟨t.val * 4 + q.val, by have : t.val < 4 := t.isLt; omega⟩

theorem dyB_at (a : Fin 128) (k : Fin 1024) : dyB m c t q (ix2 a k) = (m ((c : Thread nD τ).loc main_arg7) : FVec Ideal S2048x1024 .f32) (ix2 (row (chunkNo t q) a) k) := by
  pointwise [dyB]
  blk_simp [iblk, V, idx t]
  entry_read
  pointwise
  blk_ext [idx t, row, chunkNo]
theorem zuB_at (a : Fin 128) (k : Fin 1024) : zuB m c t q (ix2 a k) = (m ((c : Thread nD τ).loc main_arg0) : FVec Ideal S2048x1024 .f32) (ix2 (row (chunkNo t q) a) k) := by
  pointwise [zuB]
  blk_simp [iblk, V, idx t]
  entry_read
  rw [show ((View.whole main_v0).slice (win0_1.rect t)).emb (ix2 ⟨q.val * 128 + a.val, by omega⟩ ⟨k.val, by omega⟩)
    = (ix2 (row (chunkNo t q) a) ⟨k.val, by omega⟩ : S2048x2048.Idx) from by blk_ext [idx t, row, chunkNo]]
  pointwise
theorem zvB_at (a : Fin 128) (k : Fin 1024) : zvB m c t q (ix2 a k) = (m ((c : Thread nD τ).loc main_arg1) : FVec Ideal S2048x1024 .f32) (ix2 (row (chunkNo t q) a) k) := by
  pointwise [zvB]
  blk_simp [iblk, V, idx t]
  entry_read
  rw [show ((View.whole main_v0).slice (win0_1.rect t)).emb (ix2 ⟨q.val * 128 + a.val, by omega⟩ ⟨1024 + k.val, by omega⟩)
    = (ix2 (row (chunkNo t q) a) ⟨1024 + k.val, by omega⟩ : S2048x2048.Idx) from by blk_ext [idx t, row, chunkNo]]
  pointwise
theorem lg_at (k : Fin 1024) : (iblk m c 2 t : FVec Ideal S1x1024 .f32) (ix2 0 k) = (m ((c : Thread nD τ).loc main_arg2) : FVec Ideal S1x1024 .f32) (ix2 0 k) := by
  blk_simp [iblk, V, idx t]
  entry_read
  pointwise
  blk_ext [idx t]
theorem lb_at (k : Fin 1024) : (iblk m c 3 t : FVec Ideal S1x1024 .f32) (ix2 0 k) = (m ((c : Thread nD τ).loc main_arg3) : FVec Ideal S1x1024 .f32) (ix2 0 k) := by
  blk_simp [iblk, V, idx t]
  entry_read
  pointwise
  blk_ext [idx t]
theorem wB_at (i j : Fin 128) : wB m c t g (ix3 0 i j) = (m ((c : Thread nD τ).loc main_arg4) : FVec Ideal S1x8x128x128 .f32) (ix4 0 g i j) := by
  pointwise [wB]
  blk_simp [iblk, V, idx t]
  entry_read
  pointwise
  blk_ext [idx t]
theorem bB_at (a : Fin 128) : bB m c t g (ix2 a 0) = (m ((c : Thread nD τ).loc main_arg5) : FVec Ideal S1x8x128 .f32) (ix3 0 g a) := by
  pointwise [bB]
  blk_simp [iblk, V, idx t]
  entry_read
  pointwise
  blk_ext [idx t]

/-- What the loads of chunk `q` at point `t` hold. -/
theorem loads : Loads (chunkNo t q) (m ((c : Thread nD τ).loc main_arg0)) (m ((c : Thread nD τ).loc main_arg1)) (m ((c : Thread nD τ).loc main_arg7))
    (m ((c : Thread nD τ).loc main_arg2)) (m ((c : Thread nD τ).loc main_arg3)) (m ((c : Thread nD τ).loc main_arg4))
    (dyB m c t q) (zuB m c t q) (zvB m c t q) (iblk m c 2 t) (iblk m c 3 t) (wB m c t) :=
  ⟨dyB_at m c t q, zuB_at m c t q, zvB_at m c t q, lg_at m c t, lb_at m c t, wB_at m c t⟩

end Cert.GateIdeal.RefValue

end
-- ==== Proof.Gate.Planes.lean ====
/- The two planes of gradients the kernel stores, and the planes it leaves alone. -/
module

public import proofs.«01_k».proof.Proof.Gate.Loads

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen Cert.GateSpec

variable (m : (ℓ : Loc nD τ sig) → Buf (Elt Ideal) ℓ) (c : Dev nD) (t : Fin cfg0.N) (q : Fin 4) (g : Fin 8)

/-- The first half's gradient as a function of the kernel's arguments. -/
abbrev dzuOf : Fin 2048 → Fin 1024 → EReal :=
  dzu (m ((c : Thread nD τ).loc main_arg0)) (m ((c : Thread nD τ).loc main_arg1)) (m ((c : Thread nD τ).loc main_arg7))
    (m ((c : Thread nD τ).loc main_arg2)) (m ((c : Thread nD τ).loc main_arg3)) (m ((c : Thread nD τ).loc main_arg4)) (m ((c : Thread nD τ).loc main_arg5))
/-- The second half's gradient as a function of the kernel's arguments. -/
abbrev dzvOf : Fin 2048 → Fin 1024 → EReal :=
  dzv (m ((c : Thread nD τ).loc main_arg0)) (m ((c : Thread nD τ).loc main_arg1)) (m ((c : Thread nD τ).loc main_arg7))
    (m ((c : Thread nD τ).loc main_arg2)) (m ((c : Thread nD τ).loc main_arg4))

/-- The square stored into plane 0. -/
def uP : FVec Ideal S1x128x128 .bf16 := duV g (dyB m c t q) (zuB m c t q) (zvB m c t q) (iblk m c 2 t) (iblk m c 3 t) (wB m c t) (bB m c t g)
/-- The square stored into plane 1. -/
def vP : FVec Ideal S1x128x128 .bf16 := dvV g (dyB m c t q) (zuB m c t q) (zvB m c t q) (iblk m c 2 t) (wB m c t)

theorem uP_at (y : S1x128x128.Idx) (r : Fin 2048) (k : Fin 1024) (hr : r.val = t.val * 512 + q.val * 128 + (y 1).val) (hk : k.val = g.val * 128 + (y 2).val) :
    uP m c t q g y = dzuOf m c r k := by
  obtain ⟨o, a, d, rfl⟩ : ∃ (o : Fin 1) (a d : Fin 128), y = ix3 o a d := ⟨y 0, y 1, y 2, by blk_ext⟩
  rw [show r = row (chunkNo t q) a from Fin.ext (by rw [hr]; show _ = (t.val * 4 + q.val) * 128 + a.val; show _ + a.val = _; omega),
    show k = col g d from Fin.ext hk]
  exact duV_at (loads m c t q) g (bB_at m c t g) o a d
theorem vP_at (y : S1x128x128.Idx) (r : Fin 2048) (k : Fin 1024) (hr : r.val = t.val * 512 + q.val * 128 + (y 1).val) (hk : k.val = g.val * 128 + (y 2).val) :
    vP m c t q g y = dzvOf m c r k := by
  obtain ⟨o, a, d, rfl⟩ : ∃ (o : Fin 1) (a d : Fin 128), y = ix3 o a d := ⟨y 0, y 1, y 2, by blk_ext⟩
  rw [show r = row (chunkNo t q) a from Fin.ext (by rw [hr]; show _ = (t.val * 4 + q.val) * 128 + a.val; show _ + a.val = _; omega),
    show k = col g d from Fin.ext hk]
  exact dvV_at (loads m c t q) g o a d

/-- Plane `p` of the two computed planes. -/
def planeOf (p : Fin 8) : Fin 2048 → Fin 1024 → EReal := if p.val = 0 then dzuOf m c else dzvOf m c

/-- A stored square lies in the two planes' block: its entries, from the offsets it is stored at. -/
theorem uP_plane (oq og : Nat) (hq : oq < 512 ∧ oq % 128 = 0) (hg : og < 1024 ∧ og % 128 = 0) (y : S1x128x128.Idx) (p : Fin 8) (r : Fin 2048) (k : Fin 1024)
    {a b : Nat} (hp : p.val = (y 0).val)
    (hr : r.val = t.val * 512 + a) (h1 : a = oq + (y 1).val) (hk : k.val = b) (h2 : b = og + (y 2).val) :
    uP m c t ⟨oq / 128, by omega⟩ ⟨og / 128, by omega⟩ y = planeOf m c p r k := by
  rw [planeOf, if_pos (by have : (y 0).val < 1 := (y 0).isLt; omega)]
  exact uP_at m c t _ _ y r k (by show _ = _ + oq / 128 * 128 + _; omega) (by show _ = og / 128 * 128 + _; omega)
theorem vP_plane (oq og : Nat) (hq : oq < 512 ∧ oq % 128 = 0) (hg : og < 1024 ∧ og % 128 = 0) (y : S1x128x128.Idx) (p : Fin 8) (r : Fin 2048) (k : Fin 1024)
    {a b : Nat} (hp : p.val = 1 + (y 0).val)
    (hr : r.val = t.val * 512 + a) (h1 : a = oq + (y 1).val) (hk : k.val = b) (h2 : b = og + (y 2).val) :
    vP m c t ⟨oq / 128, by omega⟩ ⟨og / 128, by omega⟩ y = planeOf m c p r k := by
  rw [planeOf, if_neg (by omega)]
  exact vP_at m c t _ _ y r k (by show _ = _ + oq / 128 * 128 + _; omega) (by show _ = og / 128 * 128 + _; omega)

set_option maxHeartbeats 8000000 in
/-- The block of the two planes at a grid point. -/
theorem dz_block (y : S2x512x1024.Idx) (p : Fin 8) (r : Fin 2048) (k : Fin 1024) (hp : p.val = (y 0).val) (hr : r.val = t.val * 512 + (y 1).val) (hk : k.val = (y 2).val) :
    (outsAt0 m c t.val t.isLt).1 y = planeOf m c p r k := by
  by_cases h : t.val % 4 = 0
  · rw [outsAt0_A m c t h]
    frame_out
    canon_tiles y
    all_goals first
      | (have e := vP_plane m c t _ _ (by decide) (by decide) y p r k (hp.trans h0) hr h1 hk h2; exact e)
      | (have e := vP_plane m c t _ 0 (by decide) (by decide) y p r k (hp.trans h0) hr h1 hk (h2.trans (Nat.zero_add _).symm); exact e)
      | (have e := vP_plane m c t 0 _ (by decide) (by decide) y p r k (hp.trans h0) hr (h1.trans (Nat.zero_add _).symm) hk h2; exact e)
      | (have e := vP_plane m c t 0 0 (by decide) (by decide) y p r k (hp.trans h0) hr (h1.trans (Nat.zero_add _).symm) hk (h2.trans (Nat.zero_add _).symm); exact e)
      | (have e := uP_plane m c t _ _ (by decide) (by decide) y p r k (hp.trans h0) hr h1 hk h2; exact e)
      | (have e := uP_plane m c t _ 0 (by decide) (by decide) y p r k (hp.trans h0) hr h1 hk (h2.trans (Nat.zero_add _).symm); exact e)
      | (have e := uP_plane m c t 0 _ (by decide) (by decide) y p r k (hp.trans h0) hr (h1.trans (Nat.zero_add _).symm) hk h2; exact e)
      | (have e := uP_plane m c t 0 0 (by decide) (by decide) y p r k (hp.trans h0) hr (h1.trans (Nat.zero_add _).symm) hk (h2.trans (Nat.zero_add _).symm); exact e)
  · rw [outsAt0_B m c t h]
    frame_out
    canon_tiles y
    all_goals first
      | (have e := vP_plane m c t _ _ (by decide) (by decide) y p r k (hp.trans h0) hr h1 hk h2; exact e)
      | (have e := vP_plane m c t _ 0 (by decide) (by decide) y p r k (hp.trans h0) hr h1 hk (h2.trans (Nat.zero_add _).symm); exact e)
      | (have e := vP_plane m c t 0 _ (by decide) (by decide) y p r k (hp.trans h0) hr (h1.trans (Nat.zero_add _).symm) hk h2; exact e)
      | (have e := vP_plane m c t 0 0 (by decide) (by decide) y p r k (hp.trans h0) hr (h1.trans (Nat.zero_add _).symm) hk (h2.trans (Nat.zero_add _).symm); exact e)
      | (have e := uP_plane m c t _ _ (by decide) (by decide) y p r k (hp.trans h0) hr h1 hk h2; exact e)
      | (have e := uP_plane m c t _ 0 (by decide) (by decide) y p r k (hp.trans h0) hr h1 hk (h2.trans (Nat.zero_add _).symm); exact e)
      | (have e := uP_plane m c t 0 _ (by decide) (by decide) y p r k (hp.trans h0) hr (h1.trans (Nat.zero_add _).symm) hk h2; exact e)
      | (have e := uP_plane m c t 0 0 (by decide) (by decide) y p r k (hp.trans h0) hr (h1.trans (Nat.zero_add _).symm) hk (h2.trans (Nat.zero_add _).symm); exact e)

/-- The planes the kernel's run leaves: the two gradients, and elsewhere the planes handed over. -/
theorem final_dz : (dats m 0 c).arrAt 6 cfg0.N = planes (dzuOf m c) (dzvOf m c) (m ((c : Thread nD τ).loc main_arg6)) := by
  funext i
  obtain ⟨p, r, k, rfl⟩ : ∃ (p : Fin 8) (r : Fin 2048) (k : Fin 1024), i = ix3 p r k := ⟨i 0, i 1, i 2, by blk_ext⟩
  refine ((dats m 0 c).arrAt_apply_of_coversWhere 6 (fun i => planeOf m c (i 0) (i 1) (i 2)) (fun β => β 0 = 0)
    (by decide +kernel) (fun t hf y => ?_) (P := fun i => (i 0).val / 2 = 0) (fun _ => Iff.rfl) (ix3 p r k)).trans ?_
  · blk_simp
    rw [after0_6]
    exact dz_block m c t y _ _ _ (by blk_simp [idx t]) (by blk_simp [idx t]) (by blk_simp [idx t])
  · show (if p.val / 2 = 0 then planeOf m c p r k else (dats m 0 c).A 6 (ix3 p r k)) = if p.val = 0 then dzuOf m c r k else if p.val = 1 then dzvOf m c r k else _
    by_cases h0 : p.val = 0
    · rw [if_pos (by omega), if_pos h0, planeOf, if_pos h0]
    · by_cases h1 : p.val = 1
      · rw [if_pos (by omega), if_neg h0, if_pos h1, planeOf, if_neg h0]
      · rw [if_neg (by omega), if_neg h0, if_neg h1]
        rw [A_eq]
        blk_simp [V]
        entry_read
        pointwise

end Cert.GateIdeal.RefValue

end
-- ==== Proof.Gate.Sums.lean ====
/- The gradients of the normalization's scale and shift, summed over all rows chunk by chunk as the kernel does. -/
module

public import proofs.«01_k».proof.Proof.Gate.Loads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen Cert.GateSpec

variable (m : (ℓ : Loc nD τ sig) → Buf (Elt Ideal) ℓ) (c : Dev nD) (t : Fin cfg0.N) (g : Fin 8)

/-- Four steps, the first innermost. -/
def four {α : Type} (f : Fin 4 → α → α) (x : α) : α := f 3 (f 2 (f 1 (f 0 x)))

/-- Four steps that each add something to an entry add the sum. -/
theorem four_at {α : Type} (f : Fin 4 → α → α) (e : α → EReal) (s : Fin 4 → EReal) (h : ∀ q x, e (f q x) = e x + s q) (x : α) :
    e (four f x) = e x + ∑ q, s q := by
  rw [four, h, h, h, h, Fin.sum_univ_four, ← add_assoc, ← add_assoc, ← add_assoc]

/-- Four chunks at each of four grid points are all sixteen chunks. -/
theorem sum_chunks (f : Fin 16 → EReal) : ∑ t : Fin cfg0.N, ∑ q : Fin 4, f (chunkNo t q) = ∑ n, f n :=
  Fin.sum_mul_add_congr fun t q h => rfl

/-- Zeros, before the first row block. -/
def zeroScale : FVec Ideal S1x1024 .f32 := broadcast S1x1024 (Scalar.ofBits .f32 0x00000000#32)
/-- The lanes of a group of an array over all of them. -/
def lanes (x : FVec Ideal S1x1024 .f32) : FVec Ideal S1x128 .f32 :=
  View.ld (Val := Elt Ideal) (S := S1x1024) (e' := .f32) x (Rect.unit ![0, g.val * 128] ![1, 128] (inb_g g))

/-- A grid point's four additions to one group's lanes of the scale's gradient. -/
def stepG (x : FVec Ideal S1x128 .f32) : FVec Ideal S1x128 .f32 := four (fun q => addG g (dyB m c t q) (zuB m c t q) (zvB m c t q) (wB m c t)) x
/-- The same of the shift's gradient. -/
def stepH (x : FVec Ideal S1x128 .f32) : FVec Ideal S1x128 .f32 := four (fun q => addH g (dyB m c t q) (zuB m c t q) (wB m c t)) x

/-- What a chunk adds to the scale's gradient. -/
def gainG (n : Fin 16) (k : Fin 1024) : EReal :=
  ∑ j, dvn (m ((c : Thread nD τ).loc main_arg0)) (m ((c : Thread nD τ).loc main_arg7)) (m ((c : Thread nD τ).loc main_arg4)) n j (grp k) (lane k) * hat (act (m ((c : Thread nD τ).loc main_arg1)) (row n j)) k
/-- What a chunk adds to the shift's gradient. -/
def gainH (n : Fin 16) (k : Fin 1024) : EReal := ∑ j, dvn (m ((c : Thread nD τ).loc main_arg0)) (m ((c : Thread nD τ).loc main_arg7)) (m ((c : Thread nD τ).loc main_arg4)) n j (grp k) (lane k)

theorem stepG_at (x) (d : Fin 128) : stepG m c t g x (ix2 0 d) = x (ix2 0 d) + ∑ q, gainG m c (chunkNo t q) (col g d) :=
  four_at _ (fun x => x (ix2 0 d)) _ (fun q x => by rw [addG_at (loads m c t q), gainG, grp_col, lane_col]) x
theorem stepH_at (x) (d : Fin 128) : stepH m c t g x (ix2 0 d) = x (ix2 0 d) + ∑ q, gainH m c (chunkNo t q) (col g d) :=
  four_at _ (fun x => x (ix2 0 d)) _ (fun q x => by rw [addH_at (loads m c t q), gainH, grp_col, lane_col]) x

/-- Stores of single groups into an array over all lanes: one of another group is passed over. -/
theorem lanes_skip (d : Fin 128) (off : Nat) (h) (w : FVec Ideal S1x128 .f32) (L) (hs : off ≠ g.val * 128 ∧ off % 128 = 0) :
    View.canon (Val := Elt Ideal) (e := .f32) (⟨Rect.unit (s := S1x1024) ![0, off] ![1, 128] h, w⟩ :: L) (ix2 0 (col g d)) = View.canon L (ix2 0 (col g d)) := by
  refine View.canon_cons_of_not_mem _ _ ?_
  rw [Rect.mem_set_unit]
  intro hm
  have h0 : off ≤ g.val * 128 + d.val := (hm 1).1
  have h1 : g.val * 128 + d.val < off + 128 := (hm 1).2
  omega
/-- The last store of the group is what is read. -/
theorem lanes_hit (d : Fin 128) (off : Nat) (h) (w : FVec Ideal S1x128 .f32) (L) (hs : off = g.val * 128) :
    View.canon (Val := Elt Ideal) (e := .f32) (⟨Rect.unit (s := S1x1024) ![0, off] ![1, 128] h, w⟩ :: L) (ix2 0 (col g d)) = w (ix2 0 d) := by
  subst hs
  rw [show (ix2 0 (col g d) : S1x1024.Idx) = (Rect.unit (s := S1x1024) ![0, g.val * 128] ![1, 128] h).emb (ix2 0 d) by blk_ext [col]]
  exact View.canon_cons_emb _ _ _ _

set_option maxHeartbeats 8000000 in
/-- The scale's gradient after the first row block. -/
theorem first_dlg (h : t.val % 4 = 0) (d : Fin 128) : (outsAt0 m c t.val t.isLt).2.2.2.1 (ix2 0 (col g d)) = stepG m c t g (lanes g zeroScale) (ix2 0 d) := by
  rw [outsAt0_A m c t h]
  frame_out
  simp (disch := decide) only [↓ View.readCov_skip, ↓ View.readCov_cons_toLoadRect, ↓ View.readCov_fill]
  fin_cases g
  all_goals simp (disch := decide) only [↓ lanes_skip, ↓ lanes_hit]
  all_goals rfl

set_option maxHeartbeats 8000000 in
/-- The scale's gradient after a later row block, from what the one before left. -/
theorem next_dlg (h : ¬t.val % 4 = 0) (d : Fin 128) : (outsAt0 m c t.val t.isLt).2.2.2.1 (ix2 0 (col g d))
    = stepG m c t g (lanes g (outsAt0 m c (t.val - 1) (Nat.lt_of_le_of_lt (Nat.sub_le _ _) t.isLt)).2.2.2.1) (ix2 0 d) := by
  rw [outsAt0_B m c t h]
  frame_out
  simp (disch := decide) only [↓ View.readCov_skip, ↓ View.readCov_cons_toLoadRect, ↓ View.readCov_fill]
  fin_cases g
  all_goals simp (disch := decide) only [↓ lanes_skip, ↓ lanes_hit]
  all_goals rfl

set_option maxHeartbeats 8000000 in
/-- The shift's gradient after the first row block. -/
theorem first_dlb (h : t.val % 4 = 0) (d : Fin 128) : (outsAt0 m c t.val t.isLt).2.2.2.2 (ix2 0 (col g d)) = stepH m c t g (lanes g zeroScale) (ix2 0 d) := by
  rw [outsAt0_A m c t h]
  frame_out
  simp (disch := decide) only [↓ View.readCov_skip, ↓ View.readCov_cons_toLoadRect, ↓ View.readCov_fill]
  fin_cases g
  all_goals simp (disch := decide) only [↓ lanes_skip, ↓ lanes_hit]
  all_goals rfl

set_option maxHeartbeats 8000000 in
/-- The shift's gradient after a later row block, from what the one before left. -/
theorem next_dlb (h : ¬t.val % 4 = 0) (d : Fin 128) : (outsAt0 m c t.val t.isLt).2.2.2.2 (ix2 0 (col g d))
    = stepH m c t g (lanes g (outsAt0 m c (t.val - 1) (Nat.lt_of_le_of_lt (Nat.sub_le _ _) t.isLt)).2.2.2.2) (ix2 0 d) := by
  rw [outsAt0_B m c t h]
  frame_out
  simp (disch := decide) only [↓ View.readCov_skip, ↓ View.readCov_cons_toLoadRect, ↓ View.readCov_fill]
  fin_cases g
  all_goals simp (disch := decide) only [↓ lanes_skip, ↓ lanes_hit]
  all_goals rfl

/-- The scale's gradient the kernel's run leaves. -/
theorem final_dlg : (dats m 0 c).arrAt 9 cfg0.N = fun j => dlg (m ((c : Thread nD τ).loc main_arg0)) (m ((c : Thread nD τ).loc main_arg1)) (m ((c : Thread nD τ).loc main_arg7)) (m ((c : Thread nD τ).loc main_arg4)) (j 1) := by
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => 0) (fun t j => ∑ q, gainG m c (chunkNo t q) (j 1))
    (fun t h j => by
      obtain ⟨g, d, rfl⟩ : ∃ (g : Fin 8) (d : Fin 128), j = ix2 0 (col g d) := ⟨grp (j 1), lane (j 1), by blk_ext [col, grp, lane]⟩
      rw [first_dlg m c t g h, stepG_at]
      pointwise [lanes, zeroScale])
    (fun t h j => by
      obtain ⟨g, d, rfl⟩ : ∃ (g : Fin 8) (d : Fin 128), j = ix2 0 (col g d) := ⟨grp (j 1), lane (j 1), by blk_ext [col, grp, lane]⟩
      rw [next_dlg m c t g h, stepG_at]
      pointwise [lanes]
      rfl) (le_of_eq N_0) t0_3 rfl j, zero_add]
  exact sum_chunks fun n => gainG m c n (j 1)

/-- The shift's gradient the kernel's run leaves. -/
theorem final_dlb : (dats m 0 c).arrAt 10 cfg0.N = fun j => dlb (m ((c : Thread nD τ).loc main_arg0)) (m ((c : Thread nD τ).loc main_arg7)) (m ((c : Thread nD τ).loc main_arg4)) (j 1) := by
  refine (dats m 0 c).arrAt_eq_of_after_last 10 t0_3 (by decide +kernel) _ fun j => ?_
  blk_simp
  rw [after0_10, Pipeline.eq_sum_fin_of_reset_step_apply_last (fun n h => (outsAt0 m c n h).2.2.2.2) 4 (fun _ => 0) (fun t j => ∑ q, gainH m c (chunkNo t q) (j 1))
    (fun t h j => by
      obtain ⟨g, d, rfl⟩ : ∃ (g : Fin 8) (d : Fin 128), j = ix2 0 (col g d) := ⟨grp (j 1), lane (j 1), by blk_ext [col, grp, lane]⟩
      rw [first_dlb m c t g h, stepH_at]
      pointwise [lanes, zeroScale])
    (fun t h j => by
      obtain ⟨g, d, rfl⟩ : ∃ (g : Fin 8) (d : Fin 128), j = ix2 0 (col g d) := ⟨grp (j 1), lane (j 1), by blk_ext [col, grp, lane]⟩
      rw [next_dlb m c t g h, stepH_at]
      pointwise [lanes]
      rfl) (le_of_eq N_0) t0_3 rfl j, zero_add]
  exact sum_chunks fun n => gainH m c n (j 1)

end Cert.GateIdeal.RefValue

end
-- ==== Proof.Gate.Mixing.lean ====
/- The gradients of the mixing weights and bias, summed over all rows chunk by chunk as the kernel does. -/
module

public import proofs.«01_k».proof.Proof.Gate.Sums
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen Cert.GateSpec

variable (m : (ℓ : Loc nD τ sig) → Buf (Elt Ideal) ℓ) (c : Dev nD) (t : Fin cfg0.N) (g : Fin 8)

/-- Zeros, before the first row block. -/
def zeroWeights : FVec Ideal S8x128x128 .f32 := broadcast S8x128x128 (Scalar.ofBits .f32 0x00000000#32)
/-- Zeros, before the first row block. -/
def zeroBias : FVec Ideal S128x8 .f32 := broadcast S128x8 (Scalar.ofBits .f32 0x00000000#32)
/-- The plane of a group. -/
def plane (x : FVec Ideal S8x128x128 .f32) : FVec Ideal S1x128x128 .f32 :=
  View.ld (Val := Elt Ideal) (S := S8x128x128) (e' := .f32) x (Rect.unit ![g.val, 0, 0] ![1, 128, 128] (inb_w g))
/-- The column of a group. -/
def column (x : FVec Ideal S128x8 .f32) : FVec Ideal S128x1 .f32 :=
  View.ld (Val := Elt Ideal) (S := S128x8) (e' := .f32) x (Rect.unit ![0, g.val] ![128, 1] (inb_b g))

/-- A grid point's four additions to one group's plane of the mixing weights' gradient. -/
def stepW (x : FVec Ideal S1x128x128 .f32) : FVec Ideal S1x128x128 .f32 :=
  four (fun q => addW g (dyB m c t q) (zuB m c t q) (zvB m c t q) (iblk m c 2 t) (iblk m c 3 t)) x
/-- The same of one group's column of the mixing bias's gradient. -/
def stepB (x : FVec Ideal S128x1 .f32) : FVec Ideal S128x1 .f32 := four (fun q => addB g (dyB m c t q) (zuB m c t q)) x

/-- What a chunk adds to the mixing weights' gradient. -/
def gainW (g : Fin 8) (i j : Fin 128) (n : Fin 16) : EReal :=
  if j ≤ i then ∑ d, dmix (m ((c : Thread nD τ).loc main_arg0)) (m ((c : Thread nD τ).loc main_arg7)) (row n i) (col g d) * vn (m ((c : Thread nD τ).loc main_arg1)) (m ((c : Thread nD τ).loc main_arg2)) (m ((c : Thread nD τ).loc main_arg3)) (row n j) (col g d) else 0
/-- What a chunk adds to the mixing bias's gradient. -/
def gainB (i : Fin 128) (g : Fin 8) (n : Fin 16) : EReal := ∑ d, dmix (m ((c : Thread nD τ).loc main_arg0)) (m ((c : Thread nD τ).loc main_arg7)) (row n i) (col g d)

theorem stepW_at (x) (i j : Fin 128) : stepW m c t g x (ix3 0 i j) = x (ix3 0 i j) + ∑ q, gainW m c g i j (chunkNo t q) :=
  four_at _ (fun x => x (ix3 0 i j)) _ (fun q x => by rw [addW_at (loads m c t q) g x 0]; rfl) x
theorem stepB_at (x) (i : Fin 128) : stepB m c t g x (ix2 i 0) = x (ix2 i 0) + ∑ q, gainB m c i g (chunkNo t q) :=
  four_at _ (fun x => x (ix2 i 0)) _ (fun q x => by rw [addB_at (loads m c t q)]; rfl) x

/-- Stores of single planes: one of another group is passed over. -/
theorem plane_skip (i j : Fin 128) (off : Nat) (h) (w : FVec Ideal S1x128x128 .f32) (L) (hs : off ≠ g.val) :
    View.canon (Val := Elt Ideal) (e := .f32) (⟨Rect.unit (s := S8x128x128) ![off, 0, 0] ![1, 128, 128] h, w⟩ :: L) (ix3 g i j) = View.canon L (ix3 g i j) := by
  refine View.canon_cons_of_not_mem _ _ ?_
  rw [Rect.mem_set_unit]
  intro hm
  have h0 : off ≤ g.val := (hm 0).1
  have h1 : g.val < off + 1 := (hm 0).2
  omega
/-- The last store of the group's plane is what is read. -/
theorem plane_hit (i j : Fin 128) (off : Nat) (h) (w : FVec Ideal S1x128x128 .f32) (L) (hs : off = g.val) :
    View.canon (Val := Elt Ideal) (e := .f32) (⟨Rect.unit (s := S8x128x128) ![off, 0, 0] ![1, 128, 128] h, w⟩ :: L) (ix3 g i j) = w (ix3 0 i j) := by
  subst hs
  rw [show (ix3 g i j : S8x128x128.Idx) = (Rect.unit (s := S8x128x128) ![g.val, 0, 0] ![1, 128, 128] h).emb (ix3 0 i j) by blk_ext]
  exact View.canon_cons_emb _ _ _ _
/-- Stores of single columns: one of another group is passed over. -/
theorem column_skip (i : Fin 128) (off : Nat) (h) (w : FVec Ideal S128x1 .f32) (L) (hs : off ≠ g.val) :
    View.canon (Val := Elt Ideal) (e := .f32) (⟨Rect.unit (s := S128x8) ![0, off] ![128, 1] h, w⟩ :: L) (ix2 i g) = View.canon L (ix2 i g) := by
  refine View.canon_cons_of_not_mem _ _ ?_
  rw [Rect.mem_set_unit]
  intro hm
  have h0 : off ≤ g.val := (hm 1).1
  have h1 : g.val < off + 1 := (hm 1).2
  omega
/-- The last store of the group's column is what is read. -/
theorem column_hit (i : Fin 128) (off : Nat) (h) (w : FVec Ideal S128x1 .f32) (L) (hs : off = g.val) :
    View.canon (Val := Elt Ideal) (e := .f32) (⟨Rect.unit (s := S128x8) ![0, off] ![128, 1] h, w⟩ :: L) (ix2 i g) = w (ix2 i 0) := by
  subst hs
  rw [show (ix2 i g : S128x8.Idx) = (Rect.unit (s := S128x8) ![0, g.val] ![128, 1] h).emb (ix2 i 0) by blk_ext]
  exact View.canon_cons_emb _ _ _ _

set_option maxHeartbeats 8000000 in
/-- The mixing weights' gradient after the first row block. -/
theorem first_dws (h : t.val % 4 = 0) (i j : Fin 128) : (outsAt0 m c t.val t.isLt).2.1 (ix3 g i j) = stepW m c t g (plane g zeroWeights) (ix3 0 i j) := by
  rw [outsAt0_A m c t h]
  frame_out
  simp (disch := decide) only [↓ View.readCov_skip, ↓ View.readCov_cons_toLoadRect, ↓ View.readCov_fill]
  fin_cases g
  all_goals simp (disch := decide) only [↓ plane_skip, ↓ plane_hit]
  all_goals rfl

set_option maxHeartbeats 8000000 in
/-- The mixing weights' gradient after a later row block, from what the one before left. -/
theorem next_dws (h : ¬t.val % 4 = 0) (i j : Fin 128) : (outsAt0 m c t.val t.isLt).2.1 (ix3 g i j)
    = stepW m c t g (plane g (outsAt0 m c (t.val - 1) (Nat.lt_of_le_of_lt (Nat.sub_le _ _) t.isLt)).2.1) (ix3 0 i j) := by
  rw [outsAt0_B m c t h]
  frame_out
  simp (disch := decide) only [↓ View.readCov_skip, ↓ View.readCov_cons_toLoadRect, ↓ View.readCov_fill]
  fin_cases g
  all_goals simp (disch := decide) only [↓ plane_skip, ↓ plane_hit]
  all_goals rfl

set_option maxHeartbeats 8000000 in
/-- The mixing bias's gradient after the first row block. -/
theorem first_dbs (h : t.val % 4 = 0) (i : Fin 128) : (outsAt0 m c t.val t.isLt).2.2.1 (ix2 i g) = stepB m c t g (column g zeroBias) (ix2 i 0) := by
  rw [outsAt0_A m c t h]
  frame_out
  simp (disch := decide) only [↓ View.readCov_skip, ↓ View.readCov_cons_toLoadRect, ↓ View.readCov_fill]
  fin_cases g
  all_goals simp (disch := decide) only [↓ column_skip, ↓ column_hit]
  all_goals rfl

set_option maxHeartbeats 8000000 in
/-- The mixing bias's gradient after a later row block, from what the one before left. -/
theorem next_dbs (h : ¬t.val % 4 = 0) (i : Fin 128) : (outsAt0 m c t.val t.isLt).2.2.1 (ix2 i g)
    = stepB m c t g (column g (outsAt0 m c (t.val - 1) (Nat.lt_of_le_of_lt (Nat.sub_le _ _) t.isLt)).2.2.1) (ix2 i 0) := by
  rw [outsAt0_B m c t h]
  frame_out
  simp (disch := decide) only [↓ View.readCov_skip, ↓ View.readCov_cons_toLoadRect, ↓ View.readCov_fill]
  fin_cases g
  all_goals simp (disch := decide) only [↓ column_skip, ↓ column_hit]
  all_goals rfl

/-- The mixing weights' gradient the kernel's run leaves. -/
theorem final_dws : (dats m 0 c).arrAt 7 cfg0.N = fun j => dws (m ((c : Thread nD τ).loc main_arg0)) (m ((c : Thread nD τ).loc main_arg1)) (m ((c : Thread nD τ).loc main_arg7)) (m ((c : Thread nD τ).loc main_arg2)) (m ((c : Thread nD τ).loc main_arg3)) (j 0) (j 1) (j 2) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0) (fun t j => ∑ q, gainW m c (j 0) (j 1) (j 2) (chunkNo t q))
    (fun t h j => by
      obtain ⟨g, a, b, rfl⟩ : ∃ (g : Fin 8) (a b : Fin 128), j = ix3 g a b := ⟨j 0, j 1, j 2, by blk_ext⟩
      rw [first_dws m c t g h, stepW_at]
      pointwise [plane, zeroWeights])
    (fun t h j => by
      obtain ⟨g, a, b, rfl⟩ : ∃ (g : Fin 8) (a b : Fin 128), j = ix3 g a b := ⟨j 0, j 1, j 2, by blk_ext⟩
      rw [next_dws m c t g h, stepW_at]
      pointwise [plane]) (le_of_eq N_0) t0_3 rfl j, zero_add]
  exact sum_chunks fun n => gainW m c (j 0) (j 1) (j 2) n

/-- The mixing bias's gradient the kernel's run leaves. -/
theorem final_dbs : (dats m 0 c).arrAt 8 cfg0.N = fun j => dbs (m ((c : Thread nD τ).loc main_arg0)) (m ((c : Thread nD τ).loc main_arg7)) (j 0) (j 1) := by
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0) (fun t j => ∑ q, gainB m c (j 0) (j 1) (chunkNo t q))
    (fun t h j => by
      obtain ⟨a, g, rfl⟩ : ∃ (a : Fin 128) (g : Fin 8), j = ix2 a g := ⟨j 0, j 1, by blk_ext⟩
      rw [first_dbs m c t g h, stepB_at]
      pointwise [column, zeroBias])
    (fun t h j => by
      obtain ⟨a, g, rfl⟩ : ∃ (a : Fin 128) (g : Fin 8), j = ix2 a g := ⟨j 0, j 1, by blk_ext⟩
      rw [next_dbs m c t g h, stepB_at]
      pointwise [column]) (le_of_eq N_0) t0_3 rfl j, zero_add]
  exact sum_chunks fun n => gainB m c (j 0) (j 1) n

end Cert.GateIdeal.RefValue

end
-- ==== Proof.Gate.Finite.lean ====
/- On finite arguments the gate's intermediate arrays are real, so the kernel's forms of the gradients and those of the
   derivative program agree. -/
module

public import proofs.«01_k».proof.Proof.Gate.Spec

@[expose] public section

set_option maxRecDepth 16384

noncomputable section

open Idealize.ShloMosaic Idealize.ShloMosaic.TcCoe
open Cert.Finite

namespace Cert.GateSpec

/-- An extended real below the infinite word in absolute value is real. -/
theorem real_of_test {x : EReal} (h : Ideal.cmp .olt (max x (-x)) (Ideal.ofBits .f32 0x7F800000#32) = 1#1) : IsReal x := by
  rw [show Ideal.ofBits .f32 0x7F800000#32 = ⊤ by simp [Ideal.ofBits, Ideal.ieee]] at h
  induction x with
  | coe r => exact ⟨r, rfl⟩
  | top => exact absurd h (by simp [Ideal.cmp])
  | bot => exact absurd h (by simp [Ideal.cmp])

variable {zu zv ct : Rows} {lg lb : Scale} {ws : Mixing} {bs : MixBias}
variable (hzu : ∀ i, IsReal (zu i)) (hzv : ∀ i, IsReal (zv i)) (hct : ∀ i, IsReal (ct i)) (hlg : ∀ i, IsReal (lg i))
  (hlb : ∀ i, IsReal (lb i)) (hws : ∀ i, IsReal (ws i)) (hbs : ∀ i, IsReal (bs i))

include hzv in
theorem act_real (r k) : IsReal (act zv r k) := gelu_real (hzv _)
include hzv hlg hlb in
theorem vn_real (r k) : IsReal (vn zv lg lb r k) := .add (.mul (hat_real (act_real hzv r) k) (hlg _)) (hlb _)
include hws in
theorem wm_real (g i j) : IsReal (wm ws g i j) := .ite (hws _) .zero
include hzv hlg hlb hws hbs in
theorem mixed_real (n a g d) : IsReal (mixed zv lg lb ws bs n a g d) :=
  .add (.sum _ fun _ _ => .mul (wm_real hws _ _ _) (vn_real hzv hlg hlb _ _)) (hbs _)
include hzu hct in
theorem dmix_real (r k) : IsReal (dmix zu ct r k) := .mul (hct _) (gelu_real (hzu _))
include hzu hct hws in
theorem dvn_real (n j g d) : IsReal (dvn zu ct ws n j g d) := .sum _ fun _ _ => .mul (wm_real hws _ _ _) (dmix_real hzu hct _ _)
include hzu hct hlg hws in
theorem dhat_real (r k) : IsReal (dhat zu ct lg ws r k) := .mul (dvn_real hzu hct hws _ _ _ _) (hlg _)

include hzu hzv hct hlg hlb hws hbs in
/-- The first half's gradient in the derivative program's form. -/
theorem dzu_eq (r k) : geluBack (ct (ix2 r k) * mixed zv lg lb ws bs (chunk r) (place r) (grp k) (lane k)) (zu (ix2 r k)) = dzu zu zv ct lg lb ws bs r k :=
  geluBack_eq (.mul (hct _) (mixed_real hzv hlg hlb hws hbs _ _ _ _)) (hzu _)
include hzu hzv hct hlg hws in
theorem normBack_real (r k) : IsReal (normBack (act zv r) (dhat zu ct lg ws r) k) := by
  obtain ⟨s, hs, e⟩ := spread_real (act_real hzv r)
  have hd := dhat_real hzu hct hlg hws r
  have hh := hat_real (act_real hzv r)
  have hw : IsReal (Ideal.ofBits .f32 0x3A800000#32) := ⟨_, word_inv_1024⟩
  exact .mul ⟨_, by rw [e, rsqrt_real hs]⟩ (.sub (.sub (hd k) (.mul (.sum _ fun j _ => hd j) hw)) (.mul (hh k) (.mul (.sum _ fun j _ => .mul (hd j) (hh j)) hw)))
include hzu hzv hct hlg hws in
/-- The second half's gradient in the derivative program's form. -/
theorem dzv_eq (r k) : geluBack (normBackRef (act zv r) (dhat zu ct lg ws r) k) (zv (ix2 r k)) = dzv zu zv ct lg ws r k := by
  rw [normBackRef_eq (act_real hzv r) (dhat_real hzu hct hlg hws r) k]
  exact geluBack_eq (normBack_real hzu hzv hct hlg hws r k) (hzv _)

end Cert.GateSpec

end
-- ==== Proof.Gate.Reference.lean ====
/- The derivative of the gating's forward lines, one buffer at a time, is what `Gate/Spec.lean` says on real arguments. -/
module

public import proofs.«01_k».proof.Proof.Gate.Spec
public import proofs.«01_k».proof.Proof.Gen.GateRefIdeal.Run
public import proofs.«01_k».proof.Proof.Gen.GateRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateRefIdeal.RefValue

open Cert.GateRefIdeal Cert.GateRefIdeal.Gen Cert.GateRefIdeal.Read Cert.GateSpec Cert.Finite

variable (x0 x1 x7 : Rows) (x2 x3 : Scale) (x4 : Mixing) (x5 : MixBias)

/-- The quotient of the two integers is the cubic's coefficient. -/
theorem cubic_eq : id (Host.divf (F := Ideal) (constant S_ .f32 0x460BBC00#32) (constant S_ .f32 0x48435000#32)) ix0 = cubic := by
  show Ideal.div (Ideal.ofBits .f32 0x460BBC00#32) (Ideal.ofBits .f32 0x48435000#32) = _
  rw [word_8943, word_200000, div_real _ (by norm_num)]

/-- The `tanh` of the first half. -/
theorem th_u (r : Fin 2048) (k : Fin 1024) : val_main_v12 (F := Ideal) x0 (ix2 r k) = th (x0 (ix2 r k)) := by
  pointwise [val_main_cst, val_main_cst_0, val_main_v0, val_main_v1, val_main_v2, val_main_v3, val_main_cst_1, val_main_v4, val_main_v5, val_main_v6,
    val_main_v7, val_main_v8, val_main_v9, val_main_cst_2, val_main_v10, val_main_v11, val_main_v12, th]
  exact congrArg (fun c => Ideal.tanh (outer * (x0 (ix2 r k) + c * (x0 (ix2 r k) * x0 (ix2 r k) * x0 (ix2 r k))))) cubic_eq

/-- The `tanh` of the second half. -/
theorem th_v (r : Fin 2048) (k : Fin 1024) : val_main_v35 (F := Ideal) x1 (ix2 r k) = th (x1 (ix2 r k)) := by
  pointwise [val_main_cst_7, val_main_cst_8, val_main_v23, val_main_v24, val_main_v25, val_main_v26, val_main_cst_9, val_main_v27, val_main_v28,
    val_main_v29, val_main_v30, val_main_v31, val_main_v32, val_main_cst_10, val_main_v33, val_main_v34, val_main_v35, th]
  exact congrArg (fun c => Ideal.tanh (outer * (x1 (ix2 r k) + c * (x1 (ix2 r k) * x1 (ix2 r k) * x1 (ix2 r k))))) cubic_eq

/-- The activated first half. -/
theorem gelu_u (r : Fin 2048) (k : Fin 1024) : val_main_v22 (F := Ideal) x0 (ix2 r k) = gelu (x0 (ix2 r k)) := by
  pointwise [val_main_cst_5, val_main_v18, val_main_v19, val_main_cst_6, val_main_v20, val_main_v21, val_main_v22, gelu]
  rw [th_u]; exact (mul_left_comm _ _ _).trans (mul_assoc _ _ _).symm

/-- The activated second half. -/
theorem gelu_v (r : Fin 2048) (k : Fin 1024) : val_main_v45 (F := Ideal) x1 (ix2 r k) = act x1 r k := by
  pointwise [val_main_cst_13, val_main_v41, val_main_v42, val_main_cst_14, val_main_v43, val_main_v44, val_main_v45, act, gelu]
  rw [th_v]; exact (mul_left_comm _ _ _).trans (mul_assoc _ _ _).symm

/-- The centred rows. -/
theorem centre_v (r : Fin 2048) (k : Fin 1024) : val_main_v55 (F := Ideal) x1 (ix2 r k) = centre (act x1 r) k := by
  pointwise [val_main_cst_15, val_main_v50, val_main_v51, val_main_cst_16, val_main_v52, val_main_v53, val_main_v54, val_main_v55, centre, mean]
  simp only [gelu_v]

/-- The centred rows, a second time. -/
theorem centre_v' (r : Fin 2048) (k : Fin 1024) : val_main_v64 (F := Ideal) x1 (ix2 r k) = centre (act x1 r) k := by
  pointwise [val_main_v63, val_main_v64, val_main_cst_15, val_main_v50, val_main_v51, val_main_cst_16, val_main_v52, val_main_v53, centre, mean]
  simp only [gelu_v]

/-- The spread of a row. -/
theorem spread_v (r : Fin 2048) (o : Fin 1) : val_main_v66 (F := Ideal) x1 (ix2 r o) = spread (act x1 r) := by
  pointwise [val_main_v56, val_main_cst_18, val_main_v59, val_main_v60, val_main_cst_19, val_main_v61, val_main_v62, val_main_cst_20, val_main_v65, val_main_v66, spread, mean]
  simp only [centre_v]

/-- The normalized rows. -/
theorem hat_v (r : Fin 2048) (k : Fin 1024) : val_main_v72 (F := Ideal) x1 (ix2 r k) = hat (act x1 r) k := by
  pointwise [val_main_v71, val_main_v72, val_main_v67, hat]
  simp only [centre_v', spread_v]

/-- The scaled and shifted rows, by chunk and group. -/
theorem vn_at (n : Fin 16) (j : Fin 128) (g : Fin 8) (d : Fin 128) :
    val_main_v79 (F := Ideal) x1 x2 x3 (ix4 n j g d) = vn x1 x2 x3 (row n j) (col g d) := by
  pointwise [val_main_v73, val_main_v74, val_main_v75, val_main_v76, val_main_v77, val_main_v78, val_main_v79, val_main_v48, val_main_v49, vn]
  rw [← hat_v]; rfl

/-- The causal mask, decided place by place. -/
theorem causal : ∀ i j : Fin 128,
    Scalar.select (IntOp.cmpi CmpIPredicate.sge (IntOp.addi (BitVec.ofNat 32 i.val) 0#32) (BitVec.ofNat 32 j.val)) 1#1 0#1 = if j ≤ i then 1#1 else 0#1 := by
  decide +kernel

/-- The causal mixing weights. -/
theorem wm_at (g : Fin 8) (i j : Fin 128) : val_main_v84_0 (F := Ideal) x4 (ix3 g i j) = wm x4 g i j := by
  pointwise [val_main_c, val_main_v80, val_main_call0_v0, val_main_call0_c, val_main_call0_v1, val_main_call0_v2, val_main_call0_v3, val_main_call0_v4,
    val_main_call0_c_0, val_main_call0_v5, val_main_v81, val_main_v82, val_main_cst_22, val_main_v83, val_main_v84_1, val_main_v84_0, val_main_v46, wm]
  rw [causal]; split <;> rfl

/-- The mixed rows. -/
theorem mixed_at (r : Fin 2048) (k : Fin 1024) :
    val_main_v91 (F := Ideal) x1 x2 x3 x4 x5 (ix2 r k) = mixed x1 x2 x3 x4 x5 (chunk r) (place r) (grp k) (lane k) := by
  pointwise [val_main_v85, val_main_v86, val_main_v87, val_main_v88, val_main_v89, val_main_v90, val_main_v91, val_main_v47, mixed]
  refine congrArg (· + _) (Finset.sum_congr rfl fun j _ => ?_)
  rw [vn_at, wm_at, mul_comm]; rfl

/-- The gradient of the mixed rows, by chunk and group. -/
theorem dmix_at (n : Fin 16) (j : Fin 128) (g : Fin 8) (d : Fin 128) :
    val_main_v95 (F := Ideal) x0 x7 (ix4 n j g d) = dmix x0 x7 (row n j) (col g d) := by
  pointwise [val_main_v93, val_main_v95, dmix]
  rw [gelu_u, mul_comm]; rfl

/-- The gradient of the normalized rows. -/
theorem dvn_at (r : Fin 2048) (k : Fin 1024) :
    val_main_v105 (F := Ideal) x0 x4 x7 (ix2 r k) = dvn x0 x7 x4 (chunk r) (place r) (grp k) (lane k) := by
  pointwise [val_main_v100, val_main_v102, val_main_v103, val_main_v105, dvn]
  refine Finset.sum_congr rfl fun i _ => ?_
  rw [dmix_at, wm_at, mul_comm]; rfl

/-- The scaled gradient. -/
theorem dhat_at (r : Fin 2048) (k : Fin 1024) : val_main_v113 (F := Ideal) x0 x2 x4 x7 (ix2 r k) = dhat x0 x7 x2 x4 r k := by
  pointwise [val_main_v112, val_main_v113, val_main_v73, val_main_v48, dhat]
  rw [dvn_at]

/-- The step back through the variance. -/
theorem var_at (r : Fin 2048) (k : Fin 1024) :
    val_main_v128 (F := Ideal) x0 x1 x2 x4 x7 (ix2 r k) = varBack (act x1 r) (dhat x0 x7 x2 x4 r) k := by
  pointwise [val_main_v57, val_main_v58, val_main_cst_17, val_main_v67, val_main_v68, val_main_cst_21, val_main_v69, val_main_v70, val_main_v115, val_main_cst_29, val_main_v116, val_main_v117, val_main_v120, val_main_cst_31, val_main_v124, val_main_v125, val_main_cst_32, val_main_v126, val_main_v127, val_main_v128, val_main_cst_29, varBack]
  simp only [centre_v, centre_v', spread_v, dhat_at, Finset.univ_unique, Finset.sum_singleton]

/-- The gradient of the activated second half. -/
theorem norm_at (r : Fin 2048) (k : Fin 1024) :
    val_main_v138 (F := Ideal) x0 x1 x2 x4 x7 (ix2 r k) = normBackRef (act x1 r) (dhat x0 x7 x2 x4 r) k := by
  pointwise [val_main_v67, val_main_v118, val_main_v119, val_main_v121, val_main_cst_30, val_main_v122, val_main_v123, val_main_cst_30, val_main_v129, val_main_cst_33, val_main_v130, val_main_v131, val_main_v132, val_main_v133, val_main_cst_34, val_main_v134, val_main_v135,
    val_main_cst_35, val_main_v136, val_main_v137, val_main_v138, val_main_cst_33, normBackRef]
  simp only [spread_v, dhat_at, var_at, Finset.univ_unique, Finset.sum_singleton]

/-- The gradient of the second half of the gate's input, in the derivative program's order. -/
theorem dzv_at (r : Fin 2048) (k : Fin 1024) :
    val_main_v154 (F := Ideal) x0 x1 x2 x4 x7 (ix2 r k) = geluBack (normBackRef (act x1 r) (dhat x0 x7 x2 x4 r) k) (x1 (ix2 r k)) := by
  pointwise [val_main_v143, val_main_v144, val_main_cst_36, val_main_v145, val_main_v146, val_main_v147, val_main_cst_37, val_main_v148, val_main_v149,
    val_main_v150, val_main_cst_36, val_main_cst_37, val_main_v23, val_main_cst_7, val_main_cst_8, val_main_v29, val_main_v26, val_main_v27, val_main_v28, val_main_cst_9,
    val_main_v36, val_main_v37, val_main_cst_12, val_main_v38, val_main_v39, val_main_v40, val_main_cst_13, val_main_v41, val_main_v42,
    val_main_cst_14, val_main_v43, val_main_v44, val_main_cst_11, val_main_v151, val_main_v152, val_main_v153, val_main_v154, geluBack, geluInner]
  simp only [norm_at, th_v]
  rw [← cubic_eq]

/-- The gradient of the first half of the gate's input, in the derivative program's order. -/
theorem dzu_at (r : Fin 2048) (k : Fin 1024) :
    val_main_v166 (F := Ideal) x0 x1 x2 x3 x4 x5 x7 (ix2 r k)
      = geluBack (x7 (ix2 r k) * mixed x1 x2 x3 x4 x5 (chunk r) (place r) (grp k) (lane k)) (x0 (ix2 r k)) := by
  pointwise [val_main_v94, val_main_v155, val_main_v156, val_main_cst_38, val_main_v157, val_main_v158, val_main_v159, val_main_cst_39, val_main_v160, val_main_v161,
    val_main_v162, val_main_v163, val_main_v164, val_main_v165, val_main_v166, val_main_cst, val_main_cst_0, val_main_v0, val_main_v6, val_main_v3, val_main_v4, val_main_v5, val_main_cst_1, val_main_v13, val_main_v14, val_main_cst_4, val_main_v15, val_main_v16, val_main_v17, val_main_cst_5, val_main_v18, val_main_v19,
    val_main_cst_6, val_main_v20, val_main_v21, val_main_cst_3, geluBack, geluInner]
  simp only [mixed_at, th_u]
  rw [← cubic_eq]

/-- The mixing weights' gradient. -/
theorem dws_at (i) : val_main_v173 (F := Ideal) x0 x1 x2 x3 x7 i = dws x0 x1 x7 x2 x3 (i 0) (i 1) (i 2) := by
  obtain ⟨g, a, b, rfl⟩ : ∃ (g : Fin 8) (a b : Fin 128), i = ix3 g a b := ⟨i 0, i 1, i 2, by blk_ext⟩
  pointwise [val_main_v142, val_main_v173, val_main_v104, val_main_v100, val_main_v101, val_main_c, val_main_v80, val_main_call0_v0, val_main_call0_c, val_main_call0_v1, val_main_call0_v2, val_main_call0_v3, val_main_call0_v4,
    val_main_call0_c_0, val_main_call0_v5, val_main_v81, val_main_v82, val_main_v84_1, val_main_call2_cst, val_main_call2_v0, dws]
  rw [causal]
  by_cases h : b ≤ a
  · simp only [if_pos h, dmix_at, vn_at]; rfl
  · simp only [if_neg h, Finset.sum_const_zero]; rfl

/-- A host sum over the first and the last of four axes, at a place of the two kept ones. -/
theorem hostReduceAdd_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (a : Fin n1) (g : Fin n2) :
    Ideal.hostReduceAdd h v init (ix2 a g) = init + ∑ n : Fin n0, ∑ d : Fin n3, v (ix4 n a g d) := by
  unfold Ideal.hostReduceAdd
  congr 1
  rw [Finset.sum_filter_eq_sum_of_fiber _ (fun p : Fin n0 × Fin n3 => ix4 p.1 a g p.2) ?_ ?_ v, Fintype.sum_prod_type]
  · intro p q e
    exact Prod.ext (congrFun e 0) (congrFun e 3)
  · intro i
    constructor
    · intro e
      refine ⟨(i 0, i 3), ?_⟩
      funext b
      match b with
      | ⟨0, _⟩ => rfl
      | ⟨1, _⟩ => exact (congrFun e 0).symm
      | ⟨2, _⟩ => exact (congrFun e 1).symm
      | ⟨3, _⟩ => rfl
    · rintro ⟨p, rfl⟩
      funext b
      match b with
      | ⟨0, _⟩ => rfl
      | ⟨1, _⟩ => rfl

/-- The mixing bias's gradient. -/
theorem dbs_at (i) : val_main_v175 (F := Ideal) x0 x7 i = dbs x0 x7 (i 0) (i 1) := by
  obtain ⟨a, g, rfl⟩ : ∃ (a : Fin 128) (g : Fin 8), i = ix2 a g := ⟨i 0, i 1, by blk_ext⟩
  pointwise [val_main_v141, val_main_v174, val_main_v175, val_main_v99, val_main_cst_24, dbs]
  unfold val_main_v98
  refine (hostReduceAdd_outer _ _ _ a g).trans ?_
  rw [Fin.sum_univ_one, Fin.sum_univ_one]
  pointwise [val_main_v97, val_main_cst_24]
  unfold val_main_v96
  refine (hostReduceAdd_outer _ _ _ a g).trans ?_
  pointwise [val_main_cst_23]
  simp only [dmix_at]

/-- The scale's gradient. -/
theorem dlg_at (i) : val_main_v140 (F := Ideal) x0 x1 x4 x7 i = dlg x0 x1 x7 x4 (i 1) := by
  obtain ⟨o, k, rfl⟩ : ∃ (o : Fin 1) (k : Fin 1024), i = ix2 o k := ⟨i 0, i 1, by blk_ext⟩
  pointwise [val_main_v140, val_main_v109, val_main_v110, val_main_v111, val_main_v114, val_main_cst_27, val_main_cst_28, dlg]
  simp only [dvn_at, hat_v, Finset.univ_unique, Finset.sum_singleton, sum_rows, chunk_row, place_row, mul_comm (hat _ _)]

/-- The shift's gradient. -/
theorem dlb_at (i) : val_main_v139 (F := Ideal) x0 x4 x7 i = dlb x0 x7 x4 (i 1) := by
  obtain ⟨o, k, rfl⟩ : ∃ (o : Fin 1) (k : Fin 1024), i = ix2 o k := ⟨i 0, i 1, by blk_ext⟩
  pointwise [val_main_v139, val_main_v106, val_main_v107, val_main_v108, val_main_cst_25, val_main_cst_26, dlb]
  simp only [dvn_at, Finset.univ_unique, Finset.sum_singleton, sum_rows, chunk_row, place_row]

/-- The first result: the two gradients in planes 0 and 1, the planes of the buffer handed over elsewhere. -/
theorem dz_at (x6 : FVec Ideal ⟨3, ![8, 2048, 1024]⟩ .bf16) (i) : val_main_v172 (F := Ideal) x0 x1 x2 x3 x4 x5 x6 x7 i = planes
    (fun r k => geluBack (x7 (ix2 r k) * mixed x1 x2 x3 x4 x5 (chunk r) (place r) (grp k) (lane k)) (x0 (ix2 r k)))
    (fun r k => geluBack (normBackRef (act x1 r) (dhat x0 x7 x2 x4 r) k) (x1 (ix2 r k))) x6 i := by
  obtain ⟨p, r, k, rfl⟩ : ∃ (p : Fin 8) (r : Fin 2048) (k : Fin 1024), i = ix3 p r k := ⟨i 0, i 1, i 2, by blk_ext⟩
  pointwise [val_main_v167, val_main_v168, val_main_v169, val_main_v170, val_main_v171, val_main_v172, planes]
  by_cases h0 : p.val = 0
  · rw [dif_pos (show p.val < 2 by omega), dif_pos (show p.val < 1 by omega), if_pos h0, dzu_at]
  · by_cases h1 : p.val = 1
    · rw [dif_pos (show p.val < 2 by omega), dif_neg (show ¬ p.val < 1 by omega), if_neg h0, if_pos h1, dzv_at]
    · rw [dif_neg (show ¬ p.val < 2 by omega), if_neg h0, if_neg h1]
      exact congrArg x6 (by blk_ext)

end Cert.GateRefIdeal.RefValue

end
-- ==== Proof.Gate.Claims.lean ====
/- The claims about the spatial gate's backward call: the two frames, the reference's frame, the two named constants, and
   the values. Both programs end at the arrays of `Gate/Spec.lean`; on finite arguments the derivative program's forms of
   the two planes are the kernel's. -/
module

public import proofs.«01_k».proof.Defs
public import proofs.«01_k».proof.Proof.Gate.Planes
public import proofs.«01_k».proof.Proof.Gate.Mixing
public import proofs.«01_k».proof.Proof.Gate.Finite
public import proofs.«01_k».proof.Proof.Gate.Reference
public import proofs.«01_k».proof.Proof.Gen.Gate.Frame
public import proofs.«01_k».proof.Proof.Gen.Pre_gate_finite
public import Idealize.ShloMosaic.Lib.Claim

@[expose] public section

set_option maxRecDepth 16384

noncomputable section

open Idealize.ShloMosaic Idealize.ShloMosaic.TcCoe Idealize.SL.Sem

namespace Cert.Proof.GateClaims

open Cert.GateSpec Cert.GateIdeal.RefValue Cert.GateRefIdeal.RefValue Cert.GateRefIdeal.Read Cert.Finite

/-- The kernel's frame. -/
theorem frame : Cert.quiescent_Gate := fun m ρ _ => Cert.Gate.Gen.frame m ρ
/-- The idealized kernel's frame. -/
theorem frame_ideal : Cert.quiescent_GateIdeal := fun m ρ _ => Cert.GateIdeal.Gen.frame m ρ
/-- The same, on finite arguments. -/
theorem frame_ideal_finite : Cert.quiescent_GateIdeal_pre_gate_finite := fun m ρ _ => Cert.GateIdeal.Gen.frame m ρ
/-- The reference's frame: its run, read at the arguments; it has no semaphore. -/
theorem frame_ref : Cert.quiescent_GateRefIdeal := fun m ρ _ =>
  (θ_run Cert.GateRefIdeal.defs _ _).mono (fun r h => ⟨fun c => (h c).2.2.2.2.2, sem_eq_zero_of_no_sems (by decide) r.2⟩)
    (Cert.GateRefIdeal.Value.run (F := Ideal) m ρ)
/-- The same, on finite arguments. -/
theorem frame_ref_finite : Cert.quiescent_GateRefIdeal_pre_gate_finite := fun m ρ _ =>
  (θ_run Cert.GateRefIdeal.defs _ _).mono (fun r h => ⟨fun c => (h c).2.2.2.2.2, sem_eq_zero_of_no_sems (by decide) r.2⟩)
    (Cert.GateRefIdeal.Value.run (F := Ideal) m ρ)
/-- The idealized kernel names the cube's coefficient and its triple at the decimals they round. -/
theorem preserves : Cert.preserves_Gate_GateIdeal :=
  ⟨IdealRules.named_const.statement Cert.GateIdeal.κ "gelu_cubic" .f32 0x3D372713#32 _ rfl,
    IdealRules.named_const.statement Cert.GateIdeal.κ "gelu_slope" .f32 0x3E095D4F#32 _ rfl⟩

set_option maxHeartbeats 2000000 in
/-- The five results of the gate's backward call are the reference's. -/
theorem algebraic : Cert.algebraic_GateIdeal_GateRefIdeal_pre_gate_finite := by
  intro m ρ m' ρ' hfin hagree
  refine ⟨_, _, _, _, _, (θ_run Cert.GateIdeal.defs _ _).mono (fun r h c => h c) (Cert.GateIdeal.Value.run_blocks (F := Ideal) m ρ), ?_⟩
  refine (θ_run Cert.GateRefIdeal.defs _ _).mono (fun r h c => ?_) (Cert.GateRefIdeal.Value.run (F := Ideal) m' ρ')
  obtain ⟨h0, h1, h2, h3, h4, hargs⟩ := h c
  obtain ⟨a0, a1, a2, a3, a4, a5, a6, a7⟩ := hagree c
  obtain ⟨p0, p1, p2, p3, p4, p5, p7⟩ := hfin c
  refine ⟨?_, ?_, ?_, ?_, ?_, hargs⟩
  · refine (h0.trans (val_main_v172_eq _)).trans ?_
    show val_main_v172 (F := Ideal) (m' (c.tc.loc Cert.GateRefIdeal.main_arg0)) (m' (c.tc.loc Cert.GateRefIdeal.main_arg1)) (m' (c.tc.loc Cert.GateRefIdeal.main_arg2)) (m' (c.tc.loc Cert.GateRefIdeal.main_arg3)) (m' (c.tc.loc Cert.GateRefIdeal.main_arg4)) (m' (c.tc.loc Cert.GateRefIdeal.main_arg5)) (m' (c.tc.loc Cert.GateRefIdeal.main_arg6)) (m' (c.tc.loc Cert.GateRefIdeal.main_arg7)) = _
    rw [final_dz m c, a0, a1, a2, a3, a4, a5, a6, a7]
    funext i
    refine (dz_at _ _ _ _ _ _ _ _ i).trans (congrArg₂ (fun u v => planes u v _ i) (funext fun r => funext fun k => ?_) (funext fun r => funext fun k => ?_))
    · exact dzu_eq (fun i => real_of_test (congrFun p0 i)) (fun i => real_of_test (congrFun p1 i)) (fun i => real_of_test (congrFun p7 i)) (fun i => real_of_test (congrFun p2 i))
        (fun i => real_of_test (congrFun p3 i)) (fun i => real_of_test (congrFun p4 i)) (fun i => real_of_test (congrFun p5 i)) r k
    · exact dzv_eq (fun i => real_of_test (congrFun p0 i)) (fun i => real_of_test (congrFun p1 i)) (fun i => real_of_test (congrFun p7 i)) (fun i => real_of_test (congrFun p2 i))
        (fun i => real_of_test (congrFun p4 i)) r k
  · refine (h1.trans (val_main_v173_eq _)).trans ?_
    show val_main_v173 (F := Ideal) (m' (c.tc.loc Cert.GateRefIdeal.main_arg0)) (m' (c.tc.loc Cert.GateRefIdeal.main_arg1)) (m' (c.tc.loc Cert.GateRefIdeal.main_arg2)) (m' (c.tc.loc Cert.GateRefIdeal.main_arg3)) (m' (c.tc.loc Cert.GateRefIdeal.main_arg7)) = _
    rw [final_dws m c, a0, a1, a2, a3, a7]
    exact funext fun i => dws_at _ _ _ _ _ i
  · refine (h2.trans (val_main_v175_eq _)).trans ?_
    show val_main_v175 (F := Ideal) (m' (c.tc.loc Cert.GateRefIdeal.main_arg0)) (m' (c.tc.loc Cert.GateRefIdeal.main_arg7)) = _
    rw [final_dbs m c, a0, a7]
    exact funext fun i => dbs_at _ _ i
  · refine (h3.trans (val_main_v140_eq _)).trans ?_
    show val_main_v140 (F := Ideal) (m' (c.tc.loc Cert.GateRefIdeal.main_arg0)) (m' (c.tc.loc Cert.GateRefIdeal.main_arg1)) (m' (c.tc.loc Cert.GateRefIdeal.main_arg4)) (m' (c.tc.loc Cert.GateRefIdeal.main_arg7)) = _
    rw [final_dlg m c, a0, a1, a4, a7]
    exact funext fun i => dlg_at _ _ _ _ i
  · refine (h4.trans (val_main_v139_eq _)).trans ?_
    show val_main_v139 (F := Ideal) (m' (c.tc.loc Cert.GateRefIdeal.main_arg0)) (m' (c.tc.loc Cert.GateRefIdeal.main_arg4)) (m' (c.tc.loc Cert.GateRefIdeal.main_arg7)) = _
    rw [final_dlb m c, a0, a4, a7]
    exact funext fun i => dlb_at _ _ _ i

end Cert.Proof.GateClaims

end
-- ==== Proof.Norm.Algebra.lean ====
/- The root mean square normalization of a row of 1024 extended reals and the gradient through it, as the kernels write it and
   as the derivative of the forward line writes it, and that the two agree on real rows. -/
module

public import proofs.«01_k».proof.Proof.Gate.Real

@[expose] public section

noncomputable section

open Idealize.ShloMosaic Cert.Finite

namespace Cert.NormSpec

abbrev w1024 : EReal := Ideal.ofBits .f32 0x44800000#32

/-- The mean of a row's squares plus the small constant. -/
def spread (f : Fin 1024 → EReal) : EReal := Ideal.div (∑ j, f j * f j) w1024 + Ideal.ofBits .f32 0x358637BD#32
/-- The factor that normalizes a row. -/
def rs (f : Fin 1024 → EReal) : EReal := Ideal.rsqrt (spread f)
/-- The normalized row. -/
def normed (f : Fin 1024 → EReal) (k : Fin 1024) : EReal := f k * rs f
/-- The gradient of a row before its normalization from the gradient `d` after it, in the kernel's form. -/
def back (f d : Fin 1024 → EReal) (k : Fin 1024) : EReal :=
  rs f * d k - f k * (rs f * rs f * rs f * Ideal.div (∑ j, f j * d j) w1024)
/-- The factor of the step back through the mean of squares, as the derivative program computes it. -/
def coef (f d : Fin 1024 → EReal) : EReal :=
  Ideal.div ((∑ j, f j * d j) * (Ideal.ofBits .f32 0xBF000000#32 * Ideal.div (rs f) (spread f))) w1024

/-- The spread of a real row is a positive real. -/
theorem spread_real {f : Fin 1024 → EReal} (hf : ∀ k, IsReal (f k)) : ∃ s : ℝ, 0 < s ∧ spread f = s := by
  choose f' hf using hf
  obtain ⟨e, he, hw⟩ := word_eps
  refine ⟨(∑ k, f' k * f' k) / 1024 + e, ?_, ?_⟩
  · exact add_pos_of_nonneg_of_pos (div_nonneg (Finset.sum_nonneg fun _ _ => mul_self_nonneg _) (by norm_num)) he
  · simp only [spread, hf, hw, w1024, word_1024, ← coe_sum, div_real _ (show (1024 : ℝ) ≠ 0 by norm_num), ← EReal.coe_mul, ← EReal.coe_add]

theorem rs_real {f : Fin 1024 → EReal} (hf : ∀ k, IsReal (f k)) : IsReal (rs f) := by
  obtain ⟨s, hs, e⟩ := spread_real hf
  exact ⟨_, by rw [rs, e, rsqrt_real hs]⟩
theorem normed_real {f : Fin 1024 → EReal} (hf : ∀ k, IsReal (f k)) (k : Fin 1024) : IsReal (normed f k) := .mul (hf k) (rs_real hf)
theorem div1024_real {x : EReal} : IsReal x → IsReal (Ideal.div x w1024) := by
  rintro ⟨r, rfl⟩; exact ⟨r / 1024, by rw [w1024, word_1024, div_real _ (by norm_num)]⟩
theorem back_real {f d : Fin 1024 → EReal} (hf : ∀ k, IsReal (f k)) (hd : ∀ k, IsReal (d k)) (k : Fin 1024) : IsReal (back f d k) :=
  have hr := rs_real hf
  .sub (.mul hr (hd k)) (.mul (hf k) (.mul (.mul (.mul hr hr) hr) (div1024_real (.sum _ fun j _ => .mul (hf j) (hd j)))))

/-- The two forms of the normalization's gradient agree on real rows. -/
theorem back_eq {f d : Fin 1024 → EReal} (hf : ∀ k, IsReal (f k)) (hd : ∀ k, IsReal (d k)) (k : Fin 1024) :
    d k * rs f + f k * coef f d + coef f d * f k = back f d k := by
  obtain ⟨s, hs, es⟩ := spread_real hf
  choose f' hf using hf
  choose d' hd using hd
  have hr : (Real.sqrt s)⁻¹ * (Real.sqrt s)⁻¹ = 1 / s := by rw [← mul_inv, Real.mul_self_sqrt hs.le, one_div]
  generalize hR : (Real.sqrt s)⁻¹ = r at hr
  simp only [back, coef, rs, hf, hd, es, rsqrt_real hs, hR, w1024, word_1024, word_neg_half,
    div_real _ (show (1024 : ℝ) ≠ 0 by norm_num), div_real _ hs.ne', ← coe_sum, ← EReal.coe_mul, ← EReal.coe_add, ← EReal.coe_sub]
  rw [div_eq_mul_one_div r s, ← hr]
  congr 1
  ring

/-- The same with something added before the gradient's three terms. -/
theorem back_eq_add {f d : Fin 1024 → EReal} (hf : ∀ k, IsReal (f k)) (hd : ∀ k, IsReal (d k)) (x : EReal) (k : Fin 1024) :
    x + d k * rs f + f k * coef f d + coef f d * f k = x + back f d k := by
  rw [← back_eq hf hd k]; simp only [add_assoc]

/-- A sum over 4096 places, in four parts of 1024. -/
theorem sum_parts (f : Fin 4096 → EReal) : ∑ j, f j
    = ∑ d : Fin 1024, f ⟨d.val, by omega⟩ + ∑ d : Fin 1024, f ⟨1024 + d.val, by omega⟩ + ∑ d : Fin 1024, f ⟨2048 + d.val, by omega⟩
      + ∑ d : Fin 1024, f ⟨3072 + d.val, by omega⟩ := by
  rw [← Equiv.sum_comp ((finProdFinEquiv (m := 4) (n := 1024)).trans (finCongr (by norm_num))), Fintype.sum_prod_type, Fin.sum_univ_four]
  refine congrArg₂ (· + ·) (congrArg₂ (· + ·) (congrArg₂ (· + ·) ?_ ?_) ?_) ?_
  all_goals exact Finset.sum_congr rfl fun x _ => congrArg f (Fin.ext (by simp [finProdFinEquiv]; try omega))

end Cert.NormSpec

end
-- ==== Proof.Loss.Spec.lean ====
/- What the last layer's forward call computes, at an index: the hidden rows, the loss, and the gradients of the output, of the
   layer's result before its last normalization, and of that normalization's scale. -/
module

public import proofs.«01_k».proof.Proof.Norm.Algebra
public import Idealize.ShloMosaic.Lib.Pipeline.ValueKit

@[expose] public section

noncomputable section

open Idealize.ShloMosaic Cert.Finite

namespace Cert.LossSpec

open Cert.NormSpec

abbrev Rows := FVec Ideal ⟨2, ![2048, 1024]⟩ .f32
abbrev Scale := FVec Ideal ⟨2, ![1, 1024]⟩ .f32
abbrev Widen := FVec Ideal ⟨3, ![1, 1024, 4096]⟩ .f32
abbrev Narrow := FVec Ideal ⟨3, ![1, 4096, 1024]⟩ .f32

variable (h : Rows) (w1 : Widen) (w2 : Narrow) (x1 : Rows) (g : Scale) (tg : Rows)

/-- The squared rectifier. -/
def sq (x : EReal) : EReal := max x 0 * max x 0
/-- The hidden rows before the activation. -/
def hid (r : Fin 2048) (j : Fin 4096) : EReal := ∑ k : Fin 1024, h (ix2 r k) * w1 (ix3 0 k j)
/-- The layer's rows before the last normalization. -/
def fed (r : Fin 2048) (k : Fin 1024) : EReal := ∑ j, sq (hid h w1 r j) * w2 (ix3 0 j k)
/-- The output less the target. -/
def err (r : Fin 2048) (k : Fin 1024) : EReal := x1 (ix2 r k) + normed (fed h w1 w2 r) k * g (ix2 0 k) - tg (ix2 r k)
/-- The gradient of the output. -/
def dy (r : Fin 2048) (k : Fin 1024) : EReal := err h w1 w2 x1 g tg r k * Ideal.ofBits .f32 0x3A800000#32
/-- The gradient of the normalized rows. -/
def dn (r : Fin 2048) (k : Fin 1024) : EReal := dy h w1 w2 x1 g tg r k * g (ix2 0 k)
/-- The gradient of the layer's rows before the last normalization. -/
def df (r : Fin 2048) (k : Fin 1024) : EReal := back (fed h w1 w2 r) (dn h w1 w2 x1 g tg r) k
/-- The gradient of the last normalization's scale. -/
def dg (k : Fin 1024) : EReal := ∑ r, dy h w1 w2 x1 g tg r k * normed (fed h w1 w2 r) k
/-- A row's mean squared error. -/
def rowLoss (r : Fin 2048) : EReal := Ideal.div (∑ k, err h w1 w2 x1 g tg r k * err h w1 w2 x1 g tg r k) w1024
/-- The loss. -/
def loss : EReal := Ideal.ofBits .f32 0x3F000000#32 * ∑ r, rowLoss h w1 w2 x1 g tg r

/-- Row `a` of row block `t`. -/
def row (t : Fin 4) (a : Fin 512) : Fin 2048 := ⟨t.val * 512 + a.val, by omega⟩
/-- A sum over all rows, block by block. -/
theorem sum_rows (f : Fin 2048 → EReal) : ∑ t, ∑ a, f (row t a) = ∑ r, f r := Fin.sum_mul_add_congr fun t a h => rfl

section
variable {h : Rows} {w1 : Widen} {w2 : Narrow} {x1 : Rows} {g : Scale} {tg : Rows}
variable (hh : ∀ i, IsReal (h i)) (h1 : ∀ i, IsReal (w1 i)) (h2 : ∀ i, IsReal (w2 i)) (hx : ∀ i, IsReal (x1 i)) (hg : ∀ i, IsReal (g i))
  (ht : ∀ i, IsReal (tg i))

theorem sq_real {x : EReal} (hx : IsReal x) : IsReal (sq x) := by
  have : IsReal (max x 0) := by rcases max_choice x 0 with e | e <;> rw [e]; exacts [hx, .zero]
  exact .mul this this
include hh h1 h2 in
theorem fed_real (r k) : IsReal (fed h w1 w2 r k) :=
  .sum _ fun _ _ => .mul (sq_real (.sum _ fun _ _ => .mul (hh _) (h1 _))) (h2 _)
include hh h1 h2 hx hg ht in
theorem err_real (r k) : IsReal (err h w1 w2 x1 g tg r k) :=
  .sub (.add (hx _) (.mul (normed_real (fed_real hh h1 h2 r) k) (hg _))) (ht _)
include hh h1 h2 hx hg ht in
theorem dn_real (r k) : IsReal (dn h w1 w2 x1 g tg r k) :=
  .mul (.mul (err_real hh h1 h2 hx hg ht r k) ⟨_, word_inv_1024⟩) (hg _)
include hh h1 h2 hx hg ht in
theorem rowLoss_real (r) : IsReal (rowLoss h w1 w2 x1 g tg r) :=
  div1024_real (.sum _ fun k _ => .mul (err_real hh h1 h2 hx hg ht r k) (err_real hh h1 h2 hx hg ht r k))

/-- Half of a sum of reals is the sum of the halves. -/
theorem half_sum {n : Nat} {f : Fin n → EReal} (hf : ∀ i, IsReal (f i)) :
    ∑ i, Ideal.ofBits .f32 0x3F000000#32 * f i = Ideal.ofBits .f32 0x3F000000#32 * ∑ i, f i := by
  choose f' hf using hf
  simp only [hf, word_half, ← EReal.coe_mul, ← coe_sum, Finset.mul_sum]

include hh h1 h2 hx hg ht in
/-- The loss, block by block. -/
theorem loss_blocks : ∑ t, Ideal.ofBits .f32 0x3F000000#32 * ∑ a, rowLoss h w1 w2 x1 g tg (row t a) = loss h w1 w2 x1 g tg := by
  rw [half_sum fun t => .sum _ fun a _ => rowLoss_real hh h1 h2 hx hg ht _, sum_rows, loss]
end

end Cert.LossSpec

end
-- ==== Proof.Ffn.Spec.lean ====
/- What the layer's backward call computes, at an index: the squared activation, the gradients of the hidden rows, of the layer's
   and the mixer's rows, and of the scales of the two normalizations around them. -/
module

public import proofs.«01_k».proof.Proof.Loss.Spec

@[expose] public section

noncomputable section

open Idealize.ShloMosaic Cert.Finite

namespace Cert.FfnSpec

open Cert.NormSpec Cert.LossSpec

variable (o x : Rows) (gp gq : Scale) (w1 : Widen) (w2 : Narrow) (cf cy : Rows)

/-- A row of an array. -/
abbrev rowOf (u : Rows) (r : Fin 2048) (k : Fin 1024) : EReal := u (ix2 r k)
/-- The rows between the two sublayers. -/
def mid (r : Fin 2048) (k : Fin 1024) : EReal := x (ix2 r k) + normed (rowOf o r) k * gp (ix2 0 k)
/-- The hidden rows before the activation. -/
def pre (r : Fin 2048) (j : Fin 4096) : EReal := ∑ k : Fin 1024, normed (mid o x gp r) k * gq (ix2 0 k) * w1 (ix3 0 k j)
/-- The gradient of the activated rows. -/
def ds (r : Fin 2048) (j : Fin 4096) : EReal := ∑ k : Fin 1024, cf (ix2 r k) * w2 (ix3 0 j k)
/-- The gradient of the hidden rows. -/
def da (r : Fin 2048) (j : Fin 4096) : EReal := Ideal.ofBits .f32 0x40000000#32 * max (pre o x gp gq w1 r j) 0 * ds w2 cf r j
/-- The gradient of the normalized rows, scaled. -/
def dh (r : Fin 2048) (k : Fin 1024) : EReal := ∑ j, da o x gp gq w1 w2 cf r j * w1 (ix3 0 k j)
/-- The gradient of the normalized rows. -/
def dq (r : Fin 2048) (k : Fin 1024) : EReal := dh o x gp gq w1 w2 cf r k * gq (ix2 0 k)
/-- The gradient of the rows between the sublayers. -/
def dx (r : Fin 2048) (k : Fin 1024) : EReal := cy (ix2 r k) + back (mid o x gp r) (dq o x gp gq w1 w2 cf r) k
/-- The gradient of the mixer's normalized rows. -/
def dp (r : Fin 2048) (k : Fin 1024) : EReal := dx o x gp gq w1 w2 cf cy r k * gp (ix2 0 k)
/-- The gradient of the mixer's rows. -/
def dmix (r : Fin 2048) (k : Fin 1024) : EReal := back (rowOf o r) (dp o x gp gq w1 w2 cf cy r) k
/-- The gradient of the first scale. -/
def dgp (k : Fin 1024) : EReal := ∑ r, dx o x gp gq w1 w2 cf cy r k * normed (rowOf o r) k
/-- The gradient of the second scale. -/
def dgq (k : Fin 1024) : EReal := ∑ r, dh o x gp gq w1 w2 cf r k * normed (mid o x gp r) k

/-- Row `a` of row block `t` of eight. -/
def row8 (t : Fin 8) (a : Fin 256) : Fin 2048 := ⟨t.val * 256 + a.val, by omega⟩
/-- A sum over all rows, block by block. -/
theorem sum_rows8 (f : Fin 2048 → EReal) : ∑ t, ∑ a, f (row8 t a) = ∑ r, f r := Fin.sum_mul_add_congr fun t a h => rfl

section
variable {o x : Rows} {gp gq : Scale} {w1 : Widen} {w2 : Narrow} {cf cy : Rows}
variable (ho : ∀ i, IsReal (o i)) (hx : ∀ i, IsReal (x i)) (hp : ∀ i, IsReal (gp i)) (hq : ∀ i, IsReal (gq i))
  (h1 : ∀ i, IsReal (w1 i)) (h2 : ∀ i, IsReal (w2 i)) (hf : ∀ i, IsReal (cf i)) (hy : ∀ i, IsReal (cy i))

include ho hx hp in
theorem mid_real (r k) : IsReal (mid o x gp r k) := .add (hx _) (.mul (normed_real (fun k => ho (ix2 r k)) k) (hp _))
include ho hx hp hq h1 h2 hf in
theorem da_real (r j) : IsReal (da o x gp gq w1 w2 cf r j) := by
  have hpre : IsReal (pre o x gp gq w1 r j) := .sum _ fun k _ => .mul (.mul (normed_real (mid_real ho hx hp r) k) (hq _)) (h1 _)
  have hm : IsReal (max (pre o x gp gq w1 r j) 0) := by
    rcases max_choice (pre o x gp gq w1 r j) 0 with e | e <;> rw [e]; exacts [hpre, .zero]
  exact .mul (.mul ⟨_, word_two⟩ hm) (.sum _ fun _ _ => .mul (hf _) (h2 _))
include ho hx hp hq h1 h2 hf in
theorem dq_real (r k) : IsReal (dq o x gp gq w1 w2 cf r k) :=
  .mul (.sum _ fun j _ => .mul (da_real ho hx hp hq h1 h2 hf r j) (h1 _)) (hq _)
include ho hx hp hq h1 h2 hf hy in
theorem dp_real (r k) : IsReal (dp o x gp gq w1 w2 cf cy r k) :=
  .mul (.add (hy _) (back_real (mid_real ho hx hp r) (dq_real ho hx hp hq h1 h2 hf r) k)) (hp _)
end

/-- The rectifier's derivative cuts off what its own square already has at zero. -/
theorem cut (a d : EReal) : (if 0 < a then d * (Ideal.ofBits .f32 0x40000000#32 * max a 0) else 0) = Ideal.ofBits .f32 0x40000000#32 * max a 0 * d := by
  split_ifs with h
  · exact mul_comm _ _
  · rw [max_eq_right (not_lt.mp h), mul_zero, zero_mul]

end Cert.FfnSpec

end
-- ==== Proof.Ffn.Blocks.lean ====
/- The blocks the layer's backward kernel loads, read at an index from the arguments. -/
module

public import proofs.«01_k».proof.Proof.Ffn.Spec
public import proofs.«01_k».proof.Proof.Gen.FfnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.FfnSpec Cert.LossSpec Cert.NormSpec

variable (m : (ℓ : Loc nD τ sig) → Buf (Elt Ideal) ℓ) (c : Dev nD) (t : Fin cfg0.N)

/-- The arguments by name. -/
abbrev O : Rows := m ((c : Thread nD τ).loc main_arg0)
abbrev X : Rows := m ((c : Thread nD τ).loc main_arg1)
abbrev GP : Scale := m ((c : Thread nD τ).loc main_arg3)
abbrev GQ : Scale := m ((c : Thread nD τ).loc main_arg4)
abbrev W1 : Widen := m ((c : Thread nD τ).loc main_arg5)
abbrev W2 : Narrow := m ((c : Thread nD τ).loc main_arg6)
abbrev CF : Rows := m ((c : Thread nD τ).loc main_arg7)
abbrev CY : Rows := m ((c : Thread nD τ).loc main_arg8)

/-- Every window's block index at every grid point: point `t` works on the row block `t`. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

theorem read_cf (a : Fin 256) (k : Fin 1024) : (iblk m c 0 t : FVec Ideal S256x1024 .bf16) (ix2 a k) = CF m c (ix2 (row8 t a) k) := by
  blk_simp [iblk, V, idx t]
  entry_read
  pointwise
  blk_ext [idx t, row8]
theorem read_cy (a : Fin 256) (k : Fin 1024) : (iblk m c 5 t : FVec Ideal S256x1024 .f32) (ix2 a k) = CY m c (ix2 (row8 t a) k) := by
  blk_simp [iblk, V, idx t]
  entry_read
  pointwise
  blk_ext [idx t, row8]
theorem read_o (a : Fin 256) (k : Fin 1024) : (iblk m c 6 t : FVec Ideal S256x1024 .f32) (ix2 a k) = O m c (ix2 (row8 t a) k) := by
  blk_simp [iblk, V, idx t]
  entry_read
  pointwise
  blk_ext [idx t, row8]
theorem read_w1 (k : Fin 1024) (j : Fin 4096) : (iblk m c 2 t : FVec Ideal S1024x4096 .bf16) (ix2 k j) = W1 m c (ix3 0 k j) := by
  blk_simp [iblk, V, idx t]
  entry_read
  rw [show ((View.whole main_v1).slice (win0_2.rect t)).emb (ix2 k j) = (ix2 k j : S1024x4096.Idx) from by blk_ext [idx t]]
  pointwise
theorem read_w2 (j : Fin 4096) (k : Fin 1024) : (iblk m c 3 t : FVec Ideal S4096x1024 .bf16) (ix2 j k) = W2 m c (ix3 0 j k) := by
  blk_simp [iblk, V, idx t]
  entry_read
  rw [show ((View.whole main_v3).slice (win0_3.rect t)).emb (ix2 j k) = (ix2 j k : S4096x1024.Idx) from by blk_ext [idx t]]
  pointwise
theorem read_mid (a : Fin 256) (k : Fin 1024) : (iblk m c 4 t : FVec Ideal S256x1024 .f32) (ix2 a k) = mid (O m c) (X m c) (GP m c) (row8 t a) k := by
  blk_simp [iblk, V, idx t]
  entry_read
  rw [show ((View.whole main_v20).slice (win0_4.rect t)).emb (ix2 a k) = (ix2 (row8 t a) k : S2048x1024.Idx) from by blk_ext [idx t, row8]]
  pointwise [mid, normed, rs, spread]
theorem read_pre (a : Fin 256) (j : Fin 4096) : (iblk m c 1 t : FVec Ideal S256x4096 .f32) (ix2 a j) = pre (O m c) (X m c) (GP m c) (GQ m c) (W1 m c) (row8 t a) j := by
  blk_simp [iblk, V, idx t]
  entry_read
  rw [show ((View.whole main_v36).slice (win0_1.rect t)).emb (ix2 a j) = (ix2 (row8 t a) j : S2048x4096.Idx) from by blk_ext [idx t, row8]]
  pointwise [pre, mid, normed, rs, spread]

/-- The packed vectors: the gates' biases, which this call does not read, then the two scales. -/
theorem vecs : V m c main_v5 = concatenate S4x1024 0 [⟨S2x1024, (shapeCast S2x1024 (m ((c : Thread nD τ).loc main_arg2) : FVec Ideal S1x2x1024 .f32) shapeCasts_S1x2x1024_S2x1024 : FVec Ideal S2x1024 .f32)⟩, ⟨S1x1024, GP m c⟩, ⟨S1x1024, GQ m c⟩] concatenates_S2x1024_S1x1024_S1x1024_S4x1024_d0 := by
  unfold V
  after_results_simp
  rfl
theorem vecs_at (x : FVec Ideal S2x1024 .f32) (y z : FVec Ideal S1x1024 .f32) (h) (k : Fin 1024) :
    concatenate S4x1024 0 [⟨S2x1024, x⟩, ⟨S1x1024, y⟩, ⟨S1x1024, z⟩] h (ix2 2 k) = y (ix2 0 k)
    ∧ concatenate S4x1024 0 [⟨S2x1024, x⟩, ⟨S1x1024, y⟩, ⟨S1x1024, z⟩] h (ix2 3 k) = z (ix2 0 k) := by
  constructor <;> pointwise
theorem read_gp (k : Fin 1024) : (iblk m c 7 t : FVec Ideal S4x1024 .f32) (ix2 2 k) = GP m c (ix2 0 k) := by
  show V m c main_v5 _ = _
  rw [vecs, show (win0_7.blk t).view.emb (ix2 2 k) = (ix2 2 k : S4x1024.Idx) from by blk_ext [idx t]]
  exact (vecs_at _ _ _ _ k).1
theorem read_gq (k : Fin 1024) : (iblk m c 7 t : FVec Ideal S4x1024 .f32) (ix2 3 k) = GQ m c (ix2 0 k) := by
  show V m c main_v5 _ = _
  rw [vecs, show (win0_7.blk t).view.emb (ix2 3 k) = (ix2 3 k : S4x1024.Idx) from by blk_ext [idx t]]
  exact (vecs_at _ _ _ _ k).2

end Cert.FfnIdeal.RefValue

end
-- ==== Proof.Ffn.Values.lean ====
/- What the layer's backward kernel computes of one row block of 256, at an index. -/
module

public import proofs.«01_k».proof.Proof.Ffn.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.FfnSpec Cert.LossSpec Cert.NormSpec

variable (m : (ℓ : Loc nD τ sig) → Buf (Elt Ideal) ℓ) (c : Dev nD) (t : Fin cfg0.N)

/-- The two scalars the kernel passes on: zero and the row length. -/
def zeroB : Ideal .f32 := FloatOps.ofBits FTy.f32 0#32
def lenB : Ideal .f32 := FloatOps.ofBits FTy.f32 1149239296#32
theorem zeroB_eq : zeroB = (0 : EReal) := by pointwise [zeroB]
theorem lenB_eq : lenB = w1024 := rfl
/-- The last column part of the two weights, and the two scales, as the kernel loads them. -/
def w1L : FVec Ideal S1024x1024 .bf16 := View.ld (iblk m c 2 t) (Rect.unit ![0, 3072] ![1024, 1024] inb_S1024x4096_S1024x1024_0_3072)
def w2L : FVec Ideal S1024x1024 .bf16 := View.ld (iblk m c 3 t) (Rect.unit ![3072, 0] ![1024, 1024] inb_S4096x1024_S1024x1024_3072_0)
def gpB : FVec Ideal S1x1024 .f32 := View.ld (iblk m c 7 t) (Rect.unit ![2, 0] ![1, 1024] inb_S4x1024_S1x1024_2_0)
def gqB : FVec Ideal S1x1024 .f32 := View.ld (iblk m c 7 t) (Rect.unit ![3, 0] ![1, 1024] inb_S4x1024_S1x1024_3_0)
/-- The last column part of the hidden rows. -/
def preL : FVec Ideal S256x1024 .f32 := k0_pay18 (View.ld (iblk m c 1 t) (Rect.unit ![0, 3072] ![256, 1024] inb_S256x4096_S256x1024_0_3072))
/-- The gradient of the normalized rows over the first three column parts. -/
def dh3 : FVec Ideal S256x1024 .f32 :=
  k0_pay17 (k0_pay5 (iblk m c 0 t))
    (k0_pay9 (iblk m c 0 t) (View.ld (iblk m c 1 t) (Rect.unit ![0, 0] ![256, 1024] inb_S256x4096_S256x1024_0_0))
      (View.ld (iblk m c 3 t) (Rect.unit ![0, 0] ![1024, 1024] inb_S4096x1024_S1024x1024_0_0))
      (View.ld (iblk m c 2 t) (Rect.unit ![0, 0] ![1024, 1024] inb_S1024x4096_S1024x1024_0_0)))
    (k0_pay10 (View.ld (iblk m c 1 t) (Rect.unit ![0, 1024] ![256, 1024] inb_S256x4096_S256x1024_0_1024)))
    k0_pay12 (View.ld (iblk m c 3 t) (Rect.unit ![1024, 0] ![1024, 1024] inb_S4096x1024_S1024x1024_1024_0))
    (View.ld (iblk m c 2 t) (Rect.unit ![0, 1024] ![1024, 1024] inb_S1024x4096_S1024x1024_0_1024))
    (View.ld (iblk m c 1 t) (Rect.unit ![0, 2048] ![256, 1024] inb_S256x4096_S256x1024_0_2048))
    (View.ld (iblk m c 3 t) (Rect.unit ![2048, 0] ![1024, 1024] inb_S4096x1024_S1024x1024_2048_0))
    (View.ld (iblk m c 2 t) (Rect.unit ![0, 2048] ![1024, 1024] inb_S1024x4096_S1024x1024_0_2048))
/-- The gradient of the normalized rows, over all columns. -/
def dhB : FVec Ideal S256x1024 .f32 :=
  k0_pay22 (k0_pay5 (iblk m c 0 t)) (dh3 m c t) (preL m c t) zeroB (w2L m c t) (w1L m c t)
/-- The step back through the second normalization: its first term and its row sum. -/
def stepA : FVec Ideal S256x1024 .f32 :=
  k0_pay26 (k0_pay5 (iblk m c 0 t)) (dh3 m c t) (preL m c t) zeroB (w2L m c t) (w1L m c t) (iblk m c 4 t) (gqB m c t)
def stepB : FVec Ideal S256x1 .f32 :=
  k0_pay28 (k0_pay5 (iblk m c 0 t)) (dh3 m c t) (preL m c t) zeroB (w2L m c t) (w1L m c t) (iblk m c 4 t) (gqB m c t)
/-- The gradient between the sublayers. -/
def dxB : FVec Ideal S256x1024 .f32 :=
  k0_pay30 (k0_pay23 (iblk m c 4 t)) (stepA m c t) (k0_pay27 (iblk m c 4 t)) (stepB m c t) lenB (iblk m c 5 t)

theorem w1L_at (k j : Fin 1024) : w1L m c t (ix2 k j) = W1 m c (ix3 0 k ⟨3072 + j.val, by omega⟩) := by
  pointwise [w1L]
  exact read_w1 m c t k _
theorem w2L_at (j k : Fin 1024) : w2L m c t (ix2 j k) = W2 m c (ix3 0 ⟨3072 + j.val, by omega⟩ k) := by
  pointwise [w2L]
  exact read_w2 m c t _ k
theorem gpB_at (k : Fin 1024) (o : Fin 1) : gpB m c t (ix2 o k) = GP m c (ix2 0 k) := by
  pointwise [gpB]
  exact read_gp m c t k
theorem gqB_at (k : Fin 1024) (o : Fin 1) : gqB m c t (ix2 o k) = GQ m c (ix2 0 k) := by
  pointwise [gqB]
  exact read_gq m c t k
theorem preL_at (a : Fin 256) (j : Fin 1024) : preL m c t (ix2 a j) = pre (O m c) (X m c) (GP m c) (GQ m c) (W1 m c) (row8 t a) ⟨3072 + j.val, by omega⟩ := by
  pointwise [preL, k0_pay18]
  exact read_pre m c t a _
/-- The hidden rows' gradient over the last column part. -/
theorem daL_at (a : Fin 256) (j : Fin 1024) :
    k0_pay21 (k0_pay5 (iblk m c 0 t)) (preL m c t) zeroB (w2L m c t) (ix2 a j)
      = da (O m c) (X m c) (GP m c) (GQ m c) (W1 m c) (W2 m c) (CF m c) (row8 t a) ⟨3072 + j.val, by omega⟩ := by
  pointwise [k0_pay5, k0_pay19, k0_pay21, da, ds]
  simp only [read_cf, w2L_at, preL_at, zeroB_eq]
/-- The hidden rows' gradient over the first three column parts. -/
theorem da0_at (a : Fin 256) (j : Fin 1024) :
    k0_pay8 (iblk m c 0 t) (View.ld (iblk m c 1 t) (Rect.unit ![0, 0] ![256, 1024] inb_S256x4096_S256x1024_0_0))
      (View.ld (iblk m c 3 t) (Rect.unit ![0, 0] ![1024, 1024] inb_S4096x1024_S1024x1024_0_0)) (ix2 a j)
      = da (O m c) (X m c) (GP m c) (GQ m c) (W1 m c) (W2 m c) (CF m c) (row8 t a) ⟨j.val, by omega⟩ := by
  pointwise [k0_pay5, k0_pay6, k0_pay8, da, ds]
  simp only [read_cf, read_w2, read_pre]
theorem da1_at (a : Fin 256) (j : Fin 1024) :
    k0_pay13 (k0_pay5 (iblk m c 0 t)) (k0_pay10 (View.ld (iblk m c 1 t) (Rect.unit ![0, 1024] ![256, 1024] inb_S256x4096_S256x1024_0_1024))) k0_pay12
      (View.ld (iblk m c 3 t) (Rect.unit ![1024, 0] ![1024, 1024] inb_S4096x1024_S1024x1024_1024_0)) (ix2 a j)
      = da (O m c) (X m c) (GP m c) (GQ m c) (W1 m c) (W2 m c) (CF m c) (row8 t a) ⟨1024 + j.val, by omega⟩ := by
  pointwise [k0_pay5, k0_pay10, k0_pay12, k0_pay13, da, ds]
  simp only [read_cf, read_w2, read_pre]
theorem da2_at (a : Fin 256) (j : Fin 1024) :
    k0_pay16 (k0_pay5 (iblk m c 0 t)) (View.ld (iblk m c 1 t) (Rect.unit ![0, 2048] ![256, 1024] inb_S256x4096_S256x1024_0_2048))
      (View.ld (iblk m c 3 t) (Rect.unit ![2048, 0] ![1024, 1024] inb_S4096x1024_S1024x1024_2048_0)) (ix2 a j)
      = da (O m c) (X m c) (GP m c) (GQ m c) (W1 m c) (W2 m c) (CF m c) (row8 t a) ⟨2048 + j.val, by omega⟩ := by
  pointwise [k0_pay5, k0_pay14, k0_pay16, da, ds]
  simp only [read_cf, read_w2, read_pre]

theorem dh3_at (a : Fin 256) (k : Fin 1024) : dh3 m c t (ix2 a k)
    = ∑ j : Fin 1024, da (O m c) (X m c) (GP m c) (GQ m c) (W1 m c) (W2 m c) (CF m c) (row8 t a) ⟨j.val, by omega⟩ * W1 m c (ix3 0 k ⟨j.val, by omega⟩)
      + ∑ j : Fin 1024, da (O m c) (X m c) (GP m c) (GQ m c) (W1 m c) (W2 m c) (CF m c) (row8 t a) ⟨1024 + j.val, by omega⟩ * W1 m c (ix3 0 k ⟨1024 + j.val, by omega⟩)
      + ∑ j : Fin 1024, da (O m c) (X m c) (GP m c) (GQ m c) (W1 m c) (W2 m c) (CF m c) (row8 t a) ⟨2048 + j.val, by omega⟩ * W1 m c (ix3 0 k ⟨2048 + j.val, by omega⟩) := by
  pointwise [dh3, k0_pay5, k0_pay6, k0_pay8, k0_pay9, k0_pay10, k0_pay12, k0_pay13, k0_pay14, k0_pay16, k0_pay17, da, ds]
  simp only [read_cf, read_w1, read_w2, read_pre]
theorem dhB_at (a : Fin 256) (k : Fin 1024) : dhB m c t (ix2 a k) = dh (O m c) (X m c) (GP m c) (GQ m c) (W1 m c) (W2 m c) (CF m c) (row8 t a) k := by
  rw [dh, sum_parts, ← dh3_at]
  pointwise [dhB, k0_pay22]
  simp only [daL_at, w1L_at]

theorem rsB_at (a : Fin 256) (o : Fin 1) : k0_pay24 (iblk m c 4 t) (ix2 a o) = rs (mid (O m c) (X m c) (GP m c) (row8 t a)) := by
  pointwise [k0_pay23, k0_pay24, rs, spread]
  simp only [read_mid]
theorem dqB_at (a : Fin 256) (k : Fin 1024) :
    k0_pay25 (k0_pay5 (iblk m c 0 t)) (dh3 m c t) (preL m c t) zeroB (w2L m c t) (w1L m c t) (gqB m c t) (ix2 a k)
      = dq (O m c) (X m c) (GP m c) (GQ m c) (W1 m c) (W2 m c) (CF m c) (row8 t a) k := by
  rw [dq, ← dhB_at]
  pointwise [k0_pay25, dhB]
  rw [gqB_at]
theorem stepA_at (a : Fin 256) (k : Fin 1024) : stepA m c t (ix2 a k)
    = rs (mid (O m c) (X m c) (GP m c) (row8 t a)) * dq (O m c) (X m c) (GP m c) (GQ m c) (W1 m c) (W2 m c) (CF m c) (row8 t a) k := by
  pointwise [stepA, k0_pay26]
  rw [rsB_at, dqB_at]
theorem stepB_at (a : Fin 256) (o : Fin 1) : stepB m c t (ix2 a o)
    = ∑ k, mid (O m c) (X m c) (GP m c) (row8 t a) k * dq (O m c) (X m c) (GP m c) (GQ m c) (W1 m c) (W2 m c) (CF m c) (row8 t a) k := by
  pointwise [stepB, k0_pay23, k0_pay28]
  simp only [read_mid, dqB_at]
theorem dxB_at (a : Fin 256) (k : Fin 1024) : dxB m c t (ix2 a k) = dx (O m c) (X m c) (GP m c) (GQ m c) (W1 m c) (W2 m c) (CF m c) (CY m c) (row8 t a) k := by
  pointwise [dxB, k0_pay23, k0_pay27, k0_pay30, dx, back]
  simp only [read_mid, read_cy, stepA_at, stepB_at, rsB_at, lenB_eq]
theorem rsO_at (a : Fin 256) (o : Fin 1) : k0_pay31 (iblk m c 6 t) (ix2 a o) = rs (rowOf (O m c) (row8 t a)) := by
  pointwise [k0_pay31, rs, spread]
  simp only [read_o]
/-- The gradient of the mixer's rows. -/
theorem dmixB_at (a : Fin 256) (k : Fin 1024) :
    k0_pay1 (k0_pay32 (k0_pay23 (iblk m c 4 t)) (stepA m c t) (k0_pay27 (iblk m c 4 t)) (stepB m c t) lenB (iblk m c 5 t)
        (iblk m c 6 t) (gpB m c t)) (ix2 a k)
      = dmix (O m c) (X m c) (GP m c) (GQ m c) (W1 m c) (W2 m c) (CF m c) (CY m c) (row8 t a) k := by
  have hd := dxB_at m c t a
  simp only [dxB] at hd
  pointwise [k0_pay1, k0_pay32, dmix, back, dp]
  simp only [hd, rsO_at, gpB_at, read_o]
/-- One row block's addition to the first scale's gradient. -/
theorem addP_at (old : FVec Ideal S1x1024 .f32) (o : Fin 1) (k : Fin 1024) :
    k0_pay2 (k0_pay33 (k0_pay23 (iblk m c 4 t)) (stepA m c t) (k0_pay27 (iblk m c 4 t)) (stepB m c t) lenB (iblk m c 5 t)
        (iblk m c 6 t)) old (ix2 o k)
      = old (ix2 o k) + ∑ a, dx (O m c) (X m c) (GP m c) (GQ m c) (W1 m c) (W2 m c) (CF m c) (CY m c) (row8 t a) k * normed (rowOf (O m c) (row8 t a)) k := by
  have hd := fun a => dxB_at m c t a k
  simp only [dxB] at hd
  pointwise [k0_pay2, k0_pay33, normed]
  simp only [hd, rsO_at, read_o]
/-- One row block's addition to the second scale's gradient. -/
theorem addQ_at (old : FVec Ideal S1x1024 .f32) (o : Fin 1) (k : Fin 1024) :
    k0_pay3 (k0_pay29 (dhB m c t) (k0_pay23 (iblk m c 4 t)) (k0_pay24 (iblk m c 4 t))) old (ix2 o k)
      = old (ix2 o k) + ∑ a, dh (O m c) (X m c) (GP m c) (GQ m c) (W1 m c) (W2 m c) (CF m c) (row8 t a) k * normed (mid (O m c) (X m c) (GP m c) (row8 t a)) k := by
  pointwise [k0_pay3, k0_pay23, k0_pay29, normed]
  simp only [dhB_at, rsB_at, read_mid]

end Cert.FfnIdeal.RefValue

end
-- ==== Proof.Ffn.Arrays.lean ====
/- What the arrays that the layer's backward kernel writes hold after its run. -/
module

public import proofs.«01_k».proof.Proof.Ffn.Values

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.FfnSpec Cert.LossSpec Cert.NormSpec

variable (m : (ℓ : Loc nD τ sig) → Buf (Elt Ideal) ℓ) (c : Dev nD) (t : Fin cfg0.N)

set_option maxHeartbeats 2000000 in
/-- The hidden rows' gradient the kernel's run leaves. -/
theorem final_da : (dats m 0 c).arrAt 8 cfg0.N = fun i => da (O m c) (X m c) (GP m c) (GQ m c) (W1 m c) (W2 m c) (CF m c) (i 0) (i 1) := by
  refine (dats m 0 c).arrAt_eq_of_covers 8 _ (by decide +kernel) fun t hf y => ?_
  have hr : ∀ a : Fin 256, (y 0).val = a.val → (win0_8.blk t).view.emb y 0 = row8 t a := fun a ha => Fin.ext (by blk_simp [idx t]; rw [ha]; rfl)
  have hk : ∀ (k : ℕ) (hk : k < 4096), (y 1).val = k → (win0_8.blk t).view.emb y 1 = ⟨k, hk⟩ := fun k hk h => Fin.ext (by blk_simp [idx t]; exact h)
  blk_simp
  rw [after0_8]
  by_cases h : t.val % 8 = 0
  on_goal 1 => rw [outsAt0_A m c t h]
  on_goal 2 => rw [outsAt0_B m c t h]
  all_goals
    frame_out
    canon_tiles y
    all_goals
      rw [hr _ h0, hk _ (by omega) h1]
      obtain ⟨a, b, rfl⟩ : ∃ (a : Fin 256) (b : Fin 1024), y = ix2 a b := ⟨y 0, y 1, by blk_ext⟩
    · exact daL_at m c t a b
    · exact da2_at m c t a b
    · exact da1_at m c t a b
    · exact da0_at m c t a b

set_option maxHeartbeats 2000000 in
/-- The squared activation the kernel's run leaves. -/
theorem final_sq : (dats m 0 c).arrAt 9 cfg0.N = fun i => LossSpec.sq (pre (O m c) (X m c) (GP m c) (GQ m c) (W1 m c) (i 0) (i 1)) := by
  refine (dats m 0 c).arrAt_eq_of_covers 9 _ (by decide +kernel) fun t hf y => ?_
  have hr : ∀ a : Fin 256, (y 0).val = a.val → (win0_9.blk t).view.emb y 0 = row8 t a := fun a ha => Fin.ext (by blk_simp [idx t]; rw [ha]; rfl)
  have hk : ∀ (k : ℕ) (hk : k < 4096), (y 1).val = k → (win0_9.blk t).view.emb y 1 = ⟨k, hk⟩ := fun k hk h => Fin.ext (by blk_simp [idx t]; exact h)
  blk_simp
  rw [after0_9]
  by_cases h : t.val % 8 = 0
  on_goal 1 => rw [outsAt0_A m c t h]
  on_goal 2 => rw [outsAt0_B m c t h]
  all_goals
    frame_out
    canon_tiles y
    all_goals
      rw [hr _ h0, hk _ (by omega) h1]
      obtain ⟨a, b, rfl⟩ : ∃ (a : Fin 256) (b : Fin 1024), y = ix2 a b := ⟨y 0, y 1, by blk_ext⟩
      pointwise [k0_pay6, k0_pay7, k0_pay10, k0_pay11, k0_pay14, k0_pay15, k0_pay18, k0_pay19, k0_pay20, LossSpec.sq]
      simp only [read_pre]

/-- The gradient between the sublayers the kernel's run leaves. -/
theorem final_dx : (dats m 0 c).arrAt 10 cfg0.N
    = fun i => dx (O m c) (X m c) (GP m c) (GQ m c) (W1 m c) (W2 m c) (CF m c) (CY m c) (i 0) (i 1) := by
  refine (dats m 0 c).arrAt_eq_of_covers 10 _ (by decide +kernel) fun t hf y => ?_
  obtain ⟨a, b, rfl⟩ : ∃ (a : Fin 256) (b : Fin 1024), y = ix2 a b := ⟨y 0, y 1, by blk_ext⟩
  blk_simp
  rw [after0_10]
  rw [show (win0_10.blk t).view.emb (ix2 a b) = ix2 (row8 t a) b by blk_ext [idx t, row8]]
  by_cases h : t.val % 8 = 0
  on_goal 1 => rw [outsAt0_A m c t h]
  on_goal 2 => rw [outsAt0_B m c t h]
  all_goals
    frame_out
    exact dxB_at m c t a b

/-- The gradient of the mixer's rows the kernel's run leaves. -/
theorem final_dmix : (dats m 0 c).arrAt 11 cfg0.N
    = fun i => dmix (O m c) (X m c) (GP m c) (GQ m c) (W1 m c) (W2 m c) (CF m c) (CY m c) (i 0) (i 1) := by
  refine (dats m 0 c).arrAt_eq_of_covers 11 _ (by decide +kernel) fun t hf y => ?_
  obtain ⟨a, b, rfl⟩ : ∃ (a : Fin 256) (b : Fin 1024), y = ix2 a b := ⟨y 0, y 1, by blk_ext⟩
  blk_simp
  rw [after0_11]
  rw [show (win0_11.blk t).view.emb (ix2 a b) = ix2 (row8 t a) b by blk_ext [idx t, row8]]
  by_cases h : t.val % 8 = 0
  on_goal 1 => rw [outsAt0_A m c t h]
  on_goal 2 => rw [outsAt0_B m c t h]
  all_goals
    frame_out
    exact dmixB_at m c t a b

/-- A row of the pair of scale gradients: a store of the other row is passed over. -/
theorem pair_skip (p : Fin 2) (k : Fin 1024) (off : Nat) (h) (w : FVec Ideal S1x1024 .f32) (L) (hs : off ≠ p.val) :
    View.canon (Val := Elt Ideal) (e := .f32) (⟨Rect.unit (s := S2x1024) ![off, 0] ![1, 1024] h, w⟩ :: L) (ix2 p k) = View.canon L (ix2 p k) := by
  refine View.canon_cons_of_not_mem _ _ ?_
  rw [Rect.mem_set_unit]
  intro hm
  have h0 : off ≤ p.val := (hm 0).1
  have h1 : p.val < off + 1 := (hm 0).2
  omega
/-- The last store of the row is what is read. -/
theorem pair_hit (p : Fin 2) (k : Fin 1024) (off : Nat) (h) (w : FVec Ideal S1x1024 .f32) (L) (hs : off = p.val) :
    View.canon (Val := Elt Ideal) (e := .f32) (⟨Rect.unit (s := S2x1024) ![off, 0] ![1, 1024] h, w⟩ :: L) (ix2 p k) = w (ix2 0 k) := by
  subst hs
  rw [show (ix2 p k : S2x1024.Idx) = (Rect.unit (s := S2x1024) ![p.val, 0] ![1, 1024] h).emb (ix2 0 k) by blk_ext]
  exact View.canon_cons_emb _ _ _ _

/-- One row's part of the two scales' gradients. -/
def part (p : Fin 2) (r : Fin 2048) (k : Fin 1024) : EReal :=
  if p = 0 then dx (O m c) (X m c) (GP m c) (GQ m c) (W1 m c) (W2 m c) (CF m c) (CY m c) r k * normed (rowOf (O m c) r) k
  else dh (O m c) (X m c) (GP m c) (GQ m c) (W1 m c) (W2 m c) (CF m c) r k * normed (mid (O m c) (X m c) (GP m c) r) k

/-- The scales' gradients after the first row block. -/
theorem first_pair (h : t.val % 8 = 0) (p : Fin 2) (k : Fin 1024) : (outsAt0 m c t.val t.isLt).2.2.2.2 (ix2 p k) = 0 + ∑ a, part m c p (row8 t a) k := by
  rw [outsAt0_A m c t h]
  frame_out
  simp (disch := decide) only [↓ View.readCov_skip, ↓ View.readCov_cons_toLoadRect, ↓ View.readCov_fill]
  fin_cases p
  · simp (disch := decide) only [↓ pair_skip, ↓ pair_hit]
    refine (addP_at m c t _ 0 k).trans (congrArg (· + _) ?_)
    pointwise [k0_pay4]
  · simp (disch := decide) only [↓ pair_skip, ↓ pair_hit]
    refine (addQ_at m c t _ 0 k).trans (congrArg (· + _) ?_)
    pointwise [k0_pay4]
/-- The scales' gradients after a later row block, from what the one before left. -/
theorem next_pair (h : ¬t.val % 8 = 0) (p : Fin 2) (k : Fin 1024) : (outsAt0 m c t.val t.isLt).2.2.2.2 (ix2 p k)
    = (outsAt0 m c (t.val - 1) (Nat.lt_of_le_of_lt (Nat.sub_le _ _) t.isLt)).2.2.2.2 (ix2 p k) + ∑ a, part m c p (row8 t a) k := by
  rw [outsAt0_B m c t h]
  frame_out
  fin_cases p
  · simp (disch := decide) only [↓ pair_skip, ↓ pair_hit]
    refine (addP_at m c t _ 0 k).trans (congrArg (· + _) ?_)
    have he : (Rect.unit (s := S2x1024) ![0, 0] ![1, 1024] inb_S2x1024_S1x1024_0_0).emb (ix2 0 k) = ix2 0 k := by blk_ext
    exact congrArg (outsAt0 m c (t.val - 1) (Nat.lt_of_le_of_lt (Nat.sub_le _ _) t.isLt)).2.2.2.2 he
  · simp (disch := decide) only [↓ pair_skip, ↓ pair_hit]
    refine (addQ_at m c t _ 0 k).trans (congrArg (· + _) ?_)
    have he : (Rect.unit (s := S2x1024) ![1, 0] ![1, 1024] inb_S2x1024_S1x1024_1_0).emb (ix2 0 k) = ix2 1 k := by blk_ext
    exact congrArg (outsAt0 m c (t.val - 1) (Nat.lt_of_le_of_lt (Nat.sub_le _ _) t.isLt)).2.2.2.2 he

/-- The scales' gradients the kernel's run leaves. -/
theorem final_pair : (dats m 0 c).arrAt 12 cfg0.N = fun j => ∑ r, part m c (j 0) r (j 1) := by
  refine (dats m 0 c).arrAt_eq_of_after_last 12 t0_7 (by decide +kernel) _ fun j => ?_
  blk_simp
  rw [after0_12, Pipeline.eq_sum_fin_of_reset_step_apply_last (fun n h => (outsAt0 m c n h).2.2.2.2) 8 (fun _ => 0)
    (fun t j => ∑ a, part m c (j 0) (row8 t a) (j 1))
    (fun t h j => by
      obtain ⟨p, k, rfl⟩ : ∃ (p : Fin 2) (k : Fin 1024), j = ix2 p k := ⟨j 0, j 1, by blk_ext⟩
      exact first_pair m c t h p k)
    (fun t h j => by
      obtain ⟨p, k, rfl⟩ : ∃ (p : Fin 2) (k : Fin 1024), j = ix2 p k := ⟨j 0, j 1, by blk_ext⟩
      exact next_pair m c t h p k) (le_of_eq N_0) t0_7 rfl j, zero_add]
  exact sum_rows8 fun r => part m c (j 0) r (j 1)

end Cert.FfnIdeal.RefValue

end
-- ==== Proof.Ffn.Reference.lean ====
/- The derivative of the layer as the reference computes it, one buffer at a time, is what `Ffn/Spec.lean` says. -/
module

public import proofs.«01_k».proof.Proof.Ffn.Spec
public import proofs.«01_k».proof.Proof.Gen.FfnRefIdeal.Run
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnRefIdeal.RefValue

open Cert.FfnRefIdeal Cert.FfnRefIdeal.Gen Cert.FfnRefIdeal.Read Cert.FfnSpec Cert.LossSpec Cert.NormSpec Cert.Finite

variable (x0 x1 x7 x8 : Rows) (x3 x4 : Scale) (x5 : Widen) (x6 : Narrow)

theorem spreadO_at (r : Fin 2048) (e : Fin 1) : val_main_v7 (F := Ideal) x0 (ix2 r e) = spread (rowOf x0 r) := by
  pointwise [val_main_v1, val_main_cst, val_main_v2, val_main_v3, val_main_cst_0, val_main_v4, val_main_v5, val_main_cst_1, val_main_v6, val_main_v7, spread]
theorem rsO_at (r : Fin 2048) (e : Fin 1) : val_main_v8 (F := Ideal) x0 (ix2 r e) = rs (rowOf x0 r) := by
  pointwise [val_main_v8, rs]
  rw [spreadO_at]
theorem normedO_at (r : Fin 2048) (k : Fin 1024) : val_main_v13 (F := Ideal) x0 (ix2 r k) = normed (rowOf x0 r) k := by
  pointwise [val_main_v12, val_main_v13, normed]
  rw [rsO_at]
theorem mid_at (r : Fin 2048) (k : Fin 1024) : val_main_v17 (F := Ideal) x0 x1 x3 (ix2 r k) = mid x0 x1 x3 r k := by
  pointwise [val_main_v0, val_main_v14, val_main_v15, val_main_v16, val_main_v17, mid]
  rw [normedO_at]
theorem spread_at (r : Fin 2048) (e : Fin 1) : val_main_v25 (F := Ideal) x0 x1 x3 (ix2 r e) = spread (mid x0 x1 x3 r) := by
  pointwise [val_main_v19, val_main_cst_3, val_main_v20, val_main_v21, val_main_cst_4, val_main_v22, val_main_v23, val_main_cst_5, val_main_v24, val_main_v25, spread]
  simp only [mid_at]
theorem rs_at (r : Fin 2048) (e : Fin 1) : val_main_v26 (F := Ideal) x0 x1 x3 (ix2 r e) = rs (mid x0 x1 x3 r) := by
  pointwise [val_main_v26, rs]
  rw [spread_at]
theorem normed_at (r : Fin 2048) (k : Fin 1024) : val_main_v31 (F := Ideal) x0 x1 x3 (ix2 r k) = normed (mid x0 x1 x3 r) k := by
  pointwise [val_main_v30, val_main_v31, normed]
  rw [rs_at, mid_at]
theorem pre_at (r : Fin 2048) (j : Fin 4096) : val_main_v36 (F := Ideal) x0 x1 x3 x4 x5 (ix2 r j) = pre x0 x1 x3 x4 x5 r j := by
  pointwise [val_main_v18, val_main_v32, val_main_v33, val_main_v34, val_main_v35, val_main_v36, pre]
  simp only [normed_at]
theorem max_at (r : Fin 2048) (j : Fin 4096) : val_main_v37 (F := Ideal) x0 x1 x3 x4 x5 (ix2 r j) = max (pre x0 x1 x3 x4 x5 r j) 0 := by
  pointwise [val_main_call0_cst, val_main_call0_v0, val_main_v37]
  rw [pre_at]
theorem sq_at (r : Fin 2048) (j : Fin 4096) : val_main_v96 (F := Ideal) x0 x1 x3 x4 x5 (ix2 r j) = LossSpec.sq (pre x0 x1 x3 x4 x5 r j) := by
  pointwise [val_main_v41, val_main_v96, LossSpec.sq]
  rw [max_at]
theorem ds_at (r : Fin 2048) (j : Fin 4096) : val_main_v46 (F := Ideal) x6 x7 (ix2 r j) = ds x6 x7 r j := by
  pointwise [val_main_v44, val_main_v46, ds]
theorem da_at (r : Fin 2048) (j : Fin 4096) : val_main_v49 (F := Ideal) x0 x1 x3 x4 x5 x6 x7 (ix2 r j) = da x0 x1 x3 x4 x5 x6 x7 r j := by
  pointwise [val_main_cst_7, val_main_v38, val_main_v39, val_main_cst_9, val_main_v42, val_main_v43, val_main_v47, val_main_cst_10, val_main_v48, val_main_v49, da]
  rw [pre_at, max_at, ds_at]
  exact cut _ _
theorem dh_at (r : Fin 2048) (k : Fin 1024) : val_main_v50 (F := Ideal) x0 x1 x3 x4 x5 x6 x7 (ix2 r k) = dh x0 x1 x3 x4 x5 x6 x7 r k := by
  pointwise [val_main_v35, val_main_v50, dh]
  simp only [da_at]
theorem dq_at (r : Fin 2048) (k : Fin 1024) : val_main_v55 (F := Ideal) x0 x1 x3 x4 x5 x6 x7 (ix2 r k) = dq x0 x1 x3 x4 x5 x6 x7 r k := by
  pointwise [val_main_v18, val_main_v32, val_main_v54, val_main_v55, dq]
  rw [dh_at]
theorem coef_at (r : Fin 2048) (k : Fin 1024) :
    val_main_v67 (F := Ideal) x0 x1 x3 x4 x5 x6 x7 (ix2 r k) = coef (mid x0 x1 x3 r) (dq x0 x1 x3 x4 x5 x6 x7 r) := by
  pointwise [val_main_v27, val_main_cst_6, val_main_v28, val_main_v29, val_main_v57, val_main_cst_13, val_main_v58, val_main_v59, val_main_v63, val_main_cst_14,
    val_main_v64, val_main_v65, val_main_cst_15, val_main_v66, val_main_v67, coef]
  simp only [mid_at, dq_at, rs_at, spread_at, Finset.univ_unique, Finset.sum_singleton]
/-- The gradient between the sublayers, in the order the derivative program computes it. -/
theorem dx_at (r : Fin 2048) (k : Fin 1024) : val_main_v71 (F := Ideal) x0 x1 x3 x4 x5 x6 x7 x8 (ix2 r k)
    = x8 (ix2 r k) + dq x0 x1 x3 x4 x5 x6 x7 r k * rs (mid x0 x1 x3 r) + mid x0 x1 x3 r k * coef (mid x0 x1 x3 r) (dq x0 x1 x3 x4 x5 x6 x7 r)
      + coef (mid x0 x1 x3 r) (dq x0 x1 x3 x4 x5 x6 x7 r) * mid x0 x1 x3 r k := by
  pointwise [val_main_v60, val_main_v61, val_main_v62, val_main_v68, val_main_v69, val_main_v70, val_main_v71]
  rw [coef_at, mid_at, dq_at, rs_at]
/-- The gradient of the second scale. -/
theorem dgq_at (e : Fin 1) (k : Fin 1024) : val_main_v72 (F := Ideal) x0 x1 x3 x4 x5 x6 x7 (ix2 e k) = dgq x0 x1 x3 x4 x5 x6 x7 k := by
  pointwise [val_main_v51, val_main_cst_11, val_main_v52, val_main_v53, val_main_cst_12, val_main_v56, val_main_v72, dgq]
  simp only [normed_at, dh_at, Finset.univ_unique, Finset.sum_singleton]
  exact Finset.sum_congr rfl fun r _ => mul_comm _ _

section
variable {x0 x1 x7 x8 x3 x4 x5 x6}
variable (h0 : ∀ i, IsReal (x0 i)) (h1 : ∀ i, IsReal (x1 i)) (h3 : ∀ i, IsReal (x3 i)) (h4 : ∀ i, IsReal (x4 i))
  (h5 : ∀ i, IsReal (x5 i)) (h6 : ∀ i, IsReal (x6 i)) (h7 : ∀ i, IsReal (x7 i)) (h8 : ∀ i, IsReal (x8 i))
include h0 h1 h3 h4 h5 h6 h7

/-- The gradient between the sublayers, on finite arguments. -/
theorem dx_eq (r : Fin 2048) (k : Fin 1024) : val_main_v71 (F := Ideal) x0 x1 x3 x4 x5 x6 x7 x8 (ix2 r k) = dx x0 x1 x3 x4 x5 x6 x7 x8 r k :=
  (dx_at _ _ _ _ _ _ _ _ r k).trans (back_eq_add (mid_real h0 h1 h3 r) (dq_real h0 h1 h3 h4 h5 h6 h7 r) _ k)
theorem dp_at (r : Fin 2048) (k : Fin 1024) : val_main_v78 (F := Ideal) x0 x1 x3 x4 x5 x6 x7 x8 (ix2 r k) = dp x0 x1 x3 x4 x5 x6 x7 x8 r k := by
  pointwise [val_main_v0, val_main_v14, val_main_v73, val_main_v77, val_main_v78, dp]
  rw [dx_eq h0 h1 h3 h4 h5 h6 h7]
/-- The gradient of the first scale. -/
theorem dgp_at (e : Fin 1) (k : Fin 1024) : val_main_v94 (F := Ideal) x0 x1 x3 x4 x5 x6 x7 x8 (ix2 e k) = dgp x0 x1 x3 x4 x5 x6 x7 x8 k := by
  pointwise [val_main_v73, val_main_v74, val_main_cst_16, val_main_v75, val_main_v76, val_main_cst_17, val_main_v79, val_main_v94, dgp]
  simp only [normedO_at, dx_eq h0 h1 h3 h4 h5 h6 h7, Finset.univ_unique, Finset.sum_singleton]
  exact Finset.sum_congr rfl fun r _ => mul_comm _ _
/-- The two scales' gradients, one under the other. -/
theorem pair_at (p : Fin 2) (k : Fin 1024) : val_main_v98 (F := Ideal) x0 x1 x3 x4 x5 x6 x7 x8 (ix2 p k)
    = ∑ r, if p = 0 then dx x0 x1 x3 x4 x5 x6 x7 x8 r k * normed (rowOf x0 r) k else dh x0 x1 x3 x4 x5 x6 x7 r k * normed (mid x0 x1 x3 r) k := by
  fin_cases p
  · refine Eq.trans ?_ (dgp_at h0 h1 h3 h4 h5 h6 h7 0 k)
    pointwise [val_main_v98]
  · refine Eq.trans ?_ (dgq_at _ _ _ _ _ _ _ 0 k)
    pointwise [val_main_v98]
theorem coefO_at (r : Fin 2048) (k : Fin 1024) :
    val_main_v89 (F := Ideal) x0 x1 x3 x4 x5 x6 x7 x8 (ix2 r k) = coef (rowOf x0 r) (dp x0 x1 x3 x4 x5 x6 x7 x8 r) := by
  pointwise [val_main_v9, val_main_cst_2, val_main_v10, val_main_v11, val_main_v80, val_main_cst_18, val_main_v81, val_main_v82, val_main_v85, val_main_cst_19,
    val_main_v86, val_main_v87, val_main_cst_20, val_main_v88, val_main_v89, coef]
  simp only [dp_at h0 h1 h3 h4 h5 h6 h7, rsO_at, spreadO_at, Finset.univ_unique, Finset.sum_singleton]
include h8 in
/-- The gradient of the mixer's rows. -/
theorem dmix_at (r : Fin 2048) (k : Fin 1024) : val_main_v97 (F := Ideal) x0 x1 x3 x4 x5 x6 x7 x8 (ix2 r k) = dmix x0 x1 x3 x4 x5 x6 x7 x8 r k := by
  pointwise [val_main_v83, val_main_v84, val_main_v90, val_main_v91, val_main_v92, val_main_v93, val_main_v97, dmix]
  rw [coefO_at h0 h1 h3 h4 h5 h6 h7, dp_at h0 h1 h3 h4 h5 h6 h7, rsO_at]
  exact back_eq (fun k => h0 (ix2 r k)) (dp_real h0 h1 h3 h4 h5 h6 h7 h8 r) k
end

end Cert.FfnRefIdeal.RefValue

end
-- ==== Proof.Ffn.Claims.lean ====
/- The claims about the layer's backward call: the two frames, the reference's frame, and the values. Both programs end
   at the arrays of `Ffn/Spec.lean`. -/
module

public import proofs.«01_k».proof.Defs
public import proofs.«01_k».proof.Proof.Ffn.Arrays
public import proofs.«01_k».proof.Proof.Ffn.Reference
public import proofs.«01_k».proof.Proof.Gate.Finite
public import proofs.«01_k».proof.Proof.Gen.Ffn.Frame
public import proofs.«01_k».proof.Proof.Gen.Pre_ffn_finite
public import Idealize.ShloMosaic.Lib.Claim

@[expose] public section

set_option maxRecDepth 16384

noncomputable section

open Idealize.ShloMosaic Idealize.ShloMosaic.TcCoe Idealize.SL.Sem

namespace Cert.Proof.FfnClaims

open Cert.LossSpec Cert.FfnSpec Cert.NormSpec Cert.FfnIdeal.RefValue Cert.FfnRefIdeal.RefValue Cert.FfnRefIdeal.Read Cert.Finite Cert.GateSpec

/-- The kernel's frame. -/
theorem frame : Cert.quiescent_Ffn := fun m ρ _ => Cert.Ffn.Gen.frame m ρ
/-- The idealized kernel's frame. -/
theorem frame_ideal : Cert.quiescent_FfnIdeal := fun m ρ _ => Cert.FfnIdeal.Gen.frame m ρ
/-- The same, on finite arguments. -/
theorem frame_ideal_finite : Cert.quiescent_FfnIdeal_pre_ffn_finite := fun m ρ _ => Cert.FfnIdeal.Gen.frame m ρ
/-- The reference's frame: its run, read at the arguments; it has no semaphore. -/
theorem frame_ref : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run (F := Ideal) m ρ)
/-- The same, on finite arguments. -/
theorem frame_ref_finite : Cert.quiescent_FfnRefIdeal_pre_ffn_finite := fun m ρ _ => frame_ref m ρ trivial
/-- The idealized kernel is the kernel with nothing rewritten. -/
theorem preserves : Cert.preserves_Ffn_FfnIdeal := trivial

set_option maxHeartbeats 2000000 in
/-- The five results of the layer's backward call are the reference's. -/
theorem algebraic : Cert.algebraic_FfnIdeal_FfnRefIdeal_pre_ffn_finite := by
  intro m ρ m' ρ' hfin hagree
  refine ⟨_, _, _, _, _, (θ_run Cert.FfnIdeal.defs _ _).mono (fun r h c => h c) (Cert.FfnIdeal.Value.run_blocks (F := Ideal) m ρ), ?_⟩
  refine (θ_run Cert.FfnRefIdeal.defs _ _).mono (fun r h c => ?_) (Cert.FfnRefIdeal.Value.run (F := Ideal) m' ρ')
  obtain ⟨h0, h1, h2, h3, h4, hargs⟩ := h c
  obtain ⟨a0, a1, a2, a3, a4, a5, a6, a7, a8⟩ := hagree c
  replace a0 : StableHlo.launchContents m' c (Proc.tc.devRef Cert.FfnRefIdeal.main_arg0) = O m c := a0
  replace a1 : StableHlo.launchContents m' c (Proc.tc.devRef Cert.FfnRefIdeal.main_arg1) = X m c := a1
  replace a3 : StableHlo.launchContents m' c (Proc.tc.devRef Cert.FfnRefIdeal.main_arg3) = GP m c := a3
  replace a4 : StableHlo.launchContents m' c (Proc.tc.devRef Cert.FfnRefIdeal.main_arg4) = GQ m c := a4
  replace a5 : StableHlo.launchContents m' c (Proc.tc.devRef Cert.FfnRefIdeal.main_arg5) = W1 m c := a5
  replace a6 : StableHlo.launchContents m' c (Proc.tc.devRef Cert.FfnRefIdeal.main_arg6) = W2 m c := a6
  replace a7 : StableHlo.launchContents m' c (Proc.tc.devRef Cert.FfnRefIdeal.main_arg7) = CF m c := a7
  replace a8 : StableHlo.launchContents m' c (Proc.tc.devRef Cert.FfnRefIdeal.main_arg8) = CY m c := a8
  obtain ⟨p0, p1, p3, p4, p5, p6, p7, p8⟩ := hfin c
  have q0 := fun i => real_of_test (congrFun p0 i)
  have q1 := fun i => real_of_test (congrFun p1 i)
  have q3 := fun i => real_of_test (congrFun p3 i)
  have q4 := fun i => real_of_test (congrFun p4 i)
  have q5 := fun i => real_of_test (congrFun p5 i)
  have q6 := fun i => real_of_test (congrFun p6 i)
  have q7 := fun i => real_of_test (congrFun p7 i)
  have q8 := fun i => real_of_test (congrFun p8 i)
  refine ⟨?_, ?_, ?_, ?_, ?_, hargs⟩
  · refine (h0.trans (val_main_v95_eq _)).trans ?_
    rw [final_da m c, a0, a1, a3, a4, a5, a6, a7]
    funext i
    obtain ⟨r, k, rfl⟩ : ∃ (r : Fin 2048) (k : Fin 4096), i = ix2 r k := ⟨i 0, i 1, by blk_ext⟩
    exact da_at _ _ _ _ _ _ _ r k
  · refine (h1.trans (val_main_v96_eq _)).trans ?_
    rw [final_sq m c, a0, a1, a3, a4, a5]
    funext i
    obtain ⟨r, k, rfl⟩ : ∃ (r : Fin 2048) (k : Fin 4096), i = ix2 r k := ⟨i 0, i 1, by blk_ext⟩
    exact sq_at _ _ _ _ _ r k
  · refine (h2.trans (val_main_v71_eq _)).trans ?_
    rw [final_dx m c, a0, a1, a3, a4, a5, a6, a7, a8]
    funext i
    obtain ⟨r, k, rfl⟩ : ∃ (r : Fin 2048) (k : Fin 1024), i = ix2 r k := ⟨i 0, i 1, by blk_ext⟩
    exact dx_eq q0 q1 q3 q4 q5 q6 q7 r k
  · refine (h3.trans (val_main_v97_eq _)).trans ?_
    rw [final_dmix m c, a0, a1, a3, a4, a5, a6, a7, a8]
    funext i
    obtain ⟨r, k, rfl⟩ : ∃ (r : Fin 2048) (k : Fin 1024), i = ix2 r k := ⟨i 0, i 1, by blk_ext⟩
    exact dmix_at q0 q1 q3 q4 q5 q6 q7 q8 r k
  · refine (h4.trans (val_main_v98_eq _)).trans ?_
    rw [final_pair m c, a0, a1, a3, a4, a5, a6, a7, a8]
    funext i
    obtain ⟨p, k, rfl⟩ : ∃ (p : Fin 2) (k : Fin 1024), i = ix2 p k := ⟨i 0, i 1, by blk_ext⟩
    exact pair_at q0 q1 q3 q4 q5 q6 q7 p k

end Cert.Proof.FfnClaims

end
-- ==== Proof.Loss.Blocks.lean ====
/- The blocks the last layer's kernel loads at a grid point, read as entries of its arguments. -/
module

public import proofs.«01_k».proof.Proof.Loss.Spec
public import proofs.«01_k».proof.Proof.Gen.LossIdeal.Value

@[expose] public section

set_option maxRecDepth 16384

noncomputable section

open Idealize.ShloMosaic Idealize.ShloMosaic.TcCoe Idealize.SL.Sem
open Idealize.ShloMosaic.Pipeline (Dat)

namespace Cert.LossIdeal.RefValue

open Cert.LossIdeal Cert.LossIdeal.Gen Cert.LossSpec

variable (m : (ℓ : Loc nD τ sig) → Buf (Elt Ideal) ℓ) (c : Dev nD) (t : Fin cfg0.N)

/-- Every window's block index at every grid point: point `t` works on the row block `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

theorem read_h (a : Fin 512) (k : Fin 1024) : (iblk m c 0 t : FVec Ideal S512x1024 .bf16) (ix2 a k)
    = (m ((c : Thread nD τ).loc main_arg0) : FVec Ideal S2048x1024 .f32) (ix2 (row t a) k) := by
  blk_simp [iblk, V, idx t]
  entry_read
  pointwise
  blk_ext [idx t, row]
theorem read_x1 (a : Fin 512) (k : Fin 1024) : (iblk m c 3 t : FVec Ideal S512x1024 .f32) (ix2 a k)
    = (m ((c : Thread nD τ).loc main_arg1) : FVec Ideal S2048x1024 .f32) (ix2 (row t a) k) := by
  blk_simp [iblk, V, idx t]
  entry_read
  pointwise
  blk_ext [idx t, row]
theorem read_t (a : Fin 512) (k : Fin 1024) : (iblk m c 4 t : FVec Ideal S512x1024 .f32) (ix2 a k)
    = (m ((c : Thread nD τ).loc main_arg5) : FVec Ideal S2048x1024 .f32) (ix2 (row t a) k) := by
  blk_simp [iblk, V, idx t]
  entry_read
  pointwise
  blk_ext [idx t, row]
theorem read_g (o : Fin 1) (k : Fin 1024) : (iblk m c 5 t : FVec Ideal S1x1024 .f32) (ix2 o k)
    = (m ((c : Thread nD τ).loc main_arg4) : FVec Ideal S1x1024 .f32) (ix2 0 k) := by
  blk_simp [iblk, V, idx t]
  entry_read
  pointwise
  blk_ext [idx t]
theorem read_w1 (k : Fin 1024) (j : Fin 4096) : (iblk m c 1 t : FVec Ideal S1024x4096 .bf16) (ix2 k j)
    = (m ((c : Thread nD τ).loc main_arg2) : FVec Ideal S1x1024x4096 .f32) (ix3 0 k j) := by
  blk_simp [iblk, V, idx t]
  entry_read
  rw [show ((View.whole main_v2).slice (win0_1.rect t)).emb (ix2 k j) = (ix2 k j : S1024x4096.Idx) from by blk_ext [idx t]]
  pointwise
theorem read_w2 (j : Fin 4096) (k : Fin 1024) : (iblk m c 2 t : FVec Ideal S4096x1024 .bf16) (ix2 j k)
    = (m ((c : Thread nD τ).loc main_arg3) : FVec Ideal S1x4096x1024 .f32) (ix3 0 j k) := by
  blk_simp [iblk, V, idx t]
  entry_read
  rw [show ((View.whole main_v4).slice (win0_2.rect t)).emb (ix2 j k) = (ix2 j k : S4096x1024.Idx) from by blk_ext [idx t]]
  pointwise

end Cert.LossIdeal.RefValue

end
-- ==== Proof.Loss.Values.lean ====
/- What the last layer's kernel computes of one row block, and what the arrays it writes hold after its run. -/
module

public import proofs.«01_k».proof.Proof.Loss.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossIdeal.RefValue

open Cert.LossIdeal Cert.LossIdeal.Gen Cert.LossSpec Cert.NormSpec

variable (m : (ℓ : Loc nD τ sig) → Buf (Elt Ideal) ℓ) (c : Dev nD) (t : Fin cfg0.N)

/-- The arguments by name. -/
abbrev H : Rows := m ((c : Thread nD τ).loc main_arg0)
abbrev X1 : Rows := m ((c : Thread nD τ).loc main_arg1)
abbrev W1 : Widen := m ((c : Thread nD τ).loc main_arg2)
abbrev W2 : Narrow := m ((c : Thread nD τ).loc main_arg3)
abbrev G : Scale := m ((c : Thread nD τ).loc main_arg4)
abbrev T : Rows := m ((c : Thread nD τ).loc main_arg5)

/-- A row block of the layer's rows before the last normalization, added up over the four column parts. -/
def fedB : FVec Ideal S512x1024 .f32 :=
  k0_pay11 (k0_pay5 (iblk m c 0 t))
    (k0_pay8 (iblk m c 0 t) (View.ld (iblk m c 1 t) (Rect.unit ![0, 0] ![1024, 1024] inb_S1024x4096_S1024x1024_0_0))
      (View.ld (iblk m c 2 t) (Rect.unit ![0, 0] ![1024, 1024] inb_S4096x1024_S1024x1024_0_0))
      (View.ld (iblk m c 1 t) (Rect.unit ![0, 1024] ![1024, 1024] inb_S1024x4096_S1024x1024_0_1024))
      (View.ld (iblk m c 2 t) (Rect.unit ![1024, 0] ![1024, 1024] inb_S4096x1024_S1024x1024_1024_0)))
    (k0_pay9 (iblk m c 0 t) (View.ld (iblk m c 1 t) (Rect.unit ![0, 2048] ![1024, 1024] inb_S1024x4096_S1024x1024_0_2048)))
    (View.ld (iblk m c 2 t) (Rect.unit ![2048, 0] ![1024, 1024] inb_S4096x1024_S1024x1024_2048_0))
    (View.ld (iblk m c 1 t) (Rect.unit ![0, 3072] ![1024, 1024] inb_S1024x4096_S1024x1024_0_3072))
    (View.ld (iblk m c 2 t) (Rect.unit ![3072, 0] ![1024, 1024] inb_S4096x1024_S1024x1024_3072_0))
/-- A row block of the output. -/
def outB : FVec Ideal S512x1024 .f32 :=
  k0_pay12 (k0_pay5 (iblk m c 0 t))
    (k0_pay8 (iblk m c 0 t) (View.ld (iblk m c 1 t) (Rect.unit ![0, 0] ![1024, 1024] inb_S1024x4096_S1024x1024_0_0))
      (View.ld (iblk m c 2 t) (Rect.unit ![0, 0] ![1024, 1024] inb_S4096x1024_S1024x1024_0_0))
      (View.ld (iblk m c 1 t) (Rect.unit ![0, 1024] ![1024, 1024] inb_S1024x4096_S1024x1024_0_1024))
      (View.ld (iblk m c 2 t) (Rect.unit ![1024, 0] ![1024, 1024] inb_S4096x1024_S1024x1024_1024_0)))
    (k0_pay9 (iblk m c 0 t) (View.ld (iblk m c 1 t) (Rect.unit ![0, 2048] ![1024, 1024] inb_S1024x4096_S1024x1024_0_2048)))
    (View.ld (iblk m c 2 t) (Rect.unit ![2048, 0] ![1024, 1024] inb_S4096x1024_S1024x1024_2048_0))
    (View.ld (iblk m c 1 t) (Rect.unit ![0, 3072] ![1024, 1024] inb_S1024x4096_S1024x1024_0_3072))
    (View.ld (iblk m c 2 t) (Rect.unit ![3072, 0] ![1024, 1024] inb_S4096x1024_S1024x1024_3072_0))
    (iblk m c 5 t) (iblk m c 3 t)

theorem fedB_at (a : Fin 512) (k : Fin 1024) : fedB m c t (ix2 a k) = fed (H m c) (W1 m c) (W2 m c) (row t a) k := by
  pointwise [fedB, k0_pay5, k0_pay6, k0_pay7, k0_pay8, k0_pay9, k0_pay10, k0_pay11, fed, sum_parts, LossSpec.sq, hid]
  simp only [read_h, read_w1, read_w2]
theorem outB_at (a : Fin 512) (k : Fin 1024) :
    outB m c t (ix2 a k) = X1 m c (ix2 (row t a) k) + normed (fed (H m c) (W1 m c) (W2 m c) (row t a)) k * G m c (ix2 0 k) := by
  pointwise [outB, k0_pay12, normed, rs, spread]
  simp only [read_g, read_x1, ← fedB_at]
  rfl
theorem errB_at (a : Fin 512) (k : Fin 1024) : k0_pay13 (outB m c t) (iblk m c 4 t) (ix2 a k) = err (H m c) (W1 m c) (W2 m c) (X1 m c) (G m c) (T m c) (row t a) k := by
  pointwise [k0_pay13, err]
  rw [outB_at, read_t]
theorem dyB_at (a : Fin 512) (k : Fin 1024) : k0_pay15 (outB m c t) (iblk m c 4 t) (ix2 a k) = dy (H m c) (W1 m c) (W2 m c) (X1 m c) (G m c) (T m c) (row t a) k := by
  pointwise [k0_pay15, dy]
  rw [errB_at]
theorem rsB_at (a : Fin 512) (o : Fin 1) : k0_pay16 (fedB m c t) (ix2 a o) = rs (fed (H m c) (W1 m c) (W2 m c) (row t a)) := by
  pointwise [k0_pay16, rs, spread]
  simp only [fedB_at]
theorem dnB_at (a : Fin 512) (k : Fin 1024) :
    k0_pay17 (iblk m c 5 t) (outB m c t) (iblk m c 4 t) (ix2 a k) = dn (H m c) (W1 m c) (W2 m c) (X1 m c) (G m c) (T m c) (row t a) k := by
  pointwise [k0_pay17, dn]
  rw [dyB_at, read_g]
theorem dfB_at (a : Fin 512) (k : Fin 1024) :
    k0_pay1 (fedB m c t) (k0_pay18 (fedB m c t) (iblk m c 5 t) (outB m c t) (iblk m c 4 t)) (k0_pay19 (fedB m c t) (iblk m c 5 t) (outB m c t) (iblk m c 4 t)) (ix2 a k)
      = df (H m c) (W1 m c) (W2 m c) (X1 m c) (G m c) (T m c) (row t a) k := by
  pointwise [k0_pay1, k0_pay18, k0_pay19, df, back]
  simp only [rsB_at, dnB_at, fedB_at]

/-- The hidden rows the kernel's run leaves. -/
theorem final_hid : (dats m 0 c).arrAt 6 cfg0.N = fun i => hid (H m c) (W1 m c) (i 0) (i 1) := by
  refine (dats m 0 c).arrAt_eq_of_covers 6 _ (by decide +kernel) fun t hf y => ?_
  have hr : ∀ a : Fin 512, (y 0).val = a.val → (win0_6.blk t).view.emb y 0 = row t a := fun a ha => Fin.ext (by blk_simp [idx t]; rw [ha]; rfl)
  have hk : ∀ (k : ℕ) (hk : k < 4096), (y 1).val = k → (win0_6.blk t).view.emb y 1 = ⟨k, hk⟩ := fun k hk h => Fin.ext (by blk_simp [idx t]; exact h)
  blk_simp
  rw [after0_6]
  by_cases h : t.val % 4 = 0
  · rw [outsAt0_A m c t h]
    frame_out
    canon_tiles y
    all_goals
      rw [hr _ h0, hk _ (by omega) h1]
      obtain ⟨a, b, rfl⟩ : ∃ (a : Fin 512) (b : Fin 1024), y = ix2 a b := ⟨y 0, y 1, by blk_ext⟩
      pointwise [k0_pay5, k0_pay6, k0_pay7, k0_pay9, k0_pay10, hid]
      simp only [read_h, read_w1]
  · rw [outsAt0_B m c t h]
    frame_out
    canon_tiles y
    all_goals
      rw [hr _ h0, hk _ (by omega) h1]
      obtain ⟨a, b, rfl⟩ : ∃ (a : Fin 512) (b : Fin 1024), y = ix2 a b := ⟨y 0, y 1, by blk_ext⟩
      pointwise [k0_pay5, k0_pay6, k0_pay7, k0_pay9, k0_pay10, hid]
      simp only [read_h, read_w1]

/-- The output's gradient the kernel's run leaves. -/
theorem final_dy : (dats m 0 c).arrAt 7 cfg0.N = fun i => dy (H m c) (W1 m c) (W2 m c) (X1 m c) (G m c) (T m c) (i 0) (i 1) := by
  refine (dats m 0 c).arrAt_eq_of_covers 7 _ (by decide +kernel) fun t hf y => ?_
  obtain ⟨a, b, rfl⟩ : ∃ (a : Fin 512) (b : Fin 1024), y = ix2 a b := ⟨y 0, y 1, by blk_ext⟩
  blk_simp
  rw [after0_7]
  rw [show (win0_7.blk t).view.emb (ix2 a b) = ix2 (row t a) b by blk_ext [idx t, row]]
  by_cases h : t.val % 4 = 0
  · rw [outsAt0_A m c t h]
    frame_out
    exact dyB_at m c t a b
  · rw [outsAt0_B m c t h]
    frame_out
    exact dyB_at m c t a b

/-- The gradient before the last normalization that the kernel's run leaves. -/
theorem final_df : (dats m 0 c).arrAt 8 cfg0.N = fun i => df (H m c) (W1 m c) (W2 m c) (X1 m c) (G m c) (T m c) (i 0) (i 1) := by
  refine (dats m 0 c).arrAt_eq_of_covers 8 _ (by decide +kernel) fun t hf y => ?_
  obtain ⟨a, b, rfl⟩ : ∃ (a : Fin 512) (b : Fin 1024), y = ix2 a b := ⟨y 0, y 1, by blk_ext⟩
  blk_simp
  rw [after0_8]
  rw [show (win0_8.blk t).view.emb (ix2 a b) = ix2 (row t a) b by blk_ext [idx t, row]]
  by_cases h : t.val % 4 = 0
  · rw [outsAt0_A m c t h]
    frame_out
    exact dfB_at m c t a b
  · rw [outsAt0_B m c t h]
    frame_out
    exact dfB_at m c t a b

/-- One row block's addition to the scale's gradient. -/
theorem addG_at (old : FVec Ideal S1x1024 .f32) (o : Fin 1) (k : Fin 1024) :
    k0_pay2 (fedB m c t) (k0_pay15 (outB m c t) (iblk m c 4 t)) (k0_pay16 (fedB m c t)) old (ix2 o k)
      = old (ix2 o k) + ∑ a, dy (H m c) (W1 m c) (W2 m c) (X1 m c) (G m c) (T m c) (row t a) k * normed (fed (H m c) (W1 m c) (W2 m c) (row t a)) k := by
  pointwise [k0_pay2, normed]
  simp only [fedB_at, rsB_at, dyB_at]
/-- One row block's addition to the loss. -/
theorem addL_at (old : FVec Ideal S8x128 .f32) (i : Fin 8) (j : Fin 128) :
    k0_pay14 (outB m c t) (iblk m c 4 t) old (ix2 i j)
      = old (ix2 i j) + Ideal.ofBits .f32 0x3F000000#32 * ∑ a, rowLoss (H m c) (W1 m c) (W2 m c) (X1 m c) (G m c) (T m c) (row t a) := by
  pointwise [k0_pay14, rowLoss]
  simp only [errB_at, Finset.univ_unique, Finset.sum_singleton]

/-- The scale's gradient that the kernel's run leaves. -/
theorem final_dg : (dats m 0 c).arrAt 9 cfg0.N = fun j => dg (H m c) (W1 m c) (W2 m c) (X1 m c) (G m c) (T m c) (j 1) := by
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => 0)
    (fun t j => ∑ a, dy (H m c) (W1 m c) (W2 m c) (X1 m c) (G m c) (T m c) (row t a) (j 1) * normed (fed (H m c) (W1 m c) (W2 m c) (row t a)) (j 1))
    (fun t h j => by
      obtain ⟨a, k, rfl⟩ : ∃ (a : Fin 1) (k : Fin 1024), j = ix2 a k := ⟨j 0, j 1, by blk_ext⟩
      rw [outsAt0_A m c t h]
      frame_out
      refine (addG_at m c t k0_pay3 a k).trans ?_
      pointwise [k0_pay3])
    (fun t h j => by
      obtain ⟨a, k, rfl⟩ : ∃ (a : Fin 1) (k : Fin 1024), j = ix2 a k := ⟨j 0, j 1, by blk_ext⟩
      rw [outsAt0_B m c t h]
      frame_out
      exact addG_at m c t _ a k) (le_of_eq N_0) t0_3 rfl j, zero_add]
  exact sum_rows fun r => dy (H m c) (W1 m c) (W2 m c) (X1 m c) (G m c) (T m c) r (j 1) * normed (fed (H m c) (W1 m c) (W2 m c) r) (j 1)

/-- The loss that the kernel's run leaves, at every place, still in row blocks. -/
theorem final_loss : (dats m 0 c).arrAt 10 cfg0.N
    = fun _ => ∑ t, Ideal.ofBits .f32 0x3F000000#32 * ∑ a, rowLoss (H m c) (W1 m c) (W2 m c) (X1 m c) (G m c) (T m c) (row t a) := by
  refine (dats m 0 c).arrAt_eq_of_after_last 10 t0_3 (by decide +kernel) _ fun j => ?_
  blk_simp
  rw [after0_10, Pipeline.eq_sum_fin_of_reset_step_apply_last (fun n h => (outsAt0 m c n h).2.2.2.2) 4 (fun _ => 0)
    (fun t j => Ideal.ofBits .f32 0x3F000000#32 * ∑ a, rowLoss (H m c) (W1 m c) (W2 m c) (X1 m c) (G m c) (T m c) (row t a))
    (fun t h j => by
      obtain ⟨a, k, rfl⟩ : ∃ (a : Fin 8) (k : Fin 128), j = ix2 a k := ⟨j 0, j 1, by blk_ext⟩
      rw [outsAt0_A m c t h]
      frame_out
      refine (addL_at m c t k0_pay4 a k).trans ?_
      pointwise [k0_pay4])
    (fun t h j => by
      obtain ⟨a, k, rfl⟩ : ∃ (a : Fin 8) (k : Fin 128), j = ix2 a k := ⟨j 0, j 1, by blk_ext⟩
      rw [outsAt0_B m c t h]
      frame_out
      exact addL_at m c t _ a k) (le_of_eq N_0) t0_3 rfl j, zero_add]
  rfl

end Cert.LossIdeal.RefValue

end
-- ==== Proof.Loss.Reference.lean ====
/- The loss and its derivative as the reference computes them, one buffer at a time, are what `Loss/Spec.lean` says. -/
module

public import proofs.«01_k».proof.Proof.Loss.Spec
public import proofs.«01_k».proof.Proof.Gen.LossRefIdeal.Run
public import proofs.«01_k».proof.Proof.Gen.LossRefIdeal.Read
public import Idealize.ShloMosaic.Lib.Pipeline.ValueKit

@[expose] public section

set_option maxRecDepth 16384

noncomputable section

open Idealize.ShloMosaic Idealize.ShloMosaic.TcCoe Idealize.SL.Sem

namespace Cert.LossRefIdeal.RefValue

open Cert.LossRefIdeal Cert.LossRefIdeal.Gen Cert.LossRefIdeal.Read Cert.LossSpec Cert.NormSpec Cert.Finite

variable (x0 x1 x5 : Rows) (x2 : Widen) (x3 : Narrow) (x4 : Scale)

theorem hid_at (r : Fin 2048) (j : Fin 4096) : val_main_v1 (F := Ideal) x0 x2 (ix2 r j) = hid x0 x2 r j := by
  pointwise [val_main_v0, val_main_v1, hid]
theorem fed_at (r : Fin 2048) (k : Fin 1024) : val_main_v5 (F := Ideal) x0 x2 x3 (ix2 r k) = fed x0 x2 x3 r k := by
  pointwise [val_main_call0_cst, val_main_call0_v0, val_main_v2, val_main_v3, val_main_v4, val_main_v5, fed, LossSpec.sq]
  simp only [hid_at]
theorem spread_at (r : Fin 2048) (o : Fin 1) : val_main_v13 (F := Ideal) x0 x2 x3 (ix2 r o) = spread (fed x0 x2 x3 r) := by
  pointwise [val_main_v7, val_main_cst, val_main_v8, val_main_v9, val_main_cst_0, val_main_v10, val_main_v11, val_main_cst_1, val_main_v12, val_main_v13, spread]
  simp only [fed_at]
theorem rs_at (r : Fin 2048) (o : Fin 1) : val_main_v14 (F := Ideal) x0 x2 x3 (ix2 r o) = rs (fed x0 x2 x3 r) := by
  pointwise [val_main_v14, rs]
  rw [spread_at]
theorem normed_at (r : Fin 2048) (k : Fin 1024) : val_main_v19 (F := Ideal) x0 x2 x3 (ix2 r k) = normed (fed x0 x2 x3 r) k := by
  pointwise [val_main_v18, val_main_v19, normed]
  rw [rs_at, fed_at]
theorem err_at (r : Fin 2048) (k : Fin 1024) : val_main_v24 (F := Ideal) x0 x1 x2 x3 x4 x5 (ix2 r k) = err x0 x2 x3 x1 x4 x5 r k := by
  pointwise [val_main_v6, val_main_v20, val_main_v21, val_main_v22, val_main_v23, val_main_v24, err]
  rw [normed_at]
/-- Half of a 1024th, times two, is a 1024th. -/
theorem half_two : Ideal.div (Ideal.ofBits .f32 0x3F000000#32) (Ideal.ofBits .f32 0x44800000#32)
    * Ideal.ofBits .f32 0x40000000#32 = Ideal.ofBits .f32 0x3A800000#32 := by
  rw [word_half, word_1024, word_two, word_inv_1024, div_real _ (by norm_num), ← EReal.coe_mul]
  congr 1; norm_num
/-- The gradient of the output. -/
theorem dy_at (r : Fin 2048) (k : Fin 1024) : val_main_v38 (F := Ideal) x0 x1 x2 x3 x4 x5 (ix2 r k) = dy x0 x2 x3 x1 x4 x5 r k := by
  pointwise [val_main_cst_3, val_main_v26, val_main_v27, val_main_cst_8, val_main_cst_9, val_main_v33, val_main_v34, val_main_cst_10, val_main_v35,
    val_main_v36, val_main_v37, val_main_v38, dy]
  rw [err_at, ← half_two, mul_comm (Ideal.ofBits .f32 0x40000000#32), mul_left_comm]
theorem dn_at (r : Fin 2048) (k : Fin 1024) : val_main_v43 (F := Ideal) x0 x1 x2 x3 x4 x5 (ix2 r k) = dn x0 x2 x3 x1 x4 x5 r k := by
  pointwise [val_main_v6, val_main_v20, val_main_v42, val_main_v43, dn]
  rw [dy_at]
/-- The factor of the step back through the mean of squares. -/
theorem coef_at (r : Fin 2048) (k : Fin 1024) :
    val_main_v54 (F := Ideal) x0 x1 x2 x3 x4 x5 (ix2 r k) = coef (fed x0 x2 x3 r) (dn x0 x2 x3 x1 x4 x5 r) := by
  pointwise [val_main_v15, val_main_cst_2, val_main_v16, val_main_v17, val_main_v45, val_main_cst_13, val_main_v46, val_main_v47, val_main_v50, val_main_cst_14,
    val_main_v51, val_main_v52, val_main_cst_15, val_main_v53, val_main_v54, coef]
  simp only [fed_at, dn_at, rs_at, spread_at, Finset.univ_unique, Finset.sum_singleton]
/-- The gradient before the last normalization, in the order the derivative program computes it. -/
theorem df_at (r : Fin 2048) (k : Fin 1024) : val_main_v60 (F := Ideal) x0 x1 x2 x3 x4 x5 (ix2 r k)
    = dn x0 x2 x3 x1 x4 x5 r k * rs (fed x0 x2 x3 r) + fed x0 x2 x3 r k * coef (fed x0 x2 x3 r) (dn x0 x2 x3 x1 x4 x5 r)
      + coef (fed x0 x2 x3 r) (dn x0 x2 x3 x1 x4 x5 r) * fed x0 x2 x3 r k := by
  pointwise [val_main_v48, val_main_v49, val_main_v55, val_main_v56, val_main_v57, val_main_v58, val_main_v60]
  rw [coef_at, fed_at, dn_at, rs_at]
/-- The gradient of the last normalization's scale. -/
theorem dg_at (o : Fin 1) (k : Fin 1024) : val_main_v59 (F := Ideal) x0 x1 x2 x3 x4 x5 (ix2 o k) = dg x0 x2 x3 x1 x4 x5 k := by
  pointwise [val_main_v39, val_main_cst_11, val_main_v40, val_main_v41, val_main_cst_12, val_main_v44, val_main_v59, dg]
  simp only [normed_at, dy_at, Finset.univ_unique, Finset.sum_singleton]
  exact Finset.sum_congr rfl fun r _ => mul_comm _ _
/-- The loss, at every place of the array it is spread over. -/
theorem loss_at (i) : val_main_v61 (F := Ideal) x0 x1 x2 x3 x4 x5 i = loss x0 x2 x3 x1 x4 x5 := by
  obtain ⟨a, b, rfl⟩ : ∃ (a : Fin 8) (b : Fin 128), i = ix2 a b := ⟨i 0, i 1, by blk_ext⟩
  pointwise [val_main_v25, val_main_cst_4, val_main_v28, val_main_cst_5, val_main_v29, val_main_v30, val_main_cst_6, val_main_v31, val_main_cst_7, val_main_v32,
    val_main_v61, loss, rowLoss]
  simp only [err_at]

end Cert.LossRefIdeal.RefValue

end
-- ==== Proof.Loss.Claims.lean ====
/- The claims about the last layer's forward call: the two frames, the reference's frame, and the values. Both programs end
   at the arrays of `Loss/Spec.lean`. -/
module

public import proofs.«01_k».proof.Defs
public import proofs.«01_k».proof.Proof.Loss.Values
public import proofs.«01_k».proof.Proof.Loss.Reference
public import proofs.«01_k».proof.Proof.Gate.Finite
public import proofs.«01_k».proof.Proof.Gen.Loss.Frame
public import proofs.«01_k».proof.Proof.Gen.Pre_loss_finite
public import Idealize.ShloMosaic.Lib.Claim

@[expose] public section

set_option maxRecDepth 16384

noncomputable section

open Idealize.ShloMosaic Idealize.ShloMosaic.TcCoe Idealize.SL.Sem

namespace Cert.Proof.LossClaims

open Cert.LossSpec Cert.NormSpec Cert.LossIdeal.RefValue Cert.LossRefIdeal.RefValue Cert.LossRefIdeal.Read Cert.Finite Cert.GateSpec

/-- The kernel's frame. -/
theorem frame : Cert.quiescent_Loss := fun m ρ _ => Cert.Loss.Gen.frame m ρ
/-- The idealized kernel's frame. -/
theorem frame_ideal : Cert.quiescent_LossIdeal := fun m ρ _ => Cert.LossIdeal.Gen.frame m ρ
/-- The same, on finite arguments. -/
theorem frame_ideal_finite : Cert.quiescent_LossIdeal_pre_loss_finite := fun m ρ _ => Cert.LossIdeal.Gen.frame m ρ
/-- The reference's frame: its run, read at the arguments; it has no semaphore. -/
theorem frame_ref : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)
/-- The same, on finite arguments. -/
theorem frame_ref_finite : Cert.quiescent_LossRefIdeal_pre_loss_finite := fun m ρ _ => frame_ref m ρ trivial
/-- The idealized kernel is the kernel with nothing rewritten. -/
theorem preserves : Cert.preserves_Loss_LossIdeal := trivial

set_option maxHeartbeats 2000000 in
/-- The five results of the last layer's forward call are the reference's. -/
theorem algebraic : Cert.algebraic_LossIdeal_LossRefIdeal_pre_loss_finite := by
  intro m ρ m' ρ' hfin hagree
  refine ⟨_, _, _, _, _, (θ_run Cert.LossIdeal.defs _ _).mono (fun r h c => h c) (Cert.LossIdeal.Value.run_blocks (F := Ideal) m ρ), ?_⟩
  refine (θ_run Cert.LossRefIdeal.defs _ _).mono (fun r h c => ?_) (Cert.LossRefIdeal.Value.run (F := Ideal) m' ρ')
  obtain ⟨h0, h1, h2, h3, h4, hargs⟩ := h c
  obtain ⟨a0, a1, a2, a3, a4, a5⟩ := hagree c
  obtain ⟨p0, p1, p2, p3, p4, p5⟩ := hfin c
  have q0 := fun i => real_of_test (congrFun p0 i)
  have q1 := fun i => real_of_test (congrFun p1 i)
  have q2 := fun i => real_of_test (congrFun p2 i)
  have q3 := fun i => real_of_test (congrFun p3 i)
  have q4 := fun i => real_of_test (congrFun p4 i)
  have q5 := fun i => real_of_test (congrFun p5 i)
  refine ⟨?_, ?_, ?_, ?_, ?_, hargs⟩
  · refine (h0.trans (val_main_v1_eq _ _)).trans ?_
    rw [final_hid m c, a0, a2]
    funext i
    obtain ⟨r, k, rfl⟩ : ∃ (r : Fin 2048) (k : Fin 4096), i = ix2 r k := ⟨i 0, i 1, by blk_ext⟩
    exact hid_at _ _ r k
  · refine (h1.trans (val_main_v38_eq _ _ _ _ _ _)).trans ?_
    rw [final_dy m c, a0, a1, a2, a3, a4, a5]
    funext i
    obtain ⟨r, k, rfl⟩ : ∃ (r : Fin 2048) (k : Fin 1024), i = ix2 r k := ⟨i 0, i 1, by blk_ext⟩
    exact dy_at _ _ _ _ _ _ r k
  · refine (h2.trans (val_main_v60_eq m' c)).trans ?_
    rw [final_df m c, a0, a1, a2, a3, a4, a5]
    funext i
    obtain ⟨r, k, rfl⟩ : ∃ (r : Fin 2048) (k : Fin 1024), i = ix2 r k := ⟨i 0, i 1, by blk_ext⟩
    exact (df_at _ _ _ _ _ _ r k).trans (back_eq (fed_real q0 q2 q3 r) (dn_real q0 q2 q3 q1 q4 q5 r) k)
  · refine (h3.trans (val_main_v59_eq m' c)).trans ?_
    rw [final_dg m c, a0, a1, a2, a3, a4, a5]
    funext i
    obtain ⟨r, k, rfl⟩ : ∃ (r : Fin 1) (k : Fin 1024), i = ix2 r k := ⟨i 0, i 1, by blk_ext⟩
    exact dg_at _ _ _ _ _ _ r k
  · refine (h4.trans (val_main_v61_eq m' c)).trans ?_
    rw [final_loss m c, a0, a1, a2, a3, a4, a5]
    exact funext fun i => (loss_at _ _ _ _ _ _ i).trans (loss_blocks q0 q2 q3 q1 q4 q5).symm

end Cert.Proof.LossClaims

end
-- ==== Proof.InProj.Spec.lean ====
/- What the backward input projection computes, at an index: the gradient of the normalized rows, of the layer's input and of
   the normalization's scale. -/
module

public import proofs.«01_k».proof.Proof.Norm.Algebra
public import Idealize.ShloMosaic.Lib.Pipeline.ValueKit

@[expose] public section

noncomputable section

open Idealize.ShloMosaic Cert.Finite

namespace Cert.InProjSpec

open Cert.NormSpec

abbrev Rows := FVec Ideal ⟨2, ![2048, 1024]⟩ .f32
abbrev Scale := FVec Ideal ⟨2, ![1, 1024]⟩ .f32
abbrev Weights := FVec Ideal ⟨3, ![1, 1024, 7168]⟩ .f32
abbrev Wide := FVec Ideal ⟨2, ![2048, 7168]⟩ .f32

variable (x : Rows) (g : Scale) (w : Weights) (cz : Wide) (cx : Rows)

/-- Row `r` of the layer's input. -/
def rowOf (r : Fin 2048) (k : Fin 1024) : EReal := x (ix2 r k)
/-- The gradient of the normalized and scaled rows. -/
def dY (r : Fin 2048) (k : Fin 1024) : EReal := ∑ j : Fin 7168, cz (ix2 r j) * w (ix3 0 k j)
/-- The gradient of the normalized rows. -/
def dn (r : Fin 2048) (k : Fin 1024) : EReal := dY w cz r k * g (ix2 0 k)
/-- The gradient of the layer's input. -/
def dx (r : Fin 2048) (k : Fin 1024) : EReal := back (rowOf x r) (dn g w cz r) k + cx (ix2 r k)
/-- The gradient of the scale. -/
def dg (k : Fin 1024) : EReal := ∑ r, dY w cz r k * normed (rowOf x r) k

/-- Row `a` of row block `t`, and column `j` of column block `s`. -/
def row (t : Fin 2) (a : Fin 1024) : Fin 2048 := ⟨t.val * 1024 + a.val, by omega⟩
def col (s : Fin 7) (j : Fin 1024) : Fin 7168 := ⟨s.val * 1024 + j.val, by omega⟩
/-- A sum over all rows, block by block, and over all columns. -/
theorem sum_rows (f : Fin 2048 → EReal) : ∑ t, ∑ a, f (row t a) = ∑ r, f r := Fin.sum_mul_add_congr fun t a h => rfl
theorem sum_cols (f : Fin 7168 → EReal) : ∑ s, ∑ j, f (col s j) = ∑ j, f j := Fin.sum_mul_add_congr fun t a h => rfl

section
variable {x : Rows} {g : Scale} {w : Weights} {cz : Wide}
variable (hx : ∀ i, IsReal (x i)) (hg : ∀ i, IsReal (g i)) (hw : ∀ i, IsReal (w i)) (hc : ∀ i, IsReal (cz i))

include hx in
theorem rowOf_real (r k) : IsReal (rowOf x r k) := hx _
include hg hw hc in
theorem dn_real (r k) : IsReal (dn g w cz r k) := .mul (.sum _ fun _ _ => .mul (hc _) (hw _)) (hg _)
end

end Cert.InProjSpec

end
-- ==== Proof.InProj.Runs.lean ====
/-
  What one grid point of the backward input projection does to the buffers it holds. The grid is two row blocks by
  seven column blocks. At a row block's first point the body starts two transfers, of the row block of `x` and of the
  row block of the residual cotangent, and stores the first product; at the later ones it adds a product; at the last
  one it waits for both transfers and writes the gradients out. Each theorem here is one of these cases.
-/
module

public import proofs.«01_k».proof.Proof.Gen.InProjIdeal.Frame
public import proofs.«01_k».proof.Proof.Gen.InProjIdeal.Skeleton
public import Idealize.ShloMosaic.Lib.WritesUnit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one core: the pipeline's own beside the counters of the body's transfers. -/
local notation "𝕄" => MT nD τ sig Unit (Elt F) ℕ (Pipeline.UD sig nD τ) ℕ

/-- The accumulator, the row block of `x`, and the row block of the residual cotangent. -/
abbrev accM : Memref sig .tc .vmem S1024x1024 .f32 := Memref.whole cc0_scratch0
abbrev xM : Memref sig .tc .vmem S1024x1024 .f32 := Memref.whole cc0_scratch1
abbrev rM : Memref sig .tc .vmem S1024x1024 .f32 := Memref.whole cc0_scratch2
/-- `x` and the residual cotangent as they lie in HBM. -/
abbrev xH : Memref sig .tc .hbm S2048x1024 .f32 := Memref.whole main_arg0
abbrev rH : Memref sig .tc .hbm S2048x1024 .f32 := Memref.whole main_arg4

/-- What `M`'s buffer can hold on core `c`. -/
abbrev Held (c : Dev nD) {sp : Space} {S : Shape} {e : EltTy} (M : Memref sig .tc sp S e) : Type :=
  Buf (Elt F) (M.view.loc (c : Thread nD τ))

/-- The rows of an HBM array that the transfers started at grid point `i` read. -/
abbrev rowsOf (M : Memref sig .tc .hbm S2048x1024 .f32) (i : grid0.Coords) (h : k0_cond2 i = 1#1) :
    Memref sig .tc .hbm S1024x1024 .f32 :=
  M.slice (Rect.unit (s := S2048x1024) (k0_off1 i) S1024x1024.size (k0_off1_inb i h)) (fun _ => rfl)

/-- Core `c` holds the elements of `M`, and no more of its buffer. -/
abbrev ownRows (c : Dev nD) {sp : Space} {S : Shape} {e : EltTy} (M : Memref sig .tc sp S e) (f : Held (F := F) c M) : sProp 𝕄 :=
  M.view.loc (c : Thread nD τ) ↦[M.view.set]{fullShare} f

/-- The words of those rows. -/
abbrev rowsAt (c : Dev nD) (M : Memref sig .tc .hbm S2048x1024 .f32) (i : grid0.Coords) (h : k0_cond2 i = 1#1)
    (f : Held (F := F) c (rowsOf M i h)) : Vec F S1024x1024 .f32 :=
  (rowsOf M i h).view.read (Elt F) f

/-- A transfer of those rows into the buffer `D` is on its way, to be waited for at the semaphore `q`: the wait gives
    `D` back holding the rows, and the rows back. -/
def onItsWay (c : Dev nD) (q : DmaSem sig) (M : Memref sig .tc .hbm S2048x1024 .f32) (D : Memref sig .tc .vmem S1024x1024 .f32)
    (i : grid0.Coords) (h : k0_cond2 i = 1#1) (f : Held (F := F) c (rowsOf M i h)) : sProp 𝕄 :=
  iprop(∃ g : Held (F := F) c D,
    Transfers.Flight (countersEmb (U := Pipeline.UD sig nD τ)) (c : Thread nD τ) (SemLoc.dma q) () 131072
      iprop((D.view.loc (c : Thread nD τ) ↦[D.view.set]{fullShare}
          D.view.writes (Elt F) g [⟨Rect.whole S1024x1024, rowsAt c M i h f⟩])
        ∗ ownRows c (rowsOf M i h) f))

section whole

variable {Val : EltTy → Type} {sg : RefSig} {κ : Kind} {sp : Space} {s : Shape} {e : EltTy}

/-- A load of the rectangle that is the whole view reads what the view reads. -/
theorem load_all (v : View sg κ sp s e) (f : v.ty.Contents Val) {off : Fin s.rank → ℕ} (inb : ∀ a, off a + s.size a ≤ s.size a)
    (h : ∀ a, off a = 0) : v.readAt Val (Rect.unit off s.size inb).toLoadRect f = v.read Val f := by
  funext x
  rw [View.readAt_apply]
  congr 1
  funext a
  apply Fin.ext
  show off a + 1 * (x a).val = (x a).val
  rw [h a]; omega

/-- After a store of the rectangle that is the whole view, the view reads what was stored. -/
theorem read_stored (v : View sg κ sp s e) (f : v.ty.Contents Val) {off : Fin s.rank → ℕ} (inb : ∀ a, off a + s.size a ≤ s.size a)
    (h : ∀ a, off a = 0) (w : s.Idx → Val e) (L : List (View.Piece Val s e)) :
    v.read Val (v.writes Val f ((⟨Rect.unit off s.size inb, w⟩ : View.Piece Val s e) :: L)) = w := by
  funext y
  exact View.read_writes_cons_unit_of_mem v f inb w L y y rfl fun a => by rw [h a]; omega

/-- A whole load right after a transfer into the whole buffer reads what was transferred. -/
theorem load_landed [∀ e, Nonempty (Val e)] (v : View sg κ sp s e) {off : Fin s.rank → ℕ} (inb : ∀ a, off a + s.size a ≤ s.size a)
    (h : ∀ a, off a = 0) (w : s.Idx → Val e) :
    v.readCov [(⟨Rect.whole s, w⟩ : View.Piece Val s e)] (Rect.unit off s.size inb).toLoadRect = w :=
  (load_all v _ inb h).trans (read_stored (off := fun _ => 0) v _ (fun a => by omega) (fun _ => rfl) w [])

end whole

set_option maxHeartbeats 2000000 in
/-- At the first grid point the sum over the rows is cleared, the first product stored and both transfers started. -/
theorem run_first (c : Dev nD) (i : grid0.Coords) (h1 : k0_cond1 i = 1#1) (h2 : k0_cond2 i = 1#1)
    (h3 : ¬ Scalar.cmpi .ne (Scalar.extui (Scalar.cmpi .sgt (BitVec.ofNat 32 (i 1).val) 0#32)) 0#32 = 1#1) (h4 : ¬ k0_cond4 i = 1#1)
    (arg2 : Memref sig .tc .vmem S1x1024x1024 .bf16) (harg2 : arg2.IsWhole)
    (arg3 : Memref sig .tc .vmem S1024x1024 .bf16) (harg3 : arg3.IsWhole)
    (arg6 : Memref sig .tc .vmem S1x1024 .f32) (harg6 : arg6.IsWhole)
    (arg7 : Memref sig .tc .vmem S1024x1024 .f32) (harg7 : arg7.IsWhole)
    (arg8 : Memref sig .tc .vmem S1x1024 .f32) (harg8 : arg8.IsWhole)
    (z : Vec F S1x1024x1024 .bf16) (w : Vec F S1024x1024 .bf16)
    (fx : Held (F := F) c xH) (fr : Held (F := F) c rH) (W : Waits sig Unit) (K : PUnit → sProp 𝕄) :
    iprop(owns (c : Thread nD τ) arg2 fullShare z ∗ owns (c : Thread nD τ) arg3 fullShare w
        ∗ (∃ d, owns (c : Thread nD τ) arg8 fullShare d)
        ∗ (∃ d, owns (c : Thread nD τ) accM fullShare d) ∗ (∃ d, owns (c : Thread nD τ) xM fullShare d)
        ∗ (∃ d, owns (c : Thread nD τ) rM fullShare d)
        ∗ semVal ((c : Thread nD τ), SemLoc.dma 8) 0 ∗ semVal ((c : Thread nD τ), SemLoc.dma 9) 0
        ∗ ownRows c (rowsOf xH i h2) fx ∗ ownRows c (rowsOf rH i h2) fr
        ∗ owes (c : Thread nD τ) 0 W
        ∗ (iprop(owns (c : Thread nD τ) arg2 fullShare z ∗ owns (c : Thread nD τ) arg3 fullShare w
            ∗ owns (c : Thread nD τ) arg8 fullShare k0_pay1
            ∗ owns (c : Thread nD τ) accM fullShare (k0_pay3 z w)
            ∗ onItsWay c 8 xH xM i h2 fx ∗ onItsWay c 9 rH rM i h2 fr ∗ owes (c : Thread nD τ) 0 W) -∗ K ⟨⟩))
      ⊢ wp frame (wpE (defs₀ (F := F)) Variants.none c none) Set.univ
          (cc0_in_bwd i arg2 harg2 arg3 harg3 xH (Memref.isWhole_whole _) rH (Memref.isWhole_whole _) arg6 harg6 arg7 harg7 arg8 harg8
            accM (Memref.isWhole_whole _) xM (Memref.isWhole_whole _) rM (Memref.isWhole_whole _) cc0_scratch3) K := by
  simp only [cc0_in_bwd_eq_skeleton]; unfold cc0_in_bwd_skel
  unfold owns onItsWay
  iintro ⟨⟨%f2, %e2, H2⟩, ⟨%f3, %e3, H3⟩, ⟨%d8, %f8, -, H8⟩, ⟨%da, %fa, -, Ha⟩, ⟨%dx, %gx, -, Hx⟩, ⟨%dr, %gr, -, Hr⟩, Hq0, Hq1, Hh0, Hh1, HW, Hk⟩
  sl_exec
  sl_step
  iapply Hk
  isplitl [H2]
  · iexists _; isplitr; swap; · iexact H2
    ipureintro; exact e2
  isplitl [H3]
  · iexists _; isplitr; swap; · iexact H3
    ipureintro; exact e3
  isplitl [H8]
  · iexists _; isplitr; swap; · iexact H8
    ipureintro; exact read_stored _ _ _ (by decide) _ _
  isplitl [Ha]
  · iexists _; isplitr; swap; · iexact Ha
    ipureintro; rw [read_stored _ _ _ (by decide), load_all _ _ _ (by decide), load_all _ _ _ (by decide), e2, e3]
  isplitl [Hq0]; · iexists _; iexact Hq0
  isplitl [Hq1]; · iexists _; iexact Hq1
  iexact HW

set_option maxHeartbeats 2000000 in
/-- At the first point of a later row block the first product is stored and both transfers started. -/
theorem run_start (c : Dev nD) (i : grid0.Coords) (h1 : ¬ k0_cond1 i = 1#1) (h2 : k0_cond2 i = 1#1)
    (h3 : ¬ Scalar.cmpi .ne (Scalar.extui (Scalar.cmpi .sgt (BitVec.ofNat 32 (i 1).val) 0#32)) 0#32 = 1#1) (h4 : ¬ k0_cond4 i = 1#1)
    (arg2 : Memref sig .tc .vmem S1x1024x1024 .bf16) (harg2 : arg2.IsWhole)
    (arg3 : Memref sig .tc .vmem S1024x1024 .bf16) (harg3 : arg3.IsWhole)
    (arg6 : Memref sig .tc .vmem S1x1024 .f32) (harg6 : arg6.IsWhole)
    (arg7 : Memref sig .tc .vmem S1024x1024 .f32) (harg7 : arg7.IsWhole)
    (arg8 : Memref sig .tc .vmem S1x1024 .f32) (harg8 : arg8.IsWhole)
    (z : Vec F S1x1024x1024 .bf16) (w : Vec F S1024x1024 .bf16)
    (fx : Held (F := F) c xH) (fr : Held (F := F) c rH) (W : Waits sig Unit) (K : PUnit → sProp 𝕄) :
    iprop(owns (c : Thread nD τ) arg2 fullShare z ∗ owns (c : Thread nD τ) arg3 fullShare w
        ∗ (∃ d, owns (c : Thread nD τ) accM fullShare d) ∗ (∃ d, owns (c : Thread nD τ) xM fullShare d)
        ∗ (∃ d, owns (c : Thread nD τ) rM fullShare d)
        ∗ semVal ((c : Thread nD τ), SemLoc.dma 8) 0 ∗ semVal ((c : Thread nD τ), SemLoc.dma 9) 0
        ∗ ownRows c (rowsOf xH i h2) fx ∗ ownRows c (rowsOf rH i h2) fr
        ∗ owes (c : Thread nD τ) 0 W
        ∗ (iprop(owns (c : Thread nD τ) arg2 fullShare z ∗ owns (c : Thread nD τ) arg3 fullShare w
            ∗ owns (c : Thread nD τ) accM fullShare (k0_pay3 z w)
            ∗ onItsWay c 8 xH xM i h2 fx ∗ onItsWay c 9 rH rM i h2 fr ∗ owes (c : Thread nD τ) 0 W) -∗ K ⟨⟩))
      ⊢ wp frame (wpE (defs₀ (F := F)) Variants.none c none) Set.univ
          (cc0_in_bwd i arg2 harg2 arg3 harg3 xH (Memref.isWhole_whole _) rH (Memref.isWhole_whole _) arg6 harg6 arg7 harg7 arg8 harg8
            accM (Memref.isWhole_whole _) xM (Memref.isWhole_whole _) rM (Memref.isWhole_whole _) cc0_scratch3) K := by
  simp only [cc0_in_bwd_eq_skeleton]; unfold cc0_in_bwd_skel
  unfold owns onItsWay
  iintro ⟨⟨%f2, %e2, H2⟩, ⟨%f3, %e3, H3⟩, ⟨%da, %fa, -, Ha⟩, ⟨%dx, %gx, -, Hx⟩, ⟨%dr, %gr, -, Hr⟩, Hq0, Hq1, Hh0, Hh1, HW, Hk⟩
  sl_exec
  sl_step
  iapply Hk
  isplitl [H2]
  · iexists _; isplitr; swap; · iexact H2
    ipureintro; exact e2
  isplitl [H3]
  · iexists _; isplitr; swap; · iexact H3
    ipureintro; exact e3
  isplitl [Ha]
  · iexists _; isplitr; swap; · iexact Ha
    ipureintro; rw [read_stored _ _ _ (by decide), load_all _ _ _ (by decide), load_all _ _ _ (by decide), e2, e3]
  isplitl [Hq0]; · iexists _; iexact Hq0
  isplitl [Hq1]; · iexists _; iexact Hq1
  iexact HW

set_option maxHeartbeats 2000000 in
/-- At a point in the middle of a row block its product is added to the accumulator. -/
theorem run_middle (c : Dev nD) (i : grid0.Coords) (h1 : ¬ k0_cond1 i = 1#1) (h2 : ¬ k0_cond2 i = 1#1)
    (h3 : Scalar.cmpi .ne (Scalar.extui (Scalar.cmpi .sgt (BitVec.ofNat 32 (i 1).val) 0#32)) 0#32 = 1#1) (h4 : ¬ k0_cond4 i = 1#1)
    (arg2 : Memref sig .tc .vmem S1x1024x1024 .bf16) (harg2 : arg2.IsWhole)
    (arg3 : Memref sig .tc .vmem S1024x1024 .bf16) (harg3 : arg3.IsWhole)
    (arg6 : Memref sig .tc .vmem S1x1024 .f32) (harg6 : arg6.IsWhole)
    (arg7 : Memref sig .tc .vmem S1024x1024 .f32) (harg7 : arg7.IsWhole)
    (arg8 : Memref sig .tc .vmem S1x1024 .f32) (harg8 : arg8.IsWhole)
    (z : Vec F S1x1024x1024 .bf16) (w : Vec F S1024x1024 .bf16)
    (a : Vec F S1024x1024 .f32) (W : Waits sig Unit) (K : PUnit → sProp 𝕄) :
    iprop(owns (c : Thread nD τ) arg2 fullShare z ∗ owns (c : Thread nD τ) arg3 fullShare w ∗ owns (c : Thread nD τ) accM fullShare a
        ∗ owes (c : Thread nD τ) 0 W
        ∗ (iprop(owns (c : Thread nD τ) arg2 fullShare z ∗ owns (c : Thread nD τ) arg3 fullShare w
            ∗ owns (c : Thread nD τ) accM fullShare (k0_pay4 z w a) ∗ owes (c : Thread nD τ) 0 W) -∗ K ⟨⟩))
      ⊢ wp frame (wpE (defs₀ (F := F)) Variants.none c none) Set.univ
          (cc0_in_bwd i arg2 harg2 arg3 harg3 xH (Memref.isWhole_whole _) rH (Memref.isWhole_whole _) arg6 harg6 arg7 harg7 arg8 harg8
            accM (Memref.isWhole_whole _) xM (Memref.isWhole_whole _) rM (Memref.isWhole_whole _) cc0_scratch3) K := by
  simp only [cc0_in_bwd_eq_skeleton]; unfold cc0_in_bwd_skel
  unfold owns
  iintro ⟨⟨%f2, %e2, H2⟩, ⟨%f3, %e3, H3⟩, ⟨%fa, %ea, Ha⟩, HW, Hk⟩
  sl_exec
  sl_step
  iapply Hk
  isplitl [H2]
  · iexists _; isplitr; swap; · iexact H2
    ipureintro; exact e2
  isplitl [H3]
  · iexists _; isplitr; swap; · iexact H3
    ipureintro; exact e3
  isplitl [Ha]
  · iexists _; isplitr; swap; · iexact Ha
    ipureintro
    rw [read_stored _ _ _ (by decide), load_all _ _ _ (by decide), load_all _ _ _ (by decide), load_all _ _ _ (by decide), e2, e3, ea]
  iexact HW

set_option maxHeartbeats 1000000 in
/-- At a row block's last point both transfers are waited for and the gradients written out. -/
theorem run_last (c : Dev nD) (i : grid0.Coords) (h1 : ¬ k0_cond1 i = 1#1) (h2 : ¬ k0_cond2 i = 1#1)
    (h3 : Scalar.cmpi .ne (Scalar.extui (Scalar.cmpi .sgt (BitVec.ofNat 32 (i 1).val) 0#32)) 0#32 = 1#1) (h4 : k0_cond4 i = 1#1)
    (arg2 : Memref sig .tc .vmem S1x1024x1024 .bf16) (harg2 : arg2.IsWhole)
    (arg3 : Memref sig .tc .vmem S1024x1024 .bf16) (harg3 : arg3.IsWhole)
    (arg6 : Memref sig .tc .vmem S1x1024 .f32) (harg6 : arg6.IsWhole)
    (arg7 : Memref sig .tc .vmem S1024x1024 .f32) (harg7 : arg7.IsWhole)
    (arg8 : Memref sig .tc .vmem S1x1024 .f32) (harg8 : arg8.IsWhole)
    (z : Vec F S1x1024x1024 .bf16) (w : Vec F S1024x1024 .bf16)
    (g : Vec F S1x1024 .f32) (a : Vec F S1024x1024 .f32) (d : Vec F S1x1024 .f32)
    (j : grid0.Coords) (hj : k0_cond2 j = 1#1) (fx : Held (F := F) c xH) (fr : Held (F := F) c rH)
    (W : Waits sig Unit) (K : PUnit → sProp 𝕄) :
    iprop(owns (c : Thread nD τ) arg2 fullShare z ∗ owns (c : Thread nD τ) arg3 fullShare w ∗ owns (c : Thread nD τ) arg6 fullShare g
        ∗ (∃ d, owns (c : Thread nD τ) arg7 fullShare d) ∗ owns (c : Thread nD τ) arg8 fullShare d
        ∗ owns (c : Thread nD τ) accM fullShare a ∗ onItsWay c 8 xH xM j hj fx ∗ onItsWay c 9 rH rM j hj fr
        ∗ owes (c : Thread nD τ) 0 W
        ∗ (iprop(owns (c : Thread nD τ) arg2 fullShare z ∗ owns (c : Thread nD τ) arg3 fullShare w ∗ owns (c : Thread nD τ) arg6 fullShare g
            ∗ owns (c : Thread nD τ) arg7 fullShare (k0_pay8 (rowsAt c xH j hj fx) g (k0_pay4 z w a) (rowsAt c rH j hj fr))
            ∗ owns (c : Thread nD τ) arg8 fullShare (k0_pay5 (k0_pay7 (rowsAt c xH j hj fx) (k0_pay4 z w a)) d)
            ∗ (∃ d, owns (c : Thread nD τ) accM fullShare d) ∗ (∃ d, owns (c : Thread nD τ) xM fullShare d)
            ∗ (∃ d, owns (c : Thread nD τ) rM fullShare d)
            ∗ semVal ((c : Thread nD τ), SemLoc.dma 8) 0 ∗ semVal ((c : Thread nD τ), SemLoc.dma 9) 0
            ∗ ownRows c (rowsOf xH j hj) fx ∗ ownRows c (rowsOf rH j hj) fr
            ∗ (∃ W', owes (c : Thread nD τ) 0 W')) -∗ K ⟨⟩))
      ⊢ wp frame (wpE (defs₀ (F := F)) Variants.none c none) Set.univ
          (cc0_in_bwd i arg2 harg2 arg3 harg3 xH (Memref.isWhole_whole _) rH (Memref.isWhole_whole _) arg6 harg6 arg7 harg7 arg8 harg8
            accM (Memref.isWhole_whole _) xM (Memref.isWhole_whole _) rM (Memref.isWhole_whole _) cc0_scratch3) K := by
  simp only [cc0_in_bwd_eq_skeleton]; unfold cc0_in_bwd_skel
  unfold owns onItsWay
  iintro ⟨⟨%f2, %e2, H2⟩, ⟨%f3, %e3, H3⟩, ⟨%f6, %e6, H6⟩, ⟨%d7, %f7, -, H7⟩, ⟨%f8, %e8, H8⟩, ⟨%fa, %ea, Ha⟩, ⟨%gx, Hx⟩, ⟨%gr, Hr⟩, HW, Hk⟩
  sl_exec
  sl_step
  iapply Hk
  have hz : View.readAt (Elt F) arg2.view (Rect.unit (s := S1x1024x1024) ![0, 0, 0] S1x1024x1024.size inb_S1x1024x1024_S1x1024x1024_0_0_0).toLoadRect f2 = z :=
    (load_all _ _ _ (by decide)).trans e2
  have hw : View.readAt (Elt F) arg3.view (Rect.unit (s := S1024x1024) ![0, 0] S1024x1024.size inb_S1024x1024_S1024x1024_0_0).toLoadRect f3 = w :=
    (load_all _ _ _ (by decide)).trans e3
  have ha : View.readAt (Elt F) accM.view (Rect.unit (s := S1024x1024) ![0, 0] S1024x1024.size inb_S1024x1024_S1024x1024_0_0).toLoadRect fa = a :=
    (load_all _ _ _ (by decide)).trans ea
  have hs : accM.view.readCov [(⟨Rect.unit (s := S1024x1024) ![0, 0] S1024x1024.size inb_S1024x1024_S1024x1024_0_0,
      k0_pay4 (View.readAt (Elt F) arg2.view (Rect.unit (s := S1x1024x1024) ![0, 0, 0] S1x1024x1024.size inb_S1x1024x1024_S1x1024x1024_0_0_0).toLoadRect f2)
        (View.readAt (Elt F) arg3.view (Rect.unit (s := S1024x1024) ![0, 0] S1024x1024.size inb_S1024x1024_S1024x1024_0_0).toLoadRect f3)
        (View.readAt (Elt F) accM.view (Rect.unit (s := S1024x1024) ![0, 0] S1024x1024.size inb_S1024x1024_S1024x1024_0_0).toLoadRect fa)⟩ :
        View.Piece (Elt F) S1024x1024 .f32)]
      (Rect.unit (s := S1024x1024) ![0, 0] S1024x1024.size inb_S1024x1024_S1024x1024_0_0).toLoadRect = k0_pay4 z w a := by
    rw [View.readCov_cons_toLoadRect, hz, hw, ha]
  have hg : View.readAt (Elt F) arg6.view (Rect.unit (s := S1x1024) ![0, 0] S1x1024.size inb_S1x1024_S1x1024_0_0).toLoadRect f6 = g :=
    (load_all _ _ _ (by decide)).trans e6
  have hd : View.readAt (Elt F) arg8.view (Rect.unit (s := S1x1024) ![0, 0] S1x1024.size inb_S1x1024_S1x1024_0_0).toLoadRect f8 = d :=
    (load_all _ _ _ (by decide)).trans e8
  have hx : xM.view.readCov [(⟨Rect.whole S1024x1024, rowsAt c xH j hj fx⟩ : View.Piece (Elt F) S1024x1024 .f32)]
      (Rect.unit (s := S1024x1024) ![0, 0] S1024x1024.size inb_S1024x1024_S1024x1024_0_0).toLoadRect = rowsAt c xH j hj fx :=
    load_landed _ _ (by decide) _
  have hr : rM.view.readCov [(⟨Rect.whole S1024x1024, rowsAt c rH j hj fr⟩ : View.Piece (Elt F) S1024x1024 .f32)]
      (Rect.unit (s := S1024x1024) ![0, 0] S1024x1024.size inb_S1024x1024_S1024x1024_0_0).toLoadRect = rowsAt c rH j hj fr :=
    load_landed _ _ (by decide) _
  isplitl [H2]
  · iexists _; isplitr; swap; · iexact H2
    ipureintro; exact e2
  isplitl [H3]
  · iexists _; isplitr; swap; · iexact H3
    ipureintro; exact e3
  isplitl [H6]
  · iexists _; isplitr; swap; · iexact H6
    ipureintro; exact e6
  isplitl [H7]
  · iexists _; isplitr; swap; · iexact H7
    ipureintro
    refine (read_stored _ _ _ (by decide) _ _).trans ?_
    unfold run_last.sl.r_1 run_last.sl.v27 run_last.sl.v29 run_last.sl.v58 run_last.sl.Ha_1
    rw [hs, hx, hr, hg]
  isplitl [H8]
  · iexists _; isplitr; swap; · iexact H8
    ipureintro
    refine (read_stored _ _ _ (by decide) _ _).trans ?_
    unfold run_last.sl.r run_last.sl.v27 run_last.sl.v29 run_last.sl.Ha_1
    rw [hs, hx, hd]
  isplitl [Ha]
  · iexists _, _; isplitr; swap; · iexact Ha
    ipureintro; rfl
  isplitl [Hx_dst]
  · iexists _, _; isplitr; swap; · iexact Hx_dst
    ipureintro; rfl
  isplitl [Hr_dst]
  · iexists _, _; isplitr; swap; · iexact Hr_dst
    ipureintro; rfl
  isplitl [Hx]; · iexact Hx
  isplitl [Hr]; · iexact Hr
  isplitl [Hx_src]; · iexact Hx_src
  isplitl [Hr_src]; · iexact Hr_src
  iexists _; iexact HW

end Cert.InProjIdeal.Hand

end
-- ==== Proof.InProj.States.lean ====
/-
  What the buffers of the backward input projection hold between two grid points, and the proof data of its pipeline:
  between two row blocks no transfer is under way; inside one, both are, and the accumulator holds the sum so far.
-/
module

public import proofs.«01_k».proof.Proof.InProj.Runs

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one core: the pipeline's own beside the counters of the body's transfers. -/
local notation "𝕄" => MT nD τ sig Unit (Elt F) ℕ (Pipeline.UD sig nD τ) ℕ

variable (m : (ℓ : Loc nD τ sig) → Buf (Elt F) ℓ) (ρ : Dev nD → PrngReg)

/-! ## Which point is which -/

/-- The first point of the grid. -/
theorem cond_first : ∀ t : Fin cfg0.N, k0_cond1 (grid0.coords t) = 1#1 ↔ t.val = 0 :=
  (by decide +kernel : ∀ t : Fin grid0.N, k0_cond1 (grid0.coords t) = 1#1 ↔ t.val = 0)
/-- The first point of a row block. -/
theorem cond_start : ∀ t : Fin cfg0.N, k0_cond2 (grid0.coords t) = 1#1 ↔ t.val % 7 = 0 :=
  (by decide +kernel : ∀ t : Fin grid0.N, k0_cond2 (grid0.coords t) = 1#1 ↔ t.val % 7 = 0)
/-- A later point of a row block. -/
theorem cond_later : ∀ t : Fin cfg0.N, Scalar.cmpi .ne (Scalar.extui (Scalar.cmpi .sgt (BitVec.ofNat 32 (grid0.coords t 1).val) 0#32)) 0#32 = 1#1 ↔ ¬ t.val % 7 = 0 :=
  (by decide +kernel : ∀ t : Fin grid0.N, Scalar.cmpi .ne (Scalar.extui (Scalar.cmpi .sgt (BitVec.ofNat 32 (grid0.coords t 1).val) 0#32)) 0#32 = 1#1 ↔ ¬ t.val % 7 = 0)
/-- The last point of a row block. -/
theorem cond_last : ∀ t : Fin cfg0.N, k0_cond4 (grid0.coords t) = 1#1 ↔ t.val % 7 = 6 :=
  (by decide +kernel : ∀ t : Fin grid0.N, k0_cond4 (grid0.coords t) = 1#1 ↔ t.val % 7 = 6)

/-- The gradient of `x` is stored at the last point of a row block only. -/
theorem idle_gx : ∀ t : Fin cfg0.N, cfg0.idle 3 (cfg0.grid.coords t) = !decide (t.val % 7 = 6) :=
  (by decide +kernel : ∀ t : Fin grid0.N, idle0 3 (grid0.coords t) = !decide (t.val % 7 = 6))
/-- The gradient of the gain is stored at the first point and at the last point of each row block. -/
theorem idle_dg : ∀ t : Fin cfg0.N, cfg0.idle 4 (cfg0.grid.coords t) = !decide (t.val = 0 ∨ t.val % 7 = 6) :=
  (by decide +kernel : ∀ t : Fin grid0.N, idle0 4 (grid0.coords t) = !decide (t.val = 0 ∨ t.val % 7 = 6))

/-- Point `n` of the grid, which has fourteen. -/
def pt (n : ℕ) : Fin cfg0.N := ⟨n % 14, lt_of_lt_of_eq (Nat.mod_lt n (by decide)) N_0.symm⟩
theorem lt_points (t : Fin cfg0.N) : t.val < 14 := lt_of_lt_of_eq t.isLt N_0
theorem pt_val (t : Fin cfg0.N) : pt t.val = t := Fin.ext (Nat.mod_eq_of_lt (lt_points t))

/-- The point at which the transfers under way before point `n` were started. -/
abbrev startOf (n : ℕ) : grid0.Coords := grid0.coords (pt (7 * (n / 7)))
theorem startOf_start (n : ℕ) : k0_cond2 (startOf n) = 1#1 :=
  (cond_start _).mpr (by show 7 * (n / 7) % 14 % 7 = 0; omega)

/-! ## What the buffers hold -/

/-- The accumulator after point `n`: the sum of the products of the row block so far. -/
def accAt (c : Dev nD) : ℕ → Vec F S1024x1024 .f32
  | 0 => k0_pay3 (iblk m c 0 (pt 0)) (iblk m c 1 (pt 0))
  | n + 1 => if (n + 1) % 7 = 0 then k0_pay3 (iblk m c 0 (pt (n + 1))) (iblk m c 1 (pt (n + 1)))
      else k0_pay4 (iblk m c 0 (pt (n + 1))) (iblk m c 1 (pt (n + 1))) (accAt c n)

/-- The row block of `x` and of the residual cotangent that the transfers under way at point `n` bring. -/
def xAt (c : Dev nD) (n : ℕ) : Vec F S1024x1024 .f32 := rowsAt c xH (startOf n) (startOf_start n) (V m c main_arg0)
def rAt (c : Dev nD) (n : ℕ) : Vec F S1024x1024 .f32 := rowsAt c rH (startOf n) (startOf_start n) (V m c main_arg4)

/-- The gradient of the gain after point `n`. -/
def dgAt (c : Dev nD) : ℕ → Vec F S1x1024 .f32
  | 0 => k0_pay1
  | n + 1 => if (n + 1) % 7 = 6 then k0_pay5 (k0_pay7 (xAt m c (n + 1)) (accAt m c (n + 1))) (dgAt c n) else dgAt c n

/-- The block of the gradient of `x` that the last point `n` of a row block writes. -/
def gxAt (c : Dev nD) (n : ℕ) : Vec F S1024x1024 .f32 := k0_pay8 (xAt m c n) (iblk m c 2 (pt n)) (accAt m c n) (rAt m c n)

theorem accAt_start (c : Dev nD) (t : Fin cfg0.N) (h : t.val % 7 = 0) : accAt m c t.val = k0_pay3 (iblk m c 0 t) (iblk m c 1 t) := by
  have e := pt_val t
  revert h e
  generalize t.val = n
  intro h e
  cases n with
  | zero => unfold accAt; rw [e]
  | succ n => unfold accAt; rw [if_pos h, e]

theorem accAt_later (c : Dev nD) (t : Fin cfg0.N) (h : ¬ t.val % 7 = 0) :
    accAt m c t.val = k0_pay4 (iblk m c 0 t) (iblk m c 1 t) (accAt m c (t.val - 1)) := by
  have e := pt_val t
  revert h e
  generalize t.val = n
  intro h e
  cases n with
  | zero => exact absurd rfl h
  | succ n => rw [accAt, if_neg h, e]; rfl

theorem dgAt_last (c : Dev nD) (n : ℕ) (h : n % 7 = 6) :
    dgAt m c n = k0_pay5 (k0_pay7 (xAt m c n) (accAt m c n)) (dgAt m c (n - 1)) := by
  cases n with
  | zero => exact absurd h (by decide)
  | succ n => rw [dgAt, if_pos h]; rfl

theorem dgAt_same (c : Dev nD) (n : ℕ) (h0 : n ≠ 0) (h : ¬ n % 7 = 6) : dgAt m c n = dgAt m c (n - 1) := by
  cases n with
  | zero => exact absurd rfl h0
  | succ n => rw [dgAt, if_neg h]; rfl

/-! ## What the core holds between two points -/

/-- The two semaphores of the body's transfers. -/
abbrev sems : Fin 2 → SemLoc sig := fun j => (![SemLoc.dma 8, SemLoc.dma 9] : Fin 2 → SemLoc sig) j
theorem sems_facts : Pipeline.OwnSemFacts spec0 sems := by decide
/-- The arrays the body's transfers read. -/
def inHbm : Finset (Ref sig .tc) := {main_arg0, main_arg4}
theorem inHbm_sub : inHbm ⊆ Pipeline.restRefs sig spec0 := by decide

/-- Between two row blocks: the buffers at anything, no transfer under way. -/
theorem rest_eq (c : Dev nD) :
    (Pipeline.ΦD sems spec0 inHbm (V m) c : sProp 𝕄)
      = iprop(iprop((∃ d, owns (c : Thread nD τ) accM fullShare d) ∗ (∃ d, owns (c : Thread nD τ) xM fullShare d)
            ∗ (∃ d, owns (c : Thread nD τ) rM fullShare d))
          ∗ (∃ r, prngReg c r)
          ∗ iprop(semVal ((c : Thread nD τ), SemLoc.dma 8) 0 ∗ semVal ((c : Thread nD τ), SemLoc.dma 9) 0)
          ∗ iprop((xH.view.loc (c : Thread nD τ) ↦{fullShare} V m c main_arg0) ∗ (rH.view.loc (c : Thread nD τ) ↦{fullShare} V m c main_arg4))) := by
  rw [Pipeline.ΦD_eq, scopedRest0_eq, Pipeline.ownSems0_eq_of_list c sems [0, 1] (by decide) (by decide),
    BI.bigSep_eq_bigSepL_of_eq [main_arg0, main_arg4] (by decide) (by decide)]
  simp only [accM, xM, rM, owns_whole]
  rfl

/-- The elements of an array in HBM that the transfers started at point `i` do not read. -/
abbrev otherRows (c : Dev nD) (M : Memref sig .tc .hbm S2048x1024 .f32) (i : grid0.Coords) (h : k0_cond2 i = 1#1)
    (f : Held (F := F) c M) : sProp 𝕄 :=
  M.view.loc (c : Thread nD τ) ↦[Finset.univ \ (rowsOf M i h).view.set]{fullShare} f

/-- Inside a row block: the accumulator at `a`, both transfers started at point `i` under way. -/
def flying (c : Dev nD) (a : Vec F S1024x1024 .f32) (i : grid0.Coords) (h : k0_cond2 i = 1#1) : sProp 𝕄 :=
  iprop(owns (c : Thread nD τ) accM fullShare a ∗ (∃ r, prngReg c r)
    ∗ onItsWay c 8 xH xM i h (V m c main_arg0) ∗ onItsWay c 9 rH rM i h (V m c main_arg4)
    ∗ otherRows c xH i h (V m c main_arg0) ∗ otherRows c rH i h (V m c main_arg4))

theorem flying_congr (c : Dev nD) (a : Vec F S1024x1024 .f32) {i j : grid0.Coords} (e : i = j) (h : k0_cond2 i = 1#1) (h' : k0_cond2 j = 1#1) :
    flying m c a i h = flying m c a j h' := by subst e; rfl

/-- Before point `n`. -/
def between (c : Dev nD) (n : ℕ) : sProp 𝕄 :=
  if n % 7 = 0 then Pipeline.ΦD sems spec0 inHbm (V m) c else flying m c (accAt m c (n - 1)) (startOf n) (startOf_start n)

/-- The proof data: the arrays as the region finds them, and what each point leaves in each staging buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gxAt m c t.val
    | ⟨4, _⟩ => dgAt m c t.val
  Φ t := between m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = gxAt m c t.val := by dsimp only [dats]
theorem after0_4 (c : Dev nD) (t : Fin cfg0.N) : (dats m 0 c).after 4 t = dgAt m c t.val := by dsimp only [dats]

end Cert.InProjIdeal.Hand

end
-- ==== Proof.InProj.Blocks.lean ====
/- The blocks the backward input projection's kernel loads at a grid point, read as entries of its arguments. -/
module

public import proofs.«01_k».proof.Proof.InProj.Spec
public import proofs.«01_k».proof.Proof.InProj.States
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen Cert.InProjIdeal.Hand Cert.InProjSpec Cert.NormSpec

variable (m : (ℓ : Loc nD τ sig) → Buf (Elt Ideal) ℓ) (c : Dev nD) (t : Fin cfg0.N)

/-- The arguments by name. -/
abbrev X : Rows := m ((c : Thread nD τ).loc main_arg0)
abbrev G : Scale := m ((c : Thread nD τ).loc main_arg1)
abbrev Wt : Weights := m ((c : Thread nD τ).loc main_arg2)
abbrev CZ : Wide := m ((c : Thread nD τ).loc main_arg3)
abbrev CX : Rows := m ((c : Thread nD τ).loc main_arg4)

/-- The plane that holds a column block. -/
def plane (s : Fin 7) : Fin 8 := (![0, 1, 4, 5, 6, 2, 3] : Fin 7 → Fin 8) s
/-- The row block and the column block a point works on. -/
def rb (n : ℕ) : Fin 2 := ⟨n / 7 % 2, by omega⟩
def cb (n : ℕ) : Fin 7 := ⟨n % 7, by omega⟩

/-- Every window's block index at every grid point. -/
theorem idx : ∀ t : Fin cfg0.N, win0_0.index t = ![(plane (cb t.val)).val, (rb t.val).val, 0] ∧ win0_1.index t = ![0, (cb t.val).val]
    ∧ win0_2.index t = ![0, 0] ∧ win0_3.index t = ![(rb t.val).val, 0] ∧ win0_4.index t = ![0, 0] :=
  (by decide +kernel : ∀ t : Fin grid0.N, _)
/-- The rows a row block's transfers read. -/
theorem off : ∀ t : Fin cfg0.N, k0_off1 (grid0.coords t) = ![(rb t.val).val * 1024, 0] := (by decide +kernel : ∀ t : Fin grid0.N, _)

/-- A column block of the cotangent, as one plane. -/
abbrev piece (z : Wide) (o : ℕ) (h : S2048x7168.Slices ![0, o] S2048x1024) : FVec Ideal S1x2048x1024 .bf16 :=
  broadcastInDim S1x2048x1024 ![1, 2] bcast_S2048x1024_S1x2048x1024_1_2
    (extractStridedSlice S2048x1024 ![0, o] (truncf .bf16 (show FVec Ideal S2048x7168 .f32 from z) bitsLt_bf16_f32) h)
/-- The stack of planes the kernel reads: the cotangent's column blocks, and one it does not read. -/
def stack (z : Wide) : FVec Ideal S8x2048x1024 .bf16 :=
  concatenate S8x2048x1024 0 [⟨S1x2048x1024, piece z 0 slices_S2048x7168_S2048x1024_0_0⟩, ⟨S1x2048x1024, piece z 1024 slices_S2048x7168_S2048x1024_0_1024⟩,
    ⟨S1x2048x1024, piece z 5120 slices_S2048x7168_S2048x1024_0_5120⟩, ⟨S1x2048x1024, piece z 6144 slices_S2048x7168_S2048x1024_0_6144⟩,
    ⟨S1x2048x1024, piece z 2048 slices_S2048x7168_S2048x1024_0_2048⟩, ⟨S1x2048x1024, piece z 3072 slices_S2048x7168_S2048x1024_0_3072⟩,
    ⟨S1x2048x1024, piece z 4096 slices_S2048x7168_S2048x1024_0_4096⟩,
    ⟨S1x2048x1024, broadcastInDim S1x2048x1024 ![1, 2] bcast_S2048x1024_S1x2048x1024_1_2 (broadcastInDim S2048x1024 ![] bcast_S_S2048x1024 (constant (F := Ideal) S_ .bf16 0x0000#16))⟩]
    concatenates_S1x2048x1024_S1x2048x1024_S1x2048x1024_S1x2048x1024_S1x2048x1024_S1x2048x1024_S1x2048x1024_S1x2048x1024_S8x2048x1024_d0
theorem planes : V m c main_v17 = stack (CZ m c) := by
  unfold V
  after_results_simp
  rfl
theorem stack_at (z : Wide) (s : Fin 7) (r : Fin 2048) (j : Fin 1024) : stack z (ix3 (plane s) r j) = z (ix2 r (col s j)) := by
  fin_cases s <;> (unfold stack plane col; pointwise; blk_ext)

theorem read_z (e : Fin 1) (a j : Fin 1024) : (iblk m c 0 t : FVec Ideal S1x1024x1024 .bf16) (ix3 e a j)
    = CZ m c (ix2 (row (rb t.val) a) (col (cb t.val) j)) := by
  show V m c main_v17 _ = _
  rw [planes, show (win0_0.blk t).view.emb (ix3 e a j) = (ix3 (plane (cb t.val)) (row (rb t.val) a) j : S8x2048x1024.Idx) from by blk_ext [idx t, row]]
  exact stack_at _ _ _ _
theorem read_w (k j : Fin 1024) : (iblk m c 1 t : FVec Ideal S1024x1024 .bf16) (ix2 k j) = Wt m c (ix3 0 k (col (cb t.val) j)) := by
  blk_simp [iblk, V, idx t]
  entry_read
  rw [show ((View.whole main_v19).slice (win0_1.rect t)).emb (ix2 k j) = (ix2 k (col (cb t.val) j) : S1024x7168.Idx) from by blk_ext [idx t, col]]
  pointwise
theorem read_g (e : Fin 1) (k : Fin 1024) : (iblk m c 2 t : FVec Ideal S1x1024 .f32) (ix2 e k) = G m c (ix2 0 k) := by
  blk_simp [iblk, V, idx t]
  entry_read
  pointwise
  blk_ext [idx t]

/-- Where an entry of the rows a row block's transfers read lies in the whole array. -/
theorem rows_emb (a k : Fin 1024) : (Rect.unit (s := S2048x1024) (k0_off1 (startOf t.val)) S1024x1024.size (k0_off1_inb _ (startOf_start t.val))).emb (ix2 a k)
    = (ix2 (row (rb t.val) a) k : S2048x1024.Idx) := by
  have h := off (pt (7 * (t.val / 7)))
  have h0 : k0_off1 (startOf t.val) 0 = (rb t.val).val * 1024 := by
    rw [show k0_off1 (startOf t.val) = _ from h]; show 7 * (t.val / 7) % 14 / 7 % 2 * 1024 = t.val / 7 % 2 * 1024; omega
  have h1 : k0_off1 (startOf t.val) 1 = 0 := by rw [show k0_off1 (startOf t.val) = _ from h]; rfl
  funext e
  fin_cases e
  · refine Fin.ext ?_
    show k0_off1 (startOf t.val) 0 + 1 * a.val = (rb t.val).val * 1024 + a.val
    rw [h0]; omega
  · refine Fin.ext ?_
    show k0_off1 (startOf t.val) 1 + 1 * k.val = k.val
    rw [h1]; omega

/-- The row block of `x`, and of the residual cotangent, that the transfers under way at a point bring. -/
theorem read_x (a k : Fin 1024) : xAt m c t.val (ix2 a k) = X m c (ix2 (row (rb t.val) a) k) := by
  show V m c main_arg0 ((rowsOf xH (startOf t.val) (startOf_start t.val)).view.emb (ix2 a k)) = _
  rw [V_main_arg0]
  exact congrArg (m ((c : Thread nD τ).loc main_arg0)) (rows_emb t a k)
theorem read_r (a k : Fin 1024) : rAt m c t.val (ix2 a k) = CX m c (ix2 (row (rb t.val) a) k) := by
  show V m c main_arg4 ((rowsOf rH (startOf t.val) (startOf_start t.val)).view.emb (ix2 a k)) = _
  rw [V_main_arg4]
  exact congrArg (m ((c : Thread nD τ).loc main_arg4)) (rows_emb t a k)

end Cert.InProjIdeal.RefValue

end
-- ==== Proof.InProj.Frame.lean ====
/-
  The backward input projection runs to its end, whatever the element type: it leaves its arguments alone, and its two
  results hold what the blocks of its grid points add up to.
-/
module

public import proofs.«01_k».proof.Proof.InProj.States

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one core: the pipeline's own beside the counters of the body's transfers. -/
local notation "𝕄" => MT nD τ sig Unit (Elt F) ℕ (Pipeline.UD sig nD τ) ℕ

variable (m : (ℓ : Loc nD τ sig) → Buf (Elt F) ℓ) (ρ : Dev nD → PrngReg)

/-! ## What each point finds -/

/-- An input window's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans
    (by unfold Dat.fetched Dat.blockOf iblk; rw [A_eq]; rfl)

/-- The gradient of `x` is written back only at a row block's last point, that of the gain only at the last of all. -/
theorem flush_gx : ∀ t : Fin cfg0.N, (cfg0.win 3).flush t = decide (t.val % 7 = 6) :=
  (by decide +kernel : ∀ t : Fin grid0.N, win0_3.flush t = decide (t.val % 7 = 6))
theorem flush_dg : ∀ t : Fin cfg0.N, (cfg0.win 4).flush t = decide (t.val = 13) :=
  (by decide +kernel : ∀ t : Fin grid0.N, win0_4.flush t = decide (t.val = 13))

/-- The gradient of the gain's buffer holds, from the second point on, what the point before left. -/
theorem before_dg (c : Dev nD) (d) : ∀ (n : ℕ) (t : Fin cfg0.N), t.val = n + 1 → (dats m 0 c).before 4 t d = dgAt m c n := by
  intro n
  induction n with
  | zero =>
    intro t ht
    rw [(dats m 0 c).before_of_pos 4 t (by omega) ((cfg0.win 4).fetch_out rfl t), flush_dg, if_neg (by simp [ht])]
    unfold Dat.left
    rw [idle_dg, decide_eq_true (by simp [ht])]
    show (dats m 0 c).kept 4 _ d = _
    show (dats m 0 c).after 4 _ = _
    rw [after0_4]
    show dgAt m c (t.val - 1) = _
    rw [ht]
  | succ n ih =>
    intro t ht
    have hlt := lt_points t
    rw [(dats m 0 c).before_of_pos 4 t (by omega) ((cfg0.win 4).fetch_out rfl t), flush_dg, if_neg (by simp; omega)]
    unfold Dat.left
    rw [idle_dg]
    by_cases h6 : (n + 1) % 7 = 6
    · rw [decide_eq_true (by right; show (t.val - 1) % 7 = 6; rw [ht]; exact h6)]
      show (dats m 0 c).after 4 _ = _
      rw [after0_4]
      show dgAt m c (t.val - 1) = _
      rw [ht]; rfl
    · rw [decide_eq_false (by
        show ¬ (t.val - 1 = 0 ∨ (t.val - 1) % 7 = 6)
        rw [ht]; rintro (h | h)
        · omega
        · exact h6 h)]
      show (dats m 0 c).before 4 _ d = _
      rw [ih _ (by show t.val - 1 = n + 1; omega), dgAt_same m c (n + 1) (by omega) h6]; rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ (dats m 0 c).leavesExact 3 t ∗ (dats m 0 c).leavesExact 4 t)

/-- A window's buffer left at what the point leaves, where the point is not idle for it. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem Phi_before (c : Dev nD) (t : Fin cfg0.N) : (dats m 0 c).Φ t.castSucc = between m c t.val := by dsimp only [dats]; rfl
theorem Phi_after (c : Dev nD) (t : Fin cfg0.N) : (dats m 0 c).Φ t.succ = between m c (t.val + 1) := by dsimp only [dats]; rfl

/-- After a row block's first point the transfers under way are those it started; after a middle one, those of before. -/
theorem between_start (c : Dev nD) (t : Fin cfg0.N) (h : t.val % 7 = 0) (h2 : k0_cond2 (grid0.coords t) = 1#1) :
    between m c (t.val + 1) = flying m c (k0_pay3 (iblk m c 0 t) (iblk m c 1 t)) (grid0.coords t) h2 := by
  unfold between
  rw [if_neg (by omega), Nat.add_sub_cancel, accAt_start m c t h]
  refine flying_congr m c _ ?_ _ _
  show grid0.coords (pt (7 * ((t.val + 1) / 7))) = _
  rw [show 7 * ((t.val + 1) / 7) = t.val by omega, pt_val]
theorem between_middle (c : Dev nD) (t : Fin cfg0.N) (h : ¬ t.val % 7 = 0) (h6 : ¬ t.val % 7 = 6) :
    between m c (t.val + 1) = flying m c (k0_pay4 (iblk m c 0 t) (iblk m c 1 t) (accAt m c (t.val - 1))) (startOf t.val) (startOf_start t.val) := by
  unfold between
  rw [if_neg (by omega), Nat.add_sub_cancel, accAt_later m c t h]
  refine flying_congr m c _ ?_ _ _
  show grid0.coords (pt (7 * ((t.val + 1) / 7))) = grid0.coords (pt (7 * (t.val / 7)))
  rw [show (t.val + 1) / 7 = t.val / 7 by omega]

/-- The rows a transfer reads, taken out of the array in HBM and put back. -/
theorem split_rows (c : Dev nD) (M : Memref sig .tc .hbm S2048x1024 .f32) (i : grid0.Coords) (h : k0_cond2 i = 1#1) (f : Held (F := F) c M) :
    (M.view.loc (c : Thread nD τ) ↦{fullShare} f : sProp 𝕄) ⊣⊢ iprop(ownRows c (rowsOf M i h) f ∗ otherRows c M i h f) :=
  pointsTo_split_subset (Finset.subset_univ _)

theorem sound_start (c : Dev nD) (t : Fin cfg0.N) (h0 : t.val % 7 = 0) :
    bodyPre m c t ⊢ wp frame (wpE (defs₀ (F := F)) Variants.none c none) Set.univ (bodyAt0 t) (fun _ => bodyPost m c t) := by
  have h2 := (cond_start t).mpr h0
  have h3 := (not_congr (cond_later t)).mpr (not_not.mpr h0)
  have h4 : ¬ k0_cond4 (grid0.coords t) = 1#1 := fun h => by have := (cond_last t).mp h; omega
  unfold bodyPre bodyPost bodyAt0
  rw [Phi_before, Phi_after, between_start m c t h0 h2, show between m c t.val = Pipeline.ΦD sems spec0 inHbm (V m) c from if_pos h0, rest_eq,
    (dats m 0 c).leavesExact_idle 3 t (by rw [idle_gx, decide_eq_false (by omega)]; rfl) (by rw [flush_gx, decide_eq_false (by omega)])]
  simp only [before0_0, before0_1, before0_2, after0_0, after0_1, after0_2]
  unfold Dat.owesAt Pipeline.owesWithin flying
  rw [show (dats m 0 c).owed t.castSucc = 0 from rfl, show (dats m 0 c).owed t.succ = 0 from rfl]
  iintro ⟨⟨⟨Ha, Hx, Hr⟩, Hg, ⟨Hq8, Hq9⟩, ⟨HX, HR⟩⟩, ⟨%W, -, HW⟩, ⟨%d0, H0⟩, ⟨%d1, H1⟩, ⟨%d2, H2⟩, H3, ⟨%d4, H4⟩⟩
  ihave HX := (split_rows c xH (grid0.coords t) h2 (V m c main_arg0)).1 $$ HX
  ihave HR := (split_rows c rH (grid0.coords t) h2 (V m c main_arg4)).1 $$ HR
  icases HX with ⟨HX, HX'⟩
  icases HR with ⟨HR, HR'⟩
  by_cases h00 : t.val = 0
  · have h1 := (cond_first t).mpr h00
    rw [leaves_live m c 4 t (by rw [idle_dg, decide_eq_true (Or.inl h00)]; rfl), after0_4, show dgAt m c t.val = k0_pay1 by rw [h00]; rfl]
    iapply (run_first c (grid0.coords t) h1 h2 h3 h4 _ _ _ _ _ _ _ _ _ _ (iblk m c 0 t) (iblk m c 1 t) (V m c main_arg0) (V m c main_arg4) W _)
    isplitl [H0]; · iexact H0
    isplitl [H1]; · iexact H1
    isplitl [H4]; · iexists _; iexact H4
    isplitl [Ha]; · iexact Ha
    isplitl [Hx]; · iexact Hx
    isplitl [Hr]; · iexact Hr
    isplitl [Hq8]; · iexact Hq8
    isplitl [Hq9]; · iexact Hq9
    isplitl [HX]; · iexact HX
    isplitl [HR]; · iexact HR
    isplitl [HW]; · iexact HW
    iintro ⟨H0, H1, H4, Ha, Hx, Hr, HW⟩
    isplitl [Ha Hg Hx Hr HX' HR']
    · isplitl [Ha]; · iexact Ha
      isplitl [Hg]; · iexact Hg
      isplitl [Hx]; · iexact Hx
      isplitl [Hr]; · iexact Hr
      isplitl [HX']; · iexact HX'
      iexact HR'
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  · have h1 := (not_congr (cond_first t)).mpr h00
    rw [(dats m 0 c).leavesExact_idle 4 t (by rw [idle_dg, decide_eq_false (by omega)]; rfl) (by rw [flush_dg, decide_eq_false (by omega)])]
    iapply (run_start c (grid0.coords t) h1 h2 h3 h4 _ _ _ _ _ _ _ _ _ _ (iblk m c 0 t) (iblk m c 1 t) (V m c main_arg0) (V m c main_arg4) W _)
    isplitl [H0]; · iexact H0
    isplitl [H1]; · iexact H1
    isplitl [Ha]; · iexact Ha
    isplitl [Hx]; · iexact Hx
    isplitl [Hr]; · iexact Hr
    isplitl [Hq8]; · iexact Hq8
    isplitl [Hq9]; · iexact Hq9
    isplitl [HX]; · iexact HX
    isplitl [HR]; · iexact HR
    isplitl [HW]; · iexact HW
    iintro ⟨H0, H1, Ha, Hx, Hr, HW⟩
    isplitl [Ha Hg Hx Hr HX' HR']
    · isplitl [Ha]; · iexact Ha
      isplitl [Hg]; · iexact Hg
      isplitl [Hx]; · iexact Hx
      isplitl [Hr]; · iexact Hr
      isplitl [HX']; · iexact HX'
      iexact HR'
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexists d4; iexact H4

theorem sound_middle (c : Dev nD) (t : Fin cfg0.N) (h0 : ¬ t.val % 7 = 0) (h6 : ¬ t.val % 7 = 6) :
    bodyPre m c t ⊢ wp frame (wpE (defs₀ (F := F)) Variants.none c none) Set.univ (bodyAt0 t) (fun _ => bodyPost m c t) := by
  have h1 : ¬ k0_cond1 (grid0.coords t) = 1#1 := fun h => by have := (cond_first t).mp h; omega
  have h2 := (not_congr (cond_start t)).mpr h0
  have h3 := (cond_later t).mpr h0
  have h4 := (not_congr (cond_last t)).mpr h6
  unfold bodyPre bodyPost bodyAt0
  rw [Phi_before, Phi_after, between_middle m c t h0 h6,
    show between m c t.val = flying m c (accAt m c (t.val - 1)) (startOf t.val) (startOf_start t.val) from if_neg h0,
    (dats m 0 c).leavesExact_idle 3 t (by rw [idle_gx, decide_eq_false h6]; rfl) (by rw [flush_gx, decide_eq_false h6]),
    (dats m 0 c).leavesExact_idle 4 t (by rw [idle_dg, decide_eq_false (by omega)]; rfl) (by rw [flush_dg, decide_eq_false (by omega)])]
  simp only [before0_0, before0_1, before0_2, after0_0, after0_1, after0_2]
  unfold Dat.owesAt Pipeline.owesWithin flying
  rw [show (dats m 0 c).owed t.castSucc = 0 from rfl, show (dats m 0 c).owed t.succ = 0 from rfl]
  iintro ⟨⟨Ha, HF⟩, ⟨%W, -, HW⟩, ⟨%d0, H0⟩, ⟨%d1, H1⟩, ⟨%d2, H2⟩, H3, H4⟩
  iapply (run_middle c (grid0.coords t) h1 h2 h3 h4 _ _ _ _ _ _ _ _ _ _ (iblk m c 0 t) (iblk m c 1 t) (accAt m c (t.val - 1)) W _)
  isplitl [H0]; · iexact H0
  isplitl [H1]; · iexact H1
  isplitl [Ha]; · iexact Ha
  isplitl [HW]; · iexact HW
  iintro ⟨H0, H1, Ha, HW⟩
  isplitl [Ha HF]
  · isplitl [Ha]; · iexact Ha
    iexact HF
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_last (c : Dev nD) (t : Fin cfg0.N) (h6 : t.val % 7 = 6) :
    bodyPre m c t ⊢ wp frame (wpE (defs₀ (F := F)) Variants.none c none) Set.univ (bodyAt0 t) (fun _ => bodyPost m c t) := by
  have h0 : ¬ t.val % 7 = 0 := by omega
  have h1 : ¬ k0_cond1 (grid0.coords t) = 1#1 := fun h => by have := (cond_first t).mp h; omega
  have h2 := (not_congr (cond_start t)).mpr h0
  have h3 := (cond_later t).mpr h0
  have h4 := (cond_last t).mpr h6
  unfold bodyPre bodyPost bodyAt0
  rw [Phi_before, Phi_after, show between m c (t.val + 1) = Pipeline.ΦD sems spec0 inHbm (V m) c from if_pos (by omega), rest_eq,
    show between m c t.val = flying m c (accAt m c (t.val - 1)) (startOf t.val) (startOf_start t.val) from if_neg h0,
    leaves_live m c 3 t (by rw [idle_gx, decide_eq_true h6]; rfl), leaves_live m c 4 t (by rw [idle_dg, decide_eq_true (Or.inr h6)]; rfl),
    after0_3, after0_4, dgAt_last m c t.val h6]
  simp only [before0_0, before0_1, before0_2, after0_0, after0_1, after0_2, before_dg m c _ (t.val - 1) t (by omega)]
  unfold gxAt xAt rAt
  rw [pt_val, accAt_later m c t h0]
  unfold Dat.owesAt Pipeline.owesWithin flying
  rw [show (dats m 0 c).owed t.castSucc = 0 from rfl, show (dats m 0 c).owed t.succ = 0 from rfl]
  iintro ⟨⟨Ha, Hg, Hx, Hr, HX', HR'⟩, ⟨%W, -, HW⟩, ⟨%d0, H0⟩, ⟨%d1, H1⟩, ⟨%d2, H2⟩, ⟨%d3, H3⟩, ⟨%d4, H4⟩⟩
  iapply (run_last c (grid0.coords t) h1 h2 h3 h4 _ _ _ _ _ _ _ _ _ _ (iblk m c 0 t) (iblk m c 1 t) (iblk m c 2 t) (accAt m c (t.val - 1)) (dgAt m c (t.val - 1))
    (startOf t.val) (startOf_start t.val) (V m c main_arg0) (V m c main_arg4) W _)
  isplitl [H0]; · iexact H0
  isplitl [H1]; · iexact H1
  isplitl [H2]; · iexact H2
  isplitl [H3]; · iexists _; iexact H3
  isplitl [H4]; · iexact H4
  isplitl [Ha]; · iexact Ha
  isplitl [Hx]; · iexact Hx
  isplitl [Hr]; · iexact Hr
  isplitl [HW]; · iexact HW
  iintro ⟨H0, H1, H2, H3, H4, Ha, Hx, Hr, Hq8, Hq9, HX, HR, ⟨%W', HW⟩⟩
  isplitl [Ha Hg Hx Hr Hq8 Hq9 HX HR HX' HR']
  · isplitl [Ha Hx Hr]
    · isplitl [Ha]; · iexact Ha
      isplitl [Hx]; · iexact Hx
      iexact Hr
    isplitl [Hg]; · iexact Hg
    isplitl [Hq8 Hq9]
    · isplitl [Hq8]; · iexact Hq8
      iexact Hq9
    isplitl [HX HX']
    · iapply (split_rows c xH (startOf t.val) (startOf_start t.val) (V m c main_arg0)).2
      isplitl [HX]; · iexact HX
      iexact HX'
    iapply (split_rows c rH (startOf t.val) (startOf_start t.val) (V m c main_arg4)).2
    isplitl [HR]; · iexact HR
    iexact HR'
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact sound_start m c t h0
  · by_cases h6 : t.val % 7 = 6
    · exact sound_last m c t h6
    · exact sound_middle m c t h0 h6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 sems defs₀ Variants.none sems_facts inHbm inHbm_sub m ρ main
    (hbody := fun c => (body_obligation m c).loose) (hshare := fun c => (dats m 0 c).share_full fun _ => rfl)
    (howed := fun _ _ => rfl) (V := V m) (hmain := main_prefix m) (hA := A_eq m)
    (hin := fun _ => .rfl) (hout := fun _ => .rfl)

/-- The arguments end unchanged. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- It runs to its end, its arguments end unchanged, and every semaphore counter reads zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

/-- The two results after the run are the arrays of the output windows after the last point; the arguments end unchanged. -/
theorem run_arrays : θ_run defs (onTc (τ := τ) (main (F := F))) ⟨m, fun _ => 0, ρ⟩ (fun r => ∀ c : Dev nD,
      r.2.mem ((c.tc : Thread nD τ).loc main_v20_0) = (dats m 0 c).arrAt 3 cfg0.N
      ∧ r.2.mem ((c.tc : Thread nD τ).loc main_v20_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 3, (h.1 c).1 4, args_kept m h.1 c⟩) (run_main m ρ)

end Cert.InProjIdeal.Hand

end
-- ==== Proof.InProj.Values.lean ====
/- What the backward input projection's kernel adds up over the column blocks, and what the arrays it writes hold after its
   run. -/
module

public import proofs.«01_k».proof.Proof.InProj.Blocks
public import proofs.«01_k».proof.Proof.InProj.Frame

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen Cert.InProjIdeal.Hand Cert.InProjSpec Cert.NormSpec

variable (m : (ℓ : Loc nD τ sig) → Buf (Elt Ideal) ℓ) (c : Dev nD) (t : Fin cfg0.N)

/-- One column block's part of an entry of the gradient of the normalized rows. -/
def part (r : Fin 2048) (k : Fin 1024) (s : Fin 7) : EReal := ∑ j : Fin 1024, CZ m c (ix2 r (col s j)) * Wt m c (ix3 0 k (col s j))

theorem product_at (a k : Fin 1024) : k0_pay2 (iblk m c 0 t) (iblk m c 1 t) (ix2 a k) = part m c (row (rb t.val) a) k (cb t.val) := by
  pointwise [k0_pay2, part]
  simp only [read_z, read_w]
theorem first_at (a k : Fin 1024) : k0_pay3 (iblk m c 0 t) (iblk m c 1 t) (ix2 a k) = part m c (row (rb t.val) a) k (cb t.val) := by
  rw [← product_at]
  pointwise [k0_pay3]
theorem next_at (old : FVec Ideal S1024x1024 .f32) (a k : Fin 1024) :
    k0_pay4 (iblk m c 0 t) (iblk m c 1 t) old (ix2 a k) = old (ix2 a k) + part m c (row (rb t.val) a) k (cb t.val) := by
  rw [← product_at]
  pointwise [k0_pay4]

/-- The accumulator after a point: the parts of the column blocks up to the point's. -/
theorem acc_at (a k : Fin 1024) : ∀ (n : ℕ) (t : Fin cfg0.N), t.val = n →
    accAt m c n (ix2 a k) = ∑ s ∈ Finset.range (n % 7 + 1), part m c (row (rb n) a) k (cb s) := by
  intro n
  induction n with
  | zero =>
    intro t ht
    rw [← ht, accAt_start m c t (by omega), first_at, ht]
    simp
  | succ n ih =>
    intro t ht
    by_cases h : t.val % 7 = 0
    · rw [← ht, accAt_start m c t h, first_at, h, zero_add, Finset.sum_range_one]
      exact congrArg (part m c _ k) (Fin.ext h)
    · have hlt := lt_points t
      rw [← ht, accAt_later m c t h, next_at, show t.val - 1 = n by omega,
        ih ⟨n, by omega⟩ rfl, show n % 7 + 1 = t.val % 7 by omega, show rb n = rb t.val from Fin.ext (by show n / 7 % 2 = t.val / 7 % 2; omega),
        Finset.sum_range_succ]
      exact congrArg (_ + ·) (congrArg (part m c _ k) (Fin.ext (Nat.mod_mod _ _).symm))

/-- At a row block's last point the accumulator holds the gradient of the normalized and scaled rows. -/
theorem acc_last (h : t.val % 7 = 6) (a k : Fin 1024) : accAt m c t.val (ix2 a k) = dY (Wt m c) (CZ m c) (row (rb t.val) a) k := by
  rw [acc_at m c a k t.val t rfl, h, Finset.sum_range]
  refine Eq.trans (Finset.sum_congr rfl fun s _ => congrArg (part m c _ k) (Fin.ext (Nat.mod_eq_of_lt s.isLt))) ?_
  exact sum_cols fun j => CZ m c (ix2 (row (rb t.val) a) j) * Wt m c (ix3 0 k j)

theorem rs_at (a : Fin 1024) (e : Fin 1) : k0_pay6 (xAt m c t.val) (ix2 a e) = rs (rowOf (X m c) (row (rb t.val) a)) := by
  pointwise [k0_pay6, rs, spread, rowOf]
  simp only [read_x]
/-- The block of the gradient of the layer's input that a row block's last point writes. -/
theorem gx_at (h : t.val % 7 = 6) (a k : Fin 1024) :
    gxAt m c t.val (ix2 a k) = dx (X m c) (G m c) (Wt m c) (CZ m c) (CX m c) (row (rb t.val) a) k := by
  unfold gxAt
  rw [pt_val]
  pointwise [k0_pay8, dx, back, dn, rowOf]
  simp only [rs_at, read_x, read_r, read_g, acc_last m c t h]
/-- What a row block's last point adds to the gradient of the scale. -/
theorem dg_step (h : t.val % 7 = 6) (k : Fin 1024) (e : Fin 1) : dgAt m c t.val (ix2 e k)
    = dgAt m c (t.val - 1) (ix2 e k) + ∑ a, dY (Wt m c) (CZ m c) (row (rb t.val) a) k * normed (rowOf (X m c) (row (rb t.val) a)) k := by
  rw [dgAt_last m c t.val h]
  pointwise [k0_pay5, k0_pay7, normed, rowOf]
  simp only [rs_at, read_x, acc_last m c t h]
/-- The gradient of the scale, after the last point. -/
theorem dg_at (k : Fin 1024) (e : Fin 1) : dgAt m c 13 (ix2 e k) = dg (X m c) (Wt m c) (CZ m c) k := by
  have hA : dgAt m c 12 = dgAt m c 6 := by
    rw [dgAt_same m c 12 (by decide) (by decide), dgAt_same m c 11 (by decide) (by decide), dgAt_same m c 10 (by decide) (by decide),
      dgAt_same m c 9 (by decide) (by decide), dgAt_same m c 8 (by decide) (by decide), dgAt_same m c 7 (by decide) (by decide)]
  have hB : dgAt m c 5 = k0_pay1 (F := Ideal) := by
    rw [dgAt_same m c 5 (by decide) (by decide), dgAt_same m c 4 (by decide) (by decide), dgAt_same m c 3 (by decide) (by decide),
      dgAt_same m c 2 (by decide) (by decide), dgAt_same m c 1 (by decide) (by decide)]
    rfl
  have h13 := dg_step m c (pt 13) (by decide) k e
  have h6 := dg_step m c (pt 6) (by decide) k e
  rw [show (pt 13).val = 13 from rfl, show 13 - 1 = 12 from rfl, hA] at h13
  rw [show (pt 6).val = 6 from rfl, show 6 - 1 = 5 from rfl, hB] at h6
  rw [h13, h6, show k0_pay1 (F := Ideal) (ix2 e k) = 0 by pointwise [k0_pay1], zero_add]
  exact (Fin.sum_univ_two (fun i : Fin 2 => ∑ a, dY (Wt m c) (CZ m c) (row i a) k * normed (rowOf (X m c) (row i a)) k)).symm.trans
    (sum_rows fun r => dY (Wt m c) (CZ m c) r k * normed (rowOf (X m c) r) k)

/-- The gradient of the layer's input that the kernel's run leaves. -/
theorem final_dx : (dats m 0 c).arrAt 3 cfg0.N = fun i => dx (X m c) (G m c) (Wt m c) (CZ m c) (CX m c) (i 0) (i 1) := by
  refine (dats m 0 c).arrAt_eq_of_covers 3 _ (by decide +kernel) fun t hf y => ?_
  obtain ⟨a, b, rfl⟩ : ∃ (a : Fin 1024) (b : Fin 1024), y = ix2 a b := ⟨y 0, y 1, by blk_ext⟩
  blk_simp
  rw [after0_3]
  rw [show (win0_3.blk t).view.emb (ix2 a b) = ix2 (row (rb t.val) a) b by blk_ext [idx t, row]]
  rw [flush_gx] at hf
  exact gx_at m c t (of_decide_eq_true hf) a b

/-- The gradient of the scale that the kernel's run leaves. -/
theorem final_dg : (dats m 0 c).arrAt 4 cfg0.N = fun j => dg (X m c) (Wt m c) (CZ m c) (j 1) := by
  refine (dats m 0 c).arrAt_eq_of_covers 4 _ (by decide +kernel) fun t hf y => ?_
  obtain ⟨a, b, rfl⟩ : ∃ (a : Fin 1) (b : Fin 1024), y = ix2 a b := ⟨y 0, y 1, by blk_ext⟩
  blk_simp
  rw [after0_4]
  rw [show (win0_4.blk t).view.emb (ix2 a b) = ix2 a b by blk_ext [idx t]]
  rw [flush_dg] at hf
  rw [of_decide_eq_true hf]
  exact dg_at m c b a

end Cert.InProjIdeal.RefValue

end
-- ==== Proof.InProj.Reference.lean ====
/- The derivative of the normalization and projection as the reference computes it, one buffer at a time, is what
   `InProj/Spec.lean` says. -/
module

public import proofs.«01_k».proof.Proof.InProj.Spec
public import proofs.«01_k».proof.Proof.Gen.InProjRefIdeal.Run
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem

namespace Cert.InProjRefIdeal.RefValue

open Cert.InProjRefIdeal Cert.InProjRefIdeal.Gen Cert.InProjRefIdeal.Read Cert.InProjSpec Cert.NormSpec Cert.Finite

variable (x0 x4 : Rows) (x1 : Scale) (x2 : Weights) (x3 : Wide)

theorem spread_at (r : Fin 2048) (e : Fin 1) : val_main_v7 (F := Ideal) x0 (ix2 r e) = spread (rowOf x0 r) := by
  pointwise [val_main_v1, val_main_cst, val_main_v2, val_main_v3, val_main_cst_0, val_main_v4, val_main_v5, val_main_cst_1, val_main_v6, val_main_v7, spread, rowOf]
theorem rs_at (r : Fin 2048) (e : Fin 1) : val_main_v8 (F := Ideal) x0 (ix2 r e) = rs (rowOf x0 r) := by
  pointwise [val_main_v8, rs]
  rw [spread_at]
theorem normed_at (r : Fin 2048) (k : Fin 1024) : val_main_v13 (F := Ideal) x0 (ix2 r k) = normed (rowOf x0 r) k := by
  pointwise [val_main_v12, val_main_v13, normed]
  rw [rs_at]; rfl
theorem dY_at (r : Fin 2048) (k : Fin 1024) : val_main_v19 (F := Ideal) x2 x3 (ix2 r k) = dY x2 x3 r k := by
  pointwise [val_main_v17, val_main_v19, dY]
theorem dn_at (r : Fin 2048) (k : Fin 1024) : val_main_v24 (F := Ideal) x1 x2 x3 (ix2 r k) = dn x1 x2 x3 r k := by
  pointwise [val_main_v0, val_main_v14, val_main_v23, val_main_v24, dn]
  rw [dY_at]
theorem coef_at (r : Fin 2048) (k : Fin 1024) :
    val_main_v36 (F := Ideal) x0 x1 x2 x3 (ix2 r k) = coef (rowOf x0 r) (dn x1 x2 x3 r) := by
  pointwise [val_main_v9, val_main_cst_2, val_main_v10, val_main_v11, val_main_v26, val_main_cst_5, val_main_v27, val_main_v28, val_main_v32, val_main_cst_6,
    val_main_v33, val_main_v34, val_main_cst_7, val_main_v35, val_main_v36, coef]
  simp only [dn_at, rs_at, spread_at, Finset.univ_unique, Finset.sum_singleton]
  rfl
/-- The gradient of the layer's input, in the order the derivative program computes it. -/
theorem dx_at (r : Fin 2048) (k : Fin 1024) : val_main_v40 (F := Ideal) x0 x1 x2 x3 x4 (ix2 r k)
    = x4 (ix2 r k) + dn x1 x2 x3 r k * rs (rowOf x0 r) + rowOf x0 r k * coef (rowOf x0 r) (dn x1 x2 x3 r)
      + coef (rowOf x0 r) (dn x1 x2 x3 r) * rowOf x0 r k := by
  pointwise [val_main_v29, val_main_v30, val_main_v31, val_main_v37, val_main_v38, val_main_v39, val_main_v40]
  rw [coef_at, dn_at, rs_at]; rfl
/-- The gradient of the scale. -/
theorem dg_at (e : Fin 1) (k : Fin 1024) : val_main_v41 (F := Ideal) x0 x2 x3 (ix2 e k) = dg x0 x2 x3 k := by
  pointwise [val_main_v20, val_main_cst_3, val_main_v21, val_main_v22, val_main_cst_4, val_main_v25, val_main_v41, dg]
  simp only [normed_at, dY_at, Finset.univ_unique, Finset.sum_singleton]
  exact Finset.sum_congr rfl fun r _ => mul_comm _ _

/-- The gradient of the layer's input, on finite arguments. -/
theorem dx_eq {x0 x4 : Rows} {x1 : Scale} {x2 : Weights} {x3 : Wide} (h0 : ∀ i, IsReal (x0 i)) (h1 : ∀ i, IsReal (x1 i))
    (h2 : ∀ i, IsReal (x2 i)) (h3 : ∀ i, IsReal (x3 i)) (r : Fin 2048) (k : Fin 1024) :
    val_main_v40 (F := Ideal) x0 x1 x2 x3 x4 (ix2 r k) = dx x0 x1 x2 x3 x4 r k :=
  (dx_at _ _ _ _ _ r k).trans ((back_eq_add (rowOf_real h0 r) (dn_real h1 h2 h3 r) _ k).trans (add_comm _ _))

end Cert.InProjRefIdeal.RefValue

end
-- ==== Proof.InProj.Same.lean ====
/-
  The backward input projection read over machine numbers is the same program text as the one read over the extended reals,
  so its run is the same run.
-/
module

public import proofs.«01_k».proof.Proof.InProj.Frame
public import proofs.«01_k».proof.Proof.Gen.InProj

@[expose] public section

noncomputable section

namespace Cert.InProj.Hand

open Idealize.ShloMosaic Idealize.ShloMosaic.TcCoe Idealize.ShloMosaic.Tactic
open Idealize.SL Idealize.SL.Sem

variable {F : FTy → Type} [FloatOps F]

theorem main_same : Cert.InProj.main (F := F) = Cert.InProjIdeal.main (F := F) := by sl_kernel_rfl
theorem defs_same : Cert.InProj.defs (F := F) = Cert.InProjIdeal.defs (F := F) := by sl_kernel_rfl

/-- It runs to its end, its arguments end unchanged, and every semaphore counter reads zero again. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [main_same, defs_same]
  exact Cert.InProjIdeal.Hand.frame m ρ

end Cert.InProj.Hand

end
-- ==== Proof.InProj.Claims.lean ====
/- The claims about the backward call of the input projection and its normalization: the two frames, the reference's frame,
   and the values. Both programs end at the arrays of `InProj/Spec.lean`. -/
module

public import proofs.«01_k».proof.Defs
public import proofs.«01_k».proof.Proof.InProj.Values
public import proofs.«01_k».proof.Proof.InProj.Reference
public import proofs.«01_k».proof.Proof.InProj.Same
public import proofs.«01_k».proof.Proof.Gate.Finite
public import proofs.«01_k».proof.Proof.Gen.Pre_in_finite
public import Idealize.ShloMosaic.Lib.Claim

@[expose] public section

set_option maxRecDepth 16384

noncomputable section

open Idealize.ShloMosaic Idealize.ShloMosaic.TcCoe Idealize.SL.Sem

namespace Cert.Proof.InProjClaims

open Cert.InProjSpec Cert.NormSpec Cert.InProjIdeal.RefValue Cert.InProjIdeal.Hand Cert.InProjRefIdeal.RefValue Cert.InProjRefIdeal.Read
open Cert.Finite Cert.GateSpec

/-- The kernel's frame. -/
theorem frame : Cert.quiescent_InProj := fun m ρ _ => Cert.InProj.Hand.frame m ρ
/-- The idealized kernel's frame. -/
theorem frame_ideal : Cert.quiescent_InProjIdeal := fun m ρ _ => Cert.InProjIdeal.Hand.frame m ρ
/-- The same, on finite arguments. -/
theorem frame_ideal_finite : Cert.quiescent_InProjIdeal_pre_in_finite := fun m ρ _ => Cert.InProjIdeal.Hand.frame m ρ
/-- The reference's frame: its run, read at the arguments; it has no semaphore. -/
theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)
/-- The same, on finite arguments. -/
theorem frame_ref_finite : Cert.quiescent_InProjRefIdeal_pre_in_finite := fun m ρ _ => frame_ref m ρ trivial
/-- The idealized kernel is the kernel with nothing rewritten. -/
theorem preserves : Cert.preserves_InProj_InProjIdeal := trivial

set_option maxHeartbeats 2000000 in
/-- The two results of the backward call are the reference's. -/
theorem algebraic : Cert.algebraic_InProjIdeal_InProjRefIdeal_pre_in_finite := by
  intro m ρ m' ρ' hfin hagree
  refine ⟨fun c => (dats m 0 c).arrAt 3 Cert.InProjIdeal.cfg0.N, fun c => (dats m 0 c).arrAt 4 Cert.InProjIdeal.cfg0.N,
    run_arrays m ρ, ?_⟩
  refine (θ_run Cert.InProjRefIdeal.defs _ _).mono (fun r h c => ?_) (Cert.InProjRefIdeal.Value.run (F := Ideal) m' ρ')
  obtain ⟨h0, h1, hargs⟩ := h c
  obtain ⟨a0, a1, a2, a3, a4⟩ := hagree c
  obtain ⟨p0, p1, p2, p3⟩ := hfin c
  have q0 : ∀ i, IsReal (X m c i) := fun i => real_of_test (congrFun p0 i)
  have q1 : ∀ i, IsReal (G m c i) := fun i => real_of_test (congrFun p1 i)
  have q2 : ∀ i, IsReal (Wt m c i) := fun i => real_of_test (congrFun p2 i)
  have q3 : ∀ i, IsReal (CZ m c i) := fun i => real_of_test (congrFun p3 i)
  refine ⟨?_, ?_, hargs⟩
  · refine (h0.trans (val_main_v40_eq _ c)).trans ?_
    beta_reduce
    rw [final_dx m c, a0, a1, a2, a3, a4]
    funext i
    obtain ⟨r, k, rfl⟩ : ∃ (r : Fin 2048) (k : Fin 1024), i = ix2 r k := ⟨i 0, i 1, by blk_ext⟩
    exact dx_eq q0 q1 q2 q3 r k
  · refine (h1.trans (val_main_v41_eq _ _ _)).trans ?_
    beta_reduce
    rw [final_dg m c, a0, a2, a3]
    funext i
    obtain ⟨e, k, rfl⟩ : ∃ (e : Fin 1) (k : Fin 1024), i = ix2 e k := ⟨i 0, i 1, by blk_ext⟩
    exact Cert.InProjRefIdeal.RefValue.dg_at _ _ _ e k

end Cert.Proof.InProjClaims

end
-- ==== Proof.GateFwd.Reference.lean ====
/- What the spatial gating computes, and that its reference computes it. -/
module

public import proofs.«01_k».proof.Proof.Gate.Spec
public import proofs.«01_k».proof.Proof.Gen.GateFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateFwdSpec

open Cert.GateSpec

/-- The gated rows: the activated first half times the mixed second half. -/
def gated (zu zv : Rows) (lg lb : Scale) (ws : Mixing) (bs : MixBias) (r : Fin 2048) (k : Fin 1024) : EReal :=
  gelu (zu (ix2 r k)) * mixed zv lg lb ws bs (chunk r) (place r) (grp k) (lane k)

end Cert.GateFwdSpec

namespace Cert.GateFwdRefIdeal.RefValue

open Cert.GateFwdRefIdeal Cert.GateFwdRefIdeal.Gen Cert.GateFwdRefIdeal.Read Cert.GateSpec Cert.GateFwdSpec Cert.Finite

variable (x0 x1 : Rows) (x2 x3 : Scale) (x4 : Mixing) (x5 : MixBias)

/-- The quotient of the two integers is the cubic's coefficient. -/
theorem cubic_eq : id (Host.divf (F := Ideal) (constant S_ .f32 0x460BBC00#32) (constant S_ .f32 0x48435000#32)) ix0 = cubic := by
  show Ideal.div (Ideal.ofBits .f32 0x460BBC00#32) (Ideal.ofBits .f32 0x48435000#32) = _
  rw [word_8943, word_200000, div_real _ (by norm_num)]
/-- The activated first half. -/
theorem gelu_u (r : Fin 2048) (k : Fin 1024) : val_main_v14 (F := Ideal) x0 (ix2 r k) = gelu (x0 (ix2 r k)) := by
  pointwise [val_main_cst, val_main_cst_0, val_main_v0, val_main_v1, val_main_v2, val_main_v3, val_main_v4, val_main_v5, val_main_v6, val_main_cst_1,
    val_main_v7, val_main_v8, val_main_v9, val_main_cst_2, val_main_v10, val_main_v11, val_main_cst_3, val_main_v12, val_main_v13, val_main_v14, gelu, th]
  rw [← cubic_eq]; exact (mul_left_comm _ _ _).trans (mul_assoc _ _ _).symm
/-- The activated second half. -/
theorem gelu_v (r : Fin 2048) (k : Fin 1024) : val_main_v29 (F := Ideal) x1 (ix2 r k) = act x1 r k := by
  pointwise [val_main_cst_4, val_main_cst_5, val_main_v15, val_main_v16, val_main_v17, val_main_v18, val_main_v19, val_main_v20, val_main_v21, val_main_cst_6,
    val_main_v22, val_main_v23, val_main_v24, val_main_cst_7, val_main_v25, val_main_v26, val_main_cst_8, val_main_v27, val_main_v28, val_main_v29, act, gelu, th]
  rw [← cubic_eq]; exact (mul_left_comm _ _ _).trans (mul_assoc _ _ _).symm
/-- The centred rows. -/
theorem centre_v (r : Fin 2048) (k : Fin 1024) : val_main_v39 (F := Ideal) x1 (ix2 r k) = centre (act x1 r) k := by
  pointwise [val_main_cst_9, val_main_v34, val_main_v35, val_main_cst_10, val_main_v36, val_main_v37, val_main_v38, val_main_v39, centre, mean]
  simp only [gelu_v]
/-- The centred rows, a second time. -/
theorem centre_v' (r : Fin 2048) (k : Fin 1024) : val_main_v46 (F := Ideal) x1 (ix2 r k) = centre (act x1 r) k := by
  pointwise [val_main_cst_9, val_main_v34, val_main_v35, val_main_cst_10, val_main_v36, val_main_v37, val_main_v45, val_main_v46, centre, mean]
  simp only [gelu_v]
/-- The normalized, scaled and shifted rows. -/
theorem vn_at (r : Fin 2048) (k : Fin 1024) : val_main_v57 (F := Ideal) x1 x2 x3 (ix2 r k) = vn x1 x2 x3 r k := by
  pointwise [val_main_v40, val_main_cst_11, val_main_v41, val_main_v42, val_main_cst_12, val_main_v43, val_main_v44, val_main_cst_13, val_main_v47, val_main_v48,
    val_main_v49, val_main_v50, val_main_v51, val_main_v52, val_main_v53, val_main_v54, val_main_v55, val_main_v56, val_main_v57, val_main_v32, val_main_v33,
    vn, hat, spread, mean]
  simp only [centre_v, centre_v']
/-- The causal mask, decided place by place. -/
theorem causal : ∀ i j : Fin 128,
    Scalar.select (IntOp.cmpi CmpIPredicate.sge (IntOp.addi (BitVec.ofNat 32 i.val) 0#32) (BitVec.ofNat 32 j.val)) 1#1 0#1 = if j ≤ i then 1#1 else 0#1 := by
  decide +kernel
/-- The causal mixing weights. -/
theorem wm_at (g : Fin 8) (i j : Fin 128) : val_main_v63 (F := Ideal) x4 (ix3 g i j) = wm x4 g i j := by
  pointwise [val_main_c, val_main_v59, val_main_call0_v0, val_main_call0_c, val_main_call0_v1, val_main_call0_v2, val_main_call0_v3, val_main_call0_v4,
    val_main_call0_c_0, val_main_call0_v5, val_main_v60, val_main_v61, val_main_cst_14, val_main_v62, val_main_call1_v0, val_main_v63, val_main_v30, wm]
  rw [causal]; split <;> rfl
/-- The mixed rows. -/
theorem mixed_at (r : Fin 2048) (k : Fin 1024) :
    val_main_v70 (F := Ideal) x1 x2 x3 x4 x5 (ix2 r k) = mixed x1 x2 x3 x4 x5 (chunk r) (place r) (grp k) (lane k) := by
  pointwise [val_main_v58, val_main_v64, val_main_v65, val_main_v66, val_main_v67, val_main_v68, val_main_v69, val_main_v70, val_main_v31, mixed]
  refine congrArg (· + _) (Finset.sum_congr rfl fun j _ => ?_)
  rw [wm_at, mul_comm, vn_at, col_grp_lane]; rfl
/-- The gated rows. -/
theorem gated_at (r : Fin 2048) (k : Fin 1024) : val_main_v71 (F := Ideal) x0 x1 x2 x3 x4 x5 (ix2 r k) = gated x0 x1 x2 x3 x4 x5 r k := by
  pointwise [val_main_v71, gated]
  rw [gelu_u, mixed_at]

end Cert.GateFwdRefIdeal.RefValue

end
-- ==== Proof.GateFwd.Chunk.lean ====
/- One chunk of 128 rows as the spatial gating's forward call computes it, over arrays of any content, and its entries. -/
module

public import proofs.«01_k».proof.Proof.GateFwd.Reference
public import proofs.«01_k».proof.Proof.Gen.GateFwdIdeal.Value

@[expose] public section

set_option maxRecDepth 16384

noncomputable section

open Idealize.ShloMosaic Idealize.ShloMosaic.TcCoe Idealize.SL.Sem

namespace Cert.GateFwdIdeal.RefValue

open Cert.GateFwdIdeal Cert.GateFwdIdeal.Gen Cert.GateSpec Cert.GateFwdSpec

/-- A chunk's rows. -/
abbrev Chunk := FVec Ideal S128x1024 .f32

/-- The columns of group `g` lie inside a row. -/
theorem slices_group (g : Fin 8) : S128x1024.Slices ![0, g.val * 128] S128x128 := ⟨rfl, fun a => by
  match a with
  | ⟨0, _⟩ => exact (by decide : 0 + 128 ≤ 128)
  | ⟨1, _⟩ => exact (by have := g.isLt; omega : g.val * 128 + 128 ≤ 1024)⟩

/-- The columns of group `g`. -/
def groupV (g : Fin 8) {φ : FTy} (v : FVec Ideal S128x1024 φ) : FVec Ideal S128x128 φ := extractStridedSlice S128x128 ![0, g.val * 128] v (slices_group g)
/-- The activation. -/
def geluV (z : Chunk) : Chunk :=
  mulf (mulf (broadcast S128x1024 (Scalar.ofBits .f32 0x3F000000#32)) z) (addf (broadcast S128x1024 (Scalar.ofBits .f32 0x3F800000#32))
    (tanh (mulf (broadcast S128x1024 (Scalar.ofBits .f32 0x3F4C422A#32))
      (addf z (mulf (broadcast S128x1024 (Named.named κ "gelu_cubic" 0x3D372713#32)) (mulf (mulf z z) z))))))
/-- Rows less their means. -/
def centreV (v : Chunk) : Chunk :=
  subf v (broadcastTo S128x1024 (divf (shapeCast S128x1 (multiReduction .add [1] S128 v 0x00000000#32 reduces_S128x1024_S128 (.inl rfl) rfl) shapeCasts_S128_S128x1)
    (broadcast S128x1 (Scalar.ofBits .f32 0x44800000#32))) broadcasts_S128x1_S128x1024)
/-- Rows normalized, scaled and shifted. -/
def normV (lg lb : FVec Ideal S1x1024 .f32) (v : Chunk) : FVec Ideal S128x1024 .bf16 :=
  truncf .bf16 (addf (mulf (mulf (centreV v) (broadcastTo S128x1024 (rsqrt (addf
    (divf (shapeCast S128x1 (multiReduction .add [1] S128 (mulf (centreV v) (centreV v)) 0x00000000#32 reduces_S128x1024_S128 (.inl rfl) rfl) shapeCasts_S128_S128x1)
      (broadcast S128x1 (Scalar.ofBits .f32 0x44800000#32))) (broadcast S128x1 (Scalar.ofBits .f32 0x358637BD#32)))) broadcasts_S128x1_S128x1024))
    (broadcastTo S128x1024 lg broadcasts_S1x1024_S128x1024)) (broadcastTo S128x1024 lb broadcasts_S1x1024_S128x1024)) bitsLt_bf16_f32
/-- The masked mixing weights of a group. -/
def weightV (w : FVec Ideal S1x128x128 .f32) : FVec Ideal S128x128 .bf16 :=
  truncf .bf16 (select k0_pay4 (shapeCast S128x128 w shapeCasts_S1x128x128_S128x128) (broadcast S128x128 (Scalar.ofBits .f32 0x00000000#32))) bitsLt_bf16_f32
/-- The square of a chunk that is stored for group `g`. -/
def pieceV (g : Fin 8) (zu zv : Chunk) (lg lb : FVec Ideal S1x1024 .f32) (w : FVec Ideal S1x128x128 .f32) (b : FVec Ideal S128x1 .f32) : FVec Ideal S128x128 .bf16 :=
  truncf .bf16 (mulf (groupV g (geluV zu))
    (addf (matmul dot_S128x128_S128x128_S128x128_1_0_0_1_n_n none (weightV w) (groupV g (normV lg lb (geluV zv))) (constant S128x128 .f32 0x00000000#32))
      (broadcastTo S128x128 (shapeCast S128x1 b shapeCasts_S128x1_S128x1) broadcasts_S128x1_S128x128))) bitsLt_bf16_f32

/-- The kernel's causal mask, decided place by place. -/
theorem causal : ∀ i j : Fin 128, IntOp.cmpi CmpIPredicate.sge (BitVec.ofNat 32 i.val) (BitVec.ofNat 32 j.val) = if j ≤ i then 1#1 else 0#1 := by
  decide +kernel
theorem named_cubic : Named.named (F := Ideal) κ "gelu_cubic" (φ := .f32) 0x3D372713#32 = cubic :=
  IdealRules.named_const.ideal_named_scalar _ _ _ _ rfl

theorem groupV_at (g : Fin 8) {φ : FTy} (v : FVec Ideal S128x1024 φ) (a d : Fin 128) : groupV g v (ix2 a d) = v (ix2 a (col g d)) := by
  pointwise [groupV]
  exact congrArg v (by blk_ext [col])
theorem geluV_at (z : Chunk) (a : Fin 128) (k : Fin 1024) : geluV z (ix2 a k) = gelu (z (ix2 a k)) := by
  pointwise [geluV, gelu, th]
  rw [named_cubic]
theorem centreV_at (v : Chunk) (a : Fin 128) (k : Fin 1024) : centreV v (ix2 a k) = centre (fun k => v (ix2 a k)) k := by
  pointwise [centreV, centre, mean]
theorem normV_at (lg lb : FVec Ideal S1x1024 .f32) (v : Chunk) (a : Fin 128) (k : Fin 1024) :
    normV lg lb v (ix2 a k) = hat (fun k => v (ix2 a k)) k * lg (ix2 0 k) + lb (ix2 0 k) := by
  pointwise [normV, hat, spread, mean]
  simp only [centreV_at]
theorem weightV_at (w : FVec Ideal S1x128x128 .f32) (i j : Fin 128) : weightV w (ix2 i j) = if j ≤ i then w (ix3 0 i j) else 0 := by
  pointwise [weightV, k0_pay4]
  rw [causal]; split <;> rfl

/-- A stored square, given what the loaded arrays hold of chunk `n`. -/
theorem pieceV_at {ZU ZV : Rows} {LG LB : Scale} {WS : Mixing} {BS : MixBias} (n : Fin 16) (g : Fin 8) {zu zv : Chunk} {lg lb : FVec Ideal S1x1024 .f32}
    {w : FVec Ideal S1x128x128 .f32} {b : FVec Ideal S128x1 .f32} (hu : ∀ a k, zu (ix2 a k) = ZU (ix2 (row n a) k)) (hv : ∀ a k, zv (ix2 a k) = ZV (ix2 (row n a) k))
    (hg : ∀ k, lg (ix2 0 k) = LG (ix2 0 k)) (hb : ∀ k, lb (ix2 0 k) = LB (ix2 0 k)) (hw : ∀ i j, w (ix3 0 i j) = WS (ix4 0 g i j))
    (hc : ∀ a, b (ix2 a 0) = BS (ix3 0 g a)) (a d : Fin 128) :
    pieceV g zu zv lg lb w b (ix2 a d) = gated ZU ZV LG LB WS BS (row n a) (col g d) := by
  pointwise [pieceV, gated, mixed]
  simp only [groupV_at, geluV_at, normV_at, weightV_at, hu, hv, hg, hb, hw, hc, chunk_row, place_row, grp_col, lane_col]
  rfl

end Cert.GateFwdIdeal.RefValue

end
-- ==== Proof.GateFwd.Arrays.lean ====
/- What the array that the spatial gating's forward call writes holds after its run. -/
module

public import proofs.«01_k».proof.Proof.GateFwd.Chunk

@[expose] public section

set_option maxRecDepth 16384

noncomputable section

open Idealize.ShloMosaic Idealize.ShloMosaic.TcCoe Idealize.SL.Sem
open Idealize.ShloMosaic.Pipeline (Dat)

namespace Cert.GateFwdIdeal.RefValue

open Cert.GateFwdIdeal Cert.GateFwdIdeal.Gen Cert.GateSpec Cert.GateFwdSpec

variable (m : (ℓ : Loc nD τ sig) → Buf (Elt Ideal) ℓ) (c : Dev nD)

/-- The two halves, the norm's scale and shift, the mixing weights and biases. -/
abbrev ZU : Rows := m ((c : Thread nD τ).loc main_arg0)
abbrev ZV : Rows := m ((c : Thread nD τ).loc main_arg1)
abbrev LG : Scale := m ((c : Thread nD τ).loc main_arg2)
abbrev LB : Scale := m ((c : Thread nD τ).loc main_arg3)
abbrev WS : Mixing := m ((c : Thread nD τ).loc main_arg4)
abbrev BS : MixBias := m ((c : Thread nD τ).loc main_arg5)

/-- Which block each window takes at a grid point. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

variable (t : Fin cfg0.N) (q : Fin 4) (g : Fin 8)

/-- A chunk's rows inside either half of a block. -/
theorem inb_z (o : Nat) (ho : o ≤ 1024) : ∀ a, (![q.val * 128, o] : Fin 2 → Nat) a + S128x1024.size a ≤ S512x2048.size a := fun a => by
  match a with
  | ⟨0, _⟩ => exact (by have := q.isLt; omega : q.val * 128 + 128 ≤ 512)
  | ⟨1, _⟩ => exact (by omega : o + 1024 ≤ 2048)
/-- A group's weights inside all weights. -/
theorem inb_w : ∀ a, (![g.val, 0, 0] : Fin 3 → Nat) a + S1x128x128.size a ≤ S8x128x128.size a := fun a => by
  match a with
  | ⟨0, _⟩ => exact (by have := g.isLt; omega : g.val + 1 ≤ 8)
  | ⟨1, _⟩ => exact (by decide : 0 + 128 ≤ 128)
  | ⟨2, _⟩ => exact (by decide : 0 + 128 ≤ 128)
/-- A group's biases inside all biases. -/
theorem inb_b : ∀ a, (![0, g.val] : Fin 2 → Nat) a + S128x1.size a ≤ S128x8.size a := fun a => by
  match a with
  | ⟨0, _⟩ => exact (by decide : 0 + 128 ≤ 128)
  | ⟨1, _⟩ => exact (by have := g.isLt; omega : g.val + 1 ≤ 8)

/-- Chunk `q` of the first half's block. -/
def zuB : Chunk := shapeCast S128x1024 (View.ld (iblk m c 0 t) (Rect.unit ![q.val * 128, 0] ![128, 1024] (inb_z q 0 (by decide)))) shapeCasts_S128x1024_S128x1024
/-- Chunk `q` of the second half's block. -/
def zvB : Chunk := shapeCast S128x1024 (View.ld (iblk m c 0 t) (Rect.unit ![q.val * 128, 1024] ![128, 1024] (inb_z q 1024 (by decide)))) shapeCasts_S128x1024_S128x1024
/-- The mixing weights of group `g`. -/
def wB : FVec Ideal S1x128x128 .f32 := View.ld (iblk m c 3 t) (Rect.unit ![g.val, 0, 0] ![1, 128, 128] (inb_w g))
/-- The mixing biases of group `g`. -/
def bB : FVec Ideal S128x1 .f32 := View.ld (iblk m c 4 t) (Rect.unit ![0, g.val] ![128, 1] (inb_b g))
/-- The number of chunk `q` of row block `t`. -/
def chunkNo : Fin 16 := ⟨t.val * 4 + q.val, by have : t.val < 4 := t.isLt; omega⟩

theorem zuB_at (a : Fin 128) (k : Fin 1024) : zuB m c t q (ix2 a k) = ZU m c (ix2 (row (chunkNo t q) a) k) := by
  pointwise [zuB]
  blk_simp [iblk, V, idx t]
  entry_read
  rw [show ((View.whole main_v0).slice (win0_0.rect t)).emb (ix2 ⟨q.val * 128 + a.val, by omega⟩ ⟨k.val, by omega⟩)
    = (ix2 (row (chunkNo t q) a) ⟨k.val, by omega⟩ : S2048x2048.Idx) from by blk_ext [idx t, row, chunkNo]]
  pointwise
theorem zvB_at (a : Fin 128) (k : Fin 1024) : zvB m c t q (ix2 a k) = ZV m c (ix2 (row (chunkNo t q) a) k) := by
  pointwise [zvB]
  blk_simp [iblk, V, idx t]
  entry_read
  rw [show ((View.whole main_v0).slice (win0_0.rect t)).emb (ix2 ⟨q.val * 128 + a.val, by omega⟩ ⟨1024 + k.val, by omega⟩)
    = (ix2 (row (chunkNo t q) a) ⟨1024 + k.val, by omega⟩ : S2048x2048.Idx) from by blk_ext [idx t, row, chunkNo]]
  pointwise
theorem lg_at (k : Fin 1024) : (iblk m c 1 t : FVec Ideal S1x1024 .f32) (ix2 0 k) = LG m c (ix2 0 k) := by
  blk_simp [iblk, V, idx t]
  entry_read
  pointwise
  blk_ext [idx t]
theorem lb_at (k : Fin 1024) : (iblk m c 2 t : FVec Ideal S1x1024 .f32) (ix2 0 k) = LB m c (ix2 0 k) := by
  blk_simp [iblk, V, idx t]
  entry_read
  pointwise
  blk_ext [idx t]
theorem wB_at (i j : Fin 128) : wB m c t g (ix3 0 i j) = WS m c (ix4 0 g i j) := by
  pointwise [wB]
  blk_simp [iblk, V, idx t]
  entry_read
  pointwise
  blk_ext [idx t]
theorem bB_at (a : Fin 128) : bB m c t g (ix2 a 0) = BS m c (ix3 0 g a) := by
  pointwise [bB]
  blk_simp [iblk, V, idx t]
  entry_read
  pointwise
  blk_ext [idx t]

/-- The square stored for chunk `q` and group `g` at point `t`. -/
def square : FVec Ideal S128x128 .bf16 := pieceV g (zuB m c t q) (zvB m c t q) (iblk m c 1 t) (iblk m c 2 t) (wB m c t g) (bB m c t g)

/-- Its entries, from the offsets it is stored at. -/
theorem square_at (oq og : Nat) (hq : oq < 512 ∧ oq % 128 = 0) (hg : og < 1024 ∧ og % 128 = 0) (y : S128x128.Idx) (r : Fin 2048) (k : Fin 1024) {a b : Nat}
    (hr : r.val = t.val * 512 + a) (ha : a = oq + (y 0).val) (hk : k.val = b) (hb : b = og + (y 1).val) :
    square m c t ⟨oq / 128, by omega⟩ ⟨og / 128, by omega⟩ y = gated (ZU m c) (ZV m c) (LG m c) (LB m c) (WS m c) (BS m c) r k := by
  obtain ⟨i, d, rfl⟩ : ∃ (i d : Fin 128), y = ix2 i d := ⟨y 0, y 1, by blk_ext⟩
  have ha' : a = oq + i.val := ha
  have hb' : b = og + d.val := hb
  rw [show r = row (chunkNo t ⟨oq / 128, by omega⟩) i from Fin.ext (by simp only [row, chunkNo]; omega), show k = col ⟨og / 128, by omega⟩ d from Fin.ext (by simp only [col]; omega)]
  exact pieceV_at _ _ (zuB_at m c t _) (zvB_at m c t _) (lg_at m c t) (lb_at m c t) (wB_at m c t _) (bB_at m c t _) i d

set_option maxHeartbeats 8000000 in
/-- The gated rows. -/
theorem final : (dats m 0 c).arrAt 5 cfg0.N = fun i => gated (ZU m c) (ZV m c) (LG m c) (LB m c) (WS m c) (BS m c) (i 0) (i 1) := by
  refine (dats m 0 c).arrAt_eq_of_covers 5 _ (by decide +kernel) fun t hf y => ?_
  have hr : ((win0_5.blk t).view.emb y 0).val = t.val * 512 + (y 0).val := by blk_simp [idx t]
  have hk : ((win0_5.blk t).view.emb y 1).val = (y 1).val := by blk_simp [idx t]
  blk_simp
  rw [after0_5]
  unfold_out out0_5
  frame_out
  canon_tiles y
  all_goals first
    | (have e := square_at m c t _ _ (by decide) (by decide) y _ _ hr h0 hk h1; exact e)
    | (have e := square_at m c t _ 0 (by decide) (by decide) y _ _ hr h0 hk (h1.trans (Nat.zero_add _).symm); exact e)
    | (have e := square_at m c t 0 _ (by decide) (by decide) y _ _ hr (h0.trans (Nat.zero_add _).symm) hk h1; exact e)
    | (have e := square_at m c t 0 0 (by decide) (by decide) y _ _ hr (h0.trans (Nat.zero_add _).symm) hk (h1.trans (Nat.zero_add _).symm); exact e)

end Cert.GateFwdIdeal.RefValue

end
-- ==== Proof.GateFwd.Claims.lean ====
/- The claims about the spatial gating's forward call: the two frames, the reference's frame, and the values. -/
module

public import proofs.«01_k».proof.Defs
public import proofs.«01_k».proof.Proof.GateFwd.Arrays
public import proofs.«01_k».proof.Proof.Gen.GateFwd.Frame
public import Idealize.ShloMosaic.Lib.Claim

@[expose] public section

set_option maxRecDepth 16384

noncomputable section

open Idealize.ShloMosaic Idealize.ShloMosaic.TcCoe Idealize.SL.Sem

namespace Cert.Proof.GateFwdClaims

open Cert.GateFwdSpec Cert.GateFwdIdeal.RefValue Cert.GateFwdRefIdeal.RefValue Cert.GateFwdRefIdeal.Read

/-- The kernel's frame. -/
theorem frame : Cert.quiescent_GateFwd := fun m ρ _ => Cert.GateFwd.Gen.frame m ρ
/-- The idealized kernel's frame. -/
theorem frame_ideal : Cert.quiescent_GateFwdIdeal := fun m ρ _ => Cert.GateFwdIdeal.Gen.frame m ρ
/-- The reference's frame: its run, read at the arguments; it has no semaphore. -/
theorem frame_ref : Cert.quiescent_GateFwdRefIdeal := fun m ρ _ =>
  (θ_run Cert.GateFwdRefIdeal.defs _ _).mono (fun r h => ⟨fun c => (h c).2, sem_eq_zero_of_no_sems (by decide) r.2⟩)
    (Cert.GateFwdRefIdeal.Value.run (F := Ideal) m ρ)
/-- The idealized kernel is the kernel with the cubic's coefficient named. -/
theorem preserves : Cert.preserves_GateFwd_GateFwdIdeal :=
  IdealRules.named_const.statement Cert.GateFwdIdeal.κ "gelu_cubic" .f32 0x3D372713#32 _ rfl

set_option maxHeartbeats 2000000 in
/-- The gated rows are the reference's. -/
theorem algebraic : Cert.algebraic_GateFwdIdeal_GateFwdRefIdeal := by
  intro m ρ m' ρ' _ hagree
  refine ⟨fun c => (Cert.GateFwdIdeal.Gen.dats m 0 c).arrAt 5 Cert.GateFwdIdeal.cfg0.N, Cert.GateFwdIdeal.Value.run_blocks (F := Ideal) m ρ, ?_⟩
  refine (θ_run Cert.GateFwdRefIdeal.defs _ _).mono (fun r h c => ?_) (Cert.GateFwdRefIdeal.Value.run (F := Ideal) m' ρ')
  obtain ⟨h0, hargs⟩ := h c
  obtain ⟨a0, a1, a2, a3, a4, a5⟩ := hagree c
  refine ⟨(h0.trans (val_main_v72_eq _ _)).trans ?_, hargs⟩
  beta_reduce
  rw [final m c, a0, a1, a2, a3, a4, a5]
  funext i
  obtain ⟨r, k, rfl⟩ : ∃ (r : Fin 2048) (k : Fin 1024), i = ix2 r k := ⟨i 0, i 1, by blk_ext⟩
  exact gated_at _ _ _ _ _ _ r k

end Cert.Proof.GateFwdClaims

end
-- ==== Proof.MergeFwd.Spec.lean ====
/- The merge of the two mixers and the two norms after it, written at an index. -/
module

public import proofs.«01_k».proof.Proof.Merge.Spec
public import proofs.«01_k».proof.Proof.Norm.Algebra

@[expose] public section

noncomputable section

open Idealize.ShloMosaic

namespace Cert.MergeFwdSpec

open Cert.MergeSpec Cert.NormSpec

/-- A vector of one scale per column. -/
abbrev Scale := FVec Ideal ⟨2, ![1, 1024]⟩ .f32

variable (ya yb ga gb x : Rows) (b : Bias) (wa wb wo : Weight) (post pre : Scale)

/-- The two projected rows side by side. -/
def projected (r : Fin 2048) (k : Fin 2048) : EReal :=
  if h : k.val < 1024 then proj ya wa r ⟨k.val, h⟩ else proj yb wb r ⟨k.val - 1024, by omega⟩
/-- The merged rows: each mixer's projected rows times its gate, added. -/
def merged (r : Fin 2048) (k : Fin 1024) : EReal := gate ga b 0 r k * proj ya wa r k + gate gb b 1 r k * proj yb wb r k
/-- The merged rows times the output weight. -/
def mixed (r : Fin 2048) (k : Fin 1024) : EReal := ∑ j : Fin 1024, merged ya yb ga gb b wa wb r j * wo (ix3 0 j k)
/-- The stream after the mixers: its old rows plus the mixed rows, normalized and scaled. -/
def stream (r : Fin 2048) (k : Fin 1024) : EReal :=
  x (ix2 r k) + normed (mixed ya yb ga gb b wa wb wo r) k * post (ix2 0 k)
/-- The rows that enter the feed-forward: the stream, normalized and scaled. -/
def entering (r : Fin 2048) (k : Fin 1024) : EReal :=
  normed (stream ya yb ga gb x b wa wb wo post r) k * pre (ix2 0 k)

theorem projected_left (r : Fin 2048) (k : Fin 1024) (h) : projected ya yb wa wb r ⟨k.val, h⟩ = proj ya wa r k := dif_pos k.isLt
theorem projected_right (r : Fin 2048) (k : Fin 1024) (h) : projected ya yb wa wb r ⟨1024 + k.val, h⟩ = proj yb wb r k := by
  unfold projected
  rw [dif_neg (by show ¬ 1024 + k.val < 1024; omega)]
  exact congrArg (proj yb wb r) (Fin.ext (by show 1024 + k.val - 1024 = k.val; omega))

end Cert.MergeFwdSpec

end
-- ==== Proof.MergeFwd.Blocks.lean ====
/- The blocks the merge's forward call loads at a grid point, read as entries of its arguments, and the blocks it writes. -/
module

public import proofs.«01_k».proof.Proof.MergeFwd.Spec
public import proofs.«01_k».proof.Proof.Gen.MergeFwdIdeal.Value

@[expose] public section

set_option maxRecDepth 16384

noncomputable section

open Idealize.ShloMosaic Idealize.ShloMosaic.TcCoe Idealize.SL.Sem
open Idealize.ShloMosaic.Pipeline (Dat)

namespace Cert.MergeFwdIdeal.RefValue

open Cert.MergeFwdIdeal Cert.MergeFwdIdeal.Gen Cert.MergeSpec Cert.MergeFwdSpec Cert.NormSpec

variable (m : (ℓ : Loc nD τ sig) → Buf (Elt Ideal) ℓ) (c : Dev nD)

abbrev Ya : FVec Ideal S2048x1024 .f32 := m ((c : Thread nD τ).loc main_arg0)
abbrev Yb : FVec Ideal S2048x1024 .f32 := m ((c : Thread nD τ).loc main_arg1)
abbrev Ga : FVec Ideal S2048x1024 .f32 := m ((c : Thread nD τ).loc main_arg2)
abbrev Gb : FVec Ideal S2048x1024 .f32 := m ((c : Thread nD τ).loc main_arg3)
abbrev X : FVec Ideal S2048x1024 .f32 := m ((c : Thread nD τ).loc main_arg4)
abbrev B : FVec Ideal S1x2x1024 .f32 := m ((c : Thread nD τ).loc main_arg5)
abbrev Wa : FVec Ideal S1x1024x1024 .f32 := m ((c : Thread nD τ).loc main_arg6)
abbrev Wb : FVec Ideal S1x1024x1024 .f32 := m ((c : Thread nD τ).loc main_arg7)
abbrev Wo : FVec Ideal S1x1024x1024 .f32 := m ((c : Thread nD τ).loc main_arg8)
abbrev Post : FVec Ideal S1x1024 .f32 := m ((c : Thread nD τ).loc main_arg9)
abbrev Pre : FVec Ideal S1x1024 .f32 := m ((c : Thread nD τ).loc main_arg10)

/-- Every window's block index at every grid point: point `t` works on row block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)
/-- Row `a` of row block `t`. -/
def row (t : Fin cfg0.N) (a : Fin 512) : Fin 2048 := ⟨t.val * 512 + a.val, by have : t.val < 4 := t.isLt; omega⟩

variable (t : Fin cfg0.N) (a : Fin 512) (k : Fin 1024)

theorem read_ya : iblk m c 0 t (ix2 a k) = Ya m c (ix2 (row t a) k) := by
  blk_simp [iblk, V, idx t]
  entry_read
  pointwise
  blk_ext [idx t, row]
theorem read_yb : iblk m c 1 t (ix2 a k) = Yb m c (ix2 (row t a) k) := by
  blk_simp [iblk, V, idx t]
  entry_read
  pointwise
  blk_ext [idx t, row]
theorem read_ga (h) : iblk m c 2 t (ix2 a ⟨k.val, h⟩) = Ga m c (ix2 (row t a) k) := by
  blk_simp [iblk, V, idx t]
  entry_read
  rw [show (win0_2.blk t).view.emb (ix2 a ⟨k.val, h⟩) = ix2 (row t a) ⟨k.val, h⟩ from by blk_ext [idx t, row]]
  pointwise
theorem read_gb (h) : iblk m c 2 t (ix2 a ⟨1024 + k.val, h⟩) = Gb m c (ix2 (row t a) k) := by
  blk_simp [iblk, V, idx t]
  entry_read
  rw [show (win0_2.blk t).view.emb (ix2 a ⟨1024 + k.val, h⟩) = ix2 (row t a) ⟨1024 + k.val, h⟩ from by blk_ext [idx t, row]]
  pointwise
theorem read_x : iblk m c 3 t (ix2 a k) = X m c (ix2 (row t a) k) := by
  blk_simp [iblk, V, idx t]
  pointwise
  blk_ext [idx t, row]
theorem read_wa (j : Fin 1024) : iblk m c 4 t (ix2 j k) = Wa m c (ix3 0 j k) := by
  blk_simp [iblk, V, idx t]
  entry_read
  pointwise
  blk_ext [idx t]
theorem read_wb (j : Fin 1024) : iblk m c 5 t (ix2 j k) = Wb m c (ix3 0 j k) := by
  blk_simp [iblk, V, idx t]
  entry_read
  pointwise
  blk_ext [idx t]
theorem read_wo (j : Fin 1024) : iblk m c 6 t (ix2 j k) = Wo m c (ix3 0 j k) := by
  blk_simp [iblk, V, idx t]
  entry_read
  pointwise
  blk_ext [idx t]

/-- The packed vectors: the two biases, then the two norm scales. -/
theorem vecs : V m c main_v7 = concatenate S4x1024 0 [⟨S2x1024, (shapeCast S2x1024 (B m c) shapeCasts_S1x2x1024_S2x1024 : FVec Ideal S2x1024 .f32)⟩, ⟨S1x1024, Post m c⟩, ⟨S1x1024, Pre m c⟩] concatenates_S2x1024_S1x1024_S1x1024_S4x1024_d0 := by
  unfold V
  after_results_simp
  rfl
theorem vecs_at (x : FVec Ideal S1x2x1024 .f32) (y z : FVec Ideal S1x1024 .f32) (h) (p : Fin 4) :
    concatenate S4x1024 0 [⟨S2x1024, (shapeCast S2x1024 x shapeCasts_S1x2x1024_S2x1024 : FVec Ideal S2x1024 .f32)⟩, ⟨S1x1024, y⟩, ⟨S1x1024, z⟩] h (ix2 p k)
      = if p = 0 then x (ix3 0 0 k) else if p = 1 then x (ix3 0 1 k) else if p = 2 then y (ix2 0 k) else z (ix2 0 k) := by
  fin_cases p <;> pointwise
/-- A row of the packed vectors' block. -/
theorem read_vec (p : Fin 4) : iblk m c 7 t (ix2 p k)
    = if p = 0 then B m c (ix3 0 0 k) else if p = 1 then B m c (ix3 0 1 k) else if p = 2 then Post m c (ix2 0 k) else Pre m c (ix2 0 k) := by
  show V m c main_v7 _ = _
  rw [vecs, show (win0_7.blk t).view.emb (ix2 p k) = ix2 p k from by blk_ext [idx t]]
  exact vecs_at k _ _ _ _ p
theorem read_bias0 : iblk m c 7 t (ix2 0 k) = B m c (ix3 0 0 k) := read_vec m c t k 0
theorem read_bias1 : iblk m c 7 t (ix2 1 k) = B m c (ix3 0 1 k) := read_vec m c t k 1
theorem read_post : iblk m c 7 t (ix2 2 k) = Post m c (ix2 0 k) := read_vec m c t k 2
theorem read_pre : iblk m c 7 t (ix2 3 k) = Pre m c (ix2 0 k) := read_vec m c t k 3

/-- The first mixer's projected block. -/
theorem projA_block : k0_pay1 (iblk m c 0 t) (iblk m c 4 t) (ix2 a k) = proj (Ya m c) (Wa m c) (row t a) k := by
  pointwise [k0_pay1, proj]
  simp only [read_ya, read_wa]
/-- The second mixer's projected block. -/
theorem projB_block : k0_pay2 (iblk m c 1 t) (iblk m c 5 t) (ix2 a k) = proj (Yb m c) (Wb m c) (row t a) k := by
  pointwise [k0_pay2, proj]
  simp only [read_yb, read_wb]

/-- The merged block, from the loaded blocks. -/
abbrev mergedBlk : FVec Ideal S512x1024 .bf16 :=
  k0_pay3 (iblk m c 0 t) (iblk m c 4 t) (iblk m c 1 t) (iblk m c 5 t) (View.ld (iblk m c 2 t) r0_2) (View.ld (iblk m c 7 t) r0_3)
    (View.ld (iblk m c 2 t) r0_4) (View.ld (iblk m c 7 t) r0_5)
/-- The mixed block, from the loaded blocks. -/
abbrev mixedBlk : FVec Ideal S512x1024 .f32 :=
  k0_pay4 (iblk m c 0 t) (iblk m c 4 t) (iblk m c 1 t) (iblk m c 5 t) (View.ld (iblk m c 2 t) r0_2) (View.ld (iblk m c 7 t) r0_3)
    (View.ld (iblk m c 2 t) r0_4) (View.ld (iblk m c 7 t) r0_5) (iblk m c 6 t)
/-- The sums of squares of the mixed block's rows. -/
abbrev squaresBlk : FVec Ideal S512x1 .f32 :=
  k0_pay5 (iblk m c 0 t) (iblk m c 4 t) (iblk m c 1 t) (iblk m c 5 t) (View.ld (iblk m c 2 t) r0_2) (View.ld (iblk m c 7 t) r0_3)
    (View.ld (iblk m c 2 t) r0_4) (View.ld (iblk m c 7 t) r0_5) (iblk m c 6 t)

theorem merged_block : mergedBlk m c t (ix2 a k) = merged (Ya m c) (Yb m c) (Ga m c) (Gb m c) (B m c) (Wa m c) (Wb m c) (row t a) k := by
  unfold mergedBlk k0_pay3
  pointwise [merged, gate]
  simp only [projA_block, projB_block, read_ga, read_gb, read_bias0, read_bias1]
theorem mixed_block : mixedBlk m c t (ix2 a k) = mixed (Ya m c) (Yb m c) (Ga m c) (Gb m c) (B m c) (Wa m c) (Wb m c) (Wo m c) (row t a) k := by
  unfold mixedBlk k0_pay4
  pointwise [mixed]
  simp only [read_wo]
  exact Finset.sum_congr rfl fun j _ => congrArg (· * _) (merged_block m c t a j)
theorem squares_block (e : Fin 1) : squaresBlk m c t (ix2 a e) = ∑ j, mixedBlk m c t (ix2 a j) * mixedBlk m c t (ix2 a j) := by
  unfold squaresBlk k0_pay5
  pointwise

/-- One row plus another, normalized and scaled: the second payload from the first's block. -/
theorem pay6_at (o x : FVec Ideal S512x1024 .f32) (s : FVec Ideal S512x1 .f32) (g : FVec Ideal S1x1024 .f32) :
    k0_pay6 (F := Ideal) o x s g (ix2 a k)
      = x (ix2 a k) + o (ix2 a k) * Ideal.rsqrt (Ideal.div (s (ix2 a 0)) w1024 + Ideal.ofBits .f32 0x358637BD#32) * g (ix2 0 k) := by
  pointwise [k0_pay6]
/-- The last payload: the sixth's block, normalized and scaled. -/
theorem pay7_at (o x : FVec Ideal S512x1024 .f32) (s : FVec Ideal S512x1 .f32) (g h : FVec Ideal S1x1024 .f32) :
    k0_pay7 (F := Ideal) o x s g h (ix2 a k) = normed (fun j => k0_pay6 (F := Ideal) o x s g (ix2 a j)) k * h (ix2 0 k) := by
  unfold k0_pay7
  pointwise [normed, rs, spread]

/-- The stream's block. -/
theorem stream_block : k0_pay6 (mixedBlk m c t) (iblk m c 3 t) (squaresBlk m c t) (View.ld (iblk m c 7 t) r0_6) (ix2 a k)
    = stream (Ya m c) (Yb m c) (Ga m c) (Gb m c) (X m c) (B m c) (Wa m c) (Wb m c) (Wo m c) (Post m c) (row t a) k := by
  rw [pay6_at, squares_block]
  simp only [mixed_block, read_x]
  pointwise [stream, normed, rs, spread]
  simp only [read_post]
/-- The block of the rows that enter the feed-forward. -/
theorem entering_block : k0_pay7 (mixedBlk m c t) (iblk m c 3 t) (squaresBlk m c t) (View.ld (iblk m c 7 t) r0_6) (View.ld (iblk m c 7 t) r0_7) (ix2 a k)
    = entering (Ya m c) (Yb m c) (Ga m c) (Gb m c) (X m c) (B m c) (Wa m c) (Wb m c) (Wo m c) (Post m c) (Pre m c) (row t a) k := by
  rw [pay7_at]
  simp only [stream_block]
  pointwise [entering]
  simp only [read_pre]

end Cert.MergeFwdIdeal.RefValue

end
-- ==== Proof.MergeFwd.Arrays.lean ====
/- What the arrays that the merge's forward call writes hold after its run. -/
module

public import proofs.«01_k».proof.Proof.MergeFwd.Blocks

@[expose] public section

set_option maxRecDepth 16384

noncomputable section

open Idealize.ShloMosaic Idealize.ShloMosaic.TcCoe Idealize.SL.Sem
open Idealize.ShloMosaic.Pipeline (Dat)

namespace Cert.MergeFwdIdeal.RefValue

open Cert.MergeFwdIdeal Cert.MergeFwdIdeal.Gen Cert.MergeSpec Cert.MergeFwdSpec

variable (m : (ℓ : Loc nD τ sig) → Buf (Elt Ideal) ℓ) (c : Dev nD)

/-- The two projected rows, side by side. -/
theorem final_projected : (dats m 0 c).arrAt 8 cfg0.N = fun i => projected (Ya m c) (Yb m c) (Wa m c) (Wb m c) (i 0) (i 1) := by
  refine (dats m 0 c).arrAt_eq_of_covers 8 _ (by decide +kernel) fun t hf y => ?_
  have hr : ∀ a : Fin 512, (y 0).val = a.val → (win0_8.blk t).view.emb y 0 = row t a := fun a ha => Fin.ext (by blk_simp [idx t]; rw [ha]; rfl)
  have hk : ∀ (k : ℕ) (hk : k < 2048), (y 1).val = k → (win0_8.blk t).view.emb y 1 = ⟨k, hk⟩ := fun k hk h => Fin.ext (by blk_simp [idx t]; exact h)
  blk_simp
  rw [after0_8]
  frame_out
  canon_tiles y
  · rw [hr _ h0, hk _ (by omega) h1]
    exact (projB_block m c t _ _).trans (projected_right _ _ _ _ _ _ _).symm
  · rw [hr _ h0, hk _ (by omega) h1]
    exact (projA_block m c t _ _).trans (projected_left _ _ _ _ _ _ _).symm

/-- The merged rows. -/
theorem final_merged : (dats m 0 c).arrAt 9 cfg0.N = fun i => merged (Ya m c) (Yb m c) (Ga m c) (Gb m c) (B m c) (Wa m c) (Wb m c) (i 0) (i 1) := by
  refine (dats m 0 c).arrAt_eq_of_covers 9 _ (by decide +kernel) fun t hf y => ?_
  obtain ⟨a, b, rfl⟩ : ∃ (a : Fin 512) (b : Fin 1024), y = ix2 a b := ⟨y 0, y 1, by blk_ext⟩
  blk_simp
  rw [after0_9]
  frame_out
  rw [show (win0_9.blk t).view.emb (ix2 a b) = ix2 (row t a) b by blk_ext [idx t, row]]
  exact merged_block m c t a b

/-- The mixed rows. -/
theorem final_mixed : (dats m 0 c).arrAt 10 cfg0.N = fun i => mixed (Ya m c) (Yb m c) (Ga m c) (Gb m c) (B m c) (Wa m c) (Wb m c) (Wo m c) (i 0) (i 1) := by
  refine (dats m 0 c).arrAt_eq_of_covers 10 _ (by decide +kernel) fun t hf y => ?_
  obtain ⟨a, b, rfl⟩ : ∃ (a : Fin 512) (b : Fin 1024), y = ix2 a b := ⟨y 0, y 1, by blk_ext⟩
  blk_simp
  rw [after0_10]
  unfold_out out0_10
  frame_out
  rw [show (win0_10.blk t).view.emb (ix2 a b) = ix2 (row t a) b by blk_ext [idx t, row]]
  exact mixed_block m c t a b

/-- The stream. -/
theorem final_stream : (dats m 0 c).arrAt 11 cfg0.N = fun i => stream (Ya m c) (Yb m c) (Ga m c) (Gb m c) (X m c) (B m c) (Wa m c) (Wb m c) (Wo m c) (Post m c) (i 0) (i 1) := by
  refine (dats m 0 c).arrAt_eq_of_covers 11 _ (by decide +kernel) fun t hf y => ?_
  obtain ⟨a, b, rfl⟩ : ∃ (a : Fin 512) (b : Fin 1024), y = ix2 a b := ⟨y 0, y 1, by blk_ext⟩
  blk_simp
  rw [after0_11]
  unfold_out out0_11
  frame_out
  rw [show (win0_11.blk t).view.emb (ix2 a b) = ix2 (row t a) b by blk_ext [idx t, row]]
  exact stream_block m c t a b

/-- The rows that enter the feed-forward. -/
theorem final_entering : (dats m 0 c).arrAt 12 cfg0.N = fun i => entering (Ya m c) (Yb m c) (Ga m c) (Gb m c) (X m c) (B m c) (Wa m c) (Wb m c) (Wo m c) (Post m c) (Pre m c) (i 0) (i 1) := by
  refine (dats m 0 c).arrAt_eq_of_covers 12 _ (by decide +kernel) fun t hf y => ?_
  obtain ⟨a, b, rfl⟩ : ∃ (a : Fin 512) (b : Fin 1024), y = ix2 a b := ⟨y 0, y 1, by blk_ext⟩
  blk_simp
  rw [after0_12]
  unfold_out out0_12
  frame_out
  rw [show (win0_12.blk t).view.emb (ix2 a b) = ix2 (row t a) b by blk_ext [idx t, row]]
  exact entering_block m c t a b

end Cert.MergeFwdIdeal.RefValue

end
-- ==== Proof.MergeFwd.Reference.lean ====
/- What the reference of the merge's forward call computes. -/
module

public import proofs.«01_k».proof.Proof.MergeFwd.Spec
public import proofs.«01_k».proof.Proof.Gen.MergeFwdRefIdeal.Read
public import Idealize.ShloMosaic.Lib.Pipeline.ValueKit
public import Idealize.ShloMosaic.Lib.Pointwise

@[expose] public section

set_option maxRecDepth 16384

noncomputable section

open Idealize.ShloMosaic

namespace Cert.MergeFwdRefIdeal.RefValue

open Cert.MergeFwdRefIdeal Cert.MergeFwdRefIdeal.Gen Cert.MergeFwdRefIdeal.Read Cert.MergeSpec Cert.MergeFwdSpec Cert.NormSpec

variable (x0 x1 x2 x3 x4 : Rows) (x5 : Bias) (x6 x7 x8 : Weight) (x9 x10 : Scale) (r : Fin 2048) (k : Fin 1024)

/-- The first mixer's projected rows. -/
theorem proj_a : val_main_v1 (F := Ideal) x0 x6 (ix2 r k) = proj x0 x6 r k := by
  pointwise [val_main_v1, val_main_v0, proj]
/-- The second mixer's projected rows. -/
theorem proj_b : val_main_v3 (F := Ideal) x1 x7 (ix2 r k) = proj x1 x7 r k := by
  pointwise [val_main_v3, val_main_v2, proj]
/-- The first gate. -/
theorem gate_a : val_main_v14 (F := Ideal) x2 x5 (ix2 r k) = gate x2 x5 0 r k := by
  pointwise [val_main_v14, val_main_v13, val_main_cst_0, val_main_v12, val_main_v11, val_main_cst, val_main_v10, val_main_v9, val_main_v8,
    val_main_v7, val_main_v6, val_main_v5, val_main_v4, gate, Ideal.logistic]
/-- The second gate. -/
theorem gate_b : val_main_v26 (F := Ideal) x3 x5 (ix2 r k) = gate x3 x5 1 r k := by
  pointwise [val_main_v26, val_main_v25, val_main_cst_2, val_main_v24, val_main_v23, val_main_cst_1, val_main_v22, val_main_v21, val_main_v20,
    val_main_v19, val_main_v18, val_main_v17, val_main_v16, gate, Ideal.logistic]
/-- The merged rows. -/
theorem merged_at : val_main_v28 (F := Ideal) x0 x1 x2 x3 x5 x6 x7 (ix2 r k) = merged x0 x1 x2 x3 x5 x6 x7 r k := by
  pointwise [val_main_v28, val_main_v27, val_main_v15, merged]
  simp only [proj_a, proj_b, gate_a, gate_b]
/-- The mixed rows. -/
theorem mixed_at : val_main_v30 (F := Ideal) x0 x1 x2 x3 x5 x6 x7 x8 (ix2 r k) = mixed x0 x1 x2 x3 x5 x6 x7 x8 r k := by
  pointwise [val_main_v30, val_main_v29, mixed]
  simp only [merged_at]
/-- The stream. -/
theorem stream_at : val_main_v45 (F := Ideal) x0 x1 x2 x3 x4 x5 x6 x7 x8 x9 (ix2 r k) = stream x0 x1 x2 x3 x4 x5 x6 x7 x8 x9 r k := by
  pointwise [val_main_v45, val_main_v44, val_main_v43, val_main_v42, val_main_v31, val_main_v41, val_main_v40, val_main_v39, val_main_v38,
    val_main_v37, val_main_cst_5, val_main_v36, val_main_v35, val_main_cst_4, val_main_v34, val_main_v33, val_main_cst_3, val_main_v32,
    stream, normed, rs, spread]
  simp only [mixed_at]
/-- The rows that enter the feed-forward. -/
theorem entering_at : val_main_v59 (F := Ideal) x0 x1 x2 x3 x4 x5 x6 x7 x8 x9 x10 (ix2 r k)
    = entering x0 x1 x2 x3 x4 x5 x6 x7 x8 x9 x10 r k := by
  pointwise [val_main_v59, val_main_v58, val_main_v57, val_main_v46, val_main_v56, val_main_v55, val_main_v54, val_main_v53,
    val_main_v52, val_main_cst_8, val_main_v51, val_main_v50, val_main_cst_7, val_main_v49, val_main_v48, val_main_cst_6, val_main_v47,
    entering, normed, rs, spread]
  simp only [stream_at]
/-- The two projected rows side by side. -/
theorem projected_at (j : Fin 2048) : val_main_v60 (F := Ideal) x0 x1 x6 x7 (ix2 r j) = projected x0 x1 x6 x7 r j := by
  pointwise [val_main_v60, projected]
  simp only [proj_a, proj_b]

end Cert.MergeFwdRefIdeal.RefValue

end
-- ==== Proof.MergeFwd.Claims.lean ====
/- The claims about the merge's forward call: the two frames, the reference's frame, and the values. -/
module

public import proofs.«01_k».proof.Defs
public import proofs.«01_k».proof.Proof.MergeFwd.Arrays
public import proofs.«01_k».proof.Proof.MergeFwd.Reference
public import proofs.«01_k».proof.Proof.Gen.MergeFwd.Frame
public import Idealize.ShloMosaic.Lib.Claim

@[expose] public section

set_option maxRecDepth 16384

noncomputable section

open Idealize.ShloMosaic Idealize.ShloMosaic.TcCoe Idealize.SL.Sem

namespace Cert.Proof.MergeFwdClaims

open Cert.MergeFwdSpec Cert.MergeFwdIdeal.RefValue Cert.MergeFwdRefIdeal.RefValue Cert.MergeFwdRefIdeal.Read

/-- The kernel's frame. -/
theorem frame : Cert.quiescent_MergeFwd := fun m ρ _ => Cert.MergeFwd.Gen.frame m ρ
/-- The idealized kernel's frame. -/
theorem frame_ideal : Cert.quiescent_MergeFwdIdeal := fun m ρ _ => Cert.MergeFwdIdeal.Gen.frame m ρ
/-- The reference's frame: its run, read at the arguments; it has no semaphore. -/
theorem frame_ref : Cert.quiescent_MergeFwdRefIdeal := fun m ρ _ =>
  (θ_run Cert.MergeFwdRefIdeal.defs _ _).mono (fun r h => ⟨fun c => (h c).2.2.2.2.2, sem_eq_zero_of_no_sems (by decide) r.2⟩)
    (Cert.MergeFwdRefIdeal.Value.run (F := Ideal) m ρ)
/-- The idealized kernel is the kernel with nothing rewritten. -/
theorem preserves : Cert.preserves_MergeFwd_MergeFwdIdeal := trivial

/-- An index of a matrix of 2048 rows, as its two coordinates. -/
theorem split {n : Nat} (i : (⟨2, ![2048, n]⟩ : Shape).Idx) : ∃ (r : Fin 2048) (k : Fin n), i = ix2 r k := ⟨i 0, i 1, by blk_ext⟩

set_option maxHeartbeats 4000000 in
/-- The five results of the merge's forward call are the reference's. -/
theorem algebraic : Cert.algebraic_MergeFwdIdeal_MergeFwdRefIdeal := by
  intro m ρ m' ρ' _ hagree
  refine ⟨fun c => (Cert.MergeFwdIdeal.Gen.dats m 0 c).arrAt 8 Cert.MergeFwdIdeal.cfg0.N, fun c => (Cert.MergeFwdIdeal.Gen.dats m 0 c).arrAt 9 Cert.MergeFwdIdeal.cfg0.N,
    fun c => (Cert.MergeFwdIdeal.Gen.dats m 0 c).arrAt 10 Cert.MergeFwdIdeal.cfg0.N, fun c => (Cert.MergeFwdIdeal.Gen.dats m 0 c).arrAt 11 Cert.MergeFwdIdeal.cfg0.N,
    fun c => (Cert.MergeFwdIdeal.Gen.dats m 0 c).arrAt 12 Cert.MergeFwdIdeal.cfg0.N, Cert.MergeFwdIdeal.Value.run_blocks (F := Ideal) m ρ, ?_⟩
  refine (θ_run Cert.MergeFwdRefIdeal.defs _ _).mono (fun r h c => ?_) (Cert.MergeFwdRefIdeal.Value.run (F := Ideal) m' ρ')
  obtain ⟨h0, h1, h2, h3, h4, hargs⟩ := h c
  obtain ⟨a0, a1, a2, a3, a4, a5, a6, a7, a8, a9, a10⟩ := hagree c
  refine ⟨(h0.trans (val_main_v60_eq _ _ _ _)).trans ?_, (h1.trans (val_main_v61_eq _ _ _ _ _ _ _)).trans ?_,
    (h2.trans (val_main_v30_eq _ _ _ _ _ _ _ _)).trans ?_, (h3.trans (val_main_v45_eq m' c)).trans ?_,
    (h4.trans (val_main_v62_eq m' c)).trans ?_, hargs⟩
  all_goals beta_reduce
  · rw [final_projected m c, a0, a1, a6, a7]
    funext i
    obtain ⟨r, k, rfl⟩ := split i
    exact projected_at _ _ _ _ r k
  · rw [final_merged m c, a0, a1, a2, a3, a5, a6, a7]
    funext i
    obtain ⟨r, k, rfl⟩ := split i
    exact merged_at _ _ _ _ _ _ _ r k
  · rw [final_mixed m c, a0, a1, a2, a3, a5, a6, a7, a8]
    funext i
    obtain ⟨r, k, rfl⟩ := split i
    exact mixed_at _ _ _ _ _ _ _ _ r k
  · rw [final_stream m c, a0, a1, a2, a3, a4, a5, a6, a7, a8, a9]
    funext i
    obtain ⟨r, k, rfl⟩ := split i
    exact stream_at _ _ _ _ _ _ _ _ _ _ r k
  · rw [final_entering m c, a0, a1, a2, a3, a4, a5, a6, a7, a8, a9, a10]
    funext i
    obtain ⟨r, k, rfl⟩ := split i
    exact entering_at _ _ _ _ _ _ _ _ _ _ _ r k

end Cert.Proof.MergeFwdClaims

end
-- ==== Proof.NormFwd.Values.lean ====
/- What the first norm's forward call and its reference compute: each row normalized by its root mean square and scaled. -/
module

public import proofs.«01_k».proof.Proof.Norm.Algebra
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormFwdSpec

open Cert.NormSpec

/-- A row of the array. -/
def rowOf (x : FVec Ideal ⟨2, ![2048, 1024]⟩ .f32) (r : Fin 2048) (k : Fin 1024) : EReal := x (ix2 r k)
/-- The normalized and scaled rows. -/
def scaled (x : FVec Ideal ⟨2, ![2048, 1024]⟩ .f32) (g : FVec Ideal ⟨2, ![1, 1024]⟩ .f32) (r : Fin 2048) (k : Fin 1024) : EReal :=
  normed (rowOf x r) k * g (ix2 0 k)

end Cert.NormFwdSpec

namespace Cert.NormFwdIdeal.RefValue

open Cert.NormFwdIdeal Cert.NormFwdIdeal.Gen Cert.NormFwdSpec Cert.NormSpec

variable (m : (ℓ : Loc nD τ sig) → Buf (Elt Ideal) ℓ) (c : Dev nD)

abbrev X : FVec Ideal S2048x1024 .f32 := m ((c : Thread nD τ).loc main_arg0)
abbrev G : FVec Ideal S1x1024 .f32 := m ((c : Thread nD τ).loc main_arg1)

/-- Every window's block index at every grid point: point `t` works on row block `t`. -/
theorem idx : ∀ t : Fin cfg0.N, win0_0.index t = ![t.val, 0] ∧ win0_1.index t = ![0, 0] ∧ win0_2.index t = ![t.val, 0] :=
  (by decide +kernel : ∀ t : Fin grid0.N, _)
/-- Row `a` of row block `t`. -/
def row (t : Fin cfg0.N) (a : Fin 512) : Fin 2048 := ⟨t.val * 512 + a.val, by have : t.val < 4 := t.isLt; omega⟩

theorem read_x (t : Fin cfg0.N) (a : Fin 512) (k : Fin 1024) : iblk m c 0 t (ix2 a k) = X m c (ix2 (row t a) k) := by
  blk_simp [iblk, V, idx t]
  pointwise
  blk_ext [idx t, row]
theorem read_g (t : Fin cfg0.N) (e : Fin 1) (k : Fin 1024) : iblk m c 1 t (ix2 e k) = G m c (ix2 0 k) := by
  blk_simp [iblk, V, idx t]
  pointwise
  blk_ext [idx t]

/-- The block a grid point writes. -/
theorem block_at (t : Fin cfg0.N) (a : Fin 512) (k : Fin 1024) :
    k0_pay1 (iblk m c 0 t) (iblk m c 1 t) (ix2 a k) = scaled (X m c) (G m c) (row t a) k := by
  pointwise [k0_pay1, scaled, normed, rs, spread, rowOf]
  simp only [read_x, read_g]

/-- The array that the kernel's run leaves. -/
theorem final : (dats m 0 c).arrAt 2 cfg0.N = fun i => scaled (X m c) (G m c) (i 0) (i 1) := by
  refine (dats m 0 c).arrAt_eq_of_covers 2 _ (by decide +kernel) fun t hf y => ?_
  obtain ⟨a, b, rfl⟩ : ∃ (a : Fin 512) (b : Fin 1024), y = ix2 a b := ⟨y 0, y 1, by blk_ext⟩
  blk_simp
  rw [after0_2]
  frame_out
  rw [show (win0_2.blk t).view.emb (ix2 a b) = ix2 (row t a) b by blk_ext [idx t, row]]
  exact block_at m c t a b

end Cert.NormFwdIdeal.RefValue

namespace Cert.NormFwdRefIdeal.RefValue

open Cert.NormFwdRefIdeal Cert.NormFwdRefIdeal.Gen Cert.NormFwdRefIdeal.Read Cert.NormFwdSpec Cert.NormSpec

/-- The reference's array. -/
theorem scaled_at (x : FVec Ideal ⟨2, ![2048, 1024]⟩ .f32) (g : FVec Ideal ⟨2, ![1, 1024]⟩ .f32) (r : Fin 2048) (k : Fin 1024) :
    val_main_v14 (F := Ideal) x g (ix2 r k) = scaled x g r k := by
  pointwise [val_main_v0, val_main_v1, val_main_cst, val_main_v2, val_main_v3, val_main_cst_0, val_main_v4, val_main_v5, val_main_cst_1, val_main_v6,
    val_main_v7, val_main_v8, val_main_v9, val_main_v10, val_main_v11, val_main_v12, val_main_v13, val_main_v14, scaled, normed, rs, spread, rowOf]

end Cert.NormFwdRefIdeal.RefValue

end
-- ==== Proof.NormFwd.Claims.lean ====
/- The claims about the first norm's forward call: the two frames, the reference's frame, and the values. -/
module

public import proofs.«01_k».proof.Defs
public import proofs.«01_k».proof.Proof.NormFwd.Values
public import proofs.«01_k».proof.Proof.Gen.NormFwd.Frame
public import Idealize.ShloMosaic.Lib.Claim

@[expose] public section

set_option maxRecDepth 16384

noncomputable section

open Idealize.ShloMosaic Idealize.ShloMosaic.TcCoe Idealize.SL.Sem

namespace Cert.Proof.NormFwdClaims

open Cert.NormFwdSpec Cert.NormFwdIdeal.RefValue Cert.NormFwdRefIdeal.RefValue Cert.NormFwdRefIdeal.Read

/-- The kernel's frame. -/
theorem frame : Cert.quiescent_NormFwd := fun m ρ _ => Cert.NormFwd.Gen.frame m ρ
/-- The idealized kernel's frame. -/
theorem frame_ideal : Cert.quiescent_NormFwdIdeal := fun m ρ _ => Cert.NormFwdIdeal.Gen.frame m ρ
/-- The reference's frame: its run, read at the arguments; it has no semaphore. -/
theorem frame_ref : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)
/-- The idealized kernel is the kernel with nothing rewritten. -/
theorem preserves : Cert.preserves_NormFwd_NormFwdIdeal := trivial

set_option maxHeartbeats 2000000 in
/-- The normalized and scaled rows are the reference's. -/
theorem algebraic : Cert.algebraic_NormFwdIdeal_NormFwdRefIdeal := by
  intro m ρ m' ρ' _ hagree
  refine ⟨fun c => (Cert.NormFwdIdeal.Gen.dats m 0 c).arrAt 2 Cert.NormFwdIdeal.cfg0.N, Cert.NormFwdIdeal.Value.run_blocks (F := Ideal) m ρ, ?_⟩
  refine (θ_run Cert.NormFwdRefIdeal.defs _ _).mono (fun r h c => ?_) (Cert.NormFwdRefIdeal.Value.run (F := Ideal) m' ρ')
  obtain ⟨h0, hargs⟩ := h c
  obtain ⟨a0, a1⟩ := hagree c
  refine ⟨(h0.trans (val_main_v14_eq _ _)).trans ?_, hargs⟩
  beta_reduce
  rw [final m c, a0, a1]
  funext i
  obtain ⟨r, k, rfl⟩ : ∃ (r : Fin 2048) (k : Fin 1024), i = ix2 r k := ⟨i 0, i 1, by blk_ext⟩
  exact scaled_at _ _ r k

end Cert.Proof.NormFwdClaims

end
-- ==== Proof.HiddenGrad.Values.lean ====
/- What the weight gradient of the squared-ReLU layer's first product, and its reference, compute. -/
module

public import proofs.«01_k».proof.Proof.Gen.HiddenGradIdeal.Value
public import proofs.«01_k».proof.Proof.Gen.HiddenGradRefIdeal.Run
public import proofs.«01_k».proof.Proof.Gen.HiddenGradRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HiddenGradSpec

/-- The weight gradient: the rows times the rows of the cotangent, summed over the rows. -/
def grad (h : FVec Ideal ⟨2, ![2048, 1024]⟩ .f32) (z : FVec Ideal ⟨2, ![2048, 4096]⟩ .f32) (k : Fin 1024) (j : Fin 4096) : EReal :=
  ∑ r : Fin 2048, h (ix2 r k) * z (ix2 r j)

end Cert.HiddenGradSpec

namespace Cert.HiddenGradIdeal.RefValue

open Cert.HiddenGradIdeal Cert.HiddenGradIdeal.Gen Cert.HiddenGradSpec

variable (m : (ℓ : Loc nD τ sig) → Buf (Elt Ideal) ℓ) (c : Dev nD)

abbrev H : FVec Ideal S2048x1024 .f32 := m ((c : Thread nD τ).loc main_arg0)
abbrev Z : FVec Ideal S2048x4096 .f32 := m ((c : Thread nD τ).loc main_arg1)

/-- Every window's block index at every grid point: point `t` works on column block `t`. -/
theorem idx : ∀ t : Fin cfg0.N, win0_0.index t = ![0, 0] ∧ win0_1.index t = ![0, t.val] ∧ win0_2.index t = ![0, t.val] :=
  (by decide +kernel : ∀ t : Fin grid0.N, _)
/-- Column `j` of column block `t`. -/
def col (t : Fin cfg0.N) (j : Fin 1024) : Fin 4096 := ⟨t.val * 1024 + j.val, by have : t.val < 4 := t.isLt; omega⟩

theorem read_h (t : Fin cfg0.N) (r : Fin 2048) (k : Fin 1024) : (iblk m c 0 t : FVec Ideal S2048x1024 .bf16) (ix2 r k) = H m c (ix2 r k) := by
  blk_simp [iblk, V, idx t]
  entry_read
  pointwise
  blk_ext [idx t]
theorem read_z (t : Fin cfg0.N) (r : Fin 2048) (j : Fin 1024) : (iblk m c 1 t : FVec Ideal S2048x1024 .bf16) (ix2 r j) = Z m c (ix2 r (col t j)) := by
  blk_simp [iblk, V, idx t]
  entry_read
  pointwise
  blk_ext [idx t, col]

/-- The block a grid point writes: zero, with the product added, rounded. -/
theorem block_at (t : Fin cfg0.N) (k j : Fin 1024) :
    (k0_pay3 (F := Ideal) (k0_pay2 (F := Ideal) (k0_pay1 (F := Ideal)) (iblk m c 0 t) (iblk m c 1 t)) : FVec Ideal S1024x1024 .bf16) (ix2 k j) = grad (H m c) (Z m c) k (col t j) := by
  pointwise [k0_pay3, k0_pay2, k0_pay1, grad]
  simp only [read_h, read_z]

/-- The array that the kernel's run leaves. -/
theorem final : (dats m 0 c).arrAt 2 cfg0.N = fun i => grad (H m c) (Z m c) (i 0) (i 1) := by
  refine (dats m 0 c).arrAt_eq_of_covers 2 _ (by decide +kernel) fun t hf y => ?_
  obtain ⟨a, b, rfl⟩ : ∃ (a : Fin 1024) (b : Fin 1024), y = ix2 a b := ⟨y 0, y 1, by blk_ext⟩
  blk_simp
  rw [after0_2]
  unfold outsAt0
  frame_out
  rw [show (win0_2.blk t).view.emb (ix2 a b) = ix2 a (col t b) by blk_ext [idx t, col]]
  exact block_at m c t a b

end Cert.HiddenGradIdeal.RefValue

namespace Cert.HiddenGradRefIdeal.RefValue

open Cert.HiddenGradRefIdeal Cert.HiddenGradRefIdeal.Gen Cert.HiddenGradRefIdeal.Read Cert.HiddenGradSpec

/-- The reference's array. -/
theorem grad_at (x : FVec Ideal ⟨2, ![2048, 1024]⟩ .f32) (z : FVec Ideal ⟨2, ![2048, 4096]⟩ .f32) (k : Fin 1024) (j : Fin 4096) :
    val_main_v4 (F := Ideal) x z (ix2 k j) = grad x z k j := by
  pointwise [val_main_v4, val_main_v3, val_main_v2, grad]
  simp only [mul_comm]

end Cert.HiddenGradRefIdeal.RefValue

end
-- ==== Proof.HiddenGrad.Claims.lean ====
/- The claims about the weight gradient of the squared-ReLU layer's first product: the two frames, the reference's frame, and the values. -/
module

public import proofs.«01_k».proof.Defs
public import proofs.«01_k».proof.Proof.HiddenGrad.Values
public import proofs.«01_k».proof.Proof.Gen.HiddenGrad.Frame
public import Idealize.ShloMosaic.Lib.Claim

@[expose] public section

set_option maxRecDepth 16384

noncomputable section

open Idealize.ShloMosaic Idealize.ShloMosaic.TcCoe Idealize.SL.Sem

namespace Cert.Proof.HiddenGradClaims

open Cert.HiddenGradSpec Cert.HiddenGradIdeal.RefValue Cert.HiddenGradRefIdeal.RefValue Cert.HiddenGradRefIdeal.Read

/-- The kernel's frame. -/
theorem frame : Cert.quiescent_HiddenGrad := fun m ρ _ => Cert.HiddenGrad.Gen.frame m ρ
/-- The idealized kernel's frame. -/
theorem frame_ideal : Cert.quiescent_HiddenGradIdeal := fun m ρ _ => Cert.HiddenGradIdeal.Gen.frame m ρ
/-- The reference's frame: its run, read at the arguments; it has no semaphore. -/
theorem frame_ref : Cert.quiescent_HiddenGradRefIdeal := fun m ρ _ =>
  (θ_run Cert.HiddenGradRefIdeal.defs _ _).mono (fun r h => ⟨fun c => (h c).2, sem_eq_zero_of_no_sems (by decide) r.2⟩)
    (Cert.HiddenGradRefIdeal.Value.run (F := Ideal) m ρ)
/-- The idealized kernel is the kernel with nothing rewritten. -/
theorem preserves : Cert.preserves_HiddenGrad_HiddenGradIdeal := trivial

set_option maxHeartbeats 2000000 in
/-- The weight gradient is the reference's. -/
theorem algebraic : Cert.algebraic_HiddenGradIdeal_HiddenGradRefIdeal := by
  intro m ρ m' ρ' _ hagree
  refine ⟨fun c => (Cert.HiddenGradIdeal.Gen.dats m 0 c).arrAt 2 Cert.HiddenGradIdeal.cfg0.N, Cert.HiddenGradIdeal.Value.run_blocks (F := Ideal) m ρ, ?_⟩
  refine (θ_run Cert.HiddenGradRefIdeal.defs _ _).mono (fun r h c => ?_) (Cert.HiddenGradRefIdeal.Value.run (F := Ideal) m' ρ')
  obtain ⟨h0, hargs⟩ := h c
  obtain ⟨a0, a1⟩ := hagree c
  refine ⟨(h0.trans (val_main_v4_eq _ _)).trans ?_, hargs⟩
  beta_reduce
  rw [final m c, a0, a1]
  funext i
  obtain ⟨k, j, rfl⟩ : ∃ (k : Fin 1024) (j : Fin 4096), i = ix2 k j := ⟨i 0, i 1, by blk_ext⟩
  exact grad_at _ _ k j

end Cert.Proof.HiddenGradClaims

end
-- ==== Proof.ProjectionGrad.Values.lean ====
/- What the weight gradient of the input projection, and its reference, compute. -/
module

public import proofs.«01_k».proof.Proof.Gen.ProjectionGradIdeal.Value
public import proofs.«01_k».proof.Proof.Gen.ProjectionGradRefIdeal.Run
public import proofs.«01_k».proof.Proof.Gen.ProjectionGradRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjectionGradSpec

/-- The weight gradient: the rows times the rows of the cotangent, summed over the rows. -/
def grad (h : FVec Ideal ⟨2, ![2048, 1024]⟩ .f32) (z : FVec Ideal ⟨2, ![2048, 7168]⟩ .f32) (k : Fin 1024) (j : Fin 7168) : EReal :=
  ∑ r : Fin 2048, h (ix2 r k) * z (ix2 r j)

end Cert.ProjectionGradSpec

namespace Cert.ProjectionGradIdeal.RefValue

open Cert.ProjectionGradIdeal Cert.ProjectionGradIdeal.Gen Cert.ProjectionGradSpec

variable (m : (ℓ : Loc nD τ sig) → Buf (Elt Ideal) ℓ) (c : Dev nD)

abbrev H : FVec Ideal S2048x1024 .f32 := m ((c : Thread nD τ).loc main_arg0)
abbrev Z : FVec Ideal S2048x7168 .f32 := m ((c : Thread nD τ).loc main_arg1)

/-- The plane that holds a column block. -/
def plane (s : Fin 7) : Fin 8 := (![0, 1, 4, 5, 6, 2, 3] : Fin 7 → Fin 8) s
/-- The column block a point works on. -/
def cb (t : Fin cfg0.N) : Fin 7 := ⟨t.val, t.isLt⟩
/-- Column `j` of column block `s`. -/
def col (s : Fin 7) (j : Fin 1024) : Fin 7168 := ⟨s.val * 1024 + j.val, by omega⟩

/-- Every window's block index at every grid point. -/
theorem idx : ∀ t : Fin cfg0.N, win0_0.index t = ![0, 0] ∧ win0_1.index t = ![(plane (cb t)).val, 0, 0] ∧ win0_2.index t = ![0, (cb t).val] :=
  (by decide +kernel : ∀ t : Fin grid0.N, _)

/-- A column block of the cotangent, as one plane. -/
abbrev piece (z : FVec Ideal S2048x7168 .f32) (o : ℕ) (h : S2048x7168.Slices ![0, o] S2048x1024) : FVec Ideal S1x2048x1024 .bf16 :=
  broadcastInDim S1x2048x1024 ![1, 2] bcast_S2048x1024_S1x2048x1024_1_2 (extractStridedSlice S2048x1024 ![0, o] (truncf .bf16 z bitsLt_bf16_f32) h)
/-- The stack of planes the kernel reads: the cotangent's column blocks, and one it does not read. -/
def stack (z : FVec Ideal S2048x7168 .f32) : FVec Ideal S8x2048x1024 .bf16 :=
  concatenate S8x2048x1024 0 [⟨S1x2048x1024, piece z 0 slices_S2048x7168_S2048x1024_0_0⟩, ⟨S1x2048x1024, piece z 1024 slices_S2048x7168_S2048x1024_0_1024⟩,
    ⟨S1x2048x1024, piece z 5120 slices_S2048x7168_S2048x1024_0_5120⟩, ⟨S1x2048x1024, piece z 6144 slices_S2048x7168_S2048x1024_0_6144⟩,
    ⟨S1x2048x1024, piece z 2048 slices_S2048x7168_S2048x1024_0_2048⟩, ⟨S1x2048x1024, piece z 3072 slices_S2048x7168_S2048x1024_0_3072⟩,
    ⟨S1x2048x1024, piece z 4096 slices_S2048x7168_S2048x1024_0_4096⟩,
    ⟨S1x2048x1024, broadcastInDim S1x2048x1024 ![1, 2] bcast_S2048x1024_S1x2048x1024_1_2 (broadcastInDim S2048x1024 ![] bcast_S_S2048x1024 (constant (F := Ideal) S_ .bf16 0x0000#16))⟩]
    concatenates_S1x2048x1024_S1x2048x1024_S1x2048x1024_S1x2048x1024_S1x2048x1024_S1x2048x1024_S1x2048x1024_S1x2048x1024_S8x2048x1024_d0
theorem planes : V m c main_v17 = stack (Z m c) := by
  unfold V
  after_results_simp
  rfl
theorem stack_at (z : FVec Ideal S2048x7168 .f32) (s : Fin 7) (r : Fin 2048) (j : Fin 1024) : stack z (ix3 (plane s) r j) = z (ix2 r (col s j)) := by
  fin_cases s <;> (unfold stack plane col; pointwise; blk_ext)

theorem read_h (t : Fin cfg0.N) (r : Fin 2048) (k : Fin 1024) : (iblk m c 0 t : FVec Ideal S2048x1024 .bf16) (ix2 r k) = H m c (ix2 r k) := by
  blk_simp [iblk, V, idx t]
  entry_read
  pointwise
  blk_ext [idx t]
theorem read_z (t : Fin cfg0.N) (e : Fin 1) (r : Fin 2048) (j : Fin 1024) :
    (iblk m c 1 t : FVec Ideal S1x2048x1024 .bf16) (ix3 e r j) = Z m c (ix2 r (col (cb t) j)) := by
  show V m c main_v17 _ = _
  rw [planes, show (win0_1.blk t).view.emb (ix3 e r j) = (ix3 (plane (cb t)) r j : S8x2048x1024.Idx) from by blk_ext [idx t]]
  exact stack_at _ _ _ _

/-- The block a grid point writes. -/
theorem block_at (t : Fin cfg0.N) (k j : Fin 1024) :
    (k0_pay4 (F := Ideal) (k0_pay2 (F := Ideal) (iblk m c 0 t) (iblk m c 1 t)) : FVec Ideal S1024x1024 .bf16) (ix2 k j) = grad (H m c) (Z m c) k (col (cb t) j) := by
  pointwise [k0_pay4, k0_pay2, k0_pay1, grad]
  simp only [read_h, read_z]

/-- The array that the kernel's run leaves. -/
theorem final : (dats m 0 c).arrAt 2 cfg0.N = fun i => grad (H m c) (Z m c) (i 0) (i 1) := by
  refine (dats m 0 c).arrAt_eq_of_covers 2 _ (by decide +kernel) fun t hf y => ?_
  obtain ⟨a, b, rfl⟩ : ∃ (a : Fin 1024) (b : Fin 1024), y = ix2 a b := ⟨y 0, y 1, by blk_ext⟩
  blk_simp
  rw [after0_2]
  unfold outsAt0
  frame_out
  rw [show (win0_2.blk t).view.emb (ix2 a b) = ix2 a (col (cb t) b) by blk_ext [idx t, col]]
  exact block_at m c t a b

end Cert.ProjectionGradIdeal.RefValue

namespace Cert.ProjectionGradRefIdeal.RefValue

open Cert.ProjectionGradRefIdeal Cert.ProjectionGradRefIdeal.Gen Cert.ProjectionGradRefIdeal.Read Cert.ProjectionGradSpec

/-- The reference's array. -/
theorem grad_at (x : FVec Ideal ⟨2, ![2048, 1024]⟩ .f32) (z : FVec Ideal ⟨2, ![2048, 7168]⟩ .f32) (k : Fin 1024) (j : Fin 7168) :
    val_main_v4 (F := Ideal) x z (ix2 k j) = grad x z k j := by
  pointwise [val_main_v4, val_main_v3, val_main_v2, grad]
  simp only [mul_comm]

end Cert.ProjectionGradRefIdeal.RefValue

end
-- ==== Proof.ProjectionGrad.Claims.lean ====
/- The claims about the weight gradient of the input projection: the two frames, the reference's frame, and the values. -/
module

public import proofs.«01_k».proof.Defs
public import proofs.«01_k».proof.Proof.ProjectionGrad.Values
public import proofs.«01_k».proof.Proof.Gen.ProjectionGrad.Frame
public import Idealize.ShloMosaic.Lib.Claim

@[expose] public section

set_option maxRecDepth 16384

noncomputable section

open Idealize.ShloMosaic Idealize.ShloMosaic.TcCoe Idealize.SL.Sem

namespace Cert.Proof.ProjectionGradClaims

open Cert.ProjectionGradSpec Cert.ProjectionGradIdeal.RefValue Cert.ProjectionGradRefIdeal.RefValue Cert.ProjectionGradRefIdeal.Read

/-- The kernel's frame. -/
theorem frame : Cert.quiescent_ProjectionGrad := fun m ρ _ => Cert.ProjectionGrad.Gen.frame m ρ
/-- The idealized kernel's frame. -/
theorem frame_ideal : Cert.quiescent_ProjectionGradIdeal := fun m ρ _ => Cert.ProjectionGradIdeal.Gen.frame m ρ
/-- The reference's frame: its run, read at the arguments; it has no semaphore. -/
theorem frame_ref : Cert.quiescent_ProjectionGradRefIdeal := fun m ρ _ =>
  (θ_run Cert.ProjectionGradRefIdeal.defs _ _).mono (fun r h => ⟨fun c => (h c).2, sem_eq_zero_of_no_sems (by decide) r.2⟩)
    (Cert.ProjectionGradRefIdeal.Value.run (F := Ideal) m ρ)
/-- The idealized kernel is the kernel with nothing rewritten. -/
theorem preserves : Cert.preserves_ProjectionGrad_ProjectionGradIdeal := trivial

set_option maxHeartbeats 2000000 in
/-- The weight gradient is the reference's. -/
theorem algebraic : Cert.algebraic_ProjectionGradIdeal_ProjectionGradRefIdeal := by
  intro m ρ m' ρ' _ hagree
  refine ⟨fun c => (Cert.ProjectionGradIdeal.Gen.dats m 0 c).arrAt 2 Cert.ProjectionGradIdeal.cfg0.N, Cert.ProjectionGradIdeal.Value.run_blocks (F := Ideal) m ρ, ?_⟩
  refine (θ_run Cert.ProjectionGradRefIdeal.defs _ _).mono (fun r h c => ?_) (Cert.ProjectionGradRefIdeal.Value.run (F := Ideal) m' ρ')
  obtain ⟨h0, hargs⟩ := h c
  obtain ⟨a0, a1⟩ := hagree c
  refine ⟨(h0.trans (val_main_v4_eq _ _)).trans ?_, hargs⟩
  beta_reduce
  rw [final m c, a0, a1]
  funext i
  obtain ⟨k, j, rfl⟩ : ∃ (k : Fin 1024) (j : Fin 7168), i = ix2 k j := ⟨i 0, i 1, by blk_ext⟩
  exact grad_at _ _ k j

end Cert.Proof.ProjectionGradClaims

end
-- ==== Proof.Update.Table.lean ====
/- The index table of the update's call, which is zero, before and after idealization. -/
module

public import proofs.«01_k».proof.Proof.Gen.Update.Frame
public import proofs.«01_k».proof.Proof.Gen.UpdateIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Update

open Cert.Update.Gen

variable {F : FTy → Type} [FloatOps F] (m : (ℓ : Loc nD τ sig) → Buf (Elt F) ℓ)

/-- The table of the call holds the index zero. -/
theorem table : (V m (0 : Dev nD) main_v3 : IVec S1 32) = fun _ => 0#32 := by
  unfold V
  after_results_simp
  rfl
/-- So the window that reads it starts at the block zero. -/
theorem start (i : grid0.Coords) : cc0_transform_0 inb_S1_S1_0 numel1_S1 (tbl m) i = ![0, (i 0).val, 0] := by
  have w : ((tbl m).at 0 (Rect.unit (s := S1) ![0] S1.size inb_S1_S1_0) numel1_S1 : BitVec 32) = 0#32 := congrFun (table m) _
  show ![((tbl m).at 0 (Rect.unit (s := S1) ![0] S1.size inb_S1_S1_0) numel1_S1 : BitVec 32).toNat, (BitVec.ofNat 32 (i 0).val).toNat, 0] = _
  rw [w]
  exact (by decide +kernel : ∀ i : grid0.Coords, ![(0#32).toNat, (BitVec.ofNat 32 (i 0).val).toNat, 0] = ![0, (i 0).val, 0]) i
/-- Its blocks lie inside the array. -/
theorem ok : Ok m := by
  unfold Ok ok0
  intro i
  rw [start m i]
  exact (by decide +kernel : ∀ i : grid0.Coords, ∃ h : (∀ a, ((![0, (i 0).val, 0] : Fin _ → ℕ) a + 1) * S1x256x896.size a ≤ S1x1024x896.size a), EltTy.bits .bf16 = 32 ∨ (Rect.block (s := S1x1024x896) S1x256x896.size ![0, (i 0).val, 0] h).WholeWords (EltTy.packing .bf16)) i

end Cert.Update

namespace Cert.UpdateIdeal

open Cert.UpdateIdeal.Gen

variable {F : FTy → Type} [FloatOps F] (m : (ℓ : Loc nD τ sig) → Buf (Elt F) ℓ)

/-- The table of the call holds the index zero. -/
theorem table : (V m (0 : Dev nD) main_v3 : IVec S1 32) = fun _ => 0#32 := by
  unfold V
  after_results_simp
  rfl
/-- So the window that reads it starts at the block zero. -/
theorem start (i : grid0.Coords) : cc0_transform_0 inb_S1_S1_0 numel1_S1 (tbl m) i = ![0, (i 0).val, 0] := by
  have w : ((tbl m).at 0 (Rect.unit (s := S1) ![0] S1.size inb_S1_S1_0) numel1_S1 : BitVec 32) = 0#32 := congrFun (table m) _
  show ![((tbl m).at 0 (Rect.unit (s := S1) ![0] S1.size inb_S1_S1_0) numel1_S1 : BitVec 32).toNat, (BitVec.ofNat 32 (i 0).val).toNat, 0] = _
  rw [w]
  exact (by decide +kernel : ∀ i : grid0.Coords, ![(0#32).toNat, (BitVec.ofNat 32 (i 0).val).toNat, 0] = ![0, (i 0).val, 0]) i
/-- Its blocks lie inside the array. -/
theorem ok : Ok m := by
  unfold Ok ok0
  intro i
  rw [start m i]
  exact (by decide +kernel : ∀ i : grid0.Coords, ∃ h : (∀ a, ((![0, (i 0).val, 0] : Fin _ → ℕ) a + 1) * S1x256x896.size a ≤ S1x1024x896.size a), EltTy.bits .bf16 = 32 ∨ (Rect.block (s := S1x1024x896) S1x256x896.size ![0, (i 0).val, 0] h).WholeWords (EltTy.packing .bf16)) i

end Cert.UpdateIdeal

end
-- ==== Proof.Update.Values.lean ====
/- What the update's call, and its reference, compute: the gradient of one weight shard, the step, and the two new moments. -/
module

public import proofs.«01_k».proof.Proof.Update.Table
public import proofs.«01_k».proof.Proof.Gen.UpdateRefIdeal.Run
public import proofs.«01_k».proof.Proof.Gen.UpdateRefIdeal.Read

@[expose] public section

set_option maxRecDepth 16384

noncomputable section

open Idealize.ShloMosaic Idealize.ShloMosaic.TcCoe Idealize.SL.Sem
open Idealize.ShloMosaic.Pipeline (Dat)

namespace Cert.UpdateSpec

variable (o : FVec Ideal ⟨2, ![1024, 896]⟩ .f32) (s : FVec Ideal ⟨3, ![3, 1024, 896]⟩ .f32) (w p q : FVec Ideal ⟨2, ![1024, 896]⟩ .f32)

/-- A constant of the update, by its word. -/
abbrev word (b : BitVec 32) : Ideal .f32 := FloatOps.ofBits .f32 b
/-- The gradient: the shard's own part plus the three received. -/
def grad (i : Fin 1024) (j : Fin 896) : Ideal .f32 :=
  ((o (ix2 i j) + s (ix3 0 i j)) + s (ix3 1 i j)) + s (ix3 2 i j)
/-- The new first moment. -/
def first (i : Fin 1024) (j : Fin 896) : Ideal .f32 :=
  word 0x3F666666#32 * p (ix2 i j) + word 0x3DCCCCCD#32 * grad o s i j
/-- The new second moment. -/
def second (i : Fin 1024) (j : Fin 896) : Ideal .f32 :=
  word 0x3F7FBE77#32 * q (ix2 i j) + word 0x3A83126F#32 * (grad o s i j * grad o s i j)
/-- The step. -/
def step (i : Fin 1024) (j : Fin 896) : Ideal .f32 :=
  word 0xBA83126F#32 * (FloatOps.divf (FloatOps.divf (first o s p i j) (word 0x3F26BD02#32))
    (FloatOps.sqrt (FloatOps.divf (second o s q i j) (word 0x3C231ACC#32)) + word 0x322BCC77#32) + word 0x3C23D70A#32 * w (ix2 i j))

end Cert.UpdateSpec

namespace Cert.UpdateIdeal.RefValue

open Cert.UpdateIdeal Cert.UpdateIdeal.Gen Cert.UpdateSpec

variable (m : (ℓ : Loc nD τ sig) → Buf (Elt Ideal) ℓ) (c : Dev nD)

abbrev O : FVec Ideal S1024x896 .f32 := m ((c : Thread nD τ).loc main_arg0)
abbrev S : FVec Ideal S3x1024x896 .f32 := m ((c : Thread nD τ).loc main_arg1)
abbrev W : FVec Ideal S1024x896 .f32 := m ((c : Thread nD τ).loc main_arg2)
abbrev P : FVec Ideal S1024x896 .f32 := m ((c : Thread nD τ).loc main_arg3)
abbrev Q : FVec Ideal S1024x896 .f32 := m ((c : Thread nD τ).loc main_arg4)
/-- The pipeline, its index table being zero. -/
abbrev cfgZ : Pipeline.Cfg sig Λ₀ := cfgM m (ok m)
/-- The windows that read no table: the parts received, the three shards, the four results. -/
abbrev win1 : Pipeline.Window sig grid0 :=
  Pipeline.Window.ofSpec (Memref.whole main_v2) S3x256x896.size cc0_transform_1 reads0_1 false false 2 stage0_1 sem0_1
    hrank0 hreads0_1 hinb0_1 nbuf0_1 (Memref.isWhole_whole _) hwx0_1 hstage0_1
abbrev win2 : Pipeline.Window sig grid0 :=
  Pipeline.Window.ofSpec (Memref.whole main_arg2) S256x896.size cc0_transform_2 reads0_2 false false 2 stage0_2 sem0_2
    hrank0 hreads0_2 hinb0_2 nbuf0_2 (Memref.isWhole_whole _) hwx0_2 hstage0_2
abbrev win3 : Pipeline.Window sig grid0 :=
  Pipeline.Window.ofSpec (Memref.whole main_arg3) S256x896.size cc0_transform_3 reads0_3 false false 2 stage0_3 sem0_3
    hrank0 hreads0_3 hinb0_3 nbuf0_3 (Memref.isWhole_whole _) hwx0_3 hstage0_3
abbrev win4 : Pipeline.Window sig grid0 :=
  Pipeline.Window.ofSpec (Memref.whole main_arg4) S256x896.size cc0_transform_4 reads0_4 false false 2 stage0_4 sem0_4
    hrank0 hreads0_4 hinb0_4 nbuf0_4 (Memref.isWhole_whole _) hwx0_4 hstage0_4
abbrev win5 : Pipeline.Window sig grid0 :=
  Pipeline.Window.ofSpec (Memref.whole main_v4_0) S256x896.size cc0_transform_5 reads0_5 true false 2 stage0_5 sem0_5
    hrank0 hreads0_5 hinb0_5 nbuf0_5 (Memref.isWhole_whole _) hwx0_5 hstage0_5
abbrev win6 : Pipeline.Window sig grid0 :=
  Pipeline.Window.ofSpec (Memref.whole main_v4_1) S256x896.size cc0_transform_6 reads0_6 true false 2 stage0_6 sem0_6
    hrank0 hreads0_6 hinb0_6 nbuf0_6 (Memref.isWhole_whole _) hwx0_6 hstage0_6
abbrev win7 : Pipeline.Window sig grid0 :=
  Pipeline.Window.ofSpec (Memref.whole main_v4_2) S256x896.size cc0_transform_7 reads0_7 true false 2 stage0_7 sem0_7
    hrank0 hreads0_7 hinb0_7 nbuf0_7 (Memref.isWhole_whole _) hwx0_7 hstage0_7
abbrev win8 : Pipeline.Window sig grid0 :=
  Pipeline.Window.ofSpec (Memref.whole main_v4_3) S256x896.size cc0_transform_8 reads0_8 true false 2 stage0_8 sem0_8
    hrank0 hreads0_8 hinb0_8 nbuf0_8 (Memref.isWhole_whole _) hwx0_8 hstage0_8

attribute [local irreducible] tbl

/-- The row block a grid point works on, and the row of an entry of it. -/
def bk (t : Fin grid0.N) : Fin 4 := ⟨t.val, t.isLt⟩
def row (t : Fin grid0.N) (i : Fin 256) : Fin 1024 := ⟨(bk t).val * 256 + i.val, by omega⟩
theorem coords : ∀ t : Fin grid0.N, (grid0.coords t 0).val = t.val := by decide +kernel
theorem idx0 (t : Fin grid0.N) : ((cfgZ m).win 0).index t = ![0, (bk t).val, 0] := by
  refine (start m (grid0.coords t)).trans ?_
  rw [coords t]; rfl
theorem idx : ∀ t : Fin grid0.N, win1.index t = ![0, (bk t).val, 0] ∧ win2.index t = ![(bk t).val, 0] ∧ win3.index t = ![(bk t).val, 0]
    ∧ win4.index t = ![(bk t).val, 0] ∧ win5.index t = ![(bk t).val, 0] ∧ win6.index t = ![(bk t).val, 0]
    ∧ win7.index t = ![(bk t).val, 0] ∧ win8.index t = ![(bk t).val, 0] := by decide +kernel

/-- Where an entry of a block lies in its array. -/
theorem emb_0 (t : Fin grid0.N) (e : Fin 1) (i : Fin 256) (j : Fin 896) :
    (((cfgZ m).win 0).blk t).view.emb (ix3 e i j) = (ix3 0 (row t i) j : S1x1024x896.Idx) := by
  funext a
  refine Fin.ext ((Pipeline.Window.rect_emb_val ((cfgZ m).win 0) t (ix3 e i j) a rfl).trans ?_)
  rw [idx0 m t]
  revert a
  exact fun (a : Fin 3) => by fin_cases a <;> blk_simp <;> first | rfl | omega
theorem emb_1 (t : Fin grid0.N) (e : Fin 3) (i : Fin 256) (j : Fin 896) : (win1.blk t).view.emb (ix3 e i j) = (ix3 e (row t i) j : S3x1024x896.Idx) := by
  blk_ext [idx t, row]
theorem emb_2 (t : Fin grid0.N) (i : Fin 256) (j : Fin 896) : (win2.blk t).view.emb (ix2 i j) = (ix2 (row t i) j : S1024x896.Idx) := by
  blk_ext [idx t, row]
theorem emb_3 (t : Fin grid0.N) (i : Fin 256) (j : Fin 896) : (win3.blk t).view.emb (ix2 i j) = (ix2 (row t i) j : S1024x896.Idx) := by
  blk_ext [idx t, row]
theorem emb_4 (t : Fin grid0.N) (i : Fin 256) (j : Fin 896) : (win4.blk t).view.emb (ix2 i j) = (ix2 (row t i) j : S1024x896.Idx) := by
  blk_ext [idx t, row]
theorem emb_5 (t : Fin grid0.N) (i : Fin 256) (j : Fin 896) : (win5.blk t).view.emb (ix2 i j) = (ix2 (row t i) j : S1024x896.Idx) := by
  blk_ext [idx t, row]
theorem emb_6 (t : Fin grid0.N) (i : Fin 256) (j : Fin 896) : (win6.blk t).view.emb (ix2 i j) = (ix2 (row t i) j : S1024x896.Idx) := by
  blk_ext [idx t, row]
theorem emb_7 (t : Fin grid0.N) (i : Fin 256) (j : Fin 896) : (win7.blk t).view.emb (ix2 i j) = (ix2 (row t i) j : S1024x896.Idx) := by
  blk_ext [idx t, row]
theorem emb_8 (t : Fin grid0.N) (i : Fin 256) (j : Fin 896) : (win8.blk t).view.emb (ix2 i j) = (ix2 (row t i) j : S1024x896.Idx) := by
  blk_ext [idx t, row]

theorem own : V m c main_v1 = truncf (F := Ideal) .bf16 (broadcastInDim S1x1024x896 ![1, 2] bcast_S1024x896_S1x1024x896_1_2 (O m c)) bitsLt_bf16_f32 := by
  unfold V
  after_results_simp
theorem others : V m c main_v2 = truncf (F := Ideal) .bf16 (S m c) bitsLt_bf16_f32 := by
  unfold V
  after_results_simp

theorem read_0 (t : Fin grid0.N) (e : Fin 1) (i : Fin 256) (j : Fin 896) :
    (iblk m (ok m) c 0 t : FVec Ideal S1x256x896 .bf16) (ix3 e i j) = O m c (ix2 (row t i) j) := by
  show V m c main_v1 _ = _
  rw [own]
  refine (congrArg (truncf (F := Ideal) .bf16 (broadcastInDim S1x1024x896 ![1, 2] bcast_S1024x896_S1x1024x896_1_2 (O m c)) bitsLt_bf16_f32) (emb_0 m t e i j)).trans ?_
  pointwise
theorem read_1 (t : Fin grid0.N) (e : Fin 3) (i : Fin 256) (j : Fin 896) :
    (iblk m (ok m) c 1 t : FVec Ideal S3x256x896 .bf16) (ix3 e i j) = S m c (ix3 e (row t i) j) := by
  show V m c main_v2 _ = _
  rw [others]
  exact congrArg (S m c) (emb_1 t e i j)
theorem read_2 (t : Fin grid0.N) (i : Fin 256) (j : Fin 896) : (iblk m (ok m) c 2 t : FVec Ideal S256x896 .f32) (ix2 i j) = W m c (ix2 (row t i) j) := by
  show V m c main_arg2 _ = _
  rw [V_main_arg2]
  exact congrArg (W m c) (emb_2 t i j)
theorem read_3 (t : Fin grid0.N) (i : Fin 256) (j : Fin 896) : (iblk m (ok m) c 3 t : FVec Ideal S256x896 .f32) (ix2 i j) = P m c (ix2 (row t i) j) := by
  show V m c main_arg3 _ = _
  rw [V_main_arg3]
  exact congrArg (P m c) (emb_3 t i j)
theorem read_4 (t : Fin grid0.N) (i : Fin 256) (j : Fin 896) : (iblk m (ok m) c 4 t : FVec Ideal S256x896 .f32) (ix2 i j) = Q m c (ix2 (row t i) j) := by
  show V m c main_arg4 _ = _
  rw [V_main_arg4]
  exact congrArg (Q m c) (emb_4 t i j)

/-- A plane of the received parts, as a grid point loads it. -/
def plane (t : Fin grid0.N) (e : Fin 3) : FVec Ideal S1x256x896 .bf16 := fun y => (iblk m (ok m) c 1 t : FVec Ideal S3x256x896 .bf16) (ix3 e (y 1) (y 2))

theorem load_0 (t : Fin grid0.N) : (View.ld (iblk m (ok m) c 1 t : FVec Ideal S3x256x896 .bf16) (Rect.unit (s := S3x256x896) ![0, 0, 0] ![1, 256, 896] inb_S3x256x896_S1x256x896_0_0_0) : FVec Ideal S1x256x896 .bf16) = plane m c t 0 := by
  refine funext fun (y : S1x256x896.Idx) => ?_
  obtain ⟨e, i, j, rfl⟩ : ∃ (e : Fin 1) (i : Fin 256) (j : Fin 896), y = ix3 e i j := ⟨y 0, y 1, y 2, by blk_ext⟩
  exact congrArg (iblk m (ok m) c 1 t : FVec Ideal S3x256x896 .bf16) (show (Rect.unit (s := S3x256x896) ![0, 0, 0] ![1, 256, 896] inb_S3x256x896_S1x256x896_0_0_0).emb (ix3 e i j) = (ix3 0 i j : S3x256x896.Idx) by blk_ext)
theorem load_1 (t : Fin grid0.N) : (View.ld (iblk m (ok m) c 1 t : FVec Ideal S3x256x896 .bf16) (Rect.unit (s := S3x256x896) ![1, 0, 0] ![1, 256, 896] inb_S3x256x896_S1x256x896_1_0_0) : FVec Ideal S1x256x896 .bf16) = plane m c t 1 := by
  refine funext fun (y : S1x256x896.Idx) => ?_
  obtain ⟨e, i, j, rfl⟩ : ∃ (e : Fin 1) (i : Fin 256) (j : Fin 896), y = ix3 e i j := ⟨y 0, y 1, y 2, by blk_ext⟩
  exact congrArg (iblk m (ok m) c 1 t : FVec Ideal S3x256x896 .bf16) (show (Rect.unit (s := S3x256x896) ![1, 0, 0] ![1, 256, 896] inb_S3x256x896_S1x256x896_1_0_0).emb (ix3 e i j) = (ix3 1 i j : S3x256x896.Idx) by blk_ext)
theorem load_2 (t : Fin grid0.N) : (View.ld (iblk m (ok m) c 1 t : FVec Ideal S3x256x896 .bf16) (Rect.unit (s := S3x256x896) ![2, 0, 0] ![1, 256, 896] inb_S3x256x896_S1x256x896_2_0_0) : FVec Ideal S1x256x896 .bf16) = plane m c t 2 := by
  refine funext fun (y : S1x256x896.Idx) => ?_
  obtain ⟨e, i, j, rfl⟩ : ∃ (e : Fin 1) (i : Fin 256) (j : Fin 896), y = ix3 e i j := ⟨y 0, y 1, y 2, by blk_ext⟩
  exact congrArg (iblk m (ok m) c 1 t : FVec Ideal S3x256x896 .bf16) (show (Rect.unit (s := S3x256x896) ![2, 0, 0] ![1, 256, 896] inb_S3x256x896_S1x256x896_2_0_0).emb (ix3 e i j) = (ix3 2 i j : S3x256x896.Idx) by blk_ext)

/-- Equal arguments give equal blocks. -/
theorem app4 {α β γ δ ε : Type} (f : α → β → γ → δ → ε) {a a' : α} {b b' : β} {d d' : γ} {e e' : δ} (ha : a = a') (hb : b = b') (hd : d = d') (he : e = e') :
    f a b d e = f a' b' d' e' := by subst ha hb hd he; rfl
theorem app5 {α β γ δ ε ζ : Type} (f : α → β → γ → δ → ε → ζ) {a a' : α} {b b' : β} {d d' : γ} {e e' : δ} {g g' : ε} (ha : a = a') (hb : b = b') (hd : d = d') (he : e = e')
    (hg : g = g') : f a b d e g = f a' b' d' e' g' := by subst ha hb hd he hg; rfl
theorem whole_1 (t : Fin grid0.N) : ((ms0_1 m (ok m) t).view.read (Elt Ideal) ((hs0_1 m (ok m) t).unread (iblk m (ok m) c 1 t)) : FVec Ideal S3x256x896 .bf16)
    = (iblk m (ok m) c 1 t : FVec Ideal S3x256x896 .bf16) := (hs0_1 m (ok m) t).read_unread _
theorem ld_0 (t : Fin grid0.N) : (View.ld ((ms0_1 m (ok m) t).view.read (Elt Ideal) ((hs0_1 m (ok m) t).unread (iblk m (ok m) c 1 t)) : FVec Ideal S3x256x896 .bf16) (Rect.unit (s := S3x256x896) ![0, 0, 0] ![1, 256, 896] inb_S3x256x896_S1x256x896_0_0_0)
    : FVec Ideal S1x256x896 .bf16) = plane m c t 0 :=
  Eq.trans (by rw [whole_1 m c t]; rfl) (load_0 m c t)
theorem ld_1 (t : Fin grid0.N) : (View.ld ((ms0_1 m (ok m) t).view.read (Elt Ideal) ((hs0_1 m (ok m) t).unread (iblk m (ok m) c 1 t)) : FVec Ideal S3x256x896 .bf16) (Rect.unit (s := S3x256x896) ![1, 0, 0] ![1, 256, 896] inb_S3x256x896_S1x256x896_1_0_0)
    : FVec Ideal S1x256x896 .bf16) = plane m c t 1 :=
  Eq.trans (by rw [whole_1 m c t]; rfl) (load_1 m c t)
theorem ld_2 (t : Fin grid0.N) : (View.ld ((ms0_1 m (ok m) t).view.read (Elt Ideal) ((hs0_1 m (ok m) t).unread (iblk m (ok m) c 1 t)) : FVec Ideal S3x256x896 .bf16) (Rect.unit (s := S3x256x896) ![2, 0, 0] ![1, 256, 896] inb_S3x256x896_S1x256x896_2_0_0)
    : FVec Ideal S1x256x896 .bf16) = plane m c t 2 :=
  Eq.trans (by rw [whole_1 m c t]; rfl) (load_2 m c t)

/-- What a grid point leaves in the results' buffers. -/
theorem left_5 (t : Fin grid0.N) : (outsAt0 m (ok m) c t).1
    = k0_pay2 (F := Ideal) (iblk m (ok m) c 0 t) (plane m c t 0) (plane m c t 1) (plane m c t 2) := by
  unfold outsAt0 out0_A_5
  frame_out
  exact app4 (k0_pay2 (F := Ideal)) ((hs0_0 m (ok m) t).read_unread _) (ld_0 m c t) (ld_1 m c t) (ld_2 m c t)
theorem left_6 (t : Fin grid0.N) : (outsAt0 m (ok m) c t).2.1
    = k0_pay1 (F := Ideal) (iblk m (ok m) c 2 t) (k0_pay4 (F := Ideal) (iblk m (ok m) c 0 t) (plane m c t 0) (plane m c t 1) (plane m c t 2) (iblk m (ok m) c 4 t))
      (k0_pay5 (F := Ideal) (iblk m (ok m) c 0 t) (plane m c t 0) (plane m c t 1) (plane m c t 2) (iblk m (ok m) c 3 t)) (Scalar.ofBits .f32 0x3C231ACC#32) := by
  unfold outsAt0 out0_A_6
  frame_out
  exact app4 (k0_pay1 (F := Ideal)) ((hs0_2 m (ok m) t).read_unread _) (app5 (k0_pay4 (F := Ideal)) ((hs0_0 m (ok m) t).read_unread _) (ld_0 m c t) (ld_1 m c t) (ld_2 m c t) ((hs0_4 m (ok m) t).read_unread _))
    (app5 (k0_pay5 (F := Ideal)) ((hs0_0 m (ok m) t).read_unread _) (ld_0 m c t) (ld_1 m c t) (ld_2 m c t) ((hs0_3 m (ok m) t).read_unread _)) rfl
theorem left_7 (t : Fin grid0.N) : (outsAt0 m (ok m) c t).2.2.1
    = k0_pay3 (F := Ideal) (iblk m (ok m) c 0 t) (plane m c t 0) (plane m c t 1) (plane m c t 2) (iblk m (ok m) c 3 t) := by
  unfold outsAt0 out0_A_7
  frame_out
  exact app5 (k0_pay3 (F := Ideal)) ((hs0_0 m (ok m) t).read_unread _) (ld_0 m c t) (ld_1 m c t) (ld_2 m c t) ((hs0_3 m (ok m) t).read_unread _)
theorem left_8 (t : Fin grid0.N) : (outsAt0 m (ok m) c t).2.2.2
    = k0_pay4 (F := Ideal) (iblk m (ok m) c 0 t) (plane m c t 0) (plane m c t 1) (plane m c t 2) (iblk m (ok m) c 4 t) := by
  unfold outsAt0 out0_A_8
  frame_out
  exact app5 (k0_pay4 (F := Ideal)) ((hs0_0 m (ok m) t).read_unread _) (ld_0 m c t) (ld_1 m c t) (ld_2 m c t) ((hs0_4 m (ok m) t).read_unread _)

/-- The blocks a grid point writes. -/
theorem pay_2 (t : Fin grid0.N) (i : Fin 256) (j : Fin 896) :
    (k0_pay2 (F := Ideal) (iblk m (ok m) c 0 t) (plane m c t 0) (plane m c t 1) (plane m c t 2) : FVec Ideal S256x896 .f32) (ix2 i j) = grad (O m c) (S m c) (row t i) j := by
  pointwise [k0_pay2, plane, grad]
  simp only [read_0, read_1]
theorem pay_3 (t : Fin grid0.N) (i : Fin 256) (j : Fin 896) :
    (k0_pay3 (F := Ideal) (iblk m (ok m) c 0 t) (plane m c t 0) (plane m c t 1) (plane m c t 2) (iblk m (ok m) c 3 t) : FVec Ideal S256x896 .f32) (ix2 i j)
      = first (O m c) (S m c) (P m c) (row t i) j := by
  pointwise [k0_pay3, pay_2, read_3, first]
theorem pay_4 (t : Fin grid0.N) (i : Fin 256) (j : Fin 896) :
    (k0_pay4 (F := Ideal) (iblk m (ok m) c 0 t) (plane m c t 0) (plane m c t 1) (plane m c t 2) (iblk m (ok m) c 4 t) : FVec Ideal S256x896 .f32) (ix2 i j)
      = second (O m c) (S m c) (Q m c) (row t i) j := by
  pointwise [k0_pay4, pay_2, read_4, second]
theorem pay_1 (t : Fin grid0.N) (i : Fin 256) (j : Fin 896) :
    (k0_pay1 (F := Ideal) (iblk m (ok m) c 2 t) (k0_pay4 (F := Ideal) (iblk m (ok m) c 0 t) (plane m c t 0) (plane m c t 1) (plane m c t 2) (iblk m (ok m) c 4 t))
      (k0_pay5 (F := Ideal) (iblk m (ok m) c 0 t) (plane m c t 0) (plane m c t 1) (plane m c t 2) (iblk m (ok m) c 3 t)) (Scalar.ofBits .f32 0x3C231ACC#32) : FVec Ideal S256x896 .f32) (ix2 i j)
      = step (O m c) (S m c) (W m c) (P m c) (Q m c) (row t i) j := by
  pointwise [k0_pay1, k0_pay5, pay_3, pay_4, read_2, step]

/-- Rows and columns as one index. -/
abbrev at2 (f : Fin 1024 → Fin 896 → EReal) : FVec Ideal S1024x896 .f32 := fun y => f (y 0) (y 1)
theorem left_at_5 (t : Fin grid0.N) (y : S256x896.Idx) : ((outsAt0 m (ok m) c t).1 : FVec Ideal S256x896 .f32) y
    = at2 (grad (O m c) (S m c)) ((win5.blk t).view.emb y) := by
  obtain ⟨i, j, rfl⟩ : ∃ (i : Fin 256) (j : Fin 896), y = ix2 i j := ⟨y 0, y 1, by blk_ext⟩
  rw [emb_5 t i j]
  exact (congrFun (left_5 m c t) _).trans (pay_2 m c t i j)
theorem left_at_6 (t : Fin grid0.N) (y : S256x896.Idx) : ((outsAt0 m (ok m) c t).2.1 : FVec Ideal S256x896 .f32) y
    = at2 (step (O m c) (S m c) (W m c) (P m c) (Q m c)) ((win6.blk t).view.emb y) := by
  obtain ⟨i, j, rfl⟩ : ∃ (i : Fin 256) (j : Fin 896), y = ix2 i j := ⟨y 0, y 1, by blk_ext⟩
  rw [emb_6 t i j]
  exact (congrFun (left_6 m c t) _).trans (pay_1 m c t i j)
theorem left_at_7 (t : Fin grid0.N) (y : S256x896.Idx) : ((outsAt0 m (ok m) c t).2.2.1 : FVec Ideal S256x896 .f32) y
    = at2 (first (O m c) (S m c) (P m c)) ((win7.blk t).view.emb y) := by
  obtain ⟨i, j, rfl⟩ : ∃ (i : Fin 256) (j : Fin 896), y = ix2 i j := ⟨y 0, y 1, by blk_ext⟩
  rw [emb_7 t i j]
  exact (congrFun (left_7 m c t) _).trans (pay_3 m c t i j)
theorem left_at_8 (t : Fin grid0.N) (y : S256x896.Idx) : ((outsAt0 m (ok m) c t).2.2.2 : FVec Ideal S256x896 .f32) y
    = at2 (second (O m c) (S m c) (Q m c)) ((win8.blk t).view.emb y) := by
  obtain ⟨i, j, rfl⟩ : ∃ (i : Fin 256) (j : Fin 896), y = ix2 i j := ⟨y 0, y 1, by blk_ext⟩
  rw [emb_8 t i j]
  exact (congrFun (left_8 m c t) _).trans (pay_4 m c t i j)

attribute [local irreducible] outsAt0 Cert.UpdateSpec.grad Cert.UpdateSpec.first Cert.UpdateSpec.second Cert.UpdateSpec.step

/-- The arrays that the kernel's run leaves. -/
theorem final_5 : (dats m (ok m) 0 c).arrAt 5 (cfgZ m).N = at2 (grad (O m c) (S m c)) := by
  refine (dats m (ok m) 0 c).arrAt_eq_of_emb 5 _ (fun t hf y => ?_) ((show win5.Covers by decide +kernel).cover _ (Memref.isWhole_whole _))
  rw [after0_5]
  exact left_at_5 m c t y
theorem final_6 : (dats m (ok m) 0 c).arrAt 6 (cfgZ m).N = at2 (step (O m c) (S m c) (W m c) (P m c) (Q m c)) := by
  refine (dats m (ok m) 0 c).arrAt_eq_of_emb 6 _ (fun t hf y => ?_) ((show win6.Covers by decide +kernel).cover _ (Memref.isWhole_whole _))
  rw [after0_6]
  exact left_at_6 m c t y
theorem final_7 : (dats m (ok m) 0 c).arrAt 7 (cfgZ m).N = at2 (first (O m c) (S m c) (P m c)) := by
  refine (dats m (ok m) 0 c).arrAt_eq_of_emb 7 _ (fun t hf y => ?_) ((show win7.Covers by decide +kernel).cover _ (Memref.isWhole_whole _))
  rw [after0_7]
  exact left_at_7 m c t y
theorem final_8 : (dats m (ok m) 0 c).arrAt 8 (cfgZ m).N = at2 (second (O m c) (S m c) (Q m c)) := by
  refine (dats m (ok m) 0 c).arrAt_eq_of_emb 8 _ (fun t hf y => ?_) ((show win8.Covers by decide +kernel).cover _ (Memref.isWhole_whole _))
  rw [after0_8]
  exact left_at_8 m c t y

end Cert.UpdateIdeal.RefValue

namespace Cert.UpdateRefIdeal.RefValue

open Cert.UpdateRefIdeal Cert.UpdateRefIdeal.Gen Cert.UpdateRefIdeal.Read Cert.UpdateSpec

variable (x0 : FVec Ideal S1024x896 .f32) (x1 : FVec Ideal S3x1024x896 .f32) (x2 x3 x4 : FVec Ideal S1024x896 .f32)

/-- The reference's gradient, moments and step. -/
theorem grad_at (i : Fin 1024) (j : Fin 896) : (val_main_v8 (F := Ideal) x0 x1 : FVec Ideal S1024x896 .f32) (ix2 i j) = grad x0 x1 i j := by
  pointwise [val_main_v8, val_main_v7, val_main_v6, val_main_v5, val_main_v4, val_main_v3, val_main_v2, val_main_v1, val_main_v0, grad]
theorem first_at (i : Fin 1024) (j : Fin 896) : (val_main_v13 (F := Ideal) x0 x1 x3 : FVec Ideal S1024x896 .f32) (ix2 i j) = first x0 x1 x3 i j := by
  pointwise [val_main_v13, val_main_v12, val_main_v11, val_main_cst_0, val_main_v10, val_main_v9, val_main_cst, first, grad_at]
theorem second_at (i : Fin 1024) (j : Fin 896) : (val_main_v19 (F := Ideal) x0 x1 x4 : FVec Ideal S1024x896 .f32) (ix2 i j) = second x0 x1 x4 i j := by
  pointwise [val_main_v19, val_main_v18, val_main_v17, val_main_cst_2, val_main_v16, val_main_v15, val_main_v14, val_main_cst_1, second, grad_at]
theorem step_at (i : Fin 1024) (j : Fin 896) : (val_main_v32 (F := Ideal) x0 x1 x2 x3 x4 : FVec Ideal S1024x896 .f32) (ix2 i j) = step x0 x1 x2 x3 x4 i j := by
  pointwise [val_main_v32, val_main_v31, val_main_cst_7, val_main_v30, val_main_v29, val_main_v28, val_main_cst_6, val_main_v27, val_main_v26,
    val_main_v25, val_main_cst_5, val_main_v24, val_main_v23, val_main_v22, val_main_cst_4, val_main_v21, val_main_v20, val_main_cst_3, step, first_at, second_at]

end Cert.UpdateRefIdeal.RefValue

end
-- ==== Proof.Update.Claims.lean ====
/- The claims about the update of one weight shard: the two frames, the reference's frame, and the values. -/
module

public import proofs.«01_k».proof.Defs
public import proofs.«01_k».proof.Proof.Update.Values
public import proofs.«01_k».proof.Proof.Gen.Update.Frame
public import proofs.«01_k».proof.Proof.Gen.UpdateIdeal.Frame
public import Idealize.ShloMosaic.Lib.Claim

@[expose] public section

set_option maxRecDepth 16384

noncomputable section

open Idealize.ShloMosaic Idealize.ShloMosaic.TcCoe Idealize.SL.Sem

namespace Cert.Proof.UpdateClaims

open Cert.UpdateSpec Cert.UpdateIdeal.RefValue Cert.UpdateRefIdeal.RefValue Cert.UpdateRefIdeal.Read

/-- The kernel's frame. -/
theorem frame : Cert.quiescent_Update := fun m ρ _ => Cert.Update.Gen.frame m ρ (Cert.Update.ok m)
/-- The idealized kernel's frame. -/
theorem frame_ideal : Cert.quiescent_UpdateIdeal := fun m ρ _ => Cert.UpdateIdeal.Gen.frame m ρ (Cert.UpdateIdeal.ok m)
/-- The reference's frame: its run, read at the arguments; it has no semaphore. -/
theorem frame_ref : Cert.quiescent_UpdateRefIdeal := fun m ρ _ =>
  (θ_run Cert.UpdateRefIdeal.defs _ _).mono (fun r h => ⟨fun c => (h c).2.2.2.2, sem_eq_zero_of_no_sems (by decide) r.2⟩)
    (Cert.UpdateRefIdeal.Value.run (F := Ideal) m ρ)
/-- The idealized kernel is the kernel with nothing rewritten. -/
theorem preserves : Cert.preserves_Update_UpdateIdeal := trivial

attribute [local irreducible] Cert.UpdateIdeal.Gen.tbl

set_option maxHeartbeats 2000000 in
/-- The gradient, the step and the two new moments are the reference's. -/
theorem algebraic : Cert.algebraic_UpdateIdeal_UpdateRefIdeal := by
  intro m ρ m' ρ' _ hagree
  refine ⟨fun c => (Cert.UpdateIdeal.Gen.dats m (Cert.UpdateIdeal.ok m) 0 c).arrAt 5 (cfgZ m).N, fun c => (Cert.UpdateIdeal.Gen.dats m (Cert.UpdateIdeal.ok m) 0 c).arrAt 6 (cfgZ m).N,
    fun c => (Cert.UpdateIdeal.Gen.dats m (Cert.UpdateIdeal.ok m) 0 c).arrAt 7 (cfgZ m).N, fun c => (Cert.UpdateIdeal.Gen.dats m (Cert.UpdateIdeal.ok m) 0 c).arrAt 8 (cfgZ m).N,
    (θ_run _ _ _).mono (fun r h c => ⟨(h.1 c).1 5, (h.1 c).1 6, (h.1 c).1 7, (h.1 c).1 8, h.2 c⟩)
      (θ_run_and (Cert.UpdateIdeal.Gen.run_main m ρ (Cert.UpdateIdeal.ok m)) (Cert.UpdateIdeal.Gen.unchanged m ρ (Cert.UpdateIdeal.ok m))), ?_⟩
  refine (θ_run Cert.UpdateRefIdeal.defs _ _).mono (fun r h c => ?_) (Cert.UpdateRefIdeal.Value.run (F := Ideal) m' ρ')
  obtain ⟨h0, h1, h2, h3, hargs⟩ := h c
  obtain ⟨a0, a1, a2, a3, a4⟩ := hagree c
  refine ⟨(h0.trans (val_main_v8_eq _ _)).trans ?_, (h1.trans (val_main_v32_eq _ _ _ _ _)).trans ?_, (h2.trans (val_main_v13_eq _ _ _)).trans ?_,
    (h3.trans (val_main_v19_eq _ _ _)).trans ?_, hargs⟩ <;> beta_reduce
  · rw [final_5 m c, a0, a1]
    funext y
    obtain ⟨i, j, rfl⟩ : ∃ (i : Fin 1024) (j : Fin 896), y = ix2 i j := ⟨y 0, y 1, by blk_ext⟩
    exact grad_at _ _ i j
  · rw [final_6 m c, a0, a1, a2, a3, a4]
    funext y
    obtain ⟨i, j, rfl⟩ : ∃ (i : Fin 1024) (j : Fin 896), y = ix2 i j := ⟨y 0, y 1, by blk_ext⟩
    exact step_at _ _ _ _ _ i j
  · rw [final_7 m c, a0, a1, a3]
    funext y
    obtain ⟨i, j, rfl⟩ : ∃ (i : Fin 1024) (j : Fin 896), y = ix2 i j := ⟨y 0, y 1, by blk_ext⟩
    exact first_at _ _ _ i j
  · rw [final_8 m c, a0, a1, a4]
    funext y
    obtain ⟨i, j, rfl⟩ : ∃ (i : Fin 1024) (j : Fin 896), y = ix2 i j := ⟨y 0, y 1, by blk_ext⟩
    exact second_at _ _ _ i j

end Cert.Proof.UpdateClaims

end
-- ==== Proof.PairSum.Table.lean ====
/- The index table of the pair sum's call, which is zero, before and after idealization. -/
module

public import proofs.«01_k».proof.Proof.Gen.PairSum.Frame
public import proofs.«01_k».proof.Proof.Gen.PairSumIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.PairSum

open Cert.PairSum.Gen

variable {F : FTy → Type} [FloatOps F] (m : (ℓ : Loc nD τ sig) → Buf (Elt F) ℓ)

/-- The table of the call holds the index zero. -/
theorem table : (V m (0 : Dev nD) main_v2 : IVec S1 32) = fun _ => 0#32 := by
  unfold V
  after_results_simp
  rfl
/-- So the window that reads it starts at the block zero. -/
theorem start (i : grid0.Coords) : cc0_transform_0 inb_S1_S1_0 numel1_S1 (tbl m) i = ![(i 1).val, 2 * (i 0).val] := by
  have w : ((tbl m).at 0 (Rect.unit (s := S1) ![0] S1.size inb_S1_S1_0) numel1_S1 : BitVec 32) = 0#32 := congrFun (table m) _
  show ![(BitVec.ofNat 32 (i 1).val).toNat, (Scalar.addi (Scalar.muli 2#32 (BitVec.ofNat 32 (i 0).val)) ((tbl m).at 0 (Rect.unit (s := S1) ![0] S1.size inb_S1_S1_0) numel1_S1 : BitVec 32)).toNat] = _
  rw [w]
  exact (by decide +kernel : ∀ i : grid0.Coords, ![(BitVec.ofNat 32 (i 1).val).toNat, (Scalar.addi (Scalar.muli 2#32 (BitVec.ofNat 32 (i 0).val)) (0#32)).toNat] = ![(i 1).val, 2 * (i 0).val]) i
/-- Its blocks lie inside the array. -/
theorem ok : Ok m := by
  unfold Ok ok0
  intro i
  rw [start m i]
  exact (by decide +kernel : ∀ i : grid0.Coords, ∃ h : (∀ a, ((![(i 1).val, 2 * (i 0).val] : Fin _ → ℕ) a + 1) * S1024x896.size a ≤ S1024x7168.size a), EltTy.bits .bf16 = 32 ∨ (Rect.block (s := S1024x7168) S1024x896.size ![(i 1).val, 2 * (i 0).val] h).WholeWords (EltTy.packing .bf16)) i

end Cert.PairSum

namespace Cert.PairSumIdeal

open Cert.PairSumIdeal.Gen

variable {F : FTy → Type} [FloatOps F] (m : (ℓ : Loc nD τ sig) → Buf (Elt F) ℓ)

/-- The table of the call holds the index zero. -/
theorem table : (V m (0 : Dev nD) main_v2 : IVec S1 32) = fun _ => 0#32 := by
  unfold V
  after_results_simp
  rfl
/-- So the window that reads it starts at the block zero. -/
theorem start (i : grid0.Coords) : cc0_transform_0 inb_S1_S1_0 numel1_S1 (tbl m) i = ![(i 1).val, 2 * (i 0).val] := by
  have w : ((tbl m).at 0 (Rect.unit (s := S1) ![0] S1.size inb_S1_S1_0) numel1_S1 : BitVec 32) = 0#32 := congrFun (table m) _
  show ![(BitVec.ofNat 32 (i 1).val).toNat, (Scalar.addi (Scalar.muli 2#32 (BitVec.ofNat 32 (i 0).val)) ((tbl m).at 0 (Rect.unit (s := S1) ![0] S1.size inb_S1_S1_0) numel1_S1 : BitVec 32)).toNat] = _
  rw [w]
  exact (by decide +kernel : ∀ i : grid0.Coords, ![(BitVec.ofNat 32 (i 1).val).toNat, (Scalar.addi (Scalar.muli 2#32 (BitVec.ofNat 32 (i 0).val)) (0#32)).toNat] = ![(i 1).val, 2 * (i 0).val]) i
/-- Its blocks lie inside the array. -/
theorem ok : Ok m := by
  unfold Ok ok0
  intro i
  rw [start m i]
  exact (by decide +kernel : ∀ i : grid0.Coords, ∃ h : (∀ a, ((![(i 1).val, 2 * (i 0).val] : Fin _ → ℕ) a + 1) * S1024x896.size a ≤ S1024x7168.size a), EltTy.bits .bf16 = 32 ∨ (Rect.block (s := S1024x7168) S1024x896.size ![(i 1).val, 2 * (i 0).val] h).WholeWords (EltTy.packing .bf16)) i

end Cert.PairSumIdeal

end
-- ==== Proof.PairSum.Values.lean ====
/- What the pair sum's call, and its reference, compute: a device's part of the weight gradient plus the part it received. -/
module

public import proofs.«01_k».proof.Proof.PairSum.Table
public import proofs.«01_k».proof.Proof.Gen.PairSumRefIdeal.Run
public import proofs.«01_k».proof.Proof.Gen.PairSumRefIdeal.Read

@[expose] public section

set_option maxRecDepth 16384

noncomputable section

open Idealize.ShloMosaic Idealize.ShloMosaic.TcCoe Idealize.SL.Sem
open Idealize.ShloMosaic.Pipeline (Dat)

namespace Cert.PairSumSpec

/-- The sum: the even column blocks of the gradient, with the blocks received added. -/
def sum (g : FVec Ideal ⟨2, ![1024, 7168]⟩ .f32) (r : FVec Ideal ⟨3, ![4, 1024, 896]⟩ .f32) (k : Fin 4) (i : Fin 1024) (j : Fin 896) : EReal :=
  g (ix2 i ⟨2 * k.val * 896 + j.val, by omega⟩) + r (ix3 k i j)

end Cert.PairSumSpec

namespace Cert.PairSumIdeal.RefValue

open Cert.PairSumIdeal Cert.PairSumIdeal.Gen Cert.PairSumSpec

variable (m : (ℓ : Loc nD τ sig) → Buf (Elt Ideal) ℓ) (c : Dev nD)

abbrev G : FVec Ideal S1024x7168 .f32 := m ((c : Thread nD τ).loc main_arg0)
abbrev R : FVec Ideal S4x1024x896 .f32 := m ((c : Thread nD τ).loc main_arg1)
/-- The pipeline, its index table being zero. -/
abbrev cfgZ : Pipeline.Cfg sig Λ₀ := cfgM m (ok m)
/-- The windows that read no table. -/
abbrev inW : Pipeline.Window sig grid0 :=
  Pipeline.Window.ofSpec (Memref.whole main_v1) S1x1024x896.size cc0_transform_1 reads0_1 false false 2 stage0_1 sem0_1
    hrank0 hreads0_1 hinb0_1 nbuf0_1 (Memref.isWhole_whole _) hwx0_1 hstage0_1
abbrev outW : Pipeline.Window sig grid0 :=
  Pipeline.Window.ofSpec (Memref.whole main_v3) S1x1024x896.size cc0_transform_2 reads0_2 true false 2 stage0_2 sem0_2
    hrank0 hreads0_2 hinb0_2 nbuf0_2 (Memref.isWhole_whole _) hwx0_2 hstage0_2
theorem covers : outW.Covers := by decide +kernel

attribute [local irreducible] tbl

/-- The block a grid point works on. -/
def bk (t : Fin grid0.N) : Fin 4 := ⟨t.val, t.isLt⟩
theorem coords : ∀ t : Fin grid0.N, (grid0.coords t 0).val = t.val ∧ (grid0.coords t 1).val = 0 := by decide +kernel
theorem idx0 (t : Fin grid0.N) : ((cfgZ m).win 0).index t = ![0, 2 * (bk t).val] := by
  refine (start m (grid0.coords t)).trans ?_
  rw [(coords t).1, (coords t).2]; rfl
theorem idx : ∀ t : Fin grid0.N, inW.index t = ![(bk t).val, 0, 0] ∧ outW.index t = ![(bk t).val, 0, 0] := by decide +kernel

/-- Where an entry of a block lies in its array. -/
theorem emb_g (t : Fin grid0.N) (i : Fin 1024) (j : Fin 896) :
    (((cfgZ m).win 0).blk t).view.emb (ix2 i j) = (ix2 i ⟨2 * (bk t).val * 896 + j.val, by omega⟩ : S1024x7168.Idx) := by
  funext e
  refine Fin.ext ((Pipeline.Window.rect_emb_val ((cfgZ m).win 0) t (ix2 i j) e rfl).trans ?_)
  rw [idx0 m t]
  revert e
  exact fun (e : Fin 2) => by fin_cases e <;> blk_simp <;> rfl
theorem emb_r (t : Fin grid0.N) (e : Fin 1) (i : Fin 1024) (j : Fin 896) : (inW.blk t).view.emb (ix3 e i j) = (ix3 (bk t) i j : S4x1024x896.Idx) := by
  blk_ext [idx t]
theorem emb_o (t : Fin grid0.N) (e : Fin 1) (i : Fin 1024) (j : Fin 896) : (outW.blk t).view.emb (ix3 e i j) = (ix3 (bk t) i j : S4x1024x896.Idx) := by
  blk_ext [idx t]

theorem rows_g : V m c main_v0 = truncf (F := Ideal) .bf16 (G m c) bitsLt_bf16_f32 := by
  unfold V
  after_results_simp
theorem rows_r : V m c main_v1 = truncf (F := Ideal) .bf16 (R m c) bitsLt_bf16_f32 := by
  unfold V
  after_results_simp
theorem read_g (t : Fin grid0.N) (i : Fin 1024) (j : Fin 896) :
    (iblk m (ok m) c 0 t : FVec Ideal S1024x896 .bf16) (ix2 i j) = G m c (ix2 i ⟨2 * (bk t).val * 896 + j.val, by omega⟩) := by
  show V m c main_v0 _ = _
  rw [rows_g]
  exact congrArg (G m c) (emb_g m t i j)
theorem read_r (t : Fin grid0.N) (e : Fin 1) (i : Fin 1024) (j : Fin 896) :
    (iblk m (ok m) c 1 t : FVec Ideal S1x1024x896 .bf16) (ix3 e i j) = R m c (ix3 (bk t) i j) := by
  show V m c main_v1 _ = _
  rw [rows_r]
  exact congrArg (R m c) (emb_r t e i j)

/-- The block a grid point writes. -/
theorem block_at (t : Fin grid0.N) (e : Fin 1) (i : Fin 1024) (j : Fin 896) :
    (k0_pay1 (F := Ideal) (iblk m (ok m) c 0 t) (iblk m (ok m) c 1 t) : FVec Ideal S1x1024x896 .bf16) (ix3 e i j) = sum (G m c) (R m c) (bk t) i j := by
  pointwise [k0_pay1, sum]
  simp only [read_g, read_r]

/-- What a grid point leaves in the result's buffer. -/
theorem left (t : Fin grid0.N) : outsAt0 m (ok m) c t = k0_pay1 (F := Ideal) (iblk m (ok m) c 0 t) (iblk m (ok m) c 1 t) := by
  unfold outsAt0
  frame_out
  exact congrArg₂ (k0_pay1 (F := Ideal)) ((hs0_0 m (ok m) t).read_unread _) ((hs0_1 m (ok m) t).read_unread _)
/-- So it leaves its block of the sum. -/
theorem left_at (t : Fin grid0.N) (y : S1x1024x896.Idx) : (outsAt0 m (ok m) c t : FVec Ideal S1x1024x896 .bf16) y
    = (fun i : S4x1024x896.Idx => sum (G m c) (R m c) (i 0) (i 1) (i 2)) ((outW.blk t).view.emb y) := by
  obtain ⟨e, a, b, rfl⟩ : ∃ (e : Fin 1) (a : Fin 1024) (b : Fin 896), y = ix3 e a b := ⟨y 0, y 1, y 2, by blk_ext⟩
  rw [emb_o t e a b]
  exact (congrFun (left m c t) _).trans (block_at m c t e a b)

attribute [local irreducible] outsAt0 Cert.PairSumSpec.sum

/-- The array that the kernel's run leaves. -/
theorem final : (dats m (ok m) 0 c).arrAt 2 (cfgZ m).N = fun i : S4x1024x896.Idx => sum (G m c) (R m c) (i 0) (i 1) (i 2) := by
  refine (dats m (ok m) 0 c).arrAt_eq_of_emb 2 _ (fun t hf y => ?_) (covers.cover _ (Memref.isWhole_whole _))
  rw [after0_2]
  exact left_at m c t y

end Cert.PairSumIdeal.RefValue

namespace Cert.PairSumRefIdeal.RefValue

open Cert.PairSumRefIdeal Cert.PairSumRefIdeal.Gen Cert.PairSumRefIdeal.Read Cert.PairSumSpec

variable (x0 : FVec Ideal S1024x7168 .f32) (x1 : FVec Ideal S4x1024x896 .f32)

/-- The reference's sum. -/
theorem sum_at (k : Fin 4) (i : Fin 1024) (j : Fin 896) : (val_main_v4 (F := Ideal) x0 x1 : FVec Ideal S4x1024x896 .bf16) (ix3 k i j) = sum x0 x1 k i j := by
  pointwise [val_main_v4, val_main_v3, val_main_v2, val_main_v1, val_main_v0, Host.slice, sum]

end Cert.PairSumRefIdeal.RefValue

end
-- ==== Proof.PairSum.Claims.lean ====
/- The claims about the pair sum: the two frames, the reference's frame, and the values. -/
module

public import proofs.«01_k».proof.Defs
public import proofs.«01_k».proof.Proof.PairSum.Values
public import proofs.«01_k».proof.Proof.Gen.PairSum.Frame
public import proofs.«01_k».proof.Proof.Gen.PairSumIdeal.Frame
public import Idealize.ShloMosaic.Lib.Claim

@[expose] public section

set_option maxRecDepth 16384

noncomputable section

open Idealize.ShloMosaic Idealize.ShloMosaic.TcCoe Idealize.SL.Sem

namespace Cert.Proof.PairSumClaims

open Cert.PairSumSpec Cert.PairSumIdeal.RefValue Cert.PairSumRefIdeal.RefValue Cert.PairSumRefIdeal.Read

/-- The kernel's frame. -/
theorem frame : Cert.quiescent_PairSum := fun m ρ _ => Cert.PairSum.Gen.frame m ρ (Cert.PairSum.ok m)
/-- The idealized kernel's frame. -/
theorem frame_ideal : Cert.quiescent_PairSumIdeal := fun m ρ _ => Cert.PairSumIdeal.Gen.frame m ρ (Cert.PairSumIdeal.ok m)
/-- The reference's frame: its run, read at the arguments; it has no semaphore. -/
theorem frame_ref : Cert.quiescent_PairSumRefIdeal := fun m ρ _ =>
  (θ_run Cert.PairSumRefIdeal.defs _ _).mono (fun r h => ⟨fun c => (h c).2, sem_eq_zero_of_no_sems (by decide) r.2⟩)
    (Cert.PairSumRefIdeal.Value.run (F := Ideal) m ρ)
/-- The idealized kernel is the kernel with nothing rewritten. -/
theorem preserves : Cert.preserves_PairSum_PairSumIdeal := trivial

attribute [local irreducible] Cert.PairSumIdeal.Gen.tbl

set_option maxHeartbeats 2000000 in
/-- The sum is the reference's. -/
theorem algebraic : Cert.algebraic_PairSumIdeal_PairSumRefIdeal := by
  intro m ρ m' ρ' _ hagree
  refine ⟨fun c => (Cert.PairSumIdeal.Gen.dats m (Cert.PairSumIdeal.ok m) 0 c).arrAt 2 (cfgZ m).N,
    (θ_run _ _ _).mono (fun r h c => ⟨(h.1 c).1 2, h.2 c⟩)
      (θ_run_and (Cert.PairSumIdeal.Gen.run_main m ρ (Cert.PairSumIdeal.ok m)) (Cert.PairSumIdeal.Gen.unchanged m ρ (Cert.PairSumIdeal.ok m))), ?_⟩
  refine (θ_run Cert.PairSumRefIdeal.defs _ _).mono (fun r h c => ?_) (Cert.PairSumRefIdeal.Value.run (F := Ideal) m' ρ')
  obtain ⟨h0, hargs⟩ := h c
  obtain ⟨a0, a1⟩ := hagree c
  refine ⟨(h0.trans (val_main_v4_eq _ _)).trans ?_, hargs⟩
  beta_reduce
  rw [final m c, a0, a1]
  funext i
  obtain ⟨k, a, b, rfl⟩ : ∃ (k : Fin 4) (a : Fin 1024) (b : Fin 896), i = ix3 k a b := ⟨i 0, i 1, i 2, by blk_ext⟩
  exact sum_at _ _ k a b

end Cert.Proof.PairSumClaims

end
-- ==== Proof.Projection.Run.lean ====
/-
  The input projection's kernel runs to its end and leaves, in each of its three results, the products of the rows with
  the weights' column blocks. The grid has seven points, one for each column block: the first two points store into
  the first result, the next three into the second and the last two into the third. A result's buffer keeps its last
  block through the points that store into another result, and the last point writes it back again.
-/
module

public import proofs.«01_k».proof.Proof.Gen.ProjectionIdeal.Frame
public import proofs.«01_k».proof.Proof.Gen.ProjectionIdeal.Skeleton
public import Idealize.ShloMosaic.Lib.WritesUnit

@[expose] public section

set_option maxRecDepth 16384

noncomputable section

namespace Cert.ProjectionIdeal.Hand

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one core. -/
local notation "𝕄" => MT nD τ sig Unit (Elt F) ℕ (UR sig nD τ) ℕ

variable (m : (ℓ : Loc nD τ sig) → Buf (Elt F) ℓ) (ρ : Dev nD → PrngReg)

/-! ## Which point is which -/

theorem lt_points (t : Fin cfg0.N) : t.val < 7 := lt_of_lt_of_eq t.isLt N_0
/-- Point `n` of the grid. -/
def pt (n : ℕ) : Fin cfg0.N := ⟨n % 7, lt_of_lt_of_eq (Nat.mod_lt n (by decide)) N_0.symm⟩

theorem cond_first : ∀ t : Fin cfg0.N, k0_cond1 (grid0.coords t) = 1#1 ↔ t.val < 2 := (by decide +kernel : ∀ t : Fin grid0.N, _)
theorem cond_second : ∀ t : Fin cfg0.N, k0_cond2 (grid0.coords t) = 1#1 ↔ 2 ≤ t.val ∧ t.val < 5 := (by decide +kernel : ∀ t : Fin grid0.N, _)
theorem cond_third : ∀ t : Fin cfg0.N, k0_cond3 (grid0.coords t) = 1#1 ↔ 5 ≤ t.val := (by decide +kernel : ∀ t : Fin grid0.N, _)

/-- Where a result's buffer is left alone. -/
theorem idle_first : ∀ t : Fin cfg0.N, cfg0.idle 2 (cfg0.grid.coords t) = !decide (t.val < 2) :=
  (by decide +kernel : ∀ t : Fin grid0.N, idle0 2 (grid0.coords t) = !decide (t.val < 2))
theorem idle_second : ∀ t : Fin cfg0.N, cfg0.idle 3 (cfg0.grid.coords t) = !decide (2 ≤ t.val ∧ t.val < 5) :=
  (by decide +kernel : ∀ t : Fin grid0.N, idle0 3 (grid0.coords t) = !decide (2 ≤ t.val ∧ t.val < 5))
theorem idle_third : ∀ t : Fin cfg0.N, cfg0.idle 4 (cfg0.grid.coords t) = !decide (5 ≤ t.val) :=
  (by decide +kernel : ∀ t : Fin grid0.N, idle0 4 (grid0.coords t) = !decide (5 ≤ t.val))
/-- Where it is written back. -/
theorem flush_first : ∀ t : Fin cfg0.N, (cfg0.win 2).flush t = decide (t.val = 0 ∨ t.val = 6) :=
  (by decide +kernel : ∀ t : Fin grid0.N, win0_2.flush t = decide (t.val = 0 ∨ t.val = 6))
theorem flush_second : ∀ t : Fin cfg0.N, (cfg0.win 3).flush t = decide (t.val = 2 ∨ t.val = 3 ∨ t.val = 6) :=
  (by decide +kernel : ∀ t : Fin grid0.N, win0_3.flush t = decide (t.val = 2 ∨ t.val = 3 ∨ t.val = 6))
theorem flush_third : ∀ t : Fin cfg0.N, (cfg0.win 4).flush t = decide (t.val = 5 ∨ t.val = 6) :=
  (by decide +kernel : ∀ t : Fin grid0.N, win0_4.flush t = decide (t.val = 5 ∨ t.val = 6))

/-! ## One point's body -/

section whole

variable {Val : EltTy → Type} {sg : RefSig} {κ : Kind} {sp : Space} {s : Shape} {e : EltTy}

/-- A load of the rectangle that is the whole view reads what the view reads. -/
theorem load_all (v : View sg κ sp s e) (f : v.ty.Contents Val) {off : Fin s.rank → ℕ} (inb : ∀ a, off a + s.size a ≤ s.size a)
    (h : ∀ a, off a = 0) : v.readAt Val (Rect.unit off s.size inb).toLoadRect f = v.read Val f := by
  funext x
  rw [View.readAt_apply]
  congr 1
  funext a
  apply Fin.ext
  show off a + 1 * (x a).val = (x a).val
  rw [h a]; omega

/-- After a store of the rectangle that is the whole view, the view reads what was stored. -/
theorem read_stored (v : View sg κ sp s e) (f : v.ty.Contents Val) {off : Fin s.rank → ℕ} (inb : ∀ a, off a + s.size a ≤ s.size a)
    (h : ∀ a, off a = 0) (w : s.Idx → Val e) (L : List (View.Piece Val s e)) :
    v.read Val (v.writes Val f ((⟨Rect.unit off s.size inb, w⟩ : View.Piece Val s e) :: L)) = w := by
  funext y
  exact View.read_writes_cons_unit_of_mem v f inb w L y y rfl fun a => by rw [h a]; omega

end whole

set_option maxHeartbeats 2000000 in
/-- The first two points store the product into the first result's buffer. -/
theorem run_first (c : Dev nD) (i : grid0.Coords) (h1 : k0_cond1 i = 1#1) (h2 : ¬ k0_cond2 i = 1#1) (h3 : ¬ k0_cond3 i = 1#1)
    (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole)
    (arg5 : Memref sig .tc .vmem S2048x1024 .f32) (harg5 : arg5.IsWhole)
    (x : Vec F S2048x1024 .bf16) (w : Vec F S1024x1024 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) Set.univ
          (cc0_in_proj i arg1 harg1 arg2 harg2 arg3 harg3 arg4 harg4 arg5 harg5) K := by
  simp only [cc0_in_proj_eq_skeleton]; unfold cc0_in_proj_skel
  unfold owns
  iintro ⟨⟨%f1, %e1, H1⟩, ⟨%f2, %e2, H2⟩, ⟨%d, %f3, -, H3⟩, Hk⟩
  sl_exec (disch := first | exact h1 | exact h2 | exact h3)
  sl_step
  iapply Hk
  isplitl [H1]
  · iexists _; isplitr; swap; · iexact H1
    ipureintro; exact e1
  isplitl [H2]
  · iexists _; isplitr; swap; · iexact H2
    ipureintro; exact e2
  iexists _; isplitr; swap; · iexact H3
  ipureintro; rw [read_stored _ _ _ (by decide), load_all _ _ _ (by decide), load_all _ _ _ (by decide), e1, e2]

set_option maxHeartbeats 2000000 in
/-- The next three store it, narrowed, into the second's. -/
theorem run_second (c : Dev nD) (i : grid0.Coords) (h1 : ¬ k0_cond1 i = 1#1) (h2 : k0_cond2 i = 1#1) (h3 : ¬ k0_cond3 i = 1#1)
    (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole)
    (arg5 : Memref sig .tc .vmem S2048x1024 .f32) (harg5 : arg5.IsWhole)
    (x : Vec F S2048x1024 .bf16) (w : Vec F S1024x1024 .bf16) (K : PUnit → sProp 𝕄) :
    iprop(owns (c : Thread nD τ) arg1 fullShare x ∗ owns (c : Thread nD τ) arg2 fullShare w ∗ (∃ d, owns (c : Thread nD τ) arg4 fullShare d)
        ∗ (iprop(owns (c : Thread nD τ) arg1 fullShare x ∗ owns (c : Thread nD τ) arg2 fullShare w
            ∗ owns (c : Thread nD τ) arg4 fullShare (k0_pay2 x w)) -∗ K ⟨⟩))
      ⊢ wp frame (wpE (defs₀ (F := F)) Variants.none c none) Set.univ
          (cc0_in_proj i arg1 harg1 arg2 harg2 arg3 harg3 arg4 harg4 arg5 harg5) K := by
  simp only [cc0_in_proj_eq_skeleton]; unfold cc0_in_proj_skel
  unfold owns
  iintro ⟨⟨%f1, %e1, H1⟩, ⟨%f2, %e2, H2⟩, ⟨%d, %f3, -, H3⟩, Hk⟩
  sl_exec (disch := first | exact h1 | exact h2 | exact h3)
  sl_step
  iapply Hk
  isplitl [H1]
  · iexists _; isplitr; swap; · iexact H1
    ipureintro; exact e1
  isplitl [H2]
  · iexists _; isplitr; swap; · iexact H2
    ipureintro; exact e2
  iexists _; isplitr; swap; · iexact H3
  ipureintro; rw [read_stored _ _ _ (by decide), load_all _ _ _ (by decide), load_all _ _ _ (by decide), e1, e2]

set_option maxHeartbeats 2000000 in
/-- The last two store it into the third's. -/
theorem run_third (c : Dev nD) (i : grid0.Coords) (h1 : ¬ k0_cond1 i = 1#1) (h2 : ¬ k0_cond2 i = 1#1) (h3 : k0_cond3 i = 1#1)
    (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole)
    (arg5 : Memref sig .tc .vmem S2048x1024 .f32) (harg5 : arg5.IsWhole)
    (x : Vec F S2048x1024 .bf16) (w : Vec F S1024x1024 .bf16) (K : PUnit → sProp 𝕄) :
    iprop(owns (c : Thread nD τ) arg1 fullShare x ∗ owns (c : Thread nD τ) arg2 fullShare w ∗ (∃ d, owns (c : Thread nD τ) arg5 fullShare d)
        ∗ (iprop(owns (c : Thread nD τ) arg1 fullShare x ∗ owns (c : Thread nD τ) arg2 fullShare w
            ∗ owns (c : Thread nD τ) arg5 fullShare (k0_pay3 x w)) -∗ K ⟨⟩))
      ⊢ wp frame (wpE (defs₀ (F := F)) Variants.none c none) Set.univ
          (cc0_in_proj i arg1 harg1 arg2 harg2 arg3 harg3 arg4 harg4 arg5 harg5) K := by
  simp only [cc0_in_proj_eq_skeleton]; unfold cc0_in_proj_skel
  unfold owns
  iintro ⟨⟨%f1, %e1, H1⟩, ⟨%f2, %e2, H2⟩, ⟨%d, %f3, -, H3⟩, Hk⟩
  sl_exec (disch := first | exact h1 | exact h2 | exact h3)
  sl_step
  iapply Hk
  isplitl [H1]
  · iexists _; isplitr; swap; · iexact H1
    ipureintro; exact e1
  isplitl [H2]
  · iexists _; isplitr; swap; · iexact H2
    ipureintro; exact e2
  iexists _; isplitr; swap; · iexact H3
  ipureintro; rw [read_stored _ _ _ (by decide), load_all _ _ _ (by decide), load_all _ _ _ (by decide), e1, e2]

/-! ## What the buffers hold after each point -/

/-- The last point up to `t` that stores into the first, the second, the third result; the first such, before it. -/
def lastFirst (t : Fin cfg0.N) : Fin cfg0.N := pt (min t.val 1)
def lastSecond (t : Fin cfg0.N) : Fin cfg0.N := pt (max 2 (min t.val 4))

theorem lastFirst_live (t : Fin cfg0.N) (h : t.val < 2) : lastFirst t = t :=
  Fin.ext (by show min t.val 1 % 7 = t.val; omega)
theorem lastFirst_idle (t : Fin cfg0.N) (h : 1 ≤ t.val) : lastFirst t = pt 1 :=
  Fin.ext (by show min t.val 1 % 7 = 1 % 7; omega)
theorem lastSecond_live (t : Fin cfg0.N) (h : 2 ≤ t.val ∧ t.val < 5) : lastSecond t = t :=
  Fin.ext (by show max 2 (min t.val 4) % 7 = t.val; omega)
theorem lastSecond_idle (t : Fin cfg0.N) (h : 4 ≤ t.val) : lastSecond t = pt 4 :=
  Fin.ext (by show max 2 (min t.val 4) % 7 = 4 % 7; omega)

/-- The product that a point stores, as each result's buffer holds it. -/
def first (c : Dev nD) (t : Fin cfg0.N) : Vec F S2048x1024 .f32 := k0_pay1 (iblk m c 0 t) (iblk m c 1 t)
def second (c : Dev nD) (t : Fin cfg0.N) : Vec F S2048x1024 .bf16 := k0_pay2 (iblk m c 0 t) (iblk m c 1 t)
def third (c : Dev nD) (t : Fin cfg0.N) : Vec F S2048x1024 .f32 := k0_pay3 (iblk m c 0 t) (iblk m c 1 t)

/-- The proof data: the arrays as the region finds them, and what each point leaves in each staging buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => first m c (lastFirst t)
    | ⟨3, _⟩ => second m c (lastSecond t)
    | ⟨4, _⟩ => third m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = first m c (lastFirst t) := by dsimp only [dats]
theorem after0_3 (c : Dev nD) (t : Fin cfg0.N) : (dats m 0 c).after 3 t = second m c (lastSecond t) := by dsimp only [dats]
theorem after0_4 (c : Dev nD) (t : Fin cfg0.N) : (dats m 0 c).after 4 t = third m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The first result's buffer keeps its second block through the points that store into the others. -/
theorem kept_first (c : Dev nD) (d) : ∀ (n : ℕ) (t : Fin cfg0.N), t.val = n + 2 → (dats m 0 c).before 2 t d = first m c (pt 1) := by
  intro n
  induction n with
  | zero =>
    intro t ht
    rw [(dats m 0 c).before_of_pos 2 t (by omega) ((cfg0.win 2).fetch_out rfl t), flush_first, if_neg (by simp [ht])]
    unfold Dat.left
    rw [idle_first, decide_eq_true (by simp [ht])]
    show (dats m 0 c).after 2 _ = _
    rw [after0_2, lastFirst_idle _ (by show 1 ≤ t.val - 1; omega)]
  | succ n ih =>
    intro t ht
    have hlt := lt_points t
    rw [(dats m 0 c).before_of_pos 2 t (by omega) ((cfg0.win 2).fetch_out rfl t), flush_first, if_neg (by simp; omega)]
    unfold Dat.left
    rw [idle_first, decide_eq_false (by show ¬ t.val - 1 < 2; omega)]
    show (dats m 0 c).before 2 _ d = _
    exact ih _ (by show t.val - 1 = n + 2; omega)
/-- The second's keeps its third block. -/
theorem kept_second (c : Dev nD) (d) : ∀ (n : ℕ) (t : Fin cfg0.N), t.val = n + 5 → (dats m 0 c).before 3 t d = second m c (pt 4) := by
  intro n
  induction n with
  | zero =>
    intro t ht
    rw [(dats m 0 c).before_of_pos 3 t (by omega) ((cfg0.win 3).fetch_out rfl t), flush_second, if_neg (by simp [ht])]
    unfold Dat.left
    rw [idle_second, decide_eq_true (by simp [ht])]
    show (dats m 0 c).after 3 _ = _
    rw [after0_3, lastSecond_idle _ (by show 4 ≤ t.val - 1; omega)]
  | succ n ih =>
    intro t ht
    have hlt := lt_points t
    rw [(dats m 0 c).before_of_pos 3 t (by omega) ((cfg0.win 3).fetch_out rfl t), flush_second, if_neg (by simp; omega)]
    unfold Dat.left
    rw [idle_second, decide_eq_false (by show ¬ (2 ≤ t.val - 1 ∧ t.val - 1 < 5); omega)]
    show (dats m 0 c).before 3 _ d = _
    exact ih _ (by show t.val - 1 = n + 5; omega)

/-! ## One point -/

/-- The first result's buffer, left alone at a later point, holds what that point leaves. -/
theorem idle_leaves_first (c : Dev nD) (t : Fin cfg0.N) (h : 2 ≤ t.val) :
    (iprop(∃ d, owns (c : Thread nD τ) ((cfg0.win 2).stage (cfg0.slots t 2)) fullShare ((dats m 0 c).before 2 t d)) : sProp 𝕄)
      ⊢ (dats m 0 c).leavesExact 2 t := by
  have hlt := lt_points t
  by_cases h6 : t.val = 6
  · have hl : (dats m 0 c).leavesExact 2 t = owns (c : Thread nD τ) ((cfg0.win 2).stage (cfg0.slots t 2)) fullShare ((dats m 0 c).after 2 t) := by
      unfold Dat.leavesExact; rw [flush_first, decide_eq_true (Or.inr h6), idle_first, decide_eq_false (by omega)]; rfl
    rw [hl, after0_2, lastFirst_idle t (by omega)]
    iintro ⟨%d, H⟩
    rw [kept_first m c d (t.val - 2) t (by omega)]
    iexact H
  · rw [(dats m 0 c).leavesExact_idle 2 t (by rw [idle_first, decide_eq_false (by omega)]; rfl) (by rw [flush_first, decide_eq_false (by omega)])]
/-- So does the second's, before and after the points that store into it. -/
theorem idle_leaves_second (c : Dev nD) (t : Fin cfg0.N) (h : ¬ (2 ≤ t.val ∧ t.val < 5)) :
    (iprop(∃ d, owns (c : Thread nD τ) ((cfg0.win 3).stage (cfg0.slots t 3)) fullShare ((dats m 0 c).before 3 t d)) : sProp 𝕄)
      ⊢ (dats m 0 c).leavesExact 3 t := by
  have hlt := lt_points t
  by_cases h6 : t.val = 6
  · have hl : (dats m 0 c).leavesExact 3 t = owns (c : Thread nD τ) ((cfg0.win 3).stage (cfg0.slots t 3)) fullShare ((dats m 0 c).after 3 t) := by
      unfold Dat.leavesExact; rw [flush_second, decide_eq_true (Or.inr (Or.inr h6)), idle_second, decide_eq_false h]; rfl
    rw [hl, after0_3, lastSecond_idle t (by omega)]
    iintro ⟨%d, H⟩
    rw [kept_second m c d (t.val - 5) t (by omega)]
    iexact H
  · rw [(dats m 0 c).leavesExact_idle 3 t (by rw [idle_second, decide_eq_false h]; rfl) (by rw [flush_second, decide_eq_false (by omega)])]
/-- And the third's. -/
theorem idle_leaves_third (c : Dev nD) (t : Fin cfg0.N) (h : t.val < 5) :
    (iprop(∃ d, owns (c : Thread nD τ) ((cfg0.win 4).stage (cfg0.slots t 4)) fullShare ((dats m 0 c).before 4 t d)) : sProp 𝕄)
      ⊢ (dats m 0 c).leavesExact 4 t := by
  rw [(dats m 0 c).leavesExact_idle 4 t (by rw [idle_third, decide_eq_false (by omega)]; rfl) (by rw [flush_third, decide_eq_false (by omega)])]
/-- A buffer stored into holds what the point leaves. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ (dats m 0 c).leavesExact 2 t ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1]
  rw [show (dats m 0 c).Φ t.succ = (dats m 0 c).Φ t.castSucc from rfl,
    show (dats m 0 c).owesAt () t.succ = (dats m 0 c).owesAt () t.castSucc from rfl]
  have hlt := lt_points t
  by_cases h1 : t.val < 2
  · rw [leaves_live m c 2 t (by rw [idle_first, decide_eq_true h1]; rfl), after0_2, lastFirst_live t h1]
    iintro ⟨HΦ, Ho, ⟨%d0, H0⟩, ⟨%d1, H1⟩, ⟨%d2, H2⟩, H3, H4⟩
    ihave H3 := (idle_leaves_second m c t (by omega)) $$ H3
    ihave H4 := (idle_leaves_third m c t (by omega)) $$ H4
    iapply (run_first c (grid0.coords t) ((cond_first t).mpr h1)
      (fun h => by have := (cond_second t).mp h; omega) (fun h => by have := (cond_third t).mp h; omega)
      _ _ _ _ _ _ _ _ _ _ (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    isplitl [H3]; · iexact H3
    iexact H4
  by_cases h2 : t.val < 5
  · rw [leaves_live m c 3 t (by rw [idle_second, decide_eq_true ⟨by omega, h2⟩]; rfl), after0_3, lastSecond_live t ⟨by omega, h2⟩]
    iintro ⟨HΦ, Ho, ⟨%d0, H0⟩, ⟨%d1, H1⟩, H2, ⟨%d3, H3⟩, H4⟩
    ihave H2 := (idle_leaves_first m c t (by omega)) $$ H2
    ihave H4 := (idle_leaves_third m c t (by omega)) $$ H4
    iapply (run_second c (grid0.coords t) (fun h => h1 ((cond_first t).mp h))
      ((cond_second t).mpr ⟨by omega, h2⟩) (fun h => by have := (cond_third t).mp h; omega)
      _ _ _ _ _ _ _ _ _ _ (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact H4
  · rw [leaves_live m c 4 t (by rw [idle_third, decide_eq_true (by omega)]; rfl), after0_4]
    iintro ⟨HΦ, Ho, ⟨%d0, H0⟩, ⟨%d1, H1⟩, H2, H3, ⟨%d4, H4⟩⟩
    ihave H2 := (idle_leaves_first m c t (by omega)) $$ H2
    ihave H3 := (idle_leaves_second m c t (by omega)) $$ H3
    iapply (run_third c (grid0.coords t) (fun h => h1 ((cond_first t).mp h))
      (fun h => by have := (cond_second t).mp h; omega) ((cond_third t).mpr (by omega))
      _ _ _ _ _ _ _ _ _ _ (iblk m c 0 t) (iblk m c 1 t) _)
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-- It runs to its end, its arguments end unchanged, and every semaphore counter reads zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_kept m h.1, h.2⟩) (run_main m ρ)

/-- The three results after the run are the arrays of the output windows after the last point. -/
theorem run_arrays : θ_run defs (onTc (τ := τ) (main (F := F))) ⟨m, fun _ => 0, ρ⟩ (fun r => ∀ c : Dev nD,
      r.2.mem ((c.tc : Thread nD τ).loc main_v3_0) = (dats m 0 c).arrAt 2 cfg0.N
      ∧ r.2.mem ((c.tc : Thread nD τ).loc main_v3_1) = (dats m 0 c).arrAt 3 cfg0.N
      ∧ r.2.mem ((c.tc : Thread nD τ).loc main_v3_2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.1 c).1 3, (h.1 c).1 4, args_kept m h.1 c⟩) (run_main m ρ)

end Cert.ProjectionIdeal.Hand

end
-- ==== Proof.Projection.Values.lean ====
/- What the input projection, and its reference, compute. -/
module

public import proofs.«01_k».proof.Proof.Projection.Run
public import proofs.«01_k».proof.Proof.Gen.ProjectionRefIdeal.Run
public import proofs.«01_k».proof.Proof.Gen.ProjectionRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjectionSpec

/-- The projection: the rows times the weights. -/
def proj (h : FVec Ideal ⟨2, ![2048, 1024]⟩ .f32) (w : FVec Ideal ⟨3, ![1, 1024, 7168]⟩ .f32) (r : Fin 2048) (j : Fin 7168) : EReal :=
  ∑ k : Fin 1024, h (ix2 r k) * w (ix3 0 k j)
/-- The columns of the three results: the first 2048, the next 3072, the last 2048. -/
def colA (j : Fin 2048) : Fin 7168 := ⟨j.val, by omega⟩
def colB (j : Fin 3072) : Fin 7168 := ⟨2048 + j.val, by omega⟩
def colC (j : Fin 2048) : Fin 7168 := ⟨5120 + j.val, by omega⟩

end Cert.ProjectionSpec

namespace Cert.ProjectionIdeal.RefValue

open Cert.ProjectionIdeal Cert.ProjectionIdeal.Gen Cert.ProjectionIdeal.Hand Cert.ProjectionSpec

variable (m : (ℓ : Loc nD τ sig) → Buf (Elt Ideal) ℓ) (c : Dev nD)

abbrev H : FVec Ideal S2048x1024 .f32 := m ((c : Thread nD τ).loc main_arg0)
abbrev Wt : FVec Ideal S1x1024x7168 .f32 := m ((c : Thread nD τ).loc main_arg1)

/-- Column `j` of the column block a point works on. -/
def col (t : Fin cfg0.N) (j : Fin 1024) : Fin 7168 := ⟨t.val * 1024 + j.val, by have := lt_points t; omega⟩

/-- Every window's block index at every grid point. -/
theorem idx : ∀ t : Fin cfg0.N, win0_0.index t = ![0, 0] ∧ win0_1.index t = ![0, t.val] ∧ win0_2.index t = ![0, (lastFirst t).val]
    ∧ win0_3.index t = ![0, (lastSecond t).val - 2] ∧ win0_4.index t = ![0, t.val - 5] :=
  (by decide +kernel : ∀ t : Fin grid0.N, _)

theorem read_h (t : Fin cfg0.N) (r : Fin 2048) (k : Fin 1024) : (iblk m c 0 t : FVec Ideal S2048x1024 .bf16) (ix2 r k) = H m c (ix2 r k) := by
  blk_simp [iblk, V, idx t]
  entry_read
  pointwise
  blk_ext [idx t]
theorem read_w (t : Fin cfg0.N) (k j : Fin 1024) : (iblk m c 1 t : FVec Ideal S1024x1024 .bf16) (ix2 k j) = Wt m c (ix3 0 k (col t j)) := by
  blk_simp [iblk, V, idx t]
  entry_read
  rw [show ((View.whole main_v2).slice (win0_1.rect t)).emb (ix2 k j) = (ix2 k (col t j) : S1024x7168.Idx) from by blk_ext [idx t, col]]
  pointwise

/-- The block a grid point stores, in each of the three results. -/
theorem first_at (t : Fin cfg0.N) (r : Fin 2048) (j : Fin 1024) : first m c t (ix2 r j) = proj (H m c) (Wt m c) r (col t j) := by
  pointwise [first, k0_pay1, proj]
  simp only [read_h, read_w]
theorem second_at (t : Fin cfg0.N) (r : Fin 2048) (j : Fin 1024) : second m c t (ix2 r j) = proj (H m c) (Wt m c) r (col t j) := by
  pointwise [second, k0_pay2, proj]
  simp only [read_h, read_w]
theorem third_at (t : Fin cfg0.N) (r : Fin 2048) (j : Fin 1024) : third m c t (ix2 r j) = proj (H m c) (Wt m c) r (col t j) := by
  pointwise [third, k0_pay3, proj]
  simp only [read_h, read_w]

/-- The three arrays that the kernel's run leaves. -/
theorem final_first : (dats m 0 c).arrAt 2 cfg0.N = fun i => proj (H m c) (Wt m c) (i 0) (colA (i 1)) := by
  refine (dats m 0 c).arrAt_eq_of_covers 2 _ (by decide +kernel) fun t hf y => ?_
  obtain ⟨a, b, rfl⟩ : ∃ (a : Fin 2048) (b : Fin 1024), y = ix2 a b := ⟨y 0, y 1, by blk_ext⟩
  have hl : (lastFirst t).val < 2 := by show min t.val 1 % 7 < 2; omega
  blk_simp
  rw [after0_2, show (win0_2.blk t).view.emb (ix2 a b) = ix2 a ⟨(lastFirst t).val * 1024 + b.val, by omega⟩ by blk_ext [idx t]]
  exact first_at m c (lastFirst t) a b
theorem final_second : (dats m 0 c).arrAt 3 cfg0.N = fun i => proj (H m c) (Wt m c) (i 0) (colB (i 1)) := by
  refine (dats m 0 c).arrAt_eq_of_covers 3 _ (by decide +kernel) fun t hf y => ?_
  obtain ⟨a, b, rfl⟩ : ∃ (a : Fin 2048) (b : Fin 1024), y = ix2 a b := ⟨y 0, y 1, by blk_ext⟩
  have hl : 2 ≤ (lastSecond t).val ∧ (lastSecond t).val < 5 := by show 2 ≤ max 2 (min t.val 4) % 7 ∧ max 2 (min t.val 4) % 7 < 5; omega
  blk_simp
  rw [after0_3, show (win0_3.blk t).view.emb (ix2 a b) = ix2 a ⟨((lastSecond t).val - 2) * 1024 + b.val, by omega⟩ by blk_ext [idx t]]
  refine (second_at m c (lastSecond t) a b).trans (congrArg (proj (H m c) (Wt m c) a) (Fin.ext ?_))
  show (lastSecond t).val * 1024 + b.val = 2048 + (((lastSecond t).val - 2) * 1024 + b.val)
  omega
theorem final_third : (dats m 0 c).arrAt 4 cfg0.N = fun i => proj (H m c) (Wt m c) (i 0) (colC (i 1)) := by
  refine (dats m 0 c).arrAt_eq_of_covers 4 _ (by decide +kernel) fun t hf y => ?_
  obtain ⟨a, b, rfl⟩ : ∃ (a : Fin 2048) (b : Fin 1024), y = ix2 a b := ⟨y 0, y 1, by blk_ext⟩
  rw [flush_third] at hf
  have hl := of_decide_eq_true hf
  blk_simp
  rw [after0_4, show (win0_4.blk t).view.emb (ix2 a b) = ix2 a ⟨(t.val - 5) * 1024 + b.val, by omega⟩ by blk_ext [idx t]]
  refine (third_at m c t a b).trans (congrArg (proj (H m c) (Wt m c) a) (Fin.ext ?_))
  show t.val * 1024 + b.val = 5120 + ((t.val - 5) * 1024 + b.val)
  omega

end Cert.ProjectionIdeal.RefValue

namespace Cert.ProjectionRefIdeal.RefValue

open Cert.ProjectionRefIdeal Cert.ProjectionRefIdeal.Gen Cert.ProjectionRefIdeal.Read Cert.ProjectionSpec

variable (h : FVec Ideal ⟨2, ![2048, 1024]⟩ .f32) (w : FVec Ideal ⟨3, ![1, 1024, 7168]⟩ .f32) (r : Fin 2048)

/-- The reference's three arrays. -/
theorem first_at (j : Fin 2048) : val_main_v2 (F := Ideal) h w (ix2 r j) = proj h w r (colA j) := by
  pointwise [val_main_v2, val_main_v1, val_main_v0, proj, colA]
theorem second_at (j : Fin 3072) : val_main_v4 (F := Ideal) h w (ix2 r j) = proj h w r (colB j) := by
  pointwise [val_main_v4, val_main_v3, val_main_v1, val_main_v0, proj, colB]
theorem third_at (j : Fin 2048) : val_main_v5 (F := Ideal) h w (ix2 r j) = proj h w r (colC j) := by
  pointwise [val_main_v5, val_main_v1, val_main_v0, proj, colC]

end Cert.ProjectionRefIdeal.RefValue

end
-- ==== Proof.Projection.Same.lean ====
/-
  The input projection read over machine numbers is the same program text as the one read over
  the extended reals, so its run is the same run.
-/
module

public import proofs.«01_k».proof.Proof.Projection.Run
public import proofs.«01_k».proof.Proof.Gen.Projection

@[expose] public section

noncomputable section

namespace Cert.Projection.Hand

open Idealize.ShloMosaic Idealize.ShloMosaic.TcCoe Idealize.ShloMosaic.Tactic
open Idealize.SL Idealize.SL.Sem

variable {F : FTy → Type} [FloatOps F]

theorem main_same : Cert.Projection.main (F := F) = Cert.ProjectionIdeal.main (F := F) := by sl_kernel_rfl
theorem defs_same : Cert.Projection.defs (F := F) = Cert.ProjectionIdeal.defs (F := F) := by sl_kernel_rfl

/-- It runs to its end, its arguments end unchanged, and every semaphore counter reads zero again. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [main_same, defs_same]
  exact Cert.ProjectionIdeal.Hand.frame m ρ

end Cert.Projection.Hand

end
-- ==== Proof.Projection.Claims.lean ====
/- The claims about the input projection: the two frames, the reference's frame, and the values. -/
module

public import proofs.«01_k».proof.Defs
public import proofs.«01_k».proof.Proof.Projection.Values
public import proofs.«01_k».proof.Proof.Projection.Same
public import Idealize.ShloMosaic.Lib.Claim

@[expose] public section

set_option maxRecDepth 16384

noncomputable section

open Idealize.ShloMosaic Idealize.ShloMosaic.TcCoe Idealize.SL.Sem

namespace Cert.Proof.ProjectionClaims

open Cert.ProjectionSpec Cert.ProjectionIdeal.RefValue Cert.ProjectionRefIdeal.RefValue Cert.ProjectionRefIdeal.Read

/-- The kernel's frame. -/
theorem frame : Cert.quiescent_Projection := fun m ρ _ => Cert.Projection.Hand.frame m ρ
/-- The idealized kernel's frame. -/
theorem frame_ideal : Cert.quiescent_ProjectionIdeal := fun m ρ _ => Cert.ProjectionIdeal.Hand.frame m ρ
/-- The reference's frame: its run, read at the arguments; it has no semaphore. -/
theorem frame_ref : Cert.quiescent_ProjectionRefIdeal := fun m ρ _ =>
  (θ_run Cert.ProjectionRefIdeal.defs _ _).mono (fun r h => ⟨fun c => (h c).2.2.2, sem_eq_zero_of_no_sems (by decide) r.2⟩)
    (Cert.ProjectionRefIdeal.Value.run (F := Ideal) m ρ)
/-- The idealized kernel is the kernel with nothing rewritten. -/
theorem preserves : Cert.preserves_Projection_ProjectionIdeal := trivial

set_option maxHeartbeats 2000000 in
/-- The three results are the reference's. -/
theorem algebraic : Cert.algebraic_ProjectionIdeal_ProjectionRefIdeal := by
  intro m ρ m' ρ' _ hagree
  refine ⟨fun c => (Cert.ProjectionIdeal.Hand.dats m 0 c).arrAt 2 Cert.ProjectionIdeal.cfg0.N,
    fun c => (Cert.ProjectionIdeal.Hand.dats m 0 c).arrAt 3 Cert.ProjectionIdeal.cfg0.N,
    fun c => (Cert.ProjectionIdeal.Hand.dats m 0 c).arrAt 4 Cert.ProjectionIdeal.cfg0.N, Cert.ProjectionIdeal.Hand.run_arrays m ρ, ?_⟩
  refine (θ_run Cert.ProjectionRefIdeal.defs _ _).mono (fun r h c => ?_) (Cert.ProjectionRefIdeal.Value.run (F := Ideal) m' ρ')
  obtain ⟨h0, h1, h2, hargs⟩ := h c
  obtain ⟨a0, a1⟩ := hagree c
  refine ⟨(h0.trans (val_main_v2_eq _ _)).trans ?_, (h1.trans (val_main_v4_eq _ _)).trans ?_, (h2.trans (val_main_v5_eq _ _)).trans ?_, hargs⟩
  all_goals beta_reduce
  · rw [final_first m c, a0, a1]
    funext i
    obtain ⟨r, j, rfl⟩ : ∃ (r : Fin 2048) (j : Fin 2048), i = ix2 r j := ⟨i 0, i 1, by blk_ext⟩
    exact Cert.ProjectionRefIdeal.RefValue.first_at _ _ r j
  · rw [final_second m c, a0, a1]
    funext i
    obtain ⟨r, j, rfl⟩ : ∃ (r : Fin 2048) (j : Fin 3072), i = ix2 r j := ⟨i 0, i 1, by blk_ext⟩
    exact Cert.ProjectionRefIdeal.RefValue.second_at _ _ r j
  · rw [final_third m c, a0, a1]
    funext i
    obtain ⟨r, j, rfl⟩ : ∃ (r : Fin 2048) (j : Fin 2048), i = ix2 r j := ⟨i 0, i 1, by blk_ext⟩
    exact Cert.ProjectionRefIdeal.RefValue.third_at _ _ r j

end Cert.Proof.ProjectionClaims

end
-- ==== Proof.SquareGrads.Run.lean ====
/-
  The kernel of the three square projections' weight gradients runs to its end and leaves a product in each of its
  three results. The grid has three points, one for each result: a point clears the accumulator, adds the product of
  its left factor with its column block of the right one, and stores the sum, narrowed, into its result's buffer. A
  result's buffer is left alone at the other points, and the last point writes all three back.
-/
module

public import proofs.«01_k».proof.Proof.Gen.SquareGradsIdeal.Frame
public import proofs.«01_k».proof.Proof.Gen.SquareGradsIdeal.Skeleton
public import Idealize.ShloMosaic.Lib.WritesUnit

@[expose] public section

set_option maxRecDepth 16384

noncomputable section

namespace Cert.SquareGradsIdeal.Hand

open Cert.SquareGradsIdeal Cert.SquareGradsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one core. -/
local notation "𝕄" => MT nD τ sig Unit (Elt F) ℕ (UR sig nD τ) ℕ

variable (m : (ℓ : Loc nD τ sig) → Buf (Elt F) ℓ) (ρ : Dev nD → PrngReg)

/-! ## Which point is which -/

theorem lt_points (t : Fin cfg0.N) : t.val < 3 := lt_of_lt_of_eq t.isLt N_0
/-- Point `n` of the grid. -/
def pt (n : ℕ) : Fin cfg0.N := ⟨n % 3, lt_of_lt_of_eq (Nat.mod_lt n (by decide)) N_0.symm⟩

/-- The accumulator is cleared at every point. -/
abbrev clears (i : grid0.Coords) : Prop := Scalar.cmpi .ne (Scalar.extui (Scalar.cmpi .eq (BitVec.ofNat 32 (i 1).val) 0#32)) 0#32 = 1#1
theorem cond_clear : ∀ t : Fin cfg0.N, clears (grid0.coords t) := (by decide +kernel : ∀ t : Fin grid0.N, _)
theorem cond_first : ∀ t : Fin cfg0.N, k0_cond2 (grid0.coords t) = 1#1 ↔ t.val = 0 := (by decide +kernel : ∀ t : Fin grid0.N, _)
theorem cond_second : ∀ t : Fin cfg0.N, k0_cond4 (grid0.coords t) = 1#1 ↔ t.val = 1 := (by decide +kernel : ∀ t : Fin grid0.N, _)
theorem cond_third : ∀ t : Fin cfg0.N, k0_cond6 (grid0.coords t) = 1#1 ↔ t.val = 2 := (by decide +kernel : ∀ t : Fin grid0.N, _)
/-- Every point is the last of its sum. -/
theorem cond_store : ∀ t : Fin cfg0.N, k0_cond3 (grid0.coords t) = 1#1 ∧ k0_cond5 (grid0.coords t) = 1#1 ∧ k0_cond7 (grid0.coords t) = 1#1 :=
  (by decide +kernel : ∀ t : Fin grid0.N, _)

/-- Where a result's buffer is left alone. -/
theorem idle_first : ∀ t : Fin cfg0.N, cfg0.idle 4 (cfg0.grid.coords t) = !decide (t.val = 0) :=
  (by decide +kernel : ∀ t : Fin grid0.N, idle0 4 (grid0.coords t) = !decide (t.val = 0))
theorem idle_second : ∀ t : Fin cfg0.N, cfg0.idle 5 (cfg0.grid.coords t) = !decide (t.val = 1) :=
  (by decide +kernel : ∀ t : Fin grid0.N, idle0 5 (grid0.coords t) = !decide (t.val = 1))
theorem idle_third : ∀ t : Fin cfg0.N, cfg0.idle 6 (cfg0.grid.coords t) = !decide (t.val = 2) :=
  (by decide +kernel : ∀ t : Fin grid0.N, idle0 6 (grid0.coords t) = !decide (t.val = 2))
/-- Where it is written back. -/
theorem flush_first : ∀ t : Fin cfg0.N, (cfg0.win 4).flush t = decide (t.val = 2) :=
  (by decide +kernel : ∀ t : Fin grid0.N, win0_4.flush t = decide (t.val = 2))
theorem flush_second : ∀ t : Fin cfg0.N, (cfg0.win 5).flush t = decide (t.val = 2) :=
  (by decide +kernel : ∀ t : Fin grid0.N, win0_5.flush t = decide (t.val = 2))
theorem flush_third : ∀ t : Fin cfg0.N, (cfg0.win 6).flush t = decide (t.val = 2) :=
  (by decide +kernel : ∀ t : Fin grid0.N, win0_6.flush t = decide (t.val = 2))

/-! ## One point's body -/

section whole

variable {Val : EltTy → Type} {sg : RefSig} {κ : Kind} {sp : Space} {s : Shape} {e : EltTy}

/-- A load of the rectangle that is the whole view reads what the view reads. -/
theorem load_all (v : View sg κ sp s e) (f : v.ty.Contents Val) {off : Fin s.rank → ℕ} (inb : ∀ a, off a + s.size a ≤ s.size a)
    (h : ∀ a, off a = 0) : v.readAt Val (Rect.unit off s.size inb).toLoadRect f = v.read Val f := by
  funext x
  rw [View.readAt_apply]
  congr 1
  funext a
  apply Fin.ext
  show off a + 1 * (x a).val = (x a).val
  rw [h a]; omega

/-- After a store of the rectangle that is the whole view, the view reads what was stored. -/
theorem read_stored (v : View sg κ sp s e) (f : v.ty.Contents Val) {off : Fin s.rank → ℕ} (inb : ∀ a, off a + s.size a ≤ s.size a)
    (h : ∀ a, off a = 0) (w : s.Idx → Val e) (L : List (View.Piece Val s e)) :
    v.read Val (v.writes Val f ((⟨Rect.unit off s.size inb, w⟩ : View.Piece Val s e) :: L)) = w := by
  funext y
  exact View.read_writes_cons_unit_of_mem v f inb w L y y rfl fun a => by rw [h a]; omega

/-- A load of the whole view right after such a store reads what was stored. -/
theorem load_stored [∀ e, Nonempty (Val e)] (v : View sg κ sp s e) {off : Fin s.rank → ℕ} (inb : ∀ a, off a + s.size a ≤ s.size a)
    (h : ∀ a, off a = 0) (w : s.Idx → Val e) (L : List (View.Piece Val s e)) :
    v.readCov ((⟨Rect.unit off s.size inb, w⟩ : View.Piece Val s e) :: L) (Rect.unit off s.size inb).toLoadRect = w :=
  (load_all v _ inb h).trans (read_stored v _ inb h w L)

end whole

set_option maxHeartbeats 2000000 in
/-- The first point stores the product of the first left factor into the first result's buffer. -/
theorem run_first (c : Dev nD) (i : grid0.Coords) (h1 : clears i) (h2 : k0_cond2 i = 1#1) (h3 : k0_cond3 i = 1#1)
    (h4 : ¬ k0_cond4 i = 1#1) (h6 : ¬ k0_cond6 i = 1#1)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S1024x1024 .f32) (harg9 : arg9.IsWhole)
    (x : Vec F S2048x1024 .bf16) (w : Vec F S2048x1024 .bf16) (K : PUnit → sProp 𝕄) :
    iprop(owns (c : Thread nD τ) arg2 fullShare x ∗ owns (c : Thread nD τ) arg5 fullShare w ∗ (∃ d, owns (c : Thread nD τ) arg6 fullShare d)
        ∗ (∃ d, owns (c : Thread nD τ) arg9 fullShare d)
        ∗ (iprop(owns (c : Thread nD τ) arg2 fullShare x ∗ owns (c : Thread nD τ) arg5 fullShare w
            ∗ owns (c : Thread nD τ) arg6 fullShare (k0_pay3 (k0_pay2 k0_pay1 x w)) ∗ (∃ d, owns (c : Thread nD τ) arg9 fullShare d)) -∗ K ⟨⟩))
      ⊢ wp frame (wpE (defs₀ (F := F)) Variants.none c none) Set.univ
          (cc0_dw_mid i arg2 harg2 arg3 harg3 arg4 harg4 arg5 harg5 arg6 harg6 arg7 harg7 arg8 harg8 arg9 harg9) K := by
  simp only [cc0_dw_mid_eq_skeleton]; unfold cc0_dw_mid_skel
  unfold owns
  iintro ⟨⟨%f1, %e1, H1⟩, ⟨%f2, %e2, H2⟩, ⟨%d, %f3, -, H3⟩, ⟨%da, %fa, -, Ha⟩, Hk⟩
  sl_exec (disch := first | exact h1 | exact h2 | exact h3 | exact h4 | exact h6)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro
    rw [read_stored _ _ _ (by decide)]
    unfold run_first.sl.v25 run_first.sl.Ha_2
    rw [load_stored _ _ (by decide), load_all _ _ _ (by decide), load_all _ _ _ (by decide), e1, e2]
    unfold run_first.sl.v12 run_first.sl.Ha_1
    rw [load_stored _ _ (by decide)]
  iexists _; iexists _; isplitr; swap; · iexact Ha
  ipureintro; rfl

set_option maxHeartbeats 2000000 in
/-- The second point does so with the second. -/
theorem run_second (c : Dev nD) (i : grid0.Coords) (h1 : clears i) (h2 : ¬ k0_cond2 i = 1#1) (h4 : k0_cond4 i = 1#1)
    (h5 : k0_cond5 i = 1#1) (h6 : ¬ k0_cond6 i = 1#1)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S1024x1024 .f32) (harg9 : arg9.IsWhole)
    (x : Vec F S2048x1024 .bf16) (w : Vec F S2048x1024 .bf16) (K : PUnit → sProp 𝕄) :
    iprop(owns (c : Thread nD τ) arg3 fullShare x ∗ owns (c : Thread nD τ) arg5 fullShare w ∗ (∃ d, owns (c : Thread nD τ) arg7 fullShare d)
        ∗ (∃ d, owns (c : Thread nD τ) arg9 fullShare d)
        ∗ (iprop(owns (c : Thread nD τ) arg3 fullShare x ∗ owns (c : Thread nD τ) arg5 fullShare w
            ∗ owns (c : Thread nD τ) arg7 fullShare (k0_pay5 (k0_pay4 k0_pay1 x w)) ∗ (∃ d, owns (c : Thread nD τ) arg9 fullShare d)) -∗ K ⟨⟩))
      ⊢ wp frame (wpE (defs₀ (F := F)) Variants.none c none) Set.univ
          (cc0_dw_mid i arg2 harg2 arg3 harg3 arg4 harg4 arg5 harg5 arg6 harg6 arg7 harg7 arg8 harg8 arg9 harg9) K := by
  simp only [cc0_dw_mid_eq_skeleton]; unfold cc0_dw_mid_skel
  unfold owns
  iintro ⟨⟨%f1, %e1, H1⟩, ⟨%f2, %e2, H2⟩, ⟨%d, %f3, -, H3⟩, ⟨%da, %fa, -, Ha⟩, Hk⟩
  sl_exec (disch := first | exact h1 | exact h2 | exact h4 | exact h5 | exact h6)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro
    rw [read_stored _ _ _ (by decide)]
    unfold run_second.sl.v25 run_second.sl.Ha_2
    rw [load_stored _ _ (by decide), load_all _ _ _ (by decide), load_all _ _ _ (by decide), e1, e2]
    unfold run_second.sl.v12 run_second.sl.Ha_1
    rw [load_stored _ _ (by decide)]
  iexists _; iexists _; isplitr; swap; · iexact Ha
  ipureintro; rfl

set_option maxHeartbeats 2000000 in
/-- And the third with the third. -/
theorem run_third (c : Dev nD) (i : grid0.Coords) (h1 : clears i) (h2 : ¬ k0_cond2 i = 1#1) (h4 : ¬ k0_cond4 i = 1#1)
    (h6 : k0_cond6 i = 1#1) (h7 : k0_cond7 i = 1#1)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S1024x1024 .f32) (harg9 : arg9.IsWhole)
    (x : Vec F S2048x1024 .bf16) (w : Vec F S2048x1024 .bf16) (K : PUnit → sProp 𝕄) :
    iprop(owns (c : Thread nD τ) arg4 fullShare x ∗ owns (c : Thread nD τ) arg5 fullShare w ∗ (∃ d, owns (c : Thread nD τ) arg8 fullShare d)
        ∗ (∃ d, owns (c : Thread nD τ) arg9 fullShare d)
        ∗ (iprop(owns (c : Thread nD τ) arg4 fullShare x ∗ owns (c : Thread nD τ) arg5 fullShare w
            ∗ owns (c : Thread nD τ) arg8 fullShare (k0_pay7 (k0_pay6 k0_pay1 x w)) ∗ (∃ d, owns (c : Thread nD τ) arg9 fullShare d)) -∗ K ⟨⟩))
      ⊢ wp frame (wpE (defs₀ (F := F)) Variants.none c none) Set.univ
          (cc0_dw_mid i arg2 harg2 arg3 harg3 arg4 harg4 arg5 harg5 arg6 harg6 arg7 harg7 arg8 harg8 arg9 harg9) K := by
  simp only [cc0_dw_mid_eq_skeleton]; unfold cc0_dw_mid_skel
  unfold owns
  iintro ⟨⟨%f1, %e1, H1⟩, ⟨%f2, %e2, H2⟩, ⟨%d, %f3, -, H3⟩, ⟨%da, %fa, -, Ha⟩, Hk⟩
  sl_exec (disch := first | exact h1 | exact h2 | exact h4 | exact h6 | exact h7)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro
    rw [read_stored _ _ _ (by decide)]
    unfold run_third.sl.v25 run_third.sl.Ha_2
    rw [load_stored _ _ (by decide), load_all _ _ _ (by decide), load_all _ _ _ (by decide), e1, e2]
    unfold run_third.sl.v12 run_third.sl.Ha_1
    rw [load_stored _ _ (by decide)]
  iexists _; iexists _; isplitr; swap; · iexact Ha
  ipureintro; rfl

/-! ## What the buffers hold after each point -/

/-- The product that a point stores, as each result's buffer holds it. -/
def first (c : Dev nD) (t : Fin cfg0.N) : Vec F S1024x1024 .bf16 := k0_pay3 (k0_pay2 k0_pay1 (iblk m c 0 t) (iblk m c 3 t))
def second (c : Dev nD) (t : Fin cfg0.N) : Vec F S1024x1024 .bf16 := k0_pay5 (k0_pay4 k0_pay1 (iblk m c 1 t) (iblk m c 3 t))
def third (c : Dev nD) (t : Fin cfg0.N) : Vec F S1024x1024 .bf16 := k0_pay7 (k0_pay6 k0_pay1 (iblk m c 2 t) (iblk m c 3 t))

/-- The proof data: the arrays as the region finds them, and what each staging buffer holds once it is stored into. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => first m c (pt 0)
    | ⟨5, _⟩ => second m c (pt 1)
    | ⟨6, _⟩ => third m c (pt 2)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = first m c (pt 0) := by dsimp only [dats]
theorem after0_5 (c : Dev nD) (t : Fin cfg0.N) : (dats m 0 c).after 5 t = second m c (pt 1) := by dsimp only [dats]
theorem after0_6 (c : Dev nD) (t : Fin cfg0.N) : (dats m 0 c).after 6 t = third m c (pt 2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first result's buffer keeps its block at the two later points. -/
theorem kept_first (c : Dev nD) (d) : ∀ (n : ℕ) (t : Fin cfg0.N), t.val = n + 1 → (dats m 0 c).before 4 t d = first m c (pt 0) := by
  intro n
  induction n with
  | zero =>
    intro t ht
    rw [(dats m 0 c).before_of_pos 4 t (by omega) ((cfg0.win 4).fetch_out rfl t), flush_first, if_neg (by simp [ht])]
    unfold Dat.left
    rw [idle_first, decide_eq_true (by simp [ht])]
    exact after0_4 m c _
  | succ n ih =>
    intro t ht
    have hlt := lt_points t
    rw [(dats m 0 c).before_of_pos 4 t (by omega) ((cfg0.win 4).fetch_out rfl t), flush_first, if_neg (by simp; omega)]
    unfold Dat.left
    rw [idle_first, decide_eq_false (by show ¬ t.val - 1 = 0; omega)]
    exact ih _ (by show t.val - 1 = n + 1; omega)
/-- The second's keeps its block at the last. -/
theorem kept_second (c : Dev nD) (d) (t : Fin cfg0.N) (ht : t.val = 2) : (dats m 0 c).before 5 t d = second m c (pt 1) := by
  rw [(dats m 0 c).before_of_pos 5 t (by omega) ((cfg0.win 5).fetch_out rfl t), flush_second, if_neg (by simp [ht])]
  unfold Dat.left
  rw [idle_second, decide_eq_true (by simp [ht])]
  exact after0_5 m c _

/-! ## One point -/

/-- The first result's buffer, left alone at a later point, holds what that point leaves. -/
theorem idle_leaves_first (c : Dev nD) (t : Fin cfg0.N) (h : ¬ t.val = 0) :
    (iprop(∃ d, owns (c : Thread nD τ) ((cfg0.win 4).stage (cfg0.slots t 4)) fullShare ((dats m 0 c).before 4 t d)) : sProp 𝕄)
      ⊢ (dats m 0 c).leavesExact 4 t := by
  by_cases h2 : t.val = 2
  · have hl : (dats m 0 c).leavesExact 4 t = owns (c : Thread nD τ) ((cfg0.win 4).stage (cfg0.slots t 4)) fullShare ((dats m 0 c).after 4 t) := by
      unfold Dat.leavesExact; rw [flush_first, decide_eq_true h2, idle_first, decide_eq_false h]; rfl
    rw [hl, after0_4]
    iintro ⟨%d, H⟩
    rw [kept_first m c d (t.val - 1) t (by omega)]
    iexact H
  · rw [(dats m 0 c).leavesExact_idle 4 t (by rw [idle_first, decide_eq_false h]; rfl) (by rw [flush_first, decide_eq_false h2])]
/-- So does the second's, before and after the point that stores into it. -/
theorem idle_leaves_second (c : Dev nD) (t : Fin cfg0.N) (h : ¬ t.val = 1) :
    (iprop(∃ d, owns (c : Thread nD τ) ((cfg0.win 5).stage (cfg0.slots t 5)) fullShare ((dats m 0 c).before 5 t d)) : sProp 𝕄)
      ⊢ (dats m 0 c).leavesExact 5 t := by
  by_cases h2 : t.val = 2
  · have hl : (dats m 0 c).leavesExact 5 t = owns (c : Thread nD τ) ((cfg0.win 5).stage (cfg0.slots t 5)) fullShare ((dats m 0 c).after 5 t) := by
      unfold Dat.leavesExact; rw [flush_second, decide_eq_true h2, idle_second, decide_eq_false h]; rfl
    rw [hl, after0_5]
    iintro ⟨%d, H⟩
    rw [kept_second m c d t h2]
    iexact H
  · rw [(dats m 0 c).leavesExact_idle 5 t (by rw [idle_second, decide_eq_false h]; rfl) (by rw [flush_second, decide_eq_false h2])]
/-- And the third's. -/
theorem idle_leaves_third (c : Dev nD) (t : Fin cfg0.N) (h : ¬ t.val = 2) :
    (iprop(∃ d, owns (c : Thread nD τ) ((cfg0.win 6).stage (cfg0.slots t 6)) fullShare ((dats m 0 c).before 6 t d)) : sProp 𝕄)
      ⊢ (dats m 0 c).leavesExact 6 t := by
  rw [(dats m 0 c).leavesExact_idle 6 t (by rw [idle_third, decide_eq_false h]; rfl) (by rw [flush_third, decide_eq_false h])]
/-- A buffer stored into holds what the point leaves. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- The accumulator, and what the core holds between two points: the accumulator at anything. -/
abbrev accM : Memref sig .tc .vmem S1024x1024 .f32 := Memref.whole cc0_scratch0
theorem rest_eq (c : Dev nD) : (Pipeline.ΦA spec0 c : sProp 𝕄) = iprop((∃ d, owns (c : Thread nD τ) accM fullShare d) ∗ (∃ r, prngReg c r)) := by
  unfold Pipeline.ΦA; rw [scopedRest0_eq]; simp only [accM, owns_whole]; rfl

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ (dats m 0 c).leavesExact 4 t ∗ (dats m 0 c).leavesExact 5 t ∗ (dats m 0 c).leavesExact 6 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq]
  have hlt := lt_points t
  by_cases h0 : t.val = 0
  · rw [leaves_live m c 4 t (by rw [idle_first, decide_eq_true h0]; rfl), after0_4, show pt 0 = t from Fin.ext h0.symm]
    iintro ⟨⟨Ha, Hg⟩, Ho, ⟨%d0, H0⟩, ⟨%d1, H1⟩, ⟨%d2, H2⟩, ⟨%d3, H3⟩, ⟨%d4, H4⟩, H5, H6⟩
    ihave H5 := (idle_leaves_second m c t (by omega)) $$ H5
    ihave H6 := (idle_leaves_third m c t (by omega)) $$ H6
    iapply (run_first c (grid0.coords t) (cond_clear t) ((cond_first t).mpr h0) (cond_store t).1
      (fun h => by have := (cond_second t).mp h; omega) (fun h => by have := (cond_third t).mp h; omega)
      _ _ _ _ _ _ _ _ _ _ _ _ _ _ _ _ (iblk m c 0 t) (iblk m c 3 t) _)
    isplitl [H0]; · iexact H0
    isplitl [H3]; · iexact H3
    isplitl [H4]; · iexists _; iexact H4
    isplitl [Ha]; · iexact Ha
    iintro ⟨H0, H3, H4, Ha⟩
    isplitl [Ha Hg]
    · isplitl [Ha]; · iexact Ha
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h1 : t.val = 1
  · rw [leaves_live m c 5 t (by rw [idle_second, decide_eq_true h1]; rfl), after0_5, show pt 1 = t from Fin.ext h1.symm]
    iintro ⟨⟨Ha, Hg⟩, Ho, ⟨%d0, H0⟩, ⟨%d1, H1⟩, ⟨%d2, H2⟩, ⟨%d3, H3⟩, H4, ⟨%d5, H5⟩, H6⟩
    ihave H4 := (idle_leaves_first m c t (by omega)) $$ H4
    ihave H6 := (idle_leaves_third m c t (by omega)) $$ H6
    iapply (run_second c (grid0.coords t) (cond_clear t) (fun h => h0 ((cond_first t).mp h)) ((cond_second t).mpr h1) (cond_store t).2.1
      (fun h => by have := (cond_third t).mp h; omega)
      _ _ _ _ _ _ _ _ _ _ _ _ _ _ _ _ (iblk m c 1 t) (iblk m c 3 t) _)
    isplitl [H1]; · iexact H1
    isplitl [H3]; · iexact H3
    isplitl [H5]; · iexists _; iexact H5
    isplitl [Ha]; · iexact Ha
    iintro ⟨H1, H3, H5, Ha⟩
    isplitl [Ha Hg]
    · isplitl [Ha]; · iexact Ha
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h2 : t.val = 2 := by omega
    rw [leaves_live m c 6 t (by rw [idle_third, decide_eq_true h2]; rfl), after0_6, show pt 2 = t from Fin.ext h2.symm]
    iintro ⟨⟨Ha, Hg⟩, Ho, ⟨%d0, H0⟩, ⟨%d1, H1⟩, ⟨%d2, H2⟩, ⟨%d3, H3⟩, H4, H5, ⟨%d6, H6⟩⟩
    ihave H4 := (idle_leaves_first m c t h0) $$ H4
    ihave H5 := (idle_leaves_second m c t h1) $$ H5
    iapply (run_third c (grid0.coords t) (cond_clear t) (fun h => h0 ((cond_first t).mp h)) (fun h => h1 ((cond_second t).mp h))
      ((cond_third t).mpr h2) (cond_store t).2.2
      _ _ _ _ _ _ _ _ _ _ _ _ _ _ _ _ (iblk m c 2 t) (iblk m c 3 t) _)
    isplitl [H2]; · iexact H2
    isplitl [H3]; · iexact H3
    isplitl [H6]; · iexists _; iexact H6
    isplitl [Ha]; · iexact Ha
    iintro ⟨H2, H3, H6, Ha⟩
    isplitl [Ha Hg]
    · isplitl [Ha]; · iexact Ha
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- It runs to its end, its arguments end unchanged, and every semaphore counter reads zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m h.1, h.2⟩) (run_main m ρ)

/-- The three results after the run are the arrays of the output windows after the last point. -/
theorem run_arrays : θ_run defs (onTc (τ := τ) (main (F := F))) ⟨m, fun _ => 0, ρ⟩ (fun r => ∀ c : Dev nD,
      r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_v5_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 4, (h.1 c).1 5, (h.1 c).1 6, args_kept m h.1 c⟩) (run_main m ρ)

end Cert.SquareGradsIdeal.Hand

end
-- ==== Proof.SquareGrads.Values.lean ====
/- What the three square projections' weight gradients, and their reference, compute. -/
module

public import proofs.«01_k».proof.Proof.SquareGrads.Run
public import proofs.«01_k».proof.Proof.Gen.SquareGradsRefIdeal.Run
public import proofs.«01_k».proof.Proof.Gen.SquareGradsRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SquareGradsSpec

/-- A weight gradient: the inputs, transposed, times the cotangents. -/
def grad (x ct : FVec Ideal ⟨2, ![2048, 1024]⟩ .f32) (k j : Fin 1024) : EReal := ∑ r : Fin 2048, x (ix2 r k) * ct (ix2 r j)

end Cert.SquareGradsSpec

namespace Cert.SquareGradsIdeal.RefValue

open Cert.SquareGradsIdeal Cert.SquareGradsIdeal.Gen Cert.SquareGradsIdeal.Hand Cert.SquareGradsSpec

variable (m : (ℓ : Loc nD τ sig) → Buf (Elt Ideal) ℓ) (c : Dev nD)

abbrev X0 : FVec Ideal S2048x1024 .f32 := m ((c : Thread nD τ).loc main_arg0)
abbrev X1 : FVec Ideal S2048x1024 .f32 := m ((c : Thread nD τ).loc main_arg1)
abbrev X2 : FVec Ideal S2048x1024 .f32 := m ((c : Thread nD τ).loc main_arg2)
abbrev C0 : FVec Ideal S2048x1024 .f32 := m ((c : Thread nD τ).loc main_arg3)
abbrev C1 : FVec Ideal S2048x1024 .f32 := m ((c : Thread nD τ).loc main_arg4)
abbrev C2 : FVec Ideal S2048x1024 .f32 := m ((c : Thread nD τ).loc main_arg5)

/-- Every window's block index at every grid point. -/
theorem idx : ∀ t : Fin cfg0.N, win0_0.index t = ![0, 0] ∧ win0_1.index t = ![0, 0] ∧ win0_2.index t = ![0, 0] ∧ win0_3.index t = ![0, t.val]
    ∧ win0_4.index t = ![0, 0] ∧ win0_5.index t = ![0, 0] ∧ win0_6.index t = ![0, 0] :=
  (by decide +kernel : ∀ t : Fin grid0.N, _)

theorem read_x0 (t : Fin cfg0.N) (r : Fin 2048) (k : Fin 1024) : (iblk m c 0 t : FVec Ideal S2048x1024 .bf16) (ix2 r k) = X0 m c (ix2 r k) := by
  blk_simp [iblk, V, idx t]
  entry_read
  pointwise
  blk_ext [idx t]
theorem read_x1 (t : Fin cfg0.N) (r : Fin 2048) (k : Fin 1024) : (iblk m c 1 t : FVec Ideal S2048x1024 .bf16) (ix2 r k) = X1 m c (ix2 r k) := by
  blk_simp [iblk, V, idx t]
  entry_read
  pointwise
  blk_ext [idx t]
theorem read_x2 (t : Fin cfg0.N) (r : Fin 2048) (k : Fin 1024) : (iblk m c 2 t : FVec Ideal S2048x1024 .bf16) (ix2 r k) = X2 m c (ix2 r k) := by
  blk_simp [iblk, V, idx t]
  entry_read
  pointwise
  blk_ext [idx t]
/-- The entry of the concatenated cotangents that entry `(r, j)` of a point's column block is. -/
theorem entry_ct (t : Fin cfg0.N) (r : Fin 2048) (j : Fin 1024) (q : Fin 3072) (h : t.val * 1024 + j.val = q.val) :
    ((View.whole main_v1).slice (win0_3.rect t)).emb (ix2 r j) = (ix2 r q : S2048x3072.Idx) := by
  blk_ext [idx t, ← h]
/-- The column block of point `n` is the `n`-th array of cotangents. -/
theorem read_c0 (r : Fin 2048) (j : Fin 1024) : (iblk m c 3 (pt 0) : FVec Ideal S2048x1024 .bf16) (ix2 r j) = C0 m c (ix2 r j) := by
  blk_simp [iblk, V, idx (pt 0)]
  entry_read
  rw [entry_ct (pt 0) r j ⟨j.val, by omega⟩ (by show 0 % 3 * 1024 + j.val = j.val; omega)]
  pointwise
theorem read_c1 (r : Fin 2048) (j : Fin 1024) : (iblk m c 3 (pt 1) : FVec Ideal S2048x1024 .bf16) (ix2 r j) = C1 m c (ix2 r j) := by
  blk_simp [iblk, V, idx (pt 1)]
  entry_read
  rw [entry_ct (pt 1) r j ⟨1024 + j.val, by omega⟩ (by show 1 % 3 * 1024 + j.val = 1024 + j.val; omega)]
  pointwise
theorem read_c2 (r : Fin 2048) (j : Fin 1024) : (iblk m c 3 (pt 2) : FVec Ideal S2048x1024 .bf16) (ix2 r j) = C2 m c (ix2 r j) := by
  blk_simp [iblk, V, idx (pt 2)]
  entry_read
  rw [entry_ct (pt 2) r j ⟨2048 + j.val, by omega⟩ (by show 2 % 3 * 1024 + j.val = 2048 + j.val; omega)]
  pointwise
  rw [dif_neg (by omega), dif_neg (by omega)]
  exact congrArg (fun q => C2 m c (ix2 r q)) (Fin.ext (by show 2048 + j.val - 1024 - 1024 = j.val; omega))

/-- The product each point stores. -/
theorem first_at (k j : Fin 1024) : first m c (pt 0) (ix2 k j) = grad (X0 m c) (C0 m c) k j := by
  pointwise [first, k0_pay3, k0_pay2, k0_pay1, grad]
  simp only [read_x0, read_c0]
theorem second_at (k j : Fin 1024) : second m c (pt 1) (ix2 k j) = grad (X1 m c) (C1 m c) k j := by
  pointwise [second, k0_pay5, k0_pay4, k0_pay1, grad]
  simp only [read_x1, read_c1]
theorem third_at (k j : Fin 1024) : third m c (pt 2) (ix2 k j) = grad (X2 m c) (C2 m c) k j := by
  pointwise [third, k0_pay7, k0_pay6, k0_pay1, grad]
  simp only [read_x2, read_c2]

/-- The three arrays that the kernel's run leaves. -/
theorem final_first : (dats m 0 c).arrAt 4 cfg0.N = fun i => grad (X0 m c) (C0 m c) (i 0) (i 1) := by
  refine (dats m 0 c).arrAt_eq_of_covers 4 _ (by decide +kernel) fun t hf y => ?_
  obtain ⟨a, b, rfl⟩ : ∃ (a : Fin 1024) (b : Fin 1024), y = ix2 a b := ⟨y 0, y 1, by blk_ext⟩
  blk_simp
  rw [after0_4, show (win0_4.blk t).view.emb (ix2 a b) = ix2 a b by blk_ext [idx t]]
  exact first_at m c a b
theorem final_second : (dats m 0 c).arrAt 5 cfg0.N = fun i => grad (X1 m c) (C1 m c) (i 0) (i 1) := by
  refine (dats m 0 c).arrAt_eq_of_covers 5 _ (by decide +kernel) fun t hf y => ?_
  obtain ⟨a, b, rfl⟩ : ∃ (a : Fin 1024) (b : Fin 1024), y = ix2 a b := ⟨y 0, y 1, by blk_ext⟩
  blk_simp
  rw [after0_5, show (win0_5.blk t).view.emb (ix2 a b) = ix2 a b by blk_ext [idx t]]
  exact second_at m c a b
theorem final_third : (dats m 0 c).arrAt 6 cfg0.N = fun i => grad (X2 m c) (C2 m c) (i 0) (i 1) := by
  refine (dats m 0 c).arrAt_eq_of_covers 6 _ (by decide +kernel) fun t hf y => ?_
  obtain ⟨a, b, rfl⟩ : ∃ (a : Fin 1024) (b : Fin 1024), y = ix2 a b := ⟨y 0, y 1, by blk_ext⟩
  blk_simp
  rw [after0_6, show (win0_6.blk t).view.emb (ix2 a b) = ix2 a b by blk_ext [idx t]]
  exact third_at m c a b

end Cert.SquareGradsIdeal.RefValue

namespace Cert.SquareGradsRefIdeal.RefValue

open Cert.SquareGradsRefIdeal Cert.SquareGradsRefIdeal.Gen Cert.SquareGradsRefIdeal.Read Cert.SquareGradsSpec

variable (x ct : FVec Ideal ⟨2, ![2048, 1024]⟩ .f32) (k j : Fin 1024)

/-- The reference's three arrays. -/
theorem first_at : val_main_v12 (F := Ideal) x ct (ix2 k j) = grad x ct k j := by
  pointwise [val_main_v12, val_main_v11, val_main_v10, grad]
  simp only [mul_comm]
theorem second_at : val_main_v13 (F := Ideal) x ct (ix2 k j) = grad x ct k j := by
  pointwise [val_main_v13, val_main_v9, val_main_v8, grad]
  simp only [mul_comm]
theorem third_at : val_main_v14 (F := Ideal) x ct (ix2 k j) = grad x ct k j := by
  pointwise [val_main_v14, val_main_v7, val_main_v6, grad]
  simp only [mul_comm]

end Cert.SquareGradsRefIdeal.RefValue

end
-- ==== Proof.SquareGrads.Same.lean ====
/-
  The call of the three square projections' weight gradients read over machine numbers is the same program text as the one read over
  the extended reals, so its run is the same run.
-/
module

public import proofs.«01_k».proof.Proof.SquareGrads.Run
public import proofs.«01_k».proof.Proof.Gen.SquareGrads

@[expose] public section

noncomputable section

namespace Cert.SquareGrads.Hand

open Idealize.ShloMosaic Idealize.ShloMosaic.TcCoe Idealize.ShloMosaic.Tactic
open Idealize.SL Idealize.SL.Sem

variable {F : FTy → Type} [FloatOps F]

theorem main_same : Cert.SquareGrads.main (F := F) = Cert.SquareGradsIdeal.main (F := F) := by sl_kernel_rfl
theorem defs_same : Cert.SquareGrads.defs (F := F) = Cert.SquareGradsIdeal.defs (F := F) := by sl_kernel_rfl

/-- It runs to its end, its arguments end unchanged, and every semaphore counter reads zero again. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_same, defs_same]
  exact Cert.SquareGradsIdeal.Hand.frame m ρ

end Cert.SquareGrads.Hand

end
-- ==== Proof.SquareGrads.Claims.lean ====
/- The claims about the three square projections' weight gradients: the two frames, the reference's frame, and the values. -/
module

public import proofs.«01_k».proof.Defs
public import proofs.«01_k».proof.Proof.SquareGrads.Values
public import proofs.«01_k».proof.Proof.SquareGrads.Same
public import Idealize.ShloMosaic.Lib.Claim

@[expose] public section

set_option maxRecDepth 16384

noncomputable section

open Idealize.ShloMosaic Idealize.ShloMosaic.TcCoe Idealize.SL.Sem

namespace Cert.Proof.SquareGradsClaims

open Cert.SquareGradsSpec Cert.SquareGradsIdeal.RefValue Cert.SquareGradsRefIdeal.RefValue Cert.SquareGradsRefIdeal.Read

/-- The kernel's frame. -/
theorem frame : Cert.quiescent_SquareGrads := fun m ρ _ => Cert.SquareGrads.Hand.frame m ρ
/-- The idealized kernel's frame. -/
theorem frame_ideal : Cert.quiescent_SquareGradsIdeal := fun m ρ _ => Cert.SquareGradsIdeal.Hand.frame m ρ
/-- The reference's frame: its run, read at the arguments; it has no semaphore. -/
theorem frame_ref : Cert.quiescent_SquareGradsRefIdeal := fun m ρ _ =>
  (θ_run Cert.SquareGradsRefIdeal.defs _ _).mono (fun r h => ⟨fun c => (h c).2.2.2, sem_eq_zero_of_no_sems (by decide) r.2⟩)
    (Cert.SquareGradsRefIdeal.Value.run (F := Ideal) m ρ)
/-- The idealized kernel is the kernel with nothing rewritten. -/
theorem preserves : Cert.preserves_SquareGrads_SquareGradsIdeal := trivial

set_option maxHeartbeats 2000000 in
/-- The three results are the reference's. -/
theorem algebraic : Cert.algebraic_SquareGradsIdeal_SquareGradsRefIdeal := by
  intro m ρ m' ρ' _ hagree
  refine ⟨fun c => (Cert.SquareGradsIdeal.Hand.dats m 0 c).arrAt 4 Cert.SquareGradsIdeal.cfg0.N,
    fun c => (Cert.SquareGradsIdeal.Hand.dats m 0 c).arrAt 5 Cert.SquareGradsIdeal.cfg0.N,
    fun c => (Cert.SquareGradsIdeal.Hand.dats m 0 c).arrAt 6 Cert.SquareGradsIdeal.cfg0.N, Cert.SquareGradsIdeal.Hand.run_arrays m ρ, ?_⟩
  refine (θ_run Cert.SquareGradsRefIdeal.defs _ _).mono (fun r h c => ?_) (Cert.SquareGradsRefIdeal.Value.run (F := Ideal) m' ρ')
  obtain ⟨h0, h1, h2, hargs⟩ := h c
  obtain ⟨a0, a1, a2, a3, a4, a5⟩ := hagree c
  refine ⟨(h0.trans (val_main_v12_eq _ _)).trans ?_, (h1.trans (val_main_v13_eq _ _)).trans ?_, (h2.trans (val_main_v14_eq _ _)).trans ?_, hargs⟩
  all_goals beta_reduce
  · rw [final_first m c, a0, a3]
    funext i
    obtain ⟨k, j, rfl⟩ : ∃ (k : Fin 1024) (j : Fin 1024), i = ix2 k j := ⟨i 0, i 1, by blk_ext⟩
    exact Cert.SquareGradsRefIdeal.RefValue.first_at _ _ k j
  · rw [final_second m c, a1, a4]
    funext i
    obtain ⟨k, j, rfl⟩ : ∃ (k : Fin 1024) (j : Fin 1024), i = ix2 k j := ⟨i 0, i 1, by blk_ext⟩
    exact Cert.SquareGradsRefIdeal.RefValue.second_at _ _ k j
  · rw [final_third m c, a2, a5]
    funext i
    obtain ⟨k, j, rfl⟩ : ∃ (k : Fin 1024) (j : Fin 1024), i = ix2 k j := ⟨i 0, i 1, by blk_ext⟩
    exact Cert.SquareGradsRefIdeal.RefValue.third_at _ _ k j

end Cert.Proof.SquareGradsClaims

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.On_gates_written
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Pre_gate_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_in_finite
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionRefIdeal
public import proofs.«01_k».proof.Proof.Gen.SquareGrads
public import proofs.«01_k».proof.Proof.Gen.SquareGrads.Skeleton
public import proofs.«01_k».proof.Proof.Gen.SquareGrads.Launch
public import proofs.«01_k».proof.Proof.Gen.SquareGrads.Points
public import proofs.«01_k».proof.Proof.Gen.SquareGrads.Frame
public import proofs.«01_k».proof.Proof.Gen.SquareGradsIdeal
public import proofs.«01_k».proof.Proof.Gen.SquareGradsIdeal.Skeleton
public import proofs.«01_k».proof.Proof.Gen.SquareGradsIdeal.Launch
public import proofs.«01_k».proof.Proof.Gen.SquareGradsIdeal.Points
public import proofs.«01_k».proof.Proof.Gen.SquareGradsIdeal.Frame
public import proofs.«01_k».proof.Proof.Gen.SquareGradsRefIdeal
public import proofs.«01_k».proof.Proof.Gen.ProjectionRefIdeal.Run
public import proofs.«01_k».proof.Proof.Gen.ProjectionRefIdeal.Read
public import proofs.«01_k».proof.Proof.Gen.SquareGradsRefIdeal.Run
public import proofs.«01_k».proof.Proof.Gen.SquareGradsRefIdeal.Read
public import proofs.«01_k».proof.Proof.Gen.HiddenGrad
public import proofs.«01_k».proof.Proof.Gen.HiddenGrad.Skeleton
public import proofs.«01_k».proof.Proof.Gen.HiddenGrad.Launch
public import proofs.«01_k».proof.Proof.Gen.HiddenGrad.Points
public import proofs.«01_k».proof.Proof.Gen.HiddenGrad.Frame
public import proofs.«01_k».proof.Proof.Gen.HiddenGradIdeal
public import proofs.«01_k».proof.Proof.Gen.HiddenGradIdeal.Skeleton
public import proofs.«01_k».proof.Proof.Gen.HiddenGradIdeal.Launch
public import proofs.«01_k».proof.Proof.Gen.HiddenGradIdeal.Points
public import proofs.«01_k».proof.Proof.Gen.HiddenGradIdeal.Frame
public import proofs.«01_k».proof.Proof.Gen.HiddenGradRefIdeal
public import proofs.«01_k».proof.Proof.Gen.ProjectionGrad
public import proofs.«01_k».proof.Proof.Gen.ProjectionGrad.Skeleton
public import proofs.«01_k».proof.Proof.Gen.ProjectionGrad.Launch
public import proofs.«01_k».proof.Proof.Gen.ProjectionGrad.Points
public import proofs.«01_k».proof.Proof.Gen.ProjectionGrad.Frame
public import proofs.«01_k».proof.Proof.Gen.ProjectionGradIdeal
public import proofs.«01_k».proof.Proof.Gen.ProjectionGradIdeal.Skeleton
public import proofs.«01_k».proof.Proof.Gen.ProjectionGradIdeal.Launch
public import proofs.«01_k».proof.Proof.Gen.ProjectionGradIdeal.Points
public import proofs.«01_k».proof.Proof.Gen.ProjectionGradIdeal.Frame
public import proofs.«01_k».proof.Proof.Gen.ProjectionGradRefIdeal
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.UpdateRefIdeal
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairSumRefIdeal
public import proofs.«01_k».proof.Proof.Gen.HiddenGradIdeal.Value
public import proofs.«01_k».proof.Proof.Gen.HiddenGradRefIdeal.Run
public import proofs.«01_k».proof.Proof.Gen.HiddenGradRefIdeal.Read
public import proofs.«01_k».proof.Proof.Gen.ProjectionGradIdeal.Value
public import proofs.«01_k».proof.Proof.Gen.ProjectionGradRefIdeal.Run
public import proofs.«01_k».proof.Proof.Gen.ProjectionGradRefIdeal.Read
public import proofs.«01_k».proof.Proof.Gen.UpdateRefIdeal.Run
public import proofs.«01_k».proof.Proof.Gen.UpdateRefIdeal.Read
public import proofs.«01_k».proof.Proof.Gen.PairSumRefIdeal.Run
public import proofs.«01_k».proof.Proof.Gen.PairSumRefIdeal.Read
public import proofs.«01_k».proof.Proof.Merge.Claims
public import proofs.«01_k».proof.Proof.Gate.Claims
public import proofs.«01_k».proof.Proof.Ffn.Claims
public import proofs.«01_k».proof.Proof.Loss.Claims
public import proofs.«01_k».proof.Proof.InProj.Claims
public import proofs.«01_k».proof.Proof.GateFwd.Claims
public import proofs.«01_k».proof.Proof.MergeFwd.Claims
public import proofs.«01_k».proof.Proof.NormFwd.Claims
public import proofs.«01_k».proof.Proof.HiddenGrad.Claims
public import proofs.«01_k».proof.Proof.ProjectionGrad.Claims
public import proofs.«01_k».proof.Proof.Update.Claims
public import proofs.«01_k».proof.Proof.PairSum.Claims
public import proofs.«01_k».proof.Proof.Projection.Claims
public import proofs.«01_k».proof.Proof.SquareGrads.Claims
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts, Cert.Gate.Gen.facts,
  Cert.GateIdeal.Gen.facts, Cert.GateRefIdeal.Gen.facts, Cert.Ffn.Gen.facts, Cert.FfnIdeal.Gen.facts,
  Cert.FfnRefIdeal.Gen.facts, Cert.Loss.Gen.facts, Cert.LossIdeal.Gen.facts, Cert.LossRefIdeal.Gen.facts,
  Cert.InProj.Gen.facts, Cert.InProjIdeal.Gen.facts, Cert.InProjRefIdeal.Gen.facts,
  Cert.GateFwd.Gen.facts, Cert.GateFwdIdeal.Gen.facts, Cert.GateFwdRefIdeal.Gen.facts,
  Cert.MergeFwd.Gen.facts, Cert.MergeFwdIdeal.Gen.facts, Cert.MergeFwdRefIdeal.Gen.facts,
  Cert.NormFwd.Gen.facts, Cert.NormFwdIdeal.Gen.facts, Cert.NormFwdRefIdeal.Gen.facts,
  Cert.HiddenGrad.Gen.facts, Cert.HiddenGradIdeal.Gen.facts, Cert.HiddenGradRefIdeal.Gen.facts,
  Cert.ProjectionGrad.Gen.facts, Cert.ProjectionGradIdeal.Gen.facts, Cert.ProjectionGradRefIdeal.Gen.facts,
  Cert.Update.Gen.facts, Cert.UpdateIdeal.Gen.facts, Cert.UpdateRefIdeal.Gen.facts,
  Cert.PairSum.Gen.facts, Cert.PairSumIdeal.Gen.facts, Cert.PairSumRefIdeal.Gen.facts,
  Cert.Projection.Gen.facts, Cert.ProjectionIdeal.Gen.facts, Cert.ProjectionRefIdeal.Gen.facts,
  Cert.SquareGrads.Gen.facts, Cert.SquareGradsIdeal.Gen.facts, Cert.SquareGradsRefIdeal.Gen.facts,
  Cert.Pre_gate_finite.Gen.facts, Cert.Pre_ffn_finite.Gen.facts, Cert.Pre_loss_finite.Gen.facts, Cert.Pre_in_finite.Gen.facts, Cert.On_gates_written.Gen.facts,
  MergeClaims.frame, MergeClaims.frame_ideal, MergeClaims.frame_ref,
  GateClaims.frame, GateClaims.frame_ideal, GateClaims.frame_ideal_finite, GateClaims.frame_ref, GateClaims.frame_ref_finite,
  FfnClaims.frame, FfnClaims.frame_ideal, FfnClaims.frame_ideal_finite, FfnClaims.frame_ref, FfnClaims.frame_ref_finite,
  LossClaims.frame, LossClaims.frame_ideal, LossClaims.frame_ideal_finite, LossClaims.frame_ref, LossClaims.frame_ref_finite,
  InProjClaims.frame, InProjClaims.frame_ideal, InProjClaims.frame_ideal_finite, InProjClaims.frame_ref, InProjClaims.frame_ref_finite,
  GateFwdClaims.frame, GateFwdClaims.frame_ideal, GateFwdClaims.frame_ref,
  MergeFwdClaims.frame, MergeFwdClaims.frame_ideal, MergeFwdClaims.frame_ref,
  NormFwdClaims.frame, NormFwdClaims.frame_ideal, NormFwdClaims.frame_ref,
  HiddenGradClaims.frame, HiddenGradClaims.frame_ideal, HiddenGradClaims.frame_ref,
  ProjectionGradClaims.frame, ProjectionGradClaims.frame_ideal, ProjectionGradClaims.frame_ref,
  UpdateClaims.frame, UpdateClaims.frame_ideal, UpdateClaims.frame_ref,
  PairSumClaims.frame, PairSumClaims.frame_ideal, PairSumClaims.frame_ref,
  ProjectionClaims.frame, ProjectionClaims.frame_ideal, ProjectionClaims.frame_ref,
  SquareGradsClaims.frame, SquareGradsClaims.frame_ideal, SquareGradsClaims.frame_ref,
  MergeClaims.preserves, MergeClaims.algebraic, GateClaims.preserves, GateClaims.algebraic, FfnClaims.preserves, FfnClaims.algebraic, LossClaims.preserves, LossClaims.algebraic,
  InProjClaims.preserves, InProjClaims.algebraic,
  GateFwdClaims.preserves, GateFwdClaims.algebraic,
  MergeFwdClaims.preserves, MergeFwdClaims.algebraic,
  NormFwdClaims.preserves, NormFwdClaims.algebraic,
  HiddenGradClaims.preserves, HiddenGradClaims.algebraic,
  ProjectionGradClaims.preserves, ProjectionGradClaims.algebraic,
  UpdateClaims.preserves, UpdateClaims.algebraic,
  PairSumClaims.preserves, PairSumClaims.algebraic,
  ProjectionClaims.preserves, ProjectionClaims.algebraic,
  SquareGradsClaims.preserves, SquareGradsClaims.algebraic⟩

end Cert.Proof

end
